-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v233) = v0 c
          ∧ r.2.mem ((c.tc : Thread Cert.ReferenceIdeal.nD Cert.ReferenceIdeal.τ).loc Cert.ReferenceIdeal.main_v243) = v1 c
          ∧ r.2.mem ((c.tc : Thread Cert.ReferenceIdeal.nD Cert.ReferenceIdeal.τ).loc Cert.ReferenceIdeal.main_v246) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v33) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v34) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v259) = v0 c
          ∧ r.2.mem ((c.tc : Thread Cert.Reference6Ideal.nD Cert.Reference6Ideal.τ).loc Cert.Reference6Ideal.main_v264) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S2x8192x2048 : Shape := ⟨3, ![2, 8192, 2048]⟩
abbrev S4x2048 : Shape := ⟨2, ![4, 2048]⟩
abbrev S4x2048x2048 : Shape := ⟨3, ![4, 2048, 2048]⟩
abbrev S2x256x2048 : Shape := ⟨3, ![2, 256, 2048]⟩
abbrev S4x2048x8 : Shape := ⟨3, ![4, 2048, 8]⟩
abbrev S4x8 : Shape := ⟨2, ![4, 8]⟩
abbrev S4x2048x32 : Shape := ⟨3, ![4, 2048, 32]⟩
abbrev S4x32 : Shape := ⟨2, ![4, 32]⟩
abbrev S4x32x512x2048 : Shape := ⟨4, ![4, 32, 512, 2048]⟩
abbrev S_ : Shape := ⟨0, ![]⟩

class Facts : Prop where
  bcast_S_S2x8192x2048 : S_.BroadcastsInDim S2x8192x2048 (![] : Fin 0 → Fin S2x8192x2048.rank)
  bcast_S_S4x2048 : S_.BroadcastsInDim S4x2048 (![] : Fin 0 → Fin S4x2048.rank)
  bcast_S_S4x2048x2048 : S_.BroadcastsInDim S4x2048x2048 (![] : Fin 0 → Fin S4x2048x2048.rank)
  bcast_S_S2x256x2048 : S_.BroadcastsInDim S2x256x2048 (![] : Fin 0 → Fin S2x256x2048.rank)
  bcast_S_S4x2048x8 : S_.BroadcastsInDim S4x2048x8 (![] : Fin 0 → Fin S4x2048x8.rank)
  bcast_S_S4x8 : S_.BroadcastsInDim S4x8 (![] : Fin 0 → Fin S4x8.rank)
  bcast_S_S4x2048x32 : S_.BroadcastsInDim S4x2048x32 (![] : Fin 0 → Fin S4x2048x32.rank)
  bcast_S_S4x32 : S_.BroadcastsInDim S4x32 (![] : Fin 0 → Fin S4x32.rank)

variable [Facts]

def fn_part1 {F : FTy → Type} [FloatOps F] (main_arg6 : FVec F S4x2048 .f32) (main_arg7 : FVec F S4x2048x8 .f32) (main_arg8 : FVec F S4x8 .f32) (main_arg9 : FVec F S4x2048x32 .f32) (main_arg10 : FVec F S4x32 .f32) (main_v2 : IVec S2x8192x2048 1) (main_v5 : IVec S4x2048 1) (main_v8 : IVec S4x2048x2048 1) (main_v11 : IVec S2x256x2048 1) (main_v14 : IVec S2x256x2048 1) (main_v17 : IVec S4x2048x2048 1) : IVec S2x8192x2048 1 × IVec S4x2048 1 × IVec S4x2048x2048 1 × IVec S2x256x2048 1 × IVec S2x256x2048 1 × IVec S4x2048x2048 1 × IVec S4x2048 1 × IVec S4x2048x8 1 × IVec S4x8 1 × IVec S4x2048x32 1 × IVec S4x32 1 :=
  let main_v18 : FVec F S4x2048 .f32 := Host.absf main_arg6
  let main_cst_5 : FVec F S_ .f32 := constant S_ .f32 0x7F800000#32
  let main_v19 : FVec F S4x2048 .f32 := broadcastInDim S4x2048 ![] bcast_S_S4x2048 main_cst_5
  let main_v20 : IVec S4x2048 1 := cmpf .olt main_v18 main_v19
  let main_v21 : FVec F S4x2048x8 .f32 := Host.absf main_arg7
  let main_cst_6 : FVec F S_ .f32 := constant S_ .f32 0x7F800000#32
  let main_v22 : FVec F S4x2048x8 .f32 := broadcastInDim S4x2048x8 ![] bcast_S_S4x2048x8 main_cst_6
  let main_v23 : IVec S4x2048x8 1 := cmpf .olt main_v21 main_v22
  let main_v24 : FVec F S4x8 .f32 := Host.absf main_arg8
  let main_cst_7 : FVec F S_ .f32 := constant S_ .f32 0x7F800000#32
  let main_v25 : FVec F S4x8 .f32 := broadcastInDim S4x8 ![] bcast_S_S4x8 main_cst_7
  let main_v26 : IVec S4x8 1 := cmpf .olt main_v24 main_v25
  let main_v27 : FVec F S4x2048x32 .f32 := Host.absf main_arg9
  let main_cst_8 : FVec F S_ .f32 := constant S_ .f32 0x7F800000#32
  let main_v28 : FVec F S4x2048x32 .f32 := broadcastInDim S4x2048x32 ![] bcast_S_S4x2048x32 main_cst_8
  let main_v29 : IVec S4x2048x32 1 := cmpf .olt main_v27 main_v28
  let main_v30 : FVec F S4x32 .f32 := Host.absf main_arg10
  let main_cst_9 : FVec F S_ .f32 := constant S_ .f32 0x7F800000#32
  let main_v31 : FVec F S4x32 .f32 := broadcastInDim S4x32 ![] bcast_S_S4x32 main_cst_9
  let main_v32 : IVec S4x32 1 := cmpf .olt main_v30 main_v31
  (main_v2, main_v5, main_v8, main_v11, main_v14, main_v17, main_v20, main_v23, main_v26, main_v29, main_v32)

def fn {F : FTy → Type} [FloatOps F] (main_arg0 : FVec F S2x8192x2048 .f32) (main_arg1 : FVec F S4x2048 .f32) (main_arg2 : FVec F S4x2048x2048 .f32) (main_arg3 : FVec F S2x256x2048 .bf16) (main_arg4 : FVec F S2x256x2048 .bf16) (main_arg5 : FVec F S4x2048x2048 .f32) (main_arg6 : FVec F S4x2048 .f32) (main_arg7 : FVec F S4x2048x8 .f32) (main_arg8 : FVec F S4x8 .f32) (main_arg9 : FVec F S4x2048x32 .f32) (main_arg10 : FVec F S4x32 .f32) (main_arg11 : FVec F S4x32x512x2048 .f32) : IVec S2x8192x2048 1 × IVec S4x2048 1 × IVec S4x2048x2048 1 × IVec S2x256x2048 1 × IVec S2x256x2048 1 × IVec S4x2048x2048 1 × IVec S4x2048 1 × IVec S4x2048x8 1 × IVec S4x8 1 × IVec S4x2048x32 1 × IVec S4x32 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_v3 : FVec F S4x2048 .f32 := Host.absf main_arg1
  let main_cst_0 : FVec F S_ .f32 := constant S_ .f32 0x7F800000#32
  let main_v4 : FVec F S4x2048 .f32 := broadcastInDim S4x2048 ![] bcast_S_S4x2048 main_cst_0
  let main_v5 : IVec S4x2048 1 := cmpf .olt main_v3 main_v4
  let main_v6 : FVec F S4x2048x2048 .f32 := Host.absf main_arg2
  let main_cst_1 : FVec F S_ .f32 := constant S_ .f32 0x7F800000#32
  let main_v7 : FVec F S4x2048x2048 .f32 := broadcastInDim S4x2048x2048 ![] bcast_S_S4x2048x2048 main_cst_1
  let main_v8 : IVec S4x2048x2048 1 := cmpf .olt main_v6 main_v7
  let main_v9 : FVec F S2x256x2048 .bf16 := Host.absf main_arg3
  let main_cst_2 : FVec F S_ .bf16 := constant S_ .bf16 0x7F80#16
  let main_v10 : FVec F S2x256x2048 .bf16 := broadcastInDim S2x256x2048 ![] bcast_S_S2x256x2048 main_cst_2
  let main_v11 : IVec S2x256x2048 1 := cmpf .olt main_v9 main_v10
  let main_v12 : FVec F S2x256x2048 .bf16 := Host.absf main_arg4
  let main_cst_3 : FVec F S_ .bf16 := constant S_ .bf16 0x7F80#16
  let main_v13 : FVec F S2x256x2048 .bf16 := broadcastInDim S2x256x2048 ![] bcast_S_S2x256x2048 main_cst_3
  let main_v14 : IVec S2x256x2048 1 := cmpf .olt main_v12 main_v13
  let main_v15 : FVec F S4x2048x2048 .f32 := Host.absf main_arg5
  let main_cst_4 : FVec F S_ .f32 := constant S_ .f32 0x7F800000#32
  let main_v16 : FVec F S4x2048x2048 .f32 := broadcastInDim S4x2048x2048 ![] bcast_S_S4x2048x2048 main_cst_4
  let main_v17 : IVec S4x2048x2048 1 := cmpf .olt main_v15 main_v16
  fn_part1 (F := F) main_arg6 main_arg7 main_arg8 main_arg9 main_arg10 main_v2 main_v5 main_v8 main_v11 main_v14 main_v17
-- ==== Kernel.lean ====
abbrev S2x8192x2048 : Shape := ⟨3, ![2, 8192, 2048]⟩
abbrev S4x2048 : Shape := ⟨2, ![4, 2048]⟩
abbrev S4x2048x2048 : Shape := ⟨3, ![4, 2048, 2048]⟩
abbrev S2x256x2048 : Shape := ⟨3, ![2, 256, 2048]⟩
abbrev S4x2048x8 : Shape := ⟨3, ![4, 2048, 8]⟩
abbrev S4x8 : Shape := ⟨2, ![4, 8]⟩
abbrev S4x2048x32 : Shape := ⟨3, ![4, 2048, 32]⟩
abbrev S4x32 : Shape := ⟨2, ![4, 32]⟩
abbrev S4x32x512x2048 : Shape := ⟨4, ![4, 32, 512, 2048]⟩
abbrev S4x1x2048 : Shape := ⟨3, ![4, 1, 2048]⟩
abbrev S1x2048x8 : Shape := ⟨3, ![1, 2048, 8]⟩
abbrev S2048x8 : Shape := ⟨2, ![2048, 8]⟩
abbrev S1x8 : Shape := ⟨2, ![1, 8]⟩
abbrev S8 : Shape := ⟨1, ![8]⟩
abbrev S1x2048x32 : Shape := ⟨3, ![1, 2048, 32]⟩
abbrev S2048x32 : Shape := ⟨2, ![2048, 32]⟩
abbrev S1x32 : Shape := ⟨2, ![1, 32]⟩
abbrev S32 : Shape := ⟨1, ![32]⟩
abbrev S_ : Shape := ⟨0, ![]⟩
abbrev S2048x128 : Shape := ⟨2, ![2048, 128]⟩
abbrev S2048x40 : Shape := ⟨2, ![2048, 40]⟩
abbrev S1 : Shape := ⟨1, ![1]⟩
abbrev S1x128 : Shape := ⟨2, ![1, 128]⟩
abbrev S40 : Shape := ⟨1, ![40]⟩
abbrev S2 : Shape := ⟨1, ![2]⟩
abbrev S2048x256 : Shape := ⟨2, ![2048, 256]⟩
abbrev S16384x2176 : Shape := ⟨2, ![16384, 2176]⟩
abbrev S32x512x2048 : Shape := ⟨3, ![32, 512, 2048]⟩
abbrev S1x512x2048 : Shape := ⟨3, ![1, 512, 2048]⟩
abbrev S1x1x2048 : Shape := ⟨3, ![1, 1, 2048]⟩
abbrev S1x2048x2048 : Shape := ⟨3, ![1, 2048, 2048]⟩
abbrev S1x256x2048 : Shape := ⟨3, ![1, 256, 2048]⟩
abbrev S1x1x512x2048 : Shape := ⟨4, ![1, 1, 512, 2048]⟩
abbrev S512x2176 : Shape := ⟨2, ![512, 2176]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩
abbrev S512x512 : Shape := ⟨2, ![512, 512]⟩
abbrev S1x256x512 : Shape := ⟨3, ![1, 256, 512]⟩
abbrev S256x512 : Shape := ⟨2, ![256, 512]⟩
abbrev S512x256 : Shape := ⟨2, ![512, 256]⟩
abbrev S1x512x256 : Shape := ⟨3, ![1, 512, 256]⟩
abbrev S1x2048x256 : Shape := ⟨3, ![1, 2048, 256]⟩
abbrev S512x128 : Shape := ⟨2, ![512, 128]⟩
abbrev S128 : Shape := ⟨1, ![128]⟩

abbrev nBuf : Space → Nat
  | .hbm => 47
  | .vmem => 21
  | .smem => 0
  | _ => 0

abbrev bufTy : (tb : Table) → Fin (tcTables nBuf tb) → BufTy
  | .hbm, ⟨0, _⟩ => ⟨S2x8192x2048, .f32⟩
  | .hbm, ⟨1, _⟩ => ⟨S4x2048, .f32⟩
  | .hbm, ⟨2, _⟩ => ⟨S4x2048x2048, .f32⟩
  | .hbm, ⟨3, _⟩ => ⟨S2x256x2048, .bf16⟩
  | .hbm, ⟨4, _⟩ => ⟨S2x256x2048, .bf16⟩
  | .hbm, ⟨5, _⟩ => ⟨S4x2048x2048, .f32⟩
  | .hbm, ⟨6, _⟩ => ⟨S4x2048, .f32⟩
  | .hbm, ⟨7, _⟩ => ⟨S4x2048x8, .f32⟩
  | .hbm, ⟨8, _⟩ => ⟨S4x8, .f32⟩
  | .hbm, ⟨9, _⟩ => ⟨S4x2048x32, .f32⟩
  | .hbm, ⟨10, _⟩ => ⟨S4x32, .f32⟩
  | .hbm, ⟨11, _⟩ => ⟨S4x32x512x2048, .f32⟩
  | .hbm, ⟨12, _⟩ => ⟨S4x1x2048, .f32⟩
  | .hbm, ⟨13, _⟩ => ⟨S4x1x2048, .f32⟩
  | .hbm, ⟨14, _⟩ => ⟨S4x2048x2048, .bf16⟩
  | .hbm, ⟨15, _⟩ => ⟨S4x2048x2048, .bf16⟩
  | .hbm, ⟨16, _⟩ => ⟨S1x2048x8, .f32⟩
  | .hbm, ⟨17, _⟩ => ⟨S2048x8, .f32⟩
  | .hbm, ⟨18, _⟩ => ⟨S1x8, .f32⟩
  | .hbm, ⟨19, _⟩ => ⟨S8, .f32⟩
  | .hbm, ⟨20, _⟩ => ⟨S1x2048x32, .f32⟩
  | .hbm, ⟨21, _⟩ => ⟨S2048x32, .f32⟩
  | .hbm, ⟨22, _⟩ => ⟨S1x32, .f32⟩
  | .hbm, ⟨23, _⟩ => ⟨S32, .f32⟩
  | .hbm, ⟨24, _⟩ => ⟨S_, .f32⟩
  | .hbm, ⟨25, _⟩ => ⟨S2048x128, .f32⟩
  | .hbm, ⟨26, _⟩ => ⟨S2048x40, .f32⟩
  | .hbm, ⟨27, _⟩ => ⟨S_, .i32⟩
  | .hbm, ⟨28, _⟩ => ⟨S1, .i32⟩
  | .hbm, ⟨29, _⟩ => ⟨S2048x128, .f32⟩
  | .hbm, ⟨30, _⟩ => ⟨S_, .f32⟩
  | .hbm, ⟨31, _⟩ => ⟨S1x128, .f32⟩
  | .hbm, ⟨32, _⟩ => ⟨S40, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S1x128, .f32⟩
  | .hbm, ⟨39, _⟩ => ⟨S2048x128, .bf16⟩
  | .hbm, ⟨40, _⟩ => ⟨S2048x128, .f32⟩
  | .hbm, ⟨41, _⟩ => ⟨S2048x128, .f32⟩
  | .hbm, ⟨42, _⟩ => ⟨S2048x128, .bf16⟩
  | .hbm, ⟨43, _⟩ => ⟨S2048x256, .bf16⟩
  | .hbm, ⟨44, _⟩ => ⟨S16384x2176, .f32⟩
  | .hbm, ⟨45, _⟩ => ⟨S1x128, .f32⟩
  | .hbm, ⟨46, _⟩ => ⟨S32x512x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x2048x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x2048x2048, .bf16⟩
  | .local _ .vmem, ⟨9, _⟩ => ⟨S1x1x2048, .f32⟩
  | .local _ .vmem, ⟨10, _⟩ => ⟨S2048x256, .bf16⟩
  | .local _ .vmem, ⟨11, _⟩ => ⟨S1x128, .f32⟩
  | .local _ .vmem, ⟨12, _⟩ => ⟨S1x1x512x2048, .f32⟩
  | .local _ .vmem, ⟨13, _⟩ => ⟨S1x1x512x2048, .f32⟩
  | .local _ .vmem, ⟨14, _⟩ => ⟨S512x2176, .f32⟩
  | .local _ .vmem, ⟨15, _⟩ => ⟨S512x2176, .f32⟩
  | .local _ .vmem, ⟨16, _⟩ => ⟨S1x128, .f32⟩
  | .local _ .vmem, ⟨17, _⟩ => ⟨S1x512x2048, .bf16⟩
  | .local _ .vmem, ⟨18, _⟩ => ⟨S1x512x2048, .bf16⟩
  | .local _ .vmem, ⟨19, _⟩ => ⟨S512x2048, .bf16⟩
  | .local _ .vmem, ⟨20, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_v27_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![v2.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x2176 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S2x8192x2048 : Shape := ⟨3, ![2, 8192, 2048]⟩
abbrev S4x2048 : Shape := ⟨2, ![4, 2048]⟩
abbrev S4x2048x2048 : Shape := ⟨3, ![4, 2048, 2048]⟩
abbrev S2x256x2048 : Shape := ⟨3, ![2, 256, 2048]⟩
abbrev S4x2048x8 : Shape := ⟨3, ![4, 2048, 8]⟩
abbrev S4x8 : Shape := ⟨2, ![4, 8]⟩
abbrev S4x2048x32 : Shape := ⟨3, ![4, 2048, 32]⟩
abbrev S4x32 : Shape := ⟨2, ![4, 32]⟩
abbrev S4x32x512x2048 : Shape := ⟨4, ![4, 32, 512, 2048]⟩
abbrev S1x2048 : Shape := ⟨2, ![1, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S2x8192x4x512 : Shape := ⟨4, ![2, 8192, 4, 512]⟩
abbrev S2x256x4x512 : Shape := ⟨4, ![2, 256, 4, 512]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x512x8192 : Shape := ⟨4, ![2, 4, 512, 8192]⟩
abbrev S16384x2048 : Shape := ⟨2, ![16384, 2048]⟩
abbrev S1x2048x8 : Shape := ⟨3, ![1, 2048, 8]⟩
abbrev S2048x8 : Shape := ⟨2, ![2048, 8]⟩
abbrev S16384x8 : Shape := ⟨2, ![16384, 8]⟩
abbrev S1x8 : Shape := ⟨2, ![1, 8]⟩
abbrev S8 : Shape := ⟨1, ![8]⟩
abbrev S16384x1x8 : Shape := ⟨3, ![16384, 1, 8]⟩
abbrev S16384x8x1 : Shape := ⟨3, ![16384, 8, 1]⟩
abbrev S16384x8x8 : Shape := ⟨3, ![16384, 8, 8]⟩
abbrev S8x1 : Shape := ⟨2, ![8, 1]⟩
abbrev S8x8 : Shape := ⟨2, ![8, 8]⟩
abbrev S1x8x8 : Shape := ⟨3, ![1, 8, 8]⟩
abbrev S16384 : Shape := ⟨1, ![16384]⟩
abbrev S16384x1 : Shape := ⟨2, ![16384, 1]⟩
abbrev S1x2048x32 : Shape := ⟨3, ![1, 2048, 32]⟩
abbrev S2048x32 : Shape := ⟨2, ![2048, 32]⟩
abbrev S16384x32 : Shape := ⟨2, ![16384, 32]⟩
abbrev S1x32 : Shape := ⟨2, ![1, 32]⟩
abbrev S32 : Shape := ⟨1, ![32]⟩
abbrev S16384x8x4 : Shape := ⟨3, ![16384, 8, 4]⟩
abbrev S16384x4 : Shape := ⟨2, ![16384, 4]⟩
abbrev S4 : Shape := ⟨1, ![4]⟩
abbrev S16384x1x4 : Shape := ⟨3, ![16384, 1, 4]⟩
abbrev S16384x4x1 : Shape := ⟨3, ![16384, 4, 1]⟩
abbrev S16384x4x4 : Shape := ⟨3, ![16384, 4, 4]⟩
abbrev S1x4 : Shape := ⟨2, ![1, 4]⟩
abbrev S4x1 : Shape := ⟨2, ![4, 1]⟩
abbrev S4x4 : Shape := ⟨2, ![4, 4]⟩
abbrev S1x4x4 : Shape := ⟨3, ![1, 4, 4]⟩
abbrev S16384x2 : Shape := ⟨2, ![16384, 2]⟩
abbrev S16384x125 : Shape := ⟨2, ![16384, 125]⟩
abbrev S16384x2176 : Shape := ⟨2, ![16384, 2176]⟩
abbrev S128 : Shape := ⟨1, ![128]⟩
abbrev S1x128 : Shape := ⟨2, ![1, 128]⟩
abbrev S16384x128 : Shape := ⟨2, ![16384, 128]⟩
abbrev S1x32x512x2048 : Shape := ⟨4, ![1, 32, 512, 2048]⟩
abbrev S32x512x2048 : Shape := ⟨3, ![32, 512, 2048]⟩

abbrev nBuf : Space → Nat
  | .hbm => 348
  | .vmem => 0
  | .smem => 0
  | _ => 0

abbrev hbmTy0_0 (i : Nat) : BufTy := match i % 128 with
  | 0 => ⟨S2x8192x2048, .f32⟩
  | 1 => ⟨S4x2048, .f32⟩
  | 2 => ⟨S4x2048x2048, .f32⟩
  | 3 => ⟨S2x256x2048, .bf16⟩
  | 4 => ⟨S2x256x2048, .bf16⟩
  | 5 => ⟨S4x2048x2048, .f32⟩
  | 6 => ⟨S4x2048, .f32⟩
  | 7 => ⟨S4x2048x8, .f32⟩
  | 8 => ⟨S4x8, .f32⟩
  | 9 => ⟨S4x2048x32, .f32⟩
  | 10 => ⟨S4x32, .f32⟩
  | 11 => ⟨S4x32x512x2048, .f32⟩
  | 12 => ⟨S1x2048, .f32⟩
  | 13 => ⟨S2048, .f32⟩
  | 14 => ⟨S2x8192x2048, .f32⟩
  | 15 => ⟨S_, .f32⟩
  | 16 => ⟨S2x8192, .f32⟩
  | 17 => ⟨S2x8192x1, .f32⟩
  | 18 => ⟨S_, .f32⟩
  | 19 => ⟨S2x8192x1, .f32⟩
  | 20 => ⟨S2x8192x1, .f32⟩
  | 21 => ⟨S_, .f32⟩
  | 22 => ⟨S2x8192x1, .f32⟩
  | 23 => ⟨S2x8192x1, .f32⟩
  | 24 => ⟨S2x8192x1, .f32⟩
  | 25 => ⟨S2x8192x2048, .f32⟩
  | 26 => ⟨S2x8192x2048, .f32⟩
  | 27 => ⟨S1x1x2048, .f32⟩
  | 28 => ⟨S2x8192x2048, .f32⟩
  | 29 => ⟨S2x8192x2048, .f32⟩
  | 30 => ⟨S1x2048x2048, .f32⟩
  | 31 => ⟨S2048x2048, .f32⟩
  | 32 => ⟨S2x8192x2048, .f32⟩
  | 33 => ⟨S2x8192x4x512, .f32⟩
  | 34 => ⟨S2x256x2048, .f32⟩
  | 35 => ⟨S2x256x4x512, .f32⟩
  | 36 => ⟨S2x256x2048, .f32⟩
  | 37 => ⟨S2x256x4x512, .f32⟩
  | 38 => ⟨S2x4x8192x256, .f32⟩
  | 39 => ⟨S_, .f32⟩
  | 40 => ⟨S2x4x8192x256, .f32⟩
  | 41 => ⟨S2x4x8192x256, .f32⟩
  | 42 => ⟨S_, .f32⟩
  | 43 => ⟨S2x4x8192, .f32⟩
  | 44 => ⟨S_, .f32⟩
  | 45 => ⟨S2x4x8192, .f32⟩
  | 46 => ⟨S2x4x8192, .f32⟩
  | 47 => ⟨S2x4x8192x1, .f32⟩
  | 48 => ⟨S2x4x8192x256, .f32⟩
  | 49 => ⟨S2x4x8192x256, .f32⟩
  | 50 => ⟨S2x4x8192x256, .f32⟩
  | 51 => ⟨S_, .f32⟩
  | 52 => ⟨S2x4x8192, .f32⟩
  | 53 => ⟨S2x4x8192x1, .f32⟩
  | 54 => ⟨S2x4x8192x256, .f32⟩
  | 55 => ⟨S2x4x8192x256, .f32⟩
  | 56 => ⟨S2x4x512x8192, .f32⟩
  | 57 => ⟨S2x8192x4x512, .f32⟩
  | 58 => ⟨S2x8192x2048, .f32⟩
  | 59 => ⟨S1x2048x2048, .f32⟩
  | 60 => ⟨S2048x2048, .f32⟩
  | 61 => ⟨S2x8192x2048, .f32⟩
  | 62 => ⟨S2x8192x2048, .f32⟩
  | 63 => ⟨S1x2048, .f32⟩
  | 64 => ⟨S2048, .f32⟩
  | 65 => ⟨S2x8192x2048, .f32⟩
  | 66 => ⟨S_, .f32⟩
  | 67 => ⟨S2x8192, .f32⟩
  | 68 => ⟨S2x8192x1, .f32⟩
  | 69 => ⟨S_, .f32⟩
  | 70 => ⟨S2x8192x1, .f32⟩
  | 71 => ⟨S2x8192x1, .f32⟩
  | 72 => ⟨S_, .f32⟩
  | 73 => ⟨S2x8192x1, .f32⟩
  | 74 => ⟨S2x8192x1, .f32⟩
  | 75 => ⟨S2x8192x1, .f32⟩
  | 76 => ⟨S2x8192x2048, .f32⟩
  | 77 => ⟨S2x8192x2048, .f32⟩
  | 78 => ⟨S1x1x2048, .f32⟩
  | 79 => ⟨S2x8192x2048, .f32⟩
  | 80 => ⟨S2x8192x2048, .f32⟩
  | 81 => ⟨S16384x2048, .f32⟩
  | 82 => ⟨S1x2048x8, .f32⟩
  | 83 => ⟨S2048x8, .f32⟩
  | 84 => ⟨S16384x8, .f32⟩
  | 85 => ⟨S1x8, .f32⟩
  | 86 => ⟨S8, .f32⟩
  | 87 => ⟨S1x8, .f32⟩
  | 88 => ⟨S16384x8, .f32⟩
  | 89 => ⟨S16384x8, .f32⟩
  | 90 => ⟨S8, .i32⟩
  | 91 => ⟨S16384x1x8, .f32⟩
  | 92 => ⟨S16384x8x1, .f32⟩
  | 93 => ⟨S16384x8x8, .f32⟩
  | 94 => ⟨S16384x8x8, .f32⟩
  | 95 => ⟨S16384x8x8, .i1⟩
  | 96 => ⟨S16384x8x8, .f32⟩
  | 97 => ⟨S16384x8x8, .f32⟩
  | 98 => ⟨S16384x8x8, .i1⟩
  | 99 => ⟨S1x8, .i32⟩
  | 100 => ⟨S8x1, .i32⟩
  | 101 => ⟨S8x8, .i32⟩
  | 102 => ⟨S8x8, .i32⟩
  | 103 => ⟨S8x8, .i1⟩
  | 104 => ⟨S1x8x8, .i1⟩
  | 105 => ⟨S16384x8x8, .i1⟩
  | 106 => ⟨S16384x8x8, .i1⟩
  | 107 => ⟨S16384x8x8, .i1⟩
  | 108 => ⟨S16384x8x8, .f32⟩
  | 109 => ⟨S_, .f32⟩
  | 110 => ⟨S16384x8, .f32⟩
  | 111 => ⟨S_, .f32⟩
  | 112 => ⟨S16384x8, .f32⟩
  | 113 => ⟨S16384x8, .i1⟩
  | 114 => ⟨S8, .i32⟩
  | 115 => ⟨S8, .f32⟩
  | 116 => ⟨S_, .f32⟩
  | 117 => ⟨S_, .f32⟩
  | 118 => ⟨S16384x8, .f32⟩
  | 119 => ⟨S16384x8, .f32⟩
  | 120 => ⟨S16384x8, .f32⟩
  | 121 => ⟨S_, .f32⟩
  | 122 => ⟨S16384, .f32⟩
  | 123 => ⟨S_, .f32⟩
  | 124 => ⟨S16384, .f32⟩
  | 125 => ⟨S_, .f32⟩
  | 126 => ⟨S16384, .f32⟩
  | 127 => ⟨S16384, .f32⟩
  | _ => ⟨S2x8192x2048, .f32⟩

abbrev hbmTy0_1 (i : Nat) : BufTy := match i % 128 with
  | 0 => ⟨S16384x1, .f32⟩
  | 1 => ⟨S16384x8, .f32⟩
  | 2 => ⟨S16384x8, .f32⟩
  | 3 => ⟨S16384x8, .f32⟩
  | 4 => ⟨S_, .f32⟩
  | 5 => ⟨S16384, .f32⟩
  | 6 => ⟨S16384x1, .f32⟩
  | 7 => ⟨S16384x8, .f32⟩
  | 8 => ⟨S16384x8, .f32⟩
  | 9 => ⟨S_, .f32⟩
  | 10 => ⟨S_, .f32⟩
  | 11 => ⟨S16384x8, .f32⟩
  | 12 => ⟨S16384x8, .f32⟩
  | 13 => ⟨S_, .f32⟩
  | 14 => ⟨S16384, .f32⟩
  | 15 => ⟨S1x2048x32, .f32⟩
  | 16 => ⟨S2048x32, .f32⟩
  | 17 => ⟨S16384x32, .f32⟩
  | 18 => ⟨S1x32, .f32⟩
  | 19 => ⟨S32, .f32⟩
  | 20 => ⟨S1x32, .f32⟩
  | 21 => ⟨S16384x32, .f32⟩
  | 22 => ⟨S16384x32, .f32⟩
  | 23 => ⟨S16384x8x4, .f32⟩
  | 24 => ⟨S16384x8x1, .i1⟩
  | 25 => ⟨S_, .f32⟩
  | 26 => ⟨S_, .f32⟩
  | 27 => ⟨S16384x8x4, .i1⟩
  | 28 => ⟨S16384x8x4, .f32⟩
  | 29 => ⟨S16384x8x4, .f32⟩
  | 30 => ⟨S_, .f32⟩
  | 31 => ⟨S16384x4, .f32⟩
  | 32 => ⟨S4, .i32⟩
  | 33 => ⟨S16384x1x4, .f32⟩
  | 34 => ⟨S16384x4x1, .f32⟩
  | 35 => ⟨S16384x4x4, .f32⟩
  | 36 => ⟨S16384x4x4, .f32⟩
  | 37 => ⟨S16384x4x4, .i1⟩
  | 38 => ⟨S16384x4x4, .f32⟩
  | 39 => ⟨S16384x4x4, .f32⟩
  | 40 => ⟨S16384x4x4, .i1⟩
  | 41 => ⟨S1x4, .i32⟩
  | 42 => ⟨S4x1, .i32⟩
  | 43 => ⟨S4x4, .i32⟩
  | 44 => ⟨S4x4, .i32⟩
  | 45 => ⟨S4x4, .i1⟩
  | 46 => ⟨S1x4x4, .i1⟩
  | 47 => ⟨S16384x4x4, .i1⟩
  | 48 => ⟨S16384x4x4, .i1⟩
  | 49 => ⟨S16384x4x4, .i1⟩
  | 50 => ⟨S16384x4x4, .f32⟩
  | 51 => ⟨S_, .f32⟩
  | 52 => ⟨S16384x4, .f32⟩
  | 53 => ⟨S4, .i32⟩
  | 54 => ⟨S4, .f32⟩
  | 55 => ⟨S_, .f32⟩
  | 56 => ⟨S16384x4, .f32⟩
  | 57 => ⟨S16384x4, .i1⟩
  | 58 => ⟨S_, .f32⟩
  | 59 => ⟨S_, .f32⟩
  | 60 => ⟨S16384x4, .f32⟩
  | 61 => ⟨S16384x4, .f32⟩
  | 62 => ⟨S_, .f32⟩
  | 63 => ⟨S16384, .f32⟩
  | 64 => ⟨S_, .f32⟩
  | 65 => ⟨S16384x4, .f32⟩
  | 66 => ⟨S16384x4, .i1⟩
  | 67 => ⟨S_, .f32⟩
  | 68 => ⟨S_, .f32⟩
  | 69 => ⟨S16384x4, .f32⟩
  | 70 => ⟨S16384x4, .f32⟩
  | 71 => ⟨S_, .f32⟩
  | 72 => ⟨S16384, .f32⟩
  | 73 => ⟨S16384x1, .f32⟩
  | 74 => ⟨S16384x1, .f32⟩
  | 75 => ⟨S16384x2, .f32⟩
  | 76 => ⟨S_, .f32⟩
  | 77 => ⟨S16384x4, .f32⟩
  | 78 => ⟨S16384x4, .i1⟩
  | 79 => ⟨S_, .f32⟩
  | 80 => ⟨S_, .f32⟩
  | 81 => ⟨S16384x4, .f32⟩
  | 82 => ⟨S16384x4, .f32⟩
  | 83 => ⟨S16384x4, .f32⟩
  | 84 => ⟨S_, .f32⟩
  | 85 => ⟨S16384, .f32⟩
  | 86 => ⟨S_, .f32⟩
  | 87 => ⟨S16384x4, .f32⟩
  | 88 => ⟨S16384x4, .i1⟩
  | 89 => ⟨S_, .f32⟩
  | 90 => ⟨S_, .f32⟩
  | 91 => ⟨S16384x4, .f32⟩
  | 92 => ⟨S16384x4, .f32⟩
  | 93 => ⟨S16384x4, .f32⟩
  | 94 => ⟨S_, .f32⟩
  | 95 => ⟨S16384, .f32⟩
  | 96 => ⟨S16384x1, .f32⟩
  | 97 => ⟨S_, .f32⟩
  | 98 => ⟨S16384, .f32⟩
  | 99 => ⟨S_, .f32⟩
  | 100 => ⟨S16384, .f32⟩
  | 101 => ⟨S16384, .f32⟩
  | 102 => ⟨S16384x1, .f32⟩
  | 103 => ⟨S16384x2, .f32⟩
  | 104 => ⟨S16384x2, .f32⟩
  | 105 => ⟨S16384x2, .f32⟩
  | 106 => ⟨S_, .f32⟩
  | 107 => ⟨S16384, .f32⟩
  | 108 => ⟨S16384x1, .f32⟩
  | 109 => ⟨S16384x2, .f32⟩
  | 110 => ⟨S16384x2, .f32⟩
  | 111 => ⟨S16384x2, .f32⟩
  | 112 => ⟨S16384x2, .f32⟩
  | 113 => ⟨S16384, .f32⟩
  | 114 => ⟨S16384, .f32⟩
  | 115 => ⟨S_, .f32⟩
  | 116 => ⟨S16384, .f32⟩
  | 117 => ⟨S_, .f32⟩
  | 118 => ⟨S16384, .f32⟩
  | 119 => ⟨S16384, .i1⟩
  | 120 => ⟨S_, .f32⟩
  | 121 => ⟨S16384, .f32⟩
  | 122 => ⟨S16384, .i1⟩
  | 123 => ⟨S16384, .i1⟩
  | 124 => ⟨S_, .f32⟩
  | 125 => ⟨S_, .f32⟩
  | 126 => ⟨S16384, .f32⟩
  | 127 => ⟨S16384, .f32⟩
  | _ => ⟨S2x8192x2048, .f32⟩

abbrev hbmTy0_2 (i : Nat) : BufTy := match i % 128 with
  | 0 => ⟨S_, .f32⟩
  | 1 => ⟨S16384, .f32⟩
  | 2 => ⟨S16384, .i1⟩
  | 3 => ⟨S_, .f32⟩
  | 4 => ⟨S16384, .f32⟩
  | 5 => ⟨S16384, .i1⟩
  | 6 => ⟨S16384, .i1⟩
  | 7 => ⟨S_, .f32⟩
  | 8 => ⟨S_, .f32⟩
  | 9 => ⟨S16384, .f32⟩
  | 10 => ⟨S16384, .f32⟩
  | 11 => ⟨S_, .f32⟩
  | 12 => ⟨S16384, .f32⟩
  | 13 => ⟨S16384, .i1⟩
  | 14 => ⟨S_, .f32⟩
  | 15 => ⟨S16384, .f32⟩
  | 16 => ⟨S16384, .i1⟩
  | 17 => ⟨S16384, .i1⟩
  | 18 => ⟨S_, .f32⟩
  | 19 => ⟨S_, .f32⟩
  | 20 => ⟨S16384, .f32⟩
  | 21 => ⟨S16384, .f32⟩
  | 22 => ⟨S_, .f32⟩
  | 23 => ⟨S16384, .f32⟩
  | 24 => ⟨S16384, .i1⟩
  | 25 => ⟨S_, .f32⟩
  | 26 => ⟨S16384, .f32⟩
  | 27 => ⟨S16384, .i1⟩
  | 28 => ⟨S16384, .i1⟩
  | 29 => ⟨S_, .f32⟩
  | 30 => ⟨S_, .f32⟩
  | 31 => ⟨S16384, .f32⟩
  | 32 => ⟨S16384, .f32⟩
  | 33 => ⟨S_, .f32⟩
  | 34 => ⟨S16384, .f32⟩
  | 35 => ⟨S16384, .i1⟩
  | 36 => ⟨S_, .f32⟩
  | 37 => ⟨S16384, .f32⟩
  | 38 => ⟨S16384, .i1⟩
  | 39 => ⟨S16384, .i1⟩
  | 40 => ⟨S_, .f32⟩
  | 41 => ⟨S_, .f32⟩
  | 42 => ⟨S16384, .f32⟩
  | 43 => ⟨S16384, .f32⟩
  | 44 => ⟨S_, .f32⟩
  | 45 => ⟨S16384, .f32⟩
  | 46 => ⟨S16384, .i1⟩
  | 47 => ⟨S_, .f32⟩
  | 48 => ⟨S16384, .f32⟩
  | 49 => ⟨S16384, .i1⟩
  | 50 => ⟨S16384, .i1⟩
  | 51 => ⟨S_, .f32⟩
  | 52 => ⟨S_, .f32⟩
  | 53 => ⟨S16384, .f32⟩
  | 54 => ⟨S16384, .f32⟩
  | 55 => ⟨S_, .f32⟩
  | 56 => ⟨S16384, .f32⟩
  | 57 => ⟨S16384, .f32⟩
  | 58 => ⟨S16384, .f32⟩
  | 59 => ⟨S16384, .i1⟩
  | 60 => ⟨S16384x1, .f32⟩
  | 61 => ⟨S16384, .f32⟩
  | 62 => ⟨S16384x1, .f32⟩
  | 63 => ⟨S16384, .f32⟩
  | 64 => ⟨S16384, .f32⟩
  | 65 => ⟨S16384, .i1⟩
  | 66 => ⟨S16384x1, .f32⟩
  | 67 => ⟨S16384, .f32⟩
  | 68 => ⟨S16384x1, .f32⟩
  | 69 => ⟨S16384, .f32⟩
  | 70 => ⟨S16384, .f32⟩
  | 71 => ⟨S16384x2048, .f32⟩
  | 72 => ⟨S16384x1, .f32⟩
  | 73 => ⟨S16384x1, .f32⟩
  | 74 => ⟨S16384x1, .f32⟩
  | 75 => ⟨S_, .f32⟩
  | 76 => ⟨S16384x125, .f32⟩
  | 77 => ⟨S16384x2176, .f32⟩
  | 78 => ⟨S16384x1, .f32⟩
  | 79 => ⟨S128, .i32⟩
  | 80 => ⟨S128, .f32⟩
  | 81 => ⟨S1x128, .f32⟩
  | 82 => ⟨S16384x128, .f32⟩
  | 83 => ⟨S16384x128, .f32⟩
  | 84 => ⟨S16384x128, .i1⟩
  | 85 => ⟨S16384x128, .f32⟩
  | 86 => ⟨S_, .f32⟩
  | 87 => ⟨S128, .f32⟩
  | 88 => ⟨S1x128, .f32⟩
  | 89 => ⟨S1x32x512x2048, .f32⟩
  | 90 => ⟨S32x512x2048, .f32⟩
  | 91 => ⟨S32x512x2048, .bf16⟩
  | _ => ⟨S2x8192x2048, .f32⟩

abbrev hbmTy (i : Nat) : BufTy := match i / 128 with
  | 0 => hbmTy0_0 i
  | 1 => hbmTy0_1 i
  | 2 => hbmTy0_2 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_9 : Ref sig .tc := ⟨.hbm, 109, rfl⟩
abbrev main_v87 : Ref sig .tc := ⟨.hbm, 110, rfl⟩
abbrev main_cst_10 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_11 : Ref sig .tc := ⟨.hbm, 116, rfl⟩
abbrev main_call0_v0 : Ref sig .tc := ⟨.hbm, 117, rfl⟩
abbrev main_call0_v1 : Ref sig .tc := ⟨.hbm, 118, rfl⟩
abbrev main_call0_v2 : Ref sig .tc := ⟨.hbm, 119, rfl⟩
abbrev main_v92 : Ref sig .tc := ⟨.hbm, 120, rfl⟩
abbrev main_cst_12 : Ref sig .tc := ⟨.hbm, 121, rfl⟩
abbrev main_v93 : Ref sig .tc := ⟨.hbm, 122, rfl⟩
abbrev main_cst_13 : Ref sig .tc := ⟨.hbm, 123, rfl⟩
abbrev main_v94 : Ref sig .tc := ⟨.hbm, 124, rfl⟩
abbrev main_cst_14 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_15 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_16 : Ref sig .tc := ⟨.hbm, 137, rfl⟩
abbrev main_call1_v0 : Ref sig .tc := ⟨.hbm, 138, rfl⟩
abbrev main_call1_v1 : Ref sig .tc := ⟨.hbm, 139, rfl⟩
abbrev main_v105 : Ref sig .tc := ⟨.hbm, 140, rfl⟩
abbrev main_cst_17 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_18 : Ref sig .tc := ⟨.hbm, 153, rfl⟩
abbrev main_call2_v0 : Ref sig .tc := ⟨.hbm, 154, rfl⟩
abbrev main_call2_v1 : Ref sig .tc := ⟨.hbm, 155, rfl⟩
abbrev main_call2_v2 : Ref sig .tc := ⟨.hbm, 156, rfl⟩
abbrev main_v117 : Ref sig .tc := ⟨.hbm, 157, rfl⟩
abbrev main_cst_19 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_cst_20 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_cst_21 : Ref sig .tc := ⟨.hbm, 183, rfl⟩
abbrev main_v141 : Ref sig .tc := ⟨.hbm, 184, rfl⟩
abbrev main_v142 : Ref sig .tc := ⟨.hbm, 185, rfl⟩
abbrev main_cst_22 : Ref sig .tc := ⟨.hbm, 186, rfl⟩
abbrev main_call3_v0 : Ref sig .tc := ⟨.hbm, 187, rfl⟩
abbrev main_call3_v1 : Ref sig .tc := ⟨.hbm, 188, rfl⟩
abbrev main_v143 : Ref sig .tc := ⟨.hbm, 189, rfl⟩
abbrev main_cst_23 : Ref sig .tc := ⟨.hbm, 190, rfl⟩
abbrev main_v144 : Ref sig .tc := ⟨.hbm, 191, rfl⟩
abbrev main_cst_24 : Ref sig .tc := ⟨.hbm, 192, rfl⟩
abbrev main_v145 : Ref sig .tc := ⟨.hbm, 193, rfl⟩
abbrev main_v146 : Ref sig .tc := ⟨.hbm, 194, rfl⟩
abbrev main_cst_25 : Ref sig .tc := ⟨.hbm, 195, rfl⟩
abbrev main_call4_v0 : Ref sig .tc := ⟨.hbm, 196, rfl⟩
abbrev main_call4_v1 : Ref sig .tc := ⟨.hbm, 197, rfl⟩
abbrev main_v147 : Ref sig .tc := ⟨.hbm, 198, rfl⟩
abbrev main_cst_26 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_cst_27 : Ref sig .tc := ⟨.hbm, 204, rfl⟩
abbrev main_v152 : Ref sig .tc := ⟨.hbm, 205, rfl⟩
abbrev main_v153 : Ref sig .tc := ⟨.hbm, 206, rfl⟩
abbrev main_cst_28 : Ref sig .tc := ⟨.hbm, 207, rfl⟩
abbrev main_call5_v0 : Ref sig .tc := ⟨.hbm, 208, rfl⟩
abbrev main_call5_v1 : Ref sig .tc := ⟨.hbm, 209, rfl⟩
abbrev main_call5_v2 : Ref sig .tc := ⟨.hbm, 210, rfl⟩
abbrev main_v154 : Ref sig .tc := ⟨.hbm, 211, rfl⟩
abbrev main_cst_29 : Ref sig .tc := ⟨.hbm, 212, rfl⟩
abbrev main_v155 : Ref sig .tc := ⟨.hbm, 213, rfl⟩
abbrev main_cst_30 : Ref sig .tc := ⟨.hbm, 214, rfl⟩
abbrev main_v156 : Ref sig .tc := ⟨.hbm, 215, rfl⟩
abbrev main_v157 : Ref sig .tc := ⟨.hbm, 216, rfl⟩
abbrev main_cst_31 : Ref sig .tc := ⟨.hbm, 217, rfl⟩
abbrev main_call6_v0 : Ref sig .tc := ⟨.hbm, 218, rfl⟩
abbrev main_call6_v1 : Ref sig .tc := ⟨.hbm, 219, rfl⟩
abbrev main_call6_v2 : Ref sig .tc := ⟨.hbm, 220, rfl⟩
abbrev main_v158 : Ref sig .tc := ⟨.hbm, 221, rfl⟩
abbrev main_cst_32 : Ref sig .tc := ⟨.hbm, 222, rfl⟩
abbrev main_v159 : Ref sig .tc := ⟨.hbm, 223, rfl⟩
abbrev main_v160 : Ref sig .tc := ⟨.hbm, 224, rfl⟩
abbrev main_cst_33 : Ref sig .tc := ⟨.hbm, 225, rfl⟩
abbrev main_v161 : Ref sig .tc := ⟨.hbm, 226, rfl⟩
abbrev main_cst_34 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_cst_35 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_cst_36 : Ref sig .tc := ⟨.hbm, 243, rfl⟩
abbrev main_v176 : Ref sig .tc := ⟨.hbm, 244, rfl⟩
abbrev main_cst_37 : Ref sig .tc := ⟨.hbm, 245, rfl⟩
abbrev main_v177 : Ref sig .tc := ⟨.hbm, 246, rfl⟩
abbrev main_v178 : Ref sig .tc := ⟨.hbm, 247, rfl⟩
abbrev main_cst_38 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_cst_39 : Ref sig .tc := ⟨.hbm, 252, rfl⟩
abbrev main_call7_v0 : Ref sig .tc := ⟨.hbm, 253, rfl⟩
abbrev main_call7_v1 : Ref sig .tc := ⟨.hbm, 254, rfl⟩
abbrev main_v182 : Ref sig .tc := ⟨.hbm, 255, rfl⟩
abbrev main_cst_40 : Ref sig .tc := ⟨.hbm, 256, rfl⟩
abbrev main_v183 : Ref sig .tc := ⟨.hbm, 257, rfl⟩
abbrev main_v184 : Ref sig .tc := ⟨.hbm, 258, rfl⟩
abbrev main_cst_41 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_cst_42 : Ref sig .tc := ⟨.hbm, 263, rfl⟩
abbrev main_call8_v0 : Ref sig .tc := ⟨.hbm, 264, rfl⟩
abbrev main_call8_v1 : Ref sig .tc := ⟨.hbm, 265, rfl⟩
abbrev main_v188 : Ref sig .tc := ⟨.hbm, 266, rfl⟩
abbrev main_cst_43 : Ref sig .tc := ⟨.hbm, 267, rfl⟩
abbrev main_v189 : Ref sig .tc := ⟨.hbm, 268, rfl⟩
abbrev main_v190 : Ref sig .tc := ⟨.hbm, 269, rfl⟩
abbrev main_cst_44 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_cst_45 : Ref sig .tc := ⟨.hbm, 274, rfl⟩
abbrev main_call9_v0 : Ref sig .tc := ⟨.hbm, 275, rfl⟩
abbrev main_call9_v1 : Ref sig .tc := ⟨.hbm, 276, rfl⟩
abbrev main_v194 : Ref sig .tc := ⟨.hbm, 277, rfl⟩
abbrev main_cst_46 : Ref sig .tc := ⟨.hbm, 278, rfl⟩
abbrev main_v195 : Ref sig .tc := ⟨.hbm, 279, rfl⟩
abbrev main_v196 : Ref sig .tc := ⟨.hbm, 280, rfl⟩
abbrev main_cst_47 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_cst_48 : Ref sig .tc := ⟨.hbm, 285, rfl⟩
abbrev main_call10_v0 : Ref sig .tc := ⟨.hbm, 286, rfl⟩
abbrev main_call10_v1 : Ref sig .tc := ⟨.hbm, 287, rfl⟩
abbrev main_v200 : Ref sig .tc := ⟨.hbm, 288, rfl⟩
abbrev main_cst_49 : Ref sig .tc := ⟨.hbm, 289, rfl⟩
abbrev main_v201 : Ref sig .tc := ⟨.hbm, 290, rfl⟩
abbrev main_v202 : Ref sig .tc := ⟨.hbm, 291, rfl⟩
abbrev main_cst_50 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_cst_51 : Ref sig .tc := ⟨.hbm, 296, rfl⟩
abbrev main_call11_v0 : Ref sig .tc := ⟨.hbm, 297, rfl⟩
abbrev main_call11_v1 : Ref sig .tc := ⟨.hbm, 298, rfl⟩
abbrev main_v206 : Ref sig .tc := ⟨.hbm, 299, rfl⟩
abbrev main_cst_52 : Ref sig .tc := ⟨.hbm, 300, rfl⟩
abbrev main_v207 : Ref sig .tc := ⟨.hbm, 301, rfl⟩
abbrev main_v208 : Ref sig .tc := ⟨.hbm, 302, rfl⟩
abbrev main_cst_53 : Ref sig .tc := ⟨.hbm, 303, rfl⟩
abbrev main_v209 : Ref sig .tc := ⟨.hbm, 304, rfl⟩
abbrev main_v210 : Ref sig .tc := ⟨.hbm, 305, rfl⟩
abbrev main_v211 : Ref sig .tc := ⟨.hbm, 306, rfl⟩
abbrev main_cst_54 : Ref sig .tc := ⟨.hbm, 307, rfl⟩
abbrev main_call12_v0 : Ref sig .tc := ⟨.hbm, 308, rfl⟩
abbrev main_call12_v1 : Ref sig .tc := ⟨.hbm, 309, rfl⟩
abbrev main_v212 : Ref sig .tc := ⟨.hbm, 310, rfl⟩
abbrev main_cst_55 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_v221 : Ref sig .tc := ⟨.hbm, 320, rfl⟩
abbrev main_v222 : Ref sig .tc := ⟨.hbm, 321, rfl⟩
abbrev main_v223 : Ref sig .tc := ⟨.hbm, 322, rfl⟩
abbrev main_v224 : Ref sig .tc := ⟨.hbm, 323, rfl⟩
abbrev main_v225 : Ref sig .tc := ⟨.hbm, 324, rfl⟩
abbrev main_v226 : Ref sig .tc := ⟨.hbm, 325, rfl⟩
abbrev main_v227 : Ref sig .tc := ⟨.hbm, 326, rfl⟩
abbrev main_v228 : Ref sig .tc := ⟨.hbm, 327, rfl⟩
abbrev main_v229 : Ref sig .tc := ⟨.hbm, 328, rfl⟩
abbrev main_v230 : Ref sig .tc := ⟨.hbm, 329, rfl⟩
abbrev main_v231 : Ref sig .tc := ⟨.hbm, 330, rfl⟩
abbrev main_cst_56 : Ref sig .tc := ⟨.hbm, 331, rfl⟩
abbrev main_v232 : Ref sig .tc := ⟨.hbm, 332, rfl⟩
abbrev main_v233 : Ref sig .tc := ⟨.hbm, 333, rfl⟩
abbrev main_v234 : Ref sig .tc := ⟨.hbm, 334, rfl⟩
abbrev main_v235 : Ref sig .tc := ⟨.hbm, 335, rfl⟩
abbrev main_v236 : Ref sig .tc := ⟨.hbm, 336, rfl⟩
abbrev main_v237 : Ref sig .tc := ⟨.hbm, 337, rfl⟩
abbrev main_v238 : Ref sig .tc := ⟨.hbm, 338, rfl⟩
abbrev main_v239 : Ref sig .tc := ⟨.hbm, 339, rfl⟩
abbrev main_v240 : Ref sig .tc := ⟨.hbm, 340, rfl⟩
abbrev main_v241 : Ref sig .tc := ⟨.hbm, 341, rfl⟩
abbrev main_cst_57 : Ref sig .tc := ⟨.hbm, 342, rfl⟩
abbrev main_v242 : Ref sig .tc := ⟨.hbm, 343, rfl⟩
abbrev main_v243 : Ref sig .tc := ⟨.hbm, 344, rfl⟩
abbrev main_v244 : Ref sig .tc := ⟨.hbm, 345, rfl⟩
abbrev main_v245 : Ref sig .tc := ⟨.hbm, 346, rfl⟩
abbrev main_v246 : Ref sig .tc := ⟨.hbm, 347, rfl⟩

abbrev nD : Nat := 1
abbrev τ : Topo := Topo.v7x

variable {F : FTy → Type} [FloatOps F]
-- ==== Kernel2.lean ====
abbrev S2x8192x2048 : Shape := ⟨3, ![2, 8192, 2048]⟩
abbrev S4x2048 : Shape := ⟨2, ![4, 2048]⟩
abbrev S2x2048x4096 : Shape := ⟨3, ![2, 2048, 4096]⟩
abbrev S4x32x2048x1024 : Shape := ⟨4, ![4, 32, 2048, 1024]⟩
abbrev S4x1x2048 : Shape := ⟨3, ![4, 1, 2048]⟩
abbrev S16384x2048 : Shape := ⟨2, ![16384, 2048]⟩
abbrev S32x2048x512 : Shape := ⟨3, ![32, 2048, 512]⟩
abbrev S512x2048 : Shape := ⟨2, ![512, 2048]⟩
abbrev S1x1x2048 : Shape := ⟨3, ![1, 1, 2048]⟩
abbrev S1x2048x4096 : Shape := ⟨3, ![1, 2048, 4096]⟩
abbrev S1x1x2048x512 : Shape := ⟨4, ![1, 1, 2048, 512]⟩
abbrev S1x2048x512 : Shape := ⟨3, ![1, 2048, 512]⟩
abbrev S1x2048 : Shape := ⟨2, ![1, 2048]⟩
abbrev S512 : Shape := ⟨1, ![512]⟩
abbrev S512x1 : Shape := ⟨2, ![512, 1]⟩
abbrev S1x2048x256 : Shape := ⟨3, ![1, 2048, 256]⟩
abbrev S2048x256 : Shape := ⟨2, ![2048, 256]⟩
abbrev S512x256 : Shape := ⟨2, ![512, 256]⟩

abbrev nBuf : Space → Nat
  | .hbm => 9
  | .vmem => 11
  | .smem => 0
  | _ => 0

abbrev bufTy : (tb : Table) → Fin (tcTables nBuf tb) → BufTy
  | .hbm, ⟨0, _⟩ => ⟨S2x8192x2048, .f32⟩
  | .hbm, ⟨1, _⟩ => ⟨S4x2048, .f32⟩
  | .hbm, ⟨2, _⟩ => ⟨S2x2048x4096, .f32⟩
  | .hbm, ⟨3, _⟩ => ⟨S4x32x2048x1024, .f32⟩
  | .hbm, ⟨4, _⟩ => ⟨S4x1x2048, .f32⟩
  | .hbm, ⟨5, _⟩ => ⟨S2x2048x4096, .bf16⟩
  | .hbm, ⟨6, _⟩ => ⟨S16384x2048, .f32⟩
  | .hbm, ⟨7, _⟩ => ⟨S16384x2048, .bf16⟩
  | .hbm, ⟨8, _⟩ => ⟨S32x2048x512, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x2048x4096, .bf16⟩
  | .local _ .vmem, ⟨4, _⟩ => ⟨S1x1x2048x512, .f32⟩
  | .local _ .vmem, ⟨5, _⟩ => ⟨S1x1x2048x512, .f32⟩
  | .local _ .vmem, ⟨6, _⟩ => ⟨S512x2048, .bf16⟩
  | .local _ .vmem, ⟨7, _⟩ => ⟨S512x2048, .bf16⟩
  | .local _ .vmem, ⟨8, _⟩ => ⟨S1x2048x512, .bf16⟩
  | .local _ .vmem, ⟨9, _⟩ => ⟨S1x2048x512, .bf16⟩
  | .local _ .vmem, ⟨10, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x8192x2048 : Shape := ⟨3, ![2, 8192, 2048]⟩
abbrev S4x2048 : Shape := ⟨2, ![4, 2048]⟩
abbrev S2x2048x4096 : Shape := ⟨3, ![2, 2048, 4096]⟩
abbrev S4x32x2048x1024 : Shape := ⟨4, ![4, 32, 2048, 1024]⟩
abbrev S1x2048 : Shape := ⟨2, ![1, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S1x2048x4096 : Shape := ⟨3, ![1, 2048, 4096]⟩
abbrev S2048x4096 : Shape := ⟨2, ![2048, 4096]⟩
abbrev S2x8192x4096 : Shape := ⟨3, ![2, 8192, 4096]⟩
abbrev S16384x2048 : Shape := ⟨2, ![16384, 2048]⟩
abbrev S1x32x2048x1024 : Shape := ⟨4, ![1, 32, 2048, 1024]⟩
abbrev S32x2048x1024 : Shape := ⟨3, ![32, 2048, 1024]⟩
abbrev S32x2048x512 : Shape := ⟨3, ![32, 2048, 512]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S4x2048, .f32⟩
  | .hbm, ⟨2, _⟩ => ⟨S2x2048x4096, .f32⟩
  | .hbm, ⟨3, _⟩ => ⟨S4x32x2048x1024, .f32⟩
  | .hbm, ⟨4, _⟩ => ⟨S1x2048, .f32⟩
  | .hbm, ⟨5, _⟩ => ⟨S2048, .f32⟩
  | .hbm, ⟨6, _⟩ => ⟨S2x8192x2048, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x2048, .f32⟩
  | .hbm, ⟨18, _⟩ => ⟨S2x8192x2048, .f32⟩
  | .hbm, ⟨19, _⟩ => ⟨S1x1x2048, .f32⟩
  | .hbm, ⟨20, _⟩ => ⟨S2x8192x2048, .f32⟩
  | .hbm, ⟨21, _⟩ => ⟨S2x8192x2048, .f32⟩
  | .hbm, ⟨22, _⟩ => ⟨S1x2048x4096, .f32⟩
  | .hbm, ⟨23, _⟩ => ⟨S2048x4096, .f32⟩
  | .hbm, ⟨24, _⟩ => ⟨S2x8192x4096, .f32⟩
  | .hbm, ⟨25, _⟩ => ⟨S2x8192x2048, .f32⟩
  | .hbm, ⟨26, _⟩ => ⟨S2x8192x2048, .f32⟩
  | .hbm, ⟨27, _⟩ => ⟨S2x8192x2048, .f32⟩
  | .hbm, ⟨28, _⟩ => ⟨S2x8192x2048, .f32⟩
  | .hbm, ⟨29, _⟩ => ⟨S_, .f32⟩
  | .hbm, ⟨30, _⟩ => ⟨S2x8192x2048, .f32⟩
  | .hbm, ⟨31, _⟩ => ⟨S2x8192x2048, .f32⟩
  | .hbm, ⟨32, _⟩ => ⟨S_, .f32⟩
  | .hbm, ⟨33, _⟩ => ⟨S2x8192x2048, .f32⟩
  | .hbm, ⟨34, _⟩ => ⟨S2x8192x2048, .f32⟩
  | .hbm, ⟨35, _⟩ => ⟨S2x8192x2048, .f32⟩
  | .hbm, ⟨36, _⟩ => ⟨S16384x2048, .f32⟩
  | .hbm, ⟨37, _⟩ => ⟨S16384x2048, .bf16⟩
  | .hbm, ⟨38, _⟩ => ⟨S1x32x2048x1024, .f32⟩
  | .hbm, ⟨39, _⟩ => ⟨S32x2048x1024, .f32⟩
  | .hbm, ⟨40, _⟩ => ⟨S32x2048x512, .f32⟩
  | .hbm, ⟨41, _⟩ => ⟨S32x2048x512, .f32⟩
  | .hbm, ⟨42, _⟩ => ⟨S32x2048x512, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Kernel3.lean ====
abbrev S2x8192x2048 : Shape := ⟨3, ![2, 8192, 2048]⟩
abbrev S4x2048 : Shape := ⟨2, ![4, 2048]⟩
abbrev S1x2048x6144 : Shape := ⟨3, ![1, 2048, 6144]⟩
abbrev S16384x2048 : Shape := ⟨2, ![16384, 2048]⟩
abbrev S4x1x2048 : Shape := ⟨3, ![4, 1, 2048]⟩
abbrev S512x2048 : Shape := ⟨2, ![512, 2048]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩
abbrev S1x2048x256 : Shape := ⟨3, ![1, 2048, 256]⟩
abbrev S2048x256 : Shape := ⟨2, ![2048, 256]⟩
abbrev S512x256 : Shape := ⟨2, ![512, 256]⟩

abbrev nBuf : Space → Nat
  | .hbm => 8
  | .vmem => 9
  | .smem => 0
  | _ => 0

abbrev bufTy : (tb : Table) → Fin (tcTables nBuf tb) → BufTy
  | .hbm, ⟨0, _⟩ => ⟨S2x8192x2048, .f32⟩
  | .hbm, ⟨1, _⟩ => ⟨S4x2048, .f32⟩
  | .hbm, ⟨2, _⟩ => ⟨S1x2048x6144, .f32⟩
  | .hbm, ⟨3, _⟩ => ⟨S16384x2048, .f32⟩
  | .hbm, ⟨4, _⟩ => ⟨S4x1x2048, .f32⟩
  | .hbm, ⟨5, _⟩ => ⟨S1x2048x6144, .bf16⟩
  | .hbm, ⟨6, _⟩ => ⟨S16384x2048, .bf16⟩
  | .hbm, ⟨7, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x2048x6144, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S2x8192x2048 : Shape := ⟨3, ![2, 8192, 2048]⟩
abbrev S4x2048 : Shape := ⟨2, ![4, 2048]⟩
abbrev S1x2048x6144 : Shape := ⟨3, ![1, 2048, 6144]⟩
abbrev S1x2048 : Shape := ⟨2, ![1, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x6144 : Shape := ⟨2, ![2048, 6144]⟩
abbrev S2x8192x6144 : Shape := ⟨3, ![2, 8192, 6144]⟩
abbrev S16384x2048 : Shape := ⟨2, ![16384, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S4x2048, .f32⟩
  | .hbm, ⟨2, _⟩ => ⟨S1x2048x6144, .f32⟩
  | .hbm, ⟨3, _⟩ => ⟨S1x2048, .f32⟩
  | .hbm, ⟨4, _⟩ => ⟨S2048, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S2048x6144, .f32⟩
  | .hbm, ⟨22, _⟩ => ⟨S2x8192x6144, .f32⟩
  | .hbm, ⟨23, _⟩ => ⟨S2x8192x2048, .f32⟩
  | .hbm, ⟨24, _⟩ => ⟨S2x8192x2048, .f32⟩
  | .hbm, ⟨25, _⟩ => ⟨S2x8192x2048, .f32⟩
  | .hbm, ⟨26, _⟩ => ⟨S16384x2048, .f32⟩
  | .hbm, ⟨27, _⟩ => ⟨S16384x2048, .bf16⟩
  | .hbm, ⟨28, _⟩ => ⟨S2x8192x2048, .f32⟩
  | .hbm, ⟨29, _⟩ => ⟨S16384x2048, .f32⟩
  | .hbm, ⟨30, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel4.lean ====
abbrev S2x256x2048 : Shape := ⟨3, ![2, 256, 2048]⟩
abbrev S4x2048 : Shape := ⟨2, ![4, 2048]⟩
abbrev S4x2048x2048 : Shape := ⟨3, ![4, 2048, 2048]⟩
abbrev S512x2048 : Shape := ⟨2, ![512, 2048]⟩
abbrev S4x1x2048 : Shape := ⟨3, ![4, 1, 2048]⟩
abbrev S1x1x2048 : Shape := ⟨3, ![1, 1, 2048]⟩
abbrev S1x2048x256 : Shape := ⟨3, ![1, 2048, 256]⟩
abbrev S512x256 : Shape := ⟨2, ![512, 256]⟩
abbrev S1x2048 : Shape := ⟨2, ![1, 2048]⟩
abbrev S512 : Shape := ⟨1, ![512]⟩
abbrev S512x1 : Shape := ⟨2, ![512, 1]⟩
abbrev S2048x256 : Shape := ⟨2, ![2048, 256]⟩

abbrev nBuf : Space → Nat
  | .hbm => 8
  | .vmem => 10
  | .smem => 0
  | _ => 0

abbrev bufTy : (tb : Table) → Fin (tcTables nBuf tb) → BufTy
  | .hbm, ⟨0, _⟩ => ⟨S2x256x2048, .f32⟩
  | .hbm, ⟨1, _⟩ => ⟨S4x2048, .f32⟩
  | .hbm, ⟨2, _⟩ => ⟨S4x2048x2048, .f32⟩
  | .hbm, ⟨3, _⟩ => ⟨S4x2048x2048, .f32⟩
  | .hbm, ⟨4, _⟩ => ⟨S512x2048, .f32⟩
  | .hbm, ⟨5, _⟩ => ⟨S4x1x2048, .f32⟩
  | .hbm, ⟨6, _⟩ => ⟨S512x2048, .bf16⟩
  | .hbm, ⟨7, _⟩ => ⟨S512x2048, .bf16⟩
  | .local _ .vmem, ⟨0, _⟩ => ⟨S512x2048, .f32⟩
  | .local _ .vmem, ⟨1, _⟩ => ⟨S1x1x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S2x256x2048 : Shape := ⟨3, ![2, 256, 2048]⟩
abbrev S4x2048 : Shape := ⟨2, ![4, 2048]⟩
abbrev S4x2048x2048 : Shape := ⟨3, ![4, 2048, 2048]⟩
abbrev S1x2048 : Shape := ⟨2, ![1, 2048]⟩
abbrev S2048 : Shape := ⟨1, ![2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S512x2048 : Shape := ⟨2, ![512, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S4x2048, .f32⟩
  | .hbm, ⟨2, _⟩ => ⟨S4x2048x2048, .f32⟩
  | .hbm, ⟨3, _⟩ => ⟨S4x2048x2048, .f32⟩
  | .hbm, ⟨4, _⟩ => ⟨S1x2048, .f32⟩
  | .hbm, ⟨5, _⟩ => ⟨S2048, .f32⟩
  | .hbm, ⟨6, _⟩ => ⟨S2x256x2048, .f32⟩
  | .hbm, ⟨7, _⟩ => ⟨S_, .f32⟩
  | .hbm, ⟨8, _⟩ => ⟨S2x256, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S2x256x1, .f32⟩
  | .hbm, ⟨17, _⟩ => ⟨S2x256x2048, .f32⟩
  | .hbm, ⟨18, _⟩ => ⟨S2x256x2048, .f32⟩
  | .hbm, ⟨19, _⟩ => ⟨S1x1x2048, .f32⟩
  | .hbm, ⟨20, _⟩ => ⟨S2x256x2048, .f32⟩
  | .hbm, ⟨21, _⟩ => ⟨S2x256x2048, .f32⟩
  | .hbm, ⟨22, _⟩ => ⟨S1x2048x2048, .f32⟩
  | .hbm, ⟨23, _⟩ => ⟨S2048x2048, .f32⟩
  | .hbm, ⟨24, _⟩ => ⟨S2x256x2048, .f32⟩
  | .hbm, ⟨25, _⟩ => ⟨S512x2048, .f32⟩
  | .hbm, ⟨26, _⟩ => ⟨S512x2048, .bf16⟩
  | .hbm, ⟨27, _⟩ => ⟨S1x2048x2048, .f32⟩
  | .hbm, ⟨28, _⟩ => ⟨S2048x2048, .f32⟩
  | .hbm, ⟨29, _⟩ => ⟨S2x256x2048, .f32⟩
  | .hbm, ⟨30, _⟩ => ⟨S512x2048, .f32⟩
  | .hbm, ⟨31, _⟩ => ⟨S512x2048, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel5.lean ====
abbrev S2x8192x2048 : Shape := ⟨3, ![2, 8192, 2048]⟩
abbrev S1x3x2048 : Shape := ⟨3, ![1, 3, 2048]⟩
abbrev S1x2048x2048 : Shape := ⟨3, ![1, 2048, 2048]⟩
abbrev S4x32x2048x1024 : Shape := ⟨4, ![4, 32, 2048, 1024]⟩
abbrev S32x2048x512 : Shape := ⟨3, ![32, 2048, 512]⟩
abbrev S1x512x2048 : Shape := ⟨3, ![1, 512, 2048]⟩
abbrev S1x16x2048 : Shape := ⟨3, ![1, 16, 2048]⟩
abbrev S1x1x2048x512 : Shape := ⟨4, ![1, 1, 2048, 512]⟩
abbrev S1x2048x512 : Shape := ⟨3, ![1, 2048, 512]⟩
abbrev S544x2048 : Shape := ⟨2, ![544, 2048]⟩
abbrev S512x2048 : Shape := ⟨2, ![512, 2048]⟩
abbrev S16x2048 : Shape := ⟨2, ![16, 2048]⟩
abbrev S1x128x2048 : Shape := ⟨3, ![1, 128, 2048]⟩
abbrev S128x2048 : Shape := ⟨2, ![128, 2048]⟩
abbrev S160x128 : Shape := ⟨2, ![160, 128]⟩
abbrev S128x128 : Shape := ⟨2, ![128, 128]⟩
abbrev S1x1x128 : Shape := ⟨3, ![1, 1, 128]⟩
abbrev S1x128 : Shape := ⟨2, ![1, 128]⟩
abbrev S1x512x256 : Shape := ⟨3, ![1, 512, 256]⟩
abbrev S512x256 : Shape := ⟨2, ![512, 256]⟩
abbrev S1x2048x256 : Shape := ⟨3, ![1, 2048, 256]⟩
abbrev S2048x256 : Shape := ⟨2, ![2048, 256]⟩

abbrev nBuf : Space → Nat
  | .hbm => 9
  | .vmem => 21
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .bf16⟩
  | .hbm, ⟨2, _⟩ => ⟨S2x8192x2048, .f32⟩
  | .hbm, ⟨3, _⟩ => ⟨S1x3x2048, .f32⟩
  | .hbm, ⟨4, _⟩ => ⟨S1x2048x2048, .f32⟩
  | .hbm, ⟨5, _⟩ => ⟨S4x32x2048x1024, .f32⟩
  | .hbm, ⟨6, _⟩ => ⟨S1x2048x2048, .bf16⟩
  | .hbm, ⟨7, _⟩ => ⟨S2x8192x2048, .f32⟩
  | .hbm, ⟨8, _⟩ => ⟨S32x2048x512, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x16x2048, .bf16⟩
  | .local _ .vmem, ⟨3, _⟩ => ⟨S1x16x2048, .bf16⟩
  | .local _ .vmem, ⟨4, _⟩ => ⟨S1x16x2048, .bf16⟩
  | .local _ .vmem, ⟨5, _⟩ => ⟨S1x16x2048, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x512x2048, .f32⟩
  | .local _ .vmem, ⟨9, _⟩ => ⟨S1x512x2048, .f32⟩
  | .local _ .vmem, ⟨10, _⟩ => ⟨S1x3x2048, .f32⟩
  | .local _ .vmem, ⟨11, _⟩ => ⟨S1x2048x2048, .bf16⟩
  | .local _ .vmem, ⟨12, _⟩ => ⟨S1x1x2048x512, .f32⟩
  | .local _ .vmem, ⟨13, _⟩ => ⟨S1x1x2048x512, .f32⟩
  | .local _ .vmem, ⟨14, _⟩ => ⟨S1x512x2048, .f32⟩
  | .local _ .vmem, ⟨15, _⟩ => ⟨S1x512x2048, .f32⟩
  | .local _ .vmem, ⟨16, _⟩ => ⟨S1x2048x512, .bf16⟩
  | .local _ .vmem, ⟨17, _⟩ => ⟨S1x2048x512, .bf16⟩
  | .local _ .vmem, ⟨18, _⟩ => ⟨S544x2048, .f32⟩
  | .local _ .vmem, ⟨19, _⟩ => ⟨S512x2048, .f32⟩
  | .local _ .vmem, ⟨20, _⟩ => ⟨S512x2048, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_15 : BitVec 32 := 0#32
  let c4_i32 : BitVec 32 := 4#32
  let v26 : BitVec 32 := Scalar.addi c0_i32_15 c4_i32
  let c1_i32 : BitVec 32 := 1#32
  ⟨c0_i32_15, v26, c1_i32⟩
def k0_mult1 (k0_t1 : Fin k0_t1_loop.trips) : BitVec 32 :=
  let c0_i32_15 : BitVec 32 := 0#32
  let c1_i32 : BitVec 32 := 1#32
  let arg15 : BitVec 32 := Scf.iv c0_i32_15 c1_i32 k0_t1
  let c128_i32 : BitVec 32 := 128#32
  let v113 : BitVec 32 := Scalar.muli arg15 c128_i32
  v113
def k0_off1 (k0_t1 : Fin k0_t1_loop.trips) : Fin 3 → Nat :=
  let c0_121 : Index := 0#32
  let c0_i32_15 : BitVec 32 := 0#32
  let c1_i32 : BitVec 32 := 1#32
  let arg15 : BitVec 32 := Scf.iv c0_i32_15 c1_i32 k0_t1
  let c128_i32 : BitVec 32 := 128#32
  let v113 : BitVec 32 := Scalar.muli arg15 c128_i32
  let v114 : BitVec 32 := v113
  let v115 : Index := Scalar.indexCast v114
  let c0_122 : Index := 0#32
  ![0, v115.toNat, 0]
def k0_off2 (k0_t1 : Fin k0_t1_loop.trips) : Fin 2 → Nat :=
  let c16_i32 : BitVec 32 := 16#32
  let c0_i32_15 : BitVec 32 := 0#32
  let c1_i32 : BitVec 32 := 1#32
  let arg15 : BitVec 32 := Scf.iv c0_i32_15 c1_i32 k0_t1
  let c128_i32 : BitVec 32 := 128#32
  let v113 : BitVec 32 := Scalar.muli arg15 c128_i32
  let v114 : BitVec 32 := v113
  let v119 : BitVec 32 := Scalar.addi c16_i32 v114
  let v120 : Index := Scalar.indexCast v119
  let c0_123 : Index := 0#32
  ![v120.toNat, 0]
@[reducible] def k0_t2_loop : Scf.Loop 32 :=
  let c0_i32_17 : BitVec 32 := 0#32
  let c4_i32_18 : BitVec 32 := 4#32
  let v27 : BitVec 32 := Scalar.addi c0_i32_17 c4_i32_18
  let c1_i32_19 : BitVec 32 := 1#32
  ⟨c0_i32_17, v27, c1_i32_19⟩
def k0_mult2 (k0_t2 : Fin k0_t2_loop.trips) : BitVec 32 :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  v113
def k0_off3 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v115 : Index := Scalar.indexCast v114
  let c0_121 : Index := 0#32
  ![v115.toNat, 0]
def k0_off4 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v138 : Index := Scalar.indexCast v114
  let c0_130 : Index := 0#32
  ![v138.toNat, 0]
def k0_off5 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v142 : Index := Scalar.indexCast v114
  let c128 : Index := 128#32
  ![v142.toNat, 128]
def k0_off6 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v165 : Index := Scalar.indexCast v114
  let c128_143 : Index := 128#32
  ![v165.toNat, 128]
def k0_off7 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v169 : Index := Scalar.indexCast v114
  let c256_144 : Index := 256#32
  ![v169.toNat, 256]
def k0_off8 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v192 : Index := Scalar.indexCast v114
  let c256_157 : Index := 256#32
  ![v192.toNat, 256]
def k0_off9 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v196 : Index := Scalar.indexCast v114
  let c384 : Index := 384#32
  ![v196.toNat, 384]
def k0_off10 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v219 : Index := Scalar.indexCast v114
  let c384_170 : Index := 384#32
  ![v219.toNat, 384]
def k0_off11 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v223 : Index := Scalar.indexCast v114
  let c512_171 : Index := 512#32
  ![v223.toNat, 512]
def k0_off12 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v246 : Index := Scalar.indexCast v114
  let c512_184 : Index := 512#32
  ![v246.toNat, 512]
def k0_off13 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v250 : Index := Scalar.indexCast v114
  let c640 : Index := 640#32
  ![v250.toNat, 640]
def k0_off14 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v273 : Index := Scalar.indexCast v114
  let c640_197 : Index := 640#32
  ![v273.toNat, 640]
def k0_off15 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v277 : Index := Scalar.indexCast v114
  let c768_198 : Index := 768#32
  ![v277.toNat, 768]
def k0_off16 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v300 : Index := Scalar.indexCast v114
  let c768_211 : Index := 768#32
  ![v300.toNat, 768]
def k0_off17 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v304 : Index := Scalar.indexCast v114
  let c896 : Index := 896#32
  ![v304.toNat, 896]
def k0_off18 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v327 : Index := Scalar.indexCast v114
  let c896_224 : Index := 896#32
  ![v327.toNat, 896]
def k0_off19 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v331 : Index := Scalar.indexCast v114
  let c1024_225 : Index := 1024#32
  ![v331.toNat, 1024]
def k0_off20 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v354 : Index := Scalar.indexCast v114
  let c1024_238 : Index := 1024#32
  ![v354.toNat, 1024]
def k0_off21 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v358 : Index := Scalar.indexCast v114
  let c1152 : Index := 1152#32
  ![v358.toNat, 1152]
def k0_off22 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v381 : Index := Scalar.indexCast v114
  let c1152_251 : Index := 1152#32
  ![v381.toNat, 1152]
def k0_off23 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v385 : Index := Scalar.indexCast v114
  let c1280_252 : Index := 1280#32
  ![v385.toNat, 1280]
def k0_off24 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v408 : Index := Scalar.indexCast v114
  let c1280_265 : Index := 1280#32
  ![v408.toNat, 1280]
def k0_off25 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v412 : Index := Scalar.indexCast v114
  let c1408 : Index := 1408#32
  ![v412.toNat, 1408]
def k0_off26 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v435 : Index := Scalar.indexCast v114
  let c1408_278 : Index := 1408#32
  ![v435.toNat, 1408]
def k0_off27 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v439 : Index := Scalar.indexCast v114
  let c1536_279 : Index := 1536#32
  ![v439.toNat, 1536]
def k0_off28 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v462 : Index := Scalar.indexCast v114
  let c1536_292 : Index := 1536#32
  ![v462.toNat, 1536]
def k0_off29 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v466 : Index := Scalar.indexCast v114
  let c1664 : Index := 1664#32
  ![v466.toNat, 1664]
def k0_off30 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v489 : Index := Scalar.indexCast v114
  let c1664_305 : Index := 1664#32
  ![v489.toNat, 1664]
def k0_off31 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v493 : Index := Scalar.indexCast v114
  let c1792_306 : Index := 1792#32
  ![v493.toNat, 1792]
def k0_off32 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v516 : Index := Scalar.indexCast v114
  let c1792_319 : Index := 1792#32
  ![v516.toNat, 1792]
def k0_off33 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v520 : Index := Scalar.indexCast v114
  let c1920 : Index := 1920#32
  ![v520.toNat, 1920]
def k0_off34 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v113 : BitVec 32 := Scalar.muli arg15 c128_i32
  let v114 : BitVec 32 := v113
  let v543 : Index := Scalar.indexCast v114
  let c1920_332 : Index := 1920#32
  ![v543.toNat, 1920]
@[reducible] def k0_t3_loop : Scf.Loop 32 :=
  let c0_i32_21 : BitVec 32 := 0#32
  let c4_i32_22 : BitVec 32 := 4#32
  let v28 : BitVec 32 := Scalar.addi c0_i32_21 c4_i32_22
  let c1_i32_23 : BitVec 32 := 1#32
  ⟨c0_i32_21, v28, c1_i32_23⟩
def k0_mult3 (k0_t3 : Fin k0_t3_loop.trips) : BitVec 32 :=
  let c0_i32_21 : BitVec 32 := 0#32
  let c1_i32_23 : BitVec 32 := 1#32
  let arg15 : BitVec 32 := Scf.iv c0_i32_21 c1_i32_23 k0_t3
  let c128_i32 : BitVec 32 := 128#32
  let v113 : BitVec 32 := Scalar.muli arg15 c128_i32
  v113
def k0_off35 (k0_t3 : Fin k0_t3_loop.trips) : Fin 3 → Nat :=
  let c0_121 : Index := 0#32
  let c0_i32_21 : BitVec 32 := 0#32
  let c1_i32_23 : BitVec 32 := 1#32
  let arg15 : BitVec 32 := Scf.iv c0_i32_21 c1_i32_23 k0_t3
  let c128_i32 : BitVec 32 := 128#32
  let v113 : BitVec 32 := Scalar.muli arg15 c128_i32
  let v114 : BitVec 32 := v113
  let v115 : Index := Scalar.indexCast v114
  let c0_122 : Index := 0#32
  ![0, v115.toNat, 0]
def k0_off36 (k0_t3 : Fin k0_t3_loop.trips) : Fin 2 → Nat :=
  let c0_i32_21 : BitVec 32 := 0#32
  let c1_i32_23 : BitVec 32 := 1#32
  let arg15 : BitVec 32 := Scf.iv c0_i32_21 c1_i32_23 k0_t3
  let c128_i32 : BitVec 32 := 128#32
  let v113 : BitVec 32 := Scalar.muli arg15 c128_i32
  let v114 : BitVec 32 := v113
  let v119 : Index := Scalar.indexCast v114
  let c0_123 : Index := 0#32
  ![v119.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c2_i32 : BitVec 32 := 2#32
  let c0_i32 : BitVec 32 := 0#32
  let c0_i32_0 : BitVec 32 := 0#32
  let c0_i32_1 : BitVec 32 := 0#32
  ![c2_i32.toNat, v2.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![v2.toNat, c0_i32.toNat, c0_i32_0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S2x8192x2048 : Shape := ⟨3, ![2, 8192, 2048]⟩
abbrev S1x3x2048 : Shape := ⟨3, ![1, 3, 2048]⟩
abbrev S1x2048x2048 : Shape := ⟨3, ![1, 2048, 2048]⟩
abbrev S4x32x2048x1024 : Shape := ⟨4, ![4, 32, 2048, 1024]⟩
abbrev S3x2048 : Shape := ⟨2, ![3, 2048]⟩
abbrev S_ : Shape := ⟨0, ![]⟩
abbrev S2x8194x2048 : Shape := ⟨3, ![2, 8194, 2048]⟩
abbrev S1x2048 : Shape := ⟨2, ![1, 2048]⟩
abbrev S2048 : Shape := ⟨1, ![2048]⟩
abbrev S1x1x2048 : Shape := ⟨3, ![1, 1, 2048]⟩
abbrev S2048x2048 : Shape := ⟨2, ![2048, 2048]⟩
abbrev S1x32x2048x1024 : Shape := ⟨4, ![1, 32, 2048, 1024]⟩
abbrev S32x2048x1024 : Shape := ⟨3, ![32, 2048, 1024]⟩
abbrev S32x2048x512 : Shape := ⟨3, ![32, 2048, 512]⟩

abbrev nBuf : Space → Nat
  | .hbm => 44
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .bf16⟩
  | .hbm, ⟨2, _⟩ => ⟨S2x8192x2048, .f32⟩
  | .hbm, ⟨3, _⟩ => ⟨S1x3x2048, .f32⟩
  | .hbm, ⟨4, _⟩ => ⟨S1x2048x2048, .f32⟩
  | .hbm, ⟨5, _⟩ => ⟨S4x32x2048x1024, .f32⟩
  | .hbm, ⟨6, _⟩ => ⟨S2x8192x2048, .f32⟩
  | .hbm, ⟨7, _⟩ => ⟨S3x2048, .f32⟩
  | .hbm, ⟨8, _⟩ => ⟨S_, .i32⟩
  | .hbm, ⟨9, _⟩ => ⟨S_, .f32⟩
  | .hbm, ⟨10, _⟩ => ⟨S2x8194x2048, .f32⟩
  | .hbm, ⟨11, _⟩ => ⟨S2x8192x2048, .f32⟩
  | .hbm, ⟨12, _⟩ => ⟨S1x2048, .f32⟩
  | .hbm, ⟨13, _⟩ => ⟨S2048, .f32⟩
  | .hbm, ⟨14, _⟩ => ⟨S1x1x2048, .f32⟩
  | .hbm, ⟨15, _⟩ => ⟨S2x8192x2048, .f32⟩
  | .hbm, ⟨16, _⟩ => ⟨S2x8192x2048, .f32⟩
  | .hbm, ⟨17, _⟩ => ⟨S_, .f32⟩
  | .hbm, ⟨18, _⟩ => ⟨S2x8192x2048, .f32⟩
  | .hbm, ⟨19, _⟩ => ⟨S2x8192x2048, .f32⟩
  | .hbm, ⟨20, _⟩ => ⟨S2x8192x2048, .f32⟩
  | .hbm, ⟨21, _⟩ => ⟨S1x2048, .f32⟩
  | .hbm, ⟨22, _⟩ => ⟨S2048, .f32⟩
  | .hbm, ⟨23, _⟩ => ⟨S1x1x2048, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | .hbm, ⟨27, _⟩ => ⟨S2x8192x2048, .f32⟩
  | .hbm, ⟨28, _⟩ => ⟨S1x2048, .f32⟩
  | .hbm, ⟨29, _⟩ => ⟨S2048, .f32⟩
  | .hbm, ⟨30, _⟩ => ⟨S1x1x2048, .f32⟩
  | .hbm, ⟨31, _⟩ => ⟨S2x8192x2048, .f32⟩
  | .hbm, ⟨32, _⟩ => ⟨S2x8192x2048, .f32⟩
  | .hbm, ⟨33, _⟩ => ⟨S2x8192x2048, .f32⟩
  | .hbm, ⟨34, _⟩ => ⟨S2x8192x2048, .f32⟩
  | .hbm, ⟨35, _⟩ => ⟨S2x8192x2048, .f32⟩
  | .hbm, ⟨36, _⟩ => ⟨S2048x2048, .f32⟩
  | .hbm, ⟨37, _⟩ => ⟨S2x8192x2048, .f32⟩
  | .hbm, ⟨38, _⟩ => ⟨S2x8192x2048, .f32⟩
  | .hbm, ⟨39, _⟩ => ⟨S1x32x2048x1024, .f32⟩
  | .hbm, ⟨40, _⟩ => ⟨S32x2048x1024, .f32⟩
  | .hbm, ⟨41, _⟩ => ⟨S32x2048x512, .f32⟩
  | .hbm, ⟨42, _⟩ => ⟨S32x2048x512, .f32⟩
  | .hbm, ⟨43, _⟩ => ⟨S32x2048x512, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel6.lean ====
abbrev S2x8192x2048 : Shape := ⟨3, ![2, 8192, 2048]⟩
abbrev S2x31x2048 : Shape := ⟨3, ![2, 31, 2048]⟩
abbrev S2x2048 : Shape := ⟨2, ![2, 2048]⟩
abbrev S2x2048x2048 : Shape := ⟨3, ![2, 2048, 2048]⟩
abbrev S4x32x2048x1024 : Shape := ⟨4, ![4, 32, 2048, 1024]⟩
abbrev S2x1x2048 : Shape := ⟨3, ![2, 1, 2048]⟩
abbrev S32x2048x512 : Shape := ⟨3, ![32, 2048, 512]⟩
abbrev S1x512x2048 : Shape := ⟨3, ![1, 512, 2048]⟩
abbrev S1x16x2048 : Shape := ⟨3, ![1, 16, 2048]⟩
abbrev S1x31x2048 : Shape := ⟨3, ![1, 31, 2048]⟩
abbrev S1x1x2048 : Shape := ⟨3, ![1, 1, 2048]⟩
abbrev S1x2048x2048 : Shape := ⟨3, ![1, 2048, 2048]⟩
abbrev S1x1x2048x512 : Shape := ⟨4, ![1, 1, 2048, 512]⟩
abbrev S1x2048x512 : Shape := ⟨3, ![1, 2048, 512]⟩
abbrev S544x2048 : Shape := ⟨2, ![544, 2048]⟩
abbrev S512x2048 : Shape := ⟨2, ![512, 2048]⟩
abbrev S16x2048 : Shape := ⟨2, ![16, 2048]⟩
abbrev S1x128x2048 : Shape := ⟨3, ![1, 128, 2048]⟩
abbrev S128x2048 : Shape := ⟨2, ![128, 2048]⟩
abbrev S160x128 : Shape := ⟨2, ![160, 128]⟩
abbrev S128x128 : Shape := ⟨2, ![128, 128]⟩
abbrev S1x1x128 : Shape := ⟨3, ![1, 1, 128]⟩
abbrev S1x128 : Shape := ⟨2, ![1, 128]⟩
abbrev S1x2048 : Shape := ⟨2, ![1, 2048]⟩
abbrev S128 : Shape := ⟨1, ![128]⟩
abbrev S128x1 : Shape := ⟨2, ![128, 1]⟩
abbrev S1x512x256 : Shape := ⟨3, ![1, 512, 256]⟩
abbrev S512x256 : Shape := ⟨2, ![512, 256]⟩
abbrev S1x2048x256 : Shape := ⟨3, ![1, 2048, 256]⟩
abbrev S2048x256 : Shape := ⟨2, ![2048, 256]⟩

abbrev nBuf : Space → Nat
  | .hbm => 14
  | .vmem => 22
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .f32⟩
  | .hbm, ⟨2, _⟩ => ⟨S2x31x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048x2048, .f32⟩
  | .hbm, ⟨7, _⟩ => ⟨S4x32x2048x1024, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x2048x2048, .bf16⟩
  | .hbm, ⟨12, _⟩ => ⟨S2x8192x2048, .f32⟩
  | .hbm, ⟨13, _⟩ => ⟨S32x2048x512, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x16x2048, .bf16⟩
  | .local _ .vmem, ⟨3, _⟩ => ⟨S1x16x2048, .bf16⟩
  | .local _ .vmem, ⟨4, _⟩ => ⟨S1x16x2048, .bf16⟩
  | .local _ .vmem, ⟨5, _⟩ => ⟨S1x16x2048, .bf16⟩
  | .local _ .vmem, ⟨6, _⟩ => ⟨S1x512x2048, .f32⟩
  | .local _ .vmem, ⟨7, _⟩ => ⟨S1x512x2048, .f32⟩
  | .local _ .vmem, ⟨8, _⟩ => ⟨S1x31x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048x2048, .bf16⟩
  | .local _ .vmem, ⟨13, _⟩ => ⟨S1x1x2048x512, .f32⟩
  | .local _ .vmem, ⟨14, _⟩ => ⟨S1x1x2048x512, .f32⟩
  | .local _ .vmem, ⟨15, _⟩ => ⟨S1x512x2048, .f32⟩
  | .local _ .vmem, ⟨16, _⟩ => ⟨S1x512x2048, .f32⟩
  | .local _ .vmem, ⟨17, _⟩ => ⟨S1x2048x512, .bf16⟩
  | .local _ .vmem, ⟨18, _⟩ => ⟨S1x2048x512, .bf16⟩
  | .local _ .vmem, ⟨19, _⟩ => ⟨S544x2048, .f32⟩
  | .local _ .vmem, ⟨20, _⟩ => ⟨S512x2048, .f32⟩
  | .local _ .vmem, ⟨21, _⟩ => ⟨S512x2048, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_15 : BitVec 32 := 0#32
  let c4_i32 : BitVec 32 := 4#32
  let v26 : BitVec 32 := Scalar.addi c0_i32_15 c4_i32
  let c1_i32 : BitVec 32 := 1#32
  ⟨c0_i32_15, v26, c1_i32⟩
def k0_mult1 (k0_t1 : Fin k0_t1_loop.trips) : BitVec 32 :=
  let c0_i32_15 : BitVec 32 := 0#32
  let c1_i32 : BitVec 32 := 1#32
  let arg17 : BitVec 32 := Scf.iv c0_i32_15 c1_i32 k0_t1
  let c128_i32 : BitVec 32 := 128#32
  let v113 : BitVec 32 := Scalar.muli arg17 c128_i32
  v113
def k0_off1 (k0_t1 : Fin k0_t1_loop.trips) : Fin 3 → Nat :=
  let c0_121 : Index := 0#32
  let c0_i32_15 : BitVec 32 := 0#32
  let c1_i32 : BitVec 32 := 1#32
  let arg17 : BitVec 32 := Scf.iv c0_i32_15 c1_i32 k0_t1
  let c128_i32 : BitVec 32 := 128#32
  let v113 : BitVec 32 := Scalar.muli arg17 c128_i32
  let v114 : BitVec 32 := v113
  let v115 : Index := Scalar.indexCast v114
  let c0_122 : Index := 0#32
  ![0, v115.toNat, 0]
def k0_off2 (k0_t1 : Fin k0_t1_loop.trips) : Fin 2 → Nat :=
  let c16_i32 : BitVec 32 := 16#32
  let c0_i32_15 : BitVec 32 := 0#32
  let c1_i32 : BitVec 32 := 1#32
  let arg17 : BitVec 32 := Scf.iv c0_i32_15 c1_i32 k0_t1
  let c128_i32 : BitVec 32 := 128#32
  let v113 : BitVec 32 := Scalar.muli arg17 c128_i32
  let v114 : BitVec 32 := v113
  let v119 : BitVec 32 := Scalar.addi c16_i32 v114
  let v120 : Index := Scalar.indexCast v119
  let c0_123 : Index := 0#32
  ![v120.toNat, 0]
@[reducible] def k0_t2_loop : Scf.Loop 32 :=
  let c0_i32_17 : BitVec 32 := 0#32
  let c4_i32_18 : BitVec 32 := 4#32
  let v27 : BitVec 32 := Scalar.addi c0_i32_17 c4_i32_18
  let c1_i32_19 : BitVec 32 := 1#32
  ⟨c0_i32_17, v27, c1_i32_19⟩
def k0_mult2 (k0_t2 : Fin k0_t2_loop.trips) : BitVec 32 :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  v113
def k0_off3 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v115 : Index := Scalar.indexCast v114
  let c0_121 : Index := 0#32
  ![v115.toNat, 0]
def k0_off4 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v311 : Index := Scalar.indexCast v114
  let c0_186 : Index := 0#32
  ![v311.toNat, 0]
def k0_off5 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v315 : Index := Scalar.indexCast v114
  let c128 : Index := 128#32
  ![v315.toNat, 128]
def k0_off6 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v511 : Index := Scalar.indexCast v114
  let c128_288 : Index := 128#32
  ![v511.toNat, 128]
def k0_off7 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v515 : Index := Scalar.indexCast v114
  let c256_289 : Index := 256#32
  ![v515.toNat, 256]
def k0_off8 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v711 : Index := Scalar.indexCast v114
  let c256_391 : Index := 256#32
  ![v711.toNat, 256]
def k0_off9 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v715 : Index := Scalar.indexCast v114
  let c384 : Index := 384#32
  ![v715.toNat, 384]
def k0_off10 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v911 : Index := Scalar.indexCast v114
  let c384_493 : Index := 384#32
  ![v911.toNat, 384]
def k0_off11 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v915 : Index := Scalar.indexCast v114
  let c512_494 : Index := 512#32
  ![v915.toNat, 512]
def k0_off12 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v1111 : Index := Scalar.indexCast v114
  let c512_596 : Index := 512#32
  ![v1111.toNat, 512]
def k0_off13 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v1115 : Index := Scalar.indexCast v114
  let c640 : Index := 640#32
  ![v1115.toNat, 640]
def k0_off14 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v1311 : Index := Scalar.indexCast v114
  let c640_698 : Index := 640#32
  ![v1311.toNat, 640]
def k0_off15 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v1315 : Index := Scalar.indexCast v114
  let c768_699 : Index := 768#32
  ![v1315.toNat, 768]
def k0_off16 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v1511 : Index := Scalar.indexCast v114
  let c768_801 : Index := 768#32
  ![v1511.toNat, 768]
def k0_off17 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v1515 : Index := Scalar.indexCast v114
  let c896 : Index := 896#32
  ![v1515.toNat, 896]
def k0_off18 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v1711 : Index := Scalar.indexCast v114
  let c896_903 : Index := 896#32
  ![v1711.toNat, 896]
def k0_off19 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v1715 : Index := Scalar.indexCast v114
  let c1024_904 : Index := 1024#32
  ![v1715.toNat, 1024]
def k0_off20 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v1911 : Index := Scalar.indexCast v114
  let c1024_1006 : Index := 1024#32
  ![v1911.toNat, 1024]
def k0_off21 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v1915 : Index := Scalar.indexCast v114
  let c1152 : Index := 1152#32
  ![v1915.toNat, 1152]
def k0_off22 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v2111 : Index := Scalar.indexCast v114
  let c1152_1108 : Index := 1152#32
  ![v2111.toNat, 1152]
def k0_off23 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v2115 : Index := Scalar.indexCast v114
  let c1280_1109 : Index := 1280#32
  ![v2115.toNat, 1280]
def k0_off24 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v2311 : Index := Scalar.indexCast v114
  let c1280_1211 : Index := 1280#32
  ![v2311.toNat, 1280]
def k0_off25 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v2315 : Index := Scalar.indexCast v114
  let c1408 : Index := 1408#32
  ![v2315.toNat, 1408]
def k0_off26 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v2511 : Index := Scalar.indexCast v114
  let c1408_1313 : Index := 1408#32
  ![v2511.toNat, 1408]
def k0_off27 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v2515 : Index := Scalar.indexCast v114
  let c1536_1314 : Index := 1536#32
  ![v2515.toNat, 1536]
def k0_off28 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v2711 : Index := Scalar.indexCast v114
  let c1536_1416 : Index := 1536#32
  ![v2711.toNat, 1536]
def k0_off29 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v2715 : Index := Scalar.indexCast v114
  let c1664 : Index := 1664#32
  ![v2715.toNat, 1664]
def k0_off30 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v2911 : Index := Scalar.indexCast v114
  let c1664_1518 : Index := 1664#32
  ![v2911.toNat, 1664]
def k0_off31 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v2915 : Index := Scalar.indexCast v114
  let c1792_1519 : Index := 1792#32
  ![v2915.toNat, 1792]
def k0_off32 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v3111 : Index := Scalar.indexCast v114
  let c1792_1621 : Index := 1792#32
  ![v3111.toNat, 1792]
def k0_off33 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v3115 : Index := Scalar.indexCast v114
  let c1920 : Index := 1920#32
  ![v3115.toNat, 1920]
def k0_off34 (k0_t2 : Fin k0_t2_loop.trips) : Fin 2 → Nat :=
  let c0_i32_17 : BitVec 32 := 0#32
  let c1_i32_19 : BitVec 32 := 1#32
  let arg17 : BitVec 32 := Scf.iv c0_i32_17 c1_i32_19 k0_t2
  let c128_i32 : BitVec 32 := 128#32
  let v113 : BitVec 32 := Scalar.muli arg17 c128_i32
  let v114 : BitVec 32 := v113
  let v3311 : Index := Scalar.indexCast v114
  let c1920_1723 : Index := 1920#32
  ![v3311.toNat, 1920]
@[reducible] def k0_t3_loop : Scf.Loop 32 :=
  let c0_i32_21 : BitVec 32 := 0#32
  let c4_i32_22 : BitVec 32 := 4#32
  let v28 : BitVec 32 := Scalar.addi c0_i32_21 c4_i32_22
  let c1_i32_23 : BitVec 32 := 1#32
  ⟨c0_i32_21, v28, c1_i32_23⟩
def k0_mult3 (k0_t3 : Fin k0_t3_loop.trips) : BitVec 32 :=
  let c0_i32_21 : BitVec 32 := 0#32
  let c1_i32_23 : BitVec 32 := 1#32
  let arg17 : BitVec 32 := Scf.iv c0_i32_21 c1_i32_23 k0_t3
  let c128_i32 : BitVec 32 := 128#32
  let v113 : BitVec 32 := Scalar.muli arg17 c128_i32
  v113
def k0_off35 (k0_t3 : Fin k0_t3_loop.trips) : Fin 2 → Nat :=
  let c0_i32_21 : BitVec 32 := 0#32
  let c1_i32_23 : BitVec 32 := 1#32
  let arg17 : BitVec 32 := Scf.iv c0_i32_21 c1_i32_23 k0_t3
  let c128_i32 : BitVec 32 := 128#32
  let v113 : BitVec 32 := Scalar.muli arg17 c128_i32
  let v114 : BitVec 32 := v113
  let v115 : Index := Scalar.indexCast v114
  let c0_121 : Index := 0#32
  ![v115.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c1_i32 : BitVec 32 := 1#32
  let c0_i32_1 : BitVec 32 := 0#32
  ![c0_i32.toNat, v2.toNat, c0_i32_0.toNat, c1_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![v2.toNat, c0_i32.toNat, c0_i32_0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x31x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference6Ideal.lean ====
abbrev S2x8192x2048 : Shape := ⟨3, ![2, 8192, 2048]⟩
abbrev S2x31x2048 : Shape := ⟨3, ![2, 31, 2048]⟩
abbrev S2x2048 : Shape := ⟨2, ![2, 2048]⟩
abbrev S2x2048x2048 : Shape := ⟨3, ![2, 2048, 2048]⟩
abbrev S4x32x2048x1024 : Shape := ⟨4, ![4, 32, 2048, 1024]⟩
abbrev S1x31x2048 : Shape := ⟨3, ![1, 31, 2048]⟩
abbrev S31x2048 : Shape := ⟨2, ![31, 2048]⟩
abbrev S_ : Shape := ⟨0, ![]⟩
abbrev S2x8222x2048 : Shape := ⟨3, ![2, 8222, 2048]⟩
abbrev S1x2048 : Shape := ⟨2, ![1, 2048]⟩
abbrev S2048 : Shape := ⟨1, ![2048]⟩
abbrev S1x1x2048 : Shape := ⟨3, ![1, 1, 2048]⟩
abbrev S2x8192 : Shape := ⟨2, ![2, 8192]⟩
abbrev S2x8192x1 : Shape := ⟨3, ![2, 8192, 1]⟩
abbrev S1x2048x2048 : Shape := ⟨3, ![1, 2048, 2048]⟩
abbrev S2048x2048 : Shape := ⟨2, ![2048, 2048]⟩
abbrev S1x32x2048x1024 : Shape := ⟨4, ![1, 32, 2048, 1024]⟩
abbrev S32x2048x1024 : Shape := ⟨3, ![32, 2048, 1024]⟩
abbrev S32x2048x512 : Shape := ⟨3, ![32, 2048, 512]⟩

abbrev nBuf : Space → Nat
  | .hbm => 289
  | .vmem => 0
  | .smem => 0
  | _ => 0

abbrev hbmTy0_0 (i : Nat) : BufTy := match i % 128 with
  | 0 => ⟨S2x8192x2048, .bf16⟩
  | 1 => ⟨S2x8192x2048, .f32⟩
  | 2 => ⟨S2x31x2048, .f32⟩
  | 3 => ⟨S2x2048, .f32⟩
  | 4 => ⟨S2x2048, .f32⟩
  | 5 => ⟨S2x2048, .f32⟩
  | 6 => ⟨S2x2048x2048, .f32⟩
  | 7 => ⟨S4x32x2048x1024, .f32⟩
  | 8 => ⟨S2x8192x2048, .f32⟩
  | 9 => ⟨S1x31x2048, .f32⟩
  | 10 => ⟨S31x2048, .f32⟩
  | 11 => ⟨S_, .i32⟩
  | 12 => ⟨S_, .f32⟩
  | 13 => ⟨S2x8222x2048, .f32⟩
  | 14 => ⟨S2x8192x2048, .f32⟩
  | 15 => ⟨S1x2048, .f32⟩
  | 16 => ⟨S2048, .f32⟩
  | 17 => ⟨S1x1x2048, .f32⟩
  | 18 => ⟨S2x8192x2048, .f32⟩
  | 19 => ⟨S2x8192x2048, .f32⟩
  | 20 => ⟨S_, .f32⟩
  | 21 => ⟨S2x8192x2048, .f32⟩
  | 22 => ⟨S2x8192x2048, .f32⟩
  | 23 => ⟨S2x8192x2048, .f32⟩
  | 24 => ⟨S1x2048, .f32⟩
  | 25 => ⟨S2048, .f32⟩
  | 26 => ⟨S1x1x2048, .f32⟩
  | 27 => ⟨S2x8192x2048, .f32⟩
  | 28 => ⟨S2x8192x2048, .f32⟩
  | 29 => ⟨S2x8192x2048, .f32⟩
  | 30 => ⟨S2x8192x2048, .f32⟩
  | 31 => ⟨S1x2048, .f32⟩
  | 32 => ⟨S2048, .f32⟩
  | 33 => ⟨S1x1x2048, .f32⟩
  | 34 => ⟨S2x8192x2048, .f32⟩
  | 35 => ⟨S2x8192x2048, .f32⟩
  | 36 => ⟨S2x8192x2048, .f32⟩
  | 37 => ⟨S2x8192x2048, .f32⟩
  | 38 => ⟨S1x2048, .f32⟩
  | 39 => ⟨S2048, .f32⟩
  | 40 => ⟨S1x1x2048, .f32⟩
  | 41 => ⟨S2x8192x2048, .f32⟩
  | 42 => ⟨S2x8192x2048, .f32⟩
  | 43 => ⟨S2x8192x2048, .f32⟩
  | 44 => ⟨S2x8192x2048, .f32⟩
  | 45 => ⟨S1x2048, .f32⟩
  | 46 => ⟨S2048, .f32⟩
  | 47 => ⟨S1x1x2048, .f32⟩
  | 48 => ⟨S2x8192x2048, .f32⟩
  | 49 => ⟨S2x8192x2048, .f32⟩
  | 50 => ⟨S2x8192x2048, .f32⟩
  | 51 => ⟨S2x8192x2048, .f32⟩
  | 52 => ⟨S1x2048, .f32⟩
  | 53 => ⟨S2048, .f32⟩
  | 54 => ⟨S1x1x2048, .f32⟩
  | 55 => ⟨S2x8192x2048, .f32⟩
  | 56 => ⟨S2x8192x2048, .f32⟩
  | 57 => ⟨S2x8192x2048, .f32⟩
  | 58 => ⟨S2x8192x2048, .f32⟩
  | 59 => ⟨S1x2048, .f32⟩
  | 60 => ⟨S2048, .f32⟩
  | 61 => ⟨S1x1x2048, .f32⟩
  | 62 => ⟨S2x8192x2048, .f32⟩
  | 63 => ⟨S2x8192x2048, .f32⟩
  | 64 => ⟨S2x8192x2048, .f32⟩
  | 65 => ⟨S2x8192x2048, .f32⟩
  | 66 => ⟨S1x2048, .f32⟩
  | 67 => ⟨S2048, .f32⟩
  | 68 => ⟨S1x1x2048, .f32⟩
  | 69 => ⟨S2x8192x2048, .f32⟩
  | 70 => ⟨S2x8192x2048, .f32⟩
  | 71 => ⟨S2x8192x2048, .f32⟩
  | 72 => ⟨S2x8192x2048, .f32⟩
  | 73 => ⟨S1x2048, .f32⟩
  | 74 => ⟨S2048, .f32⟩
  | 75 => ⟨S1x1x2048, .f32⟩
  | 76 => ⟨S2x8192x2048, .f32⟩
  | 77 => ⟨S2x8192x2048, .f32⟩
  | 78 => ⟨S2x8192x2048, .f32⟩
  | 79 => ⟨S2x8192x2048, .f32⟩
  | 80 => ⟨S1x2048, .f32⟩
  | 81 => ⟨S2048, .f32⟩
  | 82 => ⟨S1x1x2048, .f32⟩
  | 83 => ⟨S2x8192x2048, .f32⟩
  | 84 => ⟨S2x8192x2048, .f32⟩
  | 85 => ⟨S2x8192x2048, .f32⟩
  | 86 => ⟨S2x8192x2048, .f32⟩
  | 87 => ⟨S1x2048, .f32⟩
  | 88 => ⟨S2048, .f32⟩
  | 89 => ⟨S1x1x2048, .f32⟩
  | 90 => ⟨S2x8192x2048, .f32⟩
  | 91 => ⟨S2x8192x2048, .f32⟩
  | 92 => ⟨S2x8192x2048, .f32⟩
  | 93 => ⟨S2x8192x2048, .f32⟩
  | 94 => ⟨S1x2048, .f32⟩
  | 95 => ⟨S2048, .f32⟩
  | 96 => ⟨S1x1x2048, .f32⟩
  | 97 => ⟨S2x8192x2048, .f32⟩
  | 98 => ⟨S2x8192x2048, .f32⟩
  | 99 => ⟨S2x8192x2048, .f32⟩
  | 100 => ⟨S2x8192x2048, .f32⟩
  | 101 => ⟨S1x2048, .f32⟩
  | 102 => ⟨S2048, .f32⟩
  | 103 => ⟨S1x1x2048, .f32⟩
  | 104 => ⟨S2x8192x2048, .f32⟩
  | 105 => ⟨S2x8192x2048, .f32⟩
  | 106 => ⟨S2x8192x2048, .f32⟩
  | 107 => ⟨S2x8192x2048, .f32⟩
  | 108 => ⟨S1x2048, .f32⟩
  | 109 => ⟨S2048, .f32⟩
  | 110 => ⟨S1x1x2048, .f32⟩
  | 111 => ⟨S2x8192x2048, .f32⟩
  | 112 => ⟨S2x8192x2048, .f32⟩
  | 113 => ⟨S2x8192x2048, .f32⟩
  | 114 => ⟨S2x8192x2048, .f32⟩
  | 115 => ⟨S1x2048, .f32⟩
  | 116 => ⟨S2048, .f32⟩
  | 117 => ⟨S1x1x2048, .f32⟩
  | 118 => ⟨S2x8192x2048, .f32⟩
  | 119 => ⟨S2x8192x2048, .f32⟩
  | 120 => ⟨S2x8192x2048, .f32⟩
  | 121 => ⟨S2x8192x2048, .f32⟩
  | 122 => ⟨S1x2048, .f32⟩
  | 123 => ⟨S2048, .f32⟩
  | 124 => ⟨S1x1x2048, .f32⟩
  | 125 => ⟨S2x8192x2048, .f32⟩
  | 126 => ⟨S2x8192x2048, .f32⟩
  | 127 => ⟨S2x8192x2048, .f32⟩
  | _ => ⟨S2x8192x2048, .bf16⟩

abbrev hbmTy0_1 (i : Nat) : BufTy := match i % 128 with
  | 0 => ⟨S2x8192x2048, .f32⟩
  | 1 => ⟨S1x2048, .f32⟩
  | 2 => ⟨S2048, .f32⟩
  | 3 => ⟨S1x1x2048, .f32⟩
  | 4 => ⟨S2x8192x2048, .f32⟩
  | 5 => ⟨S2x8192x2048, .f32⟩
  | 6 => ⟨S2x8192x2048, .f32⟩
  | 7 => ⟨S2x8192x2048, .f32⟩
  | 8 => ⟨S1x2048, .f32⟩
  | 9 => ⟨S2048, .f32⟩
  | 10 => ⟨S1x1x2048, .f32⟩
  | 11 => ⟨S2x8192x2048, .f32⟩
  | 12 => ⟨S2x8192x2048, .f32⟩
  | 13 => ⟨S2x8192x2048, .f32⟩
  | 14 => ⟨S2x8192x2048, .f32⟩
  | 15 => ⟨S1x2048, .f32⟩
  | 16 => ⟨S2048, .f32⟩
  | 17 => ⟨S1x1x2048, .f32⟩
  | 18 => ⟨S2x8192x2048, .f32⟩
  | 19 => ⟨S2x8192x2048, .f32⟩
  | 20 => ⟨S2x8192x2048, .f32⟩
  | 21 => ⟨S2x8192x2048, .f32⟩
  | 22 => ⟨S1x2048, .f32⟩
  | 23 => ⟨S2048, .f32⟩
  | 24 => ⟨S1x1x2048, .f32⟩
  | 25 => ⟨S2x8192x2048, .f32⟩
  | 26 => ⟨S2x8192x2048, .f32⟩
  | 27 => ⟨S2x8192x2048, .f32⟩
  | 28 => ⟨S2x8192x2048, .f32⟩
  | 29 => ⟨S1x2048, .f32⟩
  | 30 => ⟨S2048, .f32⟩
  | 31 => ⟨S1x1x2048, .f32⟩
  | 32 => ⟨S2x8192x2048, .f32⟩
  | 33 => ⟨S2x8192x2048, .f32⟩
  | 34 => ⟨S2x8192x2048, .f32⟩
  | 35 => ⟨S2x8192x2048, .f32⟩
  | 36 => ⟨S1x2048, .f32⟩
  | 37 => ⟨S2048, .f32⟩
  | 38 => ⟨S1x1x2048, .f32⟩
  | 39 => ⟨S2x8192x2048, .f32⟩
  | 40 => ⟨S2x8192x2048, .f32⟩
  | 41 => ⟨S2x8192x2048, .f32⟩
  | 42 => ⟨S2x8192x2048, .f32⟩
  | 43 => ⟨S1x2048, .f32⟩
  | 44 => ⟨S2048, .f32⟩
  | 45 => ⟨S1x1x2048, .f32⟩
  | 46 => ⟨S2x8192x2048, .f32⟩
  | 47 => ⟨S2x8192x2048, .f32⟩
  | 48 => ⟨S2x8192x2048, .f32⟩
  | 49 => ⟨S2x8192x2048, .f32⟩
  | 50 => ⟨S1x2048, .f32⟩
  | 51 => ⟨S2048, .f32⟩
  | 52 => ⟨S1x1x2048, .f32⟩
  | 53 => ⟨S2x8192x2048, .f32⟩
  | 54 => ⟨S2x8192x2048, .f32⟩
  | 55 => ⟨S2x8192x2048, .f32⟩
  | 56 => ⟨S2x8192x2048, .f32⟩
  | 57 => ⟨S1x2048, .f32⟩
  | 58 => ⟨S2048, .f32⟩
  | 59 => ⟨S1x1x2048, .f32⟩
  | 60 => ⟨S2x8192x2048, .f32⟩
  | 61 => ⟨S2x8192x2048, .f32⟩
  | 62 => ⟨S2x8192x2048, .f32⟩
  | 63 => ⟨S2x8192x2048, .f32⟩
  | 64 => ⟨S1x2048, .f32⟩
  | 65 => ⟨S2048, .f32⟩
  | 66 => ⟨S1x1x2048, .f32⟩
  | 67 => ⟨S2x8192x2048, .f32⟩
  | 68 => ⟨S2x8192x2048, .f32⟩
  | 69 => ⟨S2x8192x2048, .f32⟩
  | 70 => ⟨S2x8192x2048, .f32⟩
  | 71 => ⟨S1x2048, .f32⟩
  | 72 => ⟨S2048, .f32⟩
  | 73 => ⟨S1x1x2048, .f32⟩
  | 74 => ⟨S2x8192x2048, .f32⟩
  | 75 => ⟨S2x8192x2048, .f32⟩
  | 76 => ⟨S2x8192x2048, .f32⟩
  | 77 => ⟨S2x8192x2048, .f32⟩
  | 78 => ⟨S1x2048, .f32⟩
  | 79 => ⟨S2048, .f32⟩
  | 80 => ⟨S1x1x2048, .f32⟩
  | 81 => ⟨S2x8192x2048, .f32⟩
  | 82 => ⟨S2x8192x2048, .f32⟩
  | 83 => ⟨S2x8192x2048, .f32⟩
  | 84 => ⟨S2x8192x2048, .f32⟩
  | 85 => ⟨S1x2048, .f32⟩
  | 86 => ⟨S2048, .f32⟩
  | 87 => ⟨S1x1x2048, .f32⟩
  | 88 => ⟨S2x8192x2048, .f32⟩
  | 89 => ⟨S2x8192x2048, .f32⟩
  | 90 => ⟨S2x8192x2048, .f32⟩
  | 91 => ⟨S2x8192x2048, .f32⟩
  | 92 => ⟨S1x2048, .f32⟩
  | 93 => ⟨S2048, .f32⟩
  | 94 => ⟨S1x1x2048, .f32⟩
  | 95 => ⟨S2x8192x2048, .f32⟩
  | 96 => ⟨S2x8192x2048, .f32⟩
  | 97 => ⟨S2x8192x2048, .f32⟩
  | 98 => ⟨S2x8192x2048, .f32⟩
  | 99 => ⟨S1x2048, .f32⟩
  | 100 => ⟨S2048, .f32⟩
  | 101 => ⟨S1x1x2048, .f32⟩
  | 102 => ⟨S2x8192x2048, .f32⟩
  | 103 => ⟨S2x8192x2048, .f32⟩
  | 104 => ⟨S2x8192x2048, .f32⟩
  | 105 => ⟨S1x2048, .f32⟩
  | 106 => ⟨S2048, .f32⟩
  | 107 => ⟨S1x1x2048, .f32⟩
  | 108 => ⟨S2x8192x2048, .f32⟩
  | 109 => ⟨S2x8192x2048, .f32⟩
  | 110 => ⟨S1x2048, .f32⟩
  | 111 => ⟨S2048, .f32⟩
  | 112 => ⟨S1x2048, .f32⟩
  | 113 => ⟨S2048, .f32⟩
  | 114 => ⟨S_, .f32⟩
  | 115 => ⟨S2x8192, .f32⟩
  | 116 => ⟨S2x8192x1, .f32⟩
  | 117 => ⟨S_, .f32⟩
  | 118 => ⟨S2x8192x1, .f32⟩
  | 119 => ⟨S2x8192x1, .f32⟩
  | 120 => ⟨S2x8192x2048, .f32⟩
  | 121 => ⟨S2x8192x2048, .f32⟩
  | 122 => ⟨S2x8192x2048, .f32⟩
  | 123 => ⟨S_, .f32⟩
  | 124 => ⟨S2x8192, .f32⟩
  | 125 => ⟨S2x8192x1, .f32⟩
  | 126 => ⟨S_, .f32⟩
  | 127 => ⟨S2x8192x1, .f32⟩
  | _ => ⟨S2x8192x2048, .bf16⟩

abbrev hbmTy0_2 (i : Nat) : BufTy := match i % 128 with
  | 0 => ⟨S2x8192x1, .f32⟩
  | 1 => ⟨S2x8192x2048, .f32⟩
  | 2 => ⟨S2x8192x2048, .f32⟩
  | 3 => ⟨S_, .f32⟩
  | 4 => ⟨S2x8192x1, .f32⟩
  | 5 => ⟨S2x8192x1, .f32⟩
  | 6 => ⟨S2x8192x1, .f32⟩
  | 7 => ⟨S2x8192x2048, .f32⟩
  | 8 => ⟨S2x8192x2048, .f32⟩
  | 9 => ⟨S1x1x2048, .f32⟩
  | 10 => ⟨S2x8192x2048, .f32⟩
  | 11 => ⟨S2x8192x2048, .f32⟩
  | 12 => ⟨S1x1x2048, .f32⟩
  | 13 => ⟨S2x8192x2048, .f32⟩
  | 14 => ⟨S2x8192x2048, .f32⟩
  | 15 => ⟨S2x8192x2048, .f32⟩
  | 16 => ⟨S2x8192x2048, .f32⟩
  | 17 => ⟨S_, .f32⟩
  | 18 => ⟨S2x8192x2048, .f32⟩
  | 19 => ⟨S2x8192x2048, .f32⟩
  | 20 => ⟨S_, .f32⟩
  | 21 => ⟨S2x8192x2048, .f32⟩
  | 22 => ⟨S2x8192x2048, .f32⟩
  | 23 => ⟨S2x8192x2048, .f32⟩
  | 24 => ⟨S1x2048x2048, .f32⟩
  | 25 => ⟨S2048x2048, .f32⟩
  | 26 => ⟨S2x8192x2048, .f32⟩
  | 27 => ⟨S2x8192x2048, .f32⟩
  | 28 => ⟨S1x32x2048x1024, .f32⟩
  | 29 => ⟨S32x2048x1024, .f32⟩
  | 30 => ⟨S32x2048x512, .f32⟩
  | 31 => ⟨S32x2048x512, .f32⟩
  | 32 => ⟨S32x2048x512, .bf16⟩
  | _ => ⟨S2x8192x2048, .bf16⟩

abbrev hbmTy (i : Nat) : BufTy := match i / 128 with
  | 0 => hbmTy0_0 i
  | 1 => hbmTy0_1 i
  | 2 => hbmTy0_2 i
  | _ => ⟨S2x8192x2048, .bf16⟩

abbrev bufTy : (tb : Table) → Fin (tcTables nBuf tb) → BufTy
  | .hbm, ⟨i, _⟩ => hbmTy i
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_cst_0 : Ref sig .tc := ⟨.hbm, 242, rfl⟩
abbrev main_v231 : Ref sig .tc := ⟨.hbm, 243, rfl⟩
abbrev main_v232 : Ref sig .tc := ⟨.hbm, 244, rfl⟩
abbrev main_cst_1 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_cst_2 : Ref sig .tc := ⟨.hbm, 251, rfl⟩
abbrev main_v238 : Ref sig .tc := ⟨.hbm, 252, rfl⟩
abbrev main_v239 : Ref sig .tc := ⟨.hbm, 253, rfl⟩
abbrev main_cst_3 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_cst_4 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_call1_v0 : Ref sig .tc := ⟨.hbm, 271, rfl⟩
abbrev main_call1_v1 : Ref sig .tc := ⟨.hbm, 272, rfl⟩
abbrev main_call1_cst : Ref sig .tc := ⟨.hbm, 273, rfl⟩
abbrev main_call1_v2 : Ref sig .tc := ⟨.hbm, 274, rfl⟩
abbrev main_call1_v3 : Ref sig .tc := ⟨.hbm, 275, rfl⟩
abbrev main_call1_cst_0 : Ref sig .tc := ⟨.hbm, 276, rfl⟩
abbrev main_call1_v4 : Ref sig .tc := ⟨.hbm, 277, rfl⟩
abbrev main_call1_v5 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩

abbrev nD : Nat := 1
abbrev τ : Topo := Topo.v7x

variable {F : FTy → Type} [FloatOps F]
-- ==== Proof.Host.lean ====
module

public import proofs.«01_k».proof.Proof.Gen.KernelIdeal.Value
public import Idealize.ShloMosaic.Lib.Pipeline.ValueKit
public import Idealize.ShloMosaic.Lib.Routing.OpsSet
public import Idealize.ShloMosaic.Lib.Routing.OpsPair

@[expose] public section

/-! The operands that the program prepares before its kernel runs, read at an index. -/

noncomputable section
namespace Cert.Route
open Idealize.ShloMosaic Idealize.ShloMosaic.TcCoe Idealize.SL.Sem Idealize.ShloMosaic.Routing
open Cert.KernelIdeal Cert.KernelIdeal.Gen

theorem scatter_rows {α : Type} (x : S2048x128.Idx → α) (idx : IVec S1 32) (u : S2048x40.Idx → α) (hi : ∀ i, idx i = 0#32) (r : Fin 2048) (j : Fin 128) :
    Host.scatter scatter_S2048x128_S1_S2048x40_01_n_1_0 (fun _ b => b) x idx u (ix2 r j) = if h : (j : ℕ) < 40 then u (ix2 r ⟨j, h⟩) else x (ix2 r j) := by
  have e : ∀ k : S2048x40.Idx, scatter_S2048x128_S1_S2048x40_01_n_1_0.resultIdx? k idx = some (ix2 r j) ↔ ((k 0).val = r.val ∧ (k 1).val = j.val) := by
    intro k
    rw [resultIdx?_eq_some]
    have s : ∀ a, scatter_S2048x128_S1_S2048x40_01_n_1_0.start k idx a = 0 := by
      intro a
      unfold ScatterDims.start
      split
      · rw [hi]; rfl
      · rfl
    have s0 := s 0
    have s1 := s 1
    have w0 : scatter_S2048x128_S1_S2048x40_01_n_1_0.window k 0 = (k 0).val := rfl
    have w1 : scatter_S2048x128_S1_S2048x40_01_n_1_0.window k 1 = (k 1).val := rfl
    constructor
    · intro h
      have h0 := h 0
      have h1 := h 1
      rw [s0, w0] at h0
      rw [s1, w1] at h1
      simp at h0 h1
      exact ⟨by exact_mod_cast h0, by exact_mod_cast h1⟩
    · rintro ⟨h0, h1⟩ a
      match a with
      | ⟨0, _⟩ =>
        show scatter_S2048x128_S1_S2048x40_01_n_1_0.start k idx 0 + (scatter_S2048x128_S1_S2048x40_01_n_1_0.window k 0 : Int) = (r.val : Int)
        rw [s0, w0, h0]; simp
      | ⟨1, _⟩ =>
        show scatter_S2048x128_S1_S2048x40_01_n_1_0.start k idx 1 + (scatter_S2048x128_S1_S2048x40_01_n_1_0.window k 1 : Int) = (j.val : Int)
        rw [s1, w1, h1]; simp
  by_cases h : (j : ℕ) < 40
  · rw [dif_pos h]
    refine scatter_set_hit _ _ _ _ _ _ (fun k hk => ?_) (ix2 r ⟨j, h⟩) ((e _).mpr ⟨rfl, rfl⟩)
    obtain ⟨h0, h1⟩ := (e k).mp hk
    refine congrArg u (funext fun a => Fin.ext ?_)
    match a with
    | ⟨0, _⟩ => exact h0
    | ⟨1, _⟩ => exact h1
  · rw [dif_neg h]
    refine scatter_set_miss _ _ _ _ _ fun k hk => ?_
    obtain ⟨h0, h1⟩ := (e k).mp hk
    have := (k 1).isLt
    have h2 : (k 1).val < 40 := this
    omega

theorem scatter_row {α : Type} (x : S1x128.Idx → α) (idx : IVec S2 32) (u : S40.Idx → α) (hi : ∀ i, idx i = 0#32) (j : Fin 128) :
    Host.scatter scatter_S1x128_S2_S40_0_0_01_0 (fun _ b => b) x idx u (ix2 0 j) = if h : (j : ℕ) < 40 then u (ix1 ⟨j, h⟩) else x (ix2 0 j) := by
  have e : ∀ k : S40.Idx, scatter_S1x128_S2_S40_0_0_01_0.resultIdx? k idx = some (ix2 0 j) ↔ ((k 0).val = j.val) := by
    intro k
    rw [resultIdx?_eq_some]
    have s : ∀ a, scatter_S1x128_S2_S40_0_0_01_0.start k idx a = 0 := by
      intro a
      unfold ScatterDims.start
      split
      · rw [hi]; rfl
      · rfl
    have s0 := s 0
    have s1 := s 1
    have w0 : scatter_S1x128_S2_S40_0_0_01_0.window k 0 = 0 := rfl
    have w1 : scatter_S1x128_S2_S40_0_0_01_0.window k 1 = (k 0).val := rfl
    constructor
    · intro h
      have h1 := h 1
      rw [s1, w1] at h1
      simp at h1
      exact_mod_cast h1
    · rintro h1 a
      match a with
      | ⟨0, _⟩ =>
        show scatter_S1x128_S2_S40_0_0_01_0.start k idx 0 + (scatter_S1x128_S2_S40_0_0_01_0.window k 0 : Int) = (0 : Int)
        rw [s0, w0]; simp
      | ⟨1, _⟩ =>
        show scatter_S1x128_S2_S40_0_0_01_0.start k idx 1 + (scatter_S1x128_S2_S40_0_0_01_0.window k 1 : Int) = (j.val : Int)
        rw [s1, w1, h1]; simp
  by_cases h : (j : ℕ) < 40
  · rw [dif_pos h]
    refine scatter_set_hit _ _ _ _ _ _ (fun k hk => ?_) (ix1 ⟨j, h⟩) ((e _).mpr rfl)
    have h0 := (e k).mp hk
    refine congrArg u (funext fun a => Fin.ext ?_)
    match a with
    | ⟨0, _⟩ => exact h0
  · rw [dif_neg h]
    refine scatter_set_miss _ _ _ _ _ fun k hk => ?_
    have h0 := (e k).mp hk
    have h2 : (k 0).val < 40 := (k 0).isLt
    omega

variable (m : (ℓ : Loc nD τ sig) → Buf (Elt Ideal) ℓ)

/-- The routing weights, of the groups and then of the experts. -/
def wl (x7 : S4x2048x8.Idx → EReal) (x9 : S4x2048x32.Idx → EReal) (r : Fin 2048) (j : Fin 128) : EReal :=
  if h : (j : ℕ) < 8 then x7 (ix3 0 r ⟨j, h⟩) else if h : (j : ℕ) < 40 then x9 (ix3 0 r ⟨j - 8, by omega⟩) else 0
/-- The routing biases, of the groups and then of the experts. -/
def bl (x8 : S4x8.Idx → EReal) (x10 : S4x32.Idx → EReal) (j : Fin 128) : EReal :=
  if h : (j : ℕ) < 8 then x8 (ix2 0 ⟨j, h⟩) else if h : (j : ℕ) < 40 then x10 (ix2 0 ⟨j - 8, by omega⟩) else 0

theorem entry21 (c : Dev nD) (j : Fin 128) :
    (V m c main_v21 : S1x128.Idx → EReal) (ix2 0 j) = bl (m ((c : Thread nD τ).loc main_arg8)) (m ((c : Thread nD τ).loc main_arg10)) j := by
  entry_read
  refine (scatter_row _ _ _ (fun i => ?_) j).trans ?_
  · pointwise
    exact ite_self _
  unfold bl
  pointwise
  by_cases h8 : (j : ℕ) < 8
  · rw [dif_pos (by omega), dif_pos h8, dif_pos h8]
  by_cases h40 : (j : ℕ) < 40
  · rw [dif_pos h40, dif_neg h8, dif_neg h8, dif_pos h40]
  · rw [dif_neg h40, dif_neg h8, dif_neg h40]

/-- The routing weights and, after them, what their rounding leaves of them. -/
def wh (x7 : S4x2048x8.Idx → EReal) (x9 : S4x2048x32.Idx → EReal) (r : Fin 2048) (j : Fin 256) : EReal :=
  if h : (j : ℕ) < 128 then wl x7 x9 r ⟨j, h⟩ else wl x7 x9 r ⟨j - 128, by omega⟩ - wl x7 x9 r ⟨j - 128, by omega⟩

theorem entry26' (c : Dev nD) :
    (V m c main_v26 : S2048x256.Idx → EReal) = fun i => wh (m ((c : Thread nD τ).loc main_arg7)) (m ((c : Thread nD τ).loc main_arg9)) (i 0) (i 1) := by
  entry_read
  generalize hS : Host.scatter _ _ _ _ _ = s
  have hs : ∀ (r : Fin 2048) (j : Fin 128), s (ix2 r j) = wl (m ((c : Thread nD τ).loc main_arg7)) (m ((c : Thread nD τ).loc main_arg9)) r j := by
    intro r j
    rw [← hS]
    refine (scatter_rows _ _ _ (fun i => ?_) r j).trans ?_
    · pointwise
    unfold wl
    pointwise
    by_cases h8 : (j : ℕ) < 8
    · rw [dif_pos (by omega), dif_pos h8, dif_pos h8]
    by_cases h40 : (j : ℕ) < 40
    · rw [dif_pos h40, dif_neg h8, dif_neg h8, dif_pos h40]
    · rw [dif_neg h40, dif_neg h8, dif_neg h40]
  clear hS
  funext i
  obtain ⟨r, j, rfl⟩ : ∃ (r : Fin 2048) (j : Fin 256), i = ix2 r j := ⟨i 0, i 1, ValueIdx.eq_ix2 i⟩
  show _ = wh _ _ r j
  unfold wh
  simp only [← hs]
  pointwise

theorem entry26 (c : Dev nD) (r : Fin 2048) (j : Fin 256) :
    (V m c main_v26 : S2048x256.Idx → EReal) (ix2 r j) = wh (m ((c : Thread nD τ).loc main_arg7)) (m ((c : Thread nD τ).loc main_arg9)) r j := by
  rw [entry26']
  rfl

end Cert.Route
end
-- ==== Proof.Row.lean ====
module

public import Idealize.ShloMosaic.Lib.Pointwise

@[expose] public section

/-! One row of the layer: the attention with its residual, and the routing, as functions of extended reals. -/

noncomputable section
open Idealize.ShloMosaic
namespace Cert.Row

/-- The value every maximum starts from. -/
abbrev low : EReal := Ideal.ofBits FTy.f32 4286578688#32

/-- The root-mean-square normalization of a row. -/
def rms (x g : Fin 2048 → EReal) (j : Fin 2048) : EReal :=
  x j * Ideal.rsqrt (Ideal.div (∑ i, x i * x i) (Ideal.ofBits .f32 1157627904#32) + Ideal.ofBits .f32 897988541#32) * g j

/-- The softmax of a family. -/
def soft {n : ℕ} (s : Fin n → EReal) (b : Fin n) : EReal :=
  Ideal.div (Ideal.exp (s b - Finset.fold max low s Finset.univ)) (∑ x, Ideal.exp (s x - Finset.fold max low s Finset.univ))

/-- The scaled score of a head of the row with a memory row. -/
def score (xn : Fin 2048 → EReal) (wq : Fin 2048 → Fin 2048 → EReal) (k : Fin 256 → Fin 2048 → EReal) (hd : Fin 4) (b : Fin 256) : EReal :=
  (∑ a : Fin 512, (∑ c, xn c * wq c ⟨512 * hd + a, by omega⟩) * k b ⟨512 * hd + a, by omega⟩) * Ideal.ofBits .f32 1026884851#32

/-- The attention's result at a column. -/
def att (xn : Fin 2048 → EReal) (wq : Fin 2048 → Fin 2048 → EReal) (k v : Fin 256 → Fin 2048 → EReal) (l : Fin 2048) : EReal :=
  ∑ b, soft (score xn wq k ⟨l / 512, by omega⟩) b * v b l

/-- The row after the attention's residual. -/
def hrow (h g : Fin 2048 → EReal) (wq : Fin 2048 → Fin 2048 → EReal) (k v : Fin 256 → Fin 2048 → EReal) (wo : Fin 2048 → Fin 2048 → EReal) (j : Fin 2048) : EReal :=
  h j + ∑ l, att (rms h g) wq k v l * wo l j

/-- The routing logits as one lane array: weights in a leading and a correcting part. -/
def lane (xt : Fin 2048 → EReal) (w : Fin 2048 → Fin 256 → EReal) (b : Fin 128 → EReal) (j : Fin 128) : EReal :=
  ∑ x, xt x * w x ⟨j, by omega⟩ + ∑ x, xt x * w x ⟨128 + j, by omega⟩ + ∑ x, (xt x - xt x) * w x ⟨j, by omega⟩ + b j

/-! The routing of one row from its lanes, in the order the lanes are searched. -/

def m24 (L : Fin 128 → EReal) (j : Fin 128) : EReal := Scalar.select (IntOp.cmpi .slt (BitVec.ofNat 32 j) 8#32) (L j) low
def m25 (L : Fin 128 → EReal) : EReal := Finset.fold max low (m24 L) Finset.univ
/-- The lowest lane at which a family takes a value. -/
def lowest (f : Fin 128 → EReal) (x : EReal) : BitVec 32 :=
  Finset.fold IntOp.minsi 2147483647#32 (fun j => if f j = x then BitVec.ofNat 32 j else 128#32) Finset.univ
def m26 (L : Fin 128 → EReal) : BitVec 32 := lowest (m24 L) (m25 L)
def m27 (L : Fin 128 → EReal) : EReal := Ideal.div 1 (∑ x, Ideal.exp (m24 L x - m25 L))
def m28 (L : Fin 128 → EReal) : BitVec 32 := IntOp.addi 8#32 (IntOp.muli (m26 L) 4#32)
def m29 (L : Fin 128 → EReal) (j : Fin 128) : EReal :=
  Scalar.select (IntOp.andi (IntOp.cmpi .sge (BitVec.ofNat 32 j) (m28 L)) (IntOp.cmpi .slt (BitVec.ofNat 32 j) (IntOp.addi (m28 L) 4#32))) (L j) low
def m30 (L : Fin 128 → EReal) : EReal := Finset.fold max low (m29 L) Finset.univ
def m33 (L : Fin 128 → EReal) : BitVec 32 := lowest (m29 L) (m30 L)
def m34 (L : Fin 128 → EReal) (j : Fin 128) : EReal := Scalar.select (IntOp.cmpi .eq (BitVec.ofNat 32 j) (m33 L)) low (m29 L j)
def m35 (L : Fin 128 → EReal) : EReal := Finset.fold max low (m34 L) Finset.univ
def m36 (L : Fin 128 → EReal) : EReal := Ideal.exp (m35 L - m30 L)
def m37 (L : Fin 128 → EReal) : EReal := Ideal.div (m27 L) (1 + m36 L)
def m38 (L : Fin 128 → EReal) : EReal := Ideal.div (m27 L * m36 L) (1 + m36 L)
def m39 (L : Fin 128 → EReal) : BitVec 32 := IntOp.subi (m33 L) (m28 L)
def m40 (L : Fin 128 → EReal) : BitVec 32 := IntOp.subi (lowest (m34 L) (m35 L)) (m28 L)
/-- The bucket of an unordered pair of experts. -/
def pairWord (g a b : BitVec 32) : BitVec 32 :=
  IntOp.addi (IntOp.muli g 6#32) (IntOp.subi (IntOp.subi (IntOp.addi (IntOp.subi (IntOp.muli (IntOp.minsi a b) 3#32)
    (IntOp.shrsi .vector (IntOp.muli (IntOp.minsi a b) (IntOp.subi (IntOp.minsi a b) 1#32)) 1#32)) (IntOp.maxsi a b)) (IntOp.minsi a b)) 1#32)
def word (L : Fin 128 → EReal) : BitVec 32 := pairWord (m26 L) (m39 L) (m40 L)
def wLo (L : Fin 128 → EReal) : EReal := Scalar.select (IntOp.cmpi .slt (m39 L) (m40 L)) (m37 L) (m38 L)
def wHi (L : Fin 128 → EReal) : EReal := Scalar.select (IntOp.cmpi .slt (m39 L) (m40 L)) (m38 L) (m37 L)

/-! The routing of one row from its group logits and its expert logits, by ranks. -/

/-- How many entries come before one: the greater ones, and the equal ones of a lower index. -/
def rank {n : ℕ} (f : Fin n → EReal) (i : Fin n) : EReal := ∑ x, if f i < f x ∨ (f x = f i ∧ x < i) then 1 else 0
/-- The sum of the entries whose rank is a given one. -/
def pick {n : ℕ} (p : Fin n → EReal) (v : EReal) (f : Fin n → EReal) : EReal := ∑ j, if p j = v then f j else 0
/-- The number of an index. -/
def num {n : ℕ} (j : Fin n) : EReal := (((BitVec.ofNat 32 (j : ℕ)).toInt : ℝ) : EReal)
def grp (G : Fin 8 → EReal) : EReal := pick (rank G) 0 num
def gw (G : Fin 8 → EReal) : EReal := pick (rank G) 0 (soft G)
def esel (G : Fin 8 → EReal) (E : Fin 8 → Fin 4 → EReal) (e : Fin 4) : EReal := pick (rank G) 0 (fun g => E g e)
/-- Two numbers as a family. -/
def two (a b : EReal) (n : Fin 2) : EReal := if (n : ℕ) < 1 then a else b
/-- The weights of the two experts of a row with given selected logits. -/
def wt (w : EReal) (s : Fin 4 → EReal) (n : Fin 2) : EReal :=
  w * soft (two (pick (rank s) 0 s) (pick (rank s) 1 s)) n
/-- The place of an unordered pair among the six. -/
def pairNo (lo hi : EReal) : EReal :=
  if lo = ((2 : ℝ) : EReal) ∧ hi = ((3 : ℝ) : EReal) then ((5 : ℝ) : EReal)
  else if lo = 1 ∧ hi = ((3 : ℝ) : EReal) then ((4 : ℝ) : EReal)
  else if lo = 1 ∧ hi = ((2 : ℝ) : EReal) then ((3 : ℝ) : EReal)
  else if lo = 0 ∧ hi = ((3 : ℝ) : EReal) then ((2 : ℝ) : EReal)
  else if lo = 0 ∧ hi = ((2 : ℝ) : EReal) then 1
  else 0
def first (s : Fin 4 → EReal) : EReal := pick (rank s) 0 num
def second (s : Fin 4 → EReal) : EReal := pick (rank s) 1 num
def bucket (g : EReal) (s : Fin 4 → EReal) : EReal :=
  g * ((6 : ℝ) : EReal) + pairNo (min (first s) (second s)) (max (first s) (second s))

theorem bit_one : FloatOps.uitofp (F := Ideal) FTy.f32 1#1 = 1 := by
  show (((1#1 : BitVec 1).toNat : ℝ) : EReal) = 1
  simp
theorem bit_zero : FloatOps.uitofp (F := Ideal) FTy.f32 0#1 = 0 := by
  show (((0#1 : BitVec 1).toNat : ℝ) : EReal) = 0
  simp

theorem rank_bit {n : ℕ} (hn : n ≤ 128) (a b : EReal) (i j : Fin n) :
    FloatOps.uitofp (F := Ideal) FTy.f32 (IntOp.ori (BitVec.ofBool (decide (a < b)))
      (IntOp.andi (BitVec.ofBool (decide (b = a))) (IntOp.cmpi CmpIPredicate.slt (BitVec.ofNat 32 (j : ℕ)) (BitVec.ofNat 32 (i : ℕ)))))
    = if a < b ∨ (b = a ∧ j < i) then 1 else 0 := by
  have hs : IntOp.cmpi CmpIPredicate.slt (BitVec.ofNat 32 (j : ℕ)) (BitVec.ofNat 32 (i : ℕ)) = BitVec.ofBool (decide (j < i)) := by
    show BitVec.ofBool (BitVec.slt _ _) = _
    congr 1
    rw [BitVec.slt_eq_decide]
    have e1 : (BitVec.ofNat 32 (j : ℕ)).toInt = j := by
      rw [BitVec.toInt_ofNat']; simp [Int.bmod]; omega
    have e2 : (BitVec.ofNat 32 (i : ℕ)).toInt = i := by
      rw [BitVec.toInt_ofNat']; simp [Int.bmod]; omega
    rw [e1, e2]
    exact decide_eq_decide.mpr (by rw [Fin.lt_def]; omega)
  rw [hs]
  have key : ∀ p q r : Bool, FloatOps.uitofp (F := Ideal) FTy.f32 (IntOp.ori (BitVec.ofBool p) (IntOp.andi (BitVec.ofBool q) (BitVec.ofBool r)))
      = if p = true ∨ (q = true ∧ r = true) then 1 else 0 := by
    intro p q r
    have e : IntOp.ori (BitVec.ofBool p) (IntOp.andi (BitVec.ofBool q) (BitVec.ofBool r)) = BitVec.ofBool (p || (q && r)) := by
      revert p q r; decide
    rw [e]
    cases p <;> cases q <;> cases r <;> simp <;> first | exact bit_one | exact bit_zero
  rw [key]
  simp only [decide_eq_true_eq]

end Cert.Row
end
-- ==== Proof.Pay.lean ====
module

public import proofs.«01_k».proof.Proof.Gen.KernelIdeal.Value
public import proofs.«01_k».proof.Proof.Row
public import Idealize.ShloMosaic.Lib.Pointwise
public import Idealize.ShloMosaic.Lib.Pipeline.ValueKit

@[expose] public section

set_option maxRecDepth 16384

noncomputable section
open Idealize.ShloMosaic Idealize.ShloMosaic.TcCoe Idealize.SL.Sem
open Cert.Row Cert.KernelIdeal Cert.KernelIdeal.Gen
namespace Cert.Route

/-! The kernel's arithmetic at one row of a block. -/

variable (W : FVec Ideal S2048x256 .bf16) (b : FVec Ideal S1x128 .f32) (X : FVec Ideal S512x2048 .bf16) (Y : FVec Ideal S512x256 .f32)

/-- The lanes of a row. -/
abbrev L23 (r : Fin 512) : Fin 128 → EReal := fun j => k0_pay23 (F := Ideal) W b X Y (ix2 r j)

theorem read24 (r : Fin 512) (j : Fin 128) : k0_pay24 (F := Ideal) W b X Y (ix2 r j) = m24 (L23 W b X Y r) j := by
  pointwise [k0_pay24, m24]
theorem read25 (r : Fin 512) : k0_pay25 (F := Ideal) W b X Y (ix2 r 0) = m25 (L23 W b X Y r) := by
  pointwise [k0_pay25, m25, read24]
theorem read26 (r : Fin 512) : k0_pay26 (F := Ideal) W b X Y (ix2 r 0) = m26 (L23 W b X Y r) := by
  pointwise [k0_pay26, m26, lowest, read24, read25]
theorem read27 (r : Fin 512) : k0_pay27 (F := Ideal) W b X Y (ix2 r 0) = m27 (L23 W b X Y r) := by
  pointwise [k0_pay27, m27, read24, read25]
theorem read28 (r : Fin 512) : k0_pay28 (F := Ideal) W b X Y (ix2 r 0) = m28 (L23 W b X Y r) := by
  pointwise [k0_pay28, m28, read26]
theorem read29 (r : Fin 512) (j : Fin 128) : k0_pay29 (F := Ideal) W b X Y (ix2 r j) = m29 (L23 W b X Y r) j := by
  pointwise [k0_pay29, m29, read28]
theorem read30 (r : Fin 512) : k0_pay30 (F := Ideal) W b X Y (ix2 r 0) = m30 (L23 W b X Y r) := by
  pointwise [k0_pay30, m30, read29]
theorem read31 (r : Fin 512) (j : Fin 128) : k0_pay31 (F := Ideal) W b X Y (ix2 r j) = BitVec.ofBool (decide (m29 (L23 W b X Y r) j = m30 (L23 W b X Y r))) := by
  pointwise [k0_pay31, read29, read30]
/-- The lane numbers. -/
abbrev io : IVec S512x128 32 := iota Kind.tc S512x128 32 [1] iota_S512x128_d1_w32
theorem read33 (r : Fin 512) : k0_pay33 io (k0_pay31 (F := Ideal) W b X Y) k0_pay32 (ix2 r 0) = m33 (L23 W b X Y r) := by
  pointwise [k0_pay33, k0_pay32, io, m33, lowest, read31]
theorem read34 (r : Fin 512) (j : Fin 128) : k0_pay34 (F := Ideal) io (k0_pay29 (F := Ideal) W b X Y) (k0_pay31 (F := Ideal) W b X Y) k0_pay32 (ix2 r j) = m34 (L23 W b X Y r) j := by
  pointwise [k0_pay34, m34, read33, read29]
theorem read35 (r : Fin 512) : k0_pay35 (F := Ideal) io (k0_pay29 (F := Ideal) W b X Y) (k0_pay31 (F := Ideal) W b X Y) k0_pay32 (ix2 r 0) = m35 (L23 W b X Y r) := by
  pointwise [k0_pay35, m35, read34]
theorem read36 (r : Fin 512) : k0_pay36 (F := Ideal) io (k0_pay29 (F := Ideal) W b X Y) (k0_pay30 (F := Ideal) W b X Y) (k0_pay31 (F := Ideal) W b X Y) k0_pay32 (ix2 r 0) = m36 (L23 W b X Y r) := by
  pointwise [k0_pay36, m36, read35, read30]
theorem read37 (r : Fin 512) : k0_pay37 (F := Ideal) io (k0_pay27 (F := Ideal) W b X Y) (k0_pay29 (F := Ideal) W b X Y) (k0_pay30 (F := Ideal) W b X Y) (k0_pay31 (F := Ideal) W b X Y) k0_pay32 (ix2 r 0) = m37 (L23 W b X Y r) := by
  pointwise [k0_pay37, m37, read36, read27]
theorem read38 (r : Fin 512) : k0_pay38 (F := Ideal) io (k0_pay27 (F := Ideal) W b X Y) (k0_pay29 (F := Ideal) W b X Y) (k0_pay30 (F := Ideal) W b X Y) (k0_pay31 (F := Ideal) W b X Y) k0_pay32 (ix2 r 0) = m38 (L23 W b X Y r) := by
  pointwise [k0_pay38, m38, read36, read27]
theorem read39 (r : Fin 512) : k0_pay39 io (k0_pay28 (F := Ideal) W b X Y) (k0_pay31 (F := Ideal) W b X Y) k0_pay32 (ix2 r 0) = m39 (L23 W b X Y r) := by
  pointwise [k0_pay39, m39, read33, read28]
theorem read40 (r : Fin 512) : k0_pay40 (F := Ideal) io (k0_pay28 (F := Ideal) W b X Y) (k0_pay29 (F := Ideal) W b X Y) (k0_pay31 (F := Ideal) W b X Y) k0_pay32 (ix2 r 0) = m40 (L23 W b X Y r) := by
  pointwise [k0_pay40, m40, lowest, read34, read35, read28]

/-- The buckets of a block's rows. -/
def bB : IVec S512x1 32 :=
  k0_pay41 io (k0_pay26 (F := Ideal) W b X Y) (k0_pay28 (F := Ideal) W b X Y) (k0_pay29 (F := Ideal) W b X Y) (k0_pay31 (F := Ideal) W b X Y) k0_pay32
theorem read_bB (r : Fin 512) : bB W b X Y (ix2 r 0) = word (L23 W b X Y r) := by
  pointwise [bB, k0_pay41, word, pairWord, read39, read40, read26]
theorem read42 (r : Fin 512) : k0_pay42 (F := Ideal) io (k0_pay27 (F := Ideal) W b X Y) (k0_pay28 (F := Ideal) W b X Y) (k0_pay29 (F := Ideal) W b X Y) (k0_pay30 (F := Ideal) W b X Y) (k0_pay31 (F := Ideal) W b X Y) k0_pay32 (ix2 r 0) = wLo (L23 W b X Y r) := by
  pointwise [k0_pay42, wLo, read39, read40, read37, read38]
theorem read43 (r : Fin 512) : k0_pay43 (F := Ideal) io (k0_pay27 (F := Ideal) W b X Y) (k0_pay28 (F := Ideal) W b X Y) (k0_pay29 (F := Ideal) W b X Y) (k0_pay30 (F := Ideal) W b X Y) (k0_pay31 (F := Ideal) W b X Y) k0_pay32 (ix2 r 0) = wHi (L23 W b X Y r) := by
  pointwise [k0_pay43, wHi, read39, read40, read37, read38]
/-- The routing lanes of a block's rows. -/
def rB : Vec Ideal S512x128 .f32 :=
  k0_pay44 (F := Ideal) io (bB W b X Y) (k0_pay42 (F := Ideal) io (k0_pay27 (F := Ideal) W b X Y) (k0_pay28 (F := Ideal) W b X Y) (k0_pay29 (F := Ideal) W b X Y) (k0_pay30 (F := Ideal) W b X Y) (k0_pay31 (F := Ideal) W b X Y) k0_pay32)
    (k0_pay43 (F := Ideal) io (k0_pay27 (F := Ideal) W b X Y) (k0_pay28 (F := Ideal) W b X Y) (k0_pay29 (F := Ideal) W b X Y) (k0_pay30 (F := Ideal) W b X Y) (k0_pay31 (F := Ideal) W b X Y) k0_pay32) 0#32
theorem read_rB (r : Fin 512) (j : Fin 128) : rB W b X Y (ix2 r j) =
    if (j : ℕ) = 0 then ((BitVec.toInt (word (L23 W b X Y r)) : ℝ) : EReal) else if (j : ℕ) = 1 then wLo (L23 W b X Y r) else if (j : ℕ) = 2 then wHi (L23 W b X Y r) else 0 := by
  pointwise [rB, k0_pay44, read42, read43, read_bB]
  have e : ∀ n : ℕ, n < 128 → (BitVec.ofNat 32 (j : ℕ) = BitVec.ofNat 32 n ↔ (j : ℕ) = n) := by
    intro n hn
    constructor
    · intro h
      have := congrArg BitVec.toNat h
      simp only [BitVec.toNat_ofNat] at this
      omega
    · rintro h; rw [h]
  have e0 := e 0 (by omega)
  have e1 := e 1 (by omega)
  have e2 := e 2 (by omega)
  by_cases h0 : (j : ℕ) = 0
  · simp [Scalar.select, IntOp.cmpi, h0]; rfl
  by_cases h1 : (j : ℕ) = 1
  · simp [Scalar.select, IntOp.cmpi, h1]
  by_cases h2 : (j : ℕ) = 2
  · simp [Scalar.select, IntOp.cmpi, h2]
  · have f0 : (BitVec.ofNat 32 (j : ℕ) == 0#32) = false := beq_eq_false_iff_ne.mpr fun h => h0 (e0.mp h)
    have f1 : (BitVec.ofNat 32 (j : ℕ) == 1#32) = false := beq_eq_false_iff_ne.mpr fun h => h1 (e1.mp h)
    have f2 : (BitVec.ofNat 32 (j : ℕ) == 2#32) = false := beq_eq_false_iff_ne.mpr fun h => h2 (e2.mp h)
    simp [Scalar.select, IntOp.cmpi, h0, h1, h2, f0, f1, f2]
theorem read46 (v : FVec Ideal S1x128 .f32) (j : Fin 128) : k0_pay46 (F := Ideal) io (bB W b X Y) v (ix2 0 j) =
    v (ix2 0 j) + ∑ r : Fin 512, if BitVec.ofNat 32 j = word (L23 W b X Y r) then 1 else 0 := by
  pointwise [k0_pay46, read_bB]
  refine congrArg _ (Finset.sum_congr rfl fun r _ => ?_)
  by_cases h : BitVec.ofNat 32 (j : ℕ) = word (L23 W b X Y r)
  · rw [if_pos h]
    have : BitVec.setWidth 32 (IntOp.cmpi CmpIPredicate.eq (BitVec.ofNat 32 (j : ℕ)) (word (L23 W b X Y r))) = 1#32 := by simp [IntOp.cmpi, h]
    rw [this]
    show (((1#32 : BitVec 32).toInt : ℝ) : EReal) = 1
    simp
  · rw [if_neg h]
    have : BitVec.setWidth 32 (IntOp.cmpi CmpIPredicate.eq (BitVec.ofNat 32 (j : ℕ)) (word (L23 W b X Y r))) = 0#32 := by
      have f : (BitVec.ofNat 32 (j : ℕ) == word (L23 W b X Y r)) = false := beq_eq_false_iff_ne.mpr h
      simp [IntOp.cmpi, f]
    rw [this]
    show (((0#32 : BitVec 32).toInt : ℝ) : EReal) = 0
    simp
theorem read_lane (x : Vec Ideal S512x2048 .f32) (g : Vec Ideal S1x1x2048 .f32) (w : Vec Ideal S2048x256 .bf16) (bb : Vec Ideal S1x128 .f32) (r : Fin 512) (j : Fin 128) :
    k0_pay23 (F := Ideal) (k0_pay18 w) (k0_pay19 bb) (k0_pay21 x g) (k0_pay22 x g w) (ix2 r j)
      = lane (rms (fun c => x (ix2 r c)) (fun c => g (ix3 0 0 c))) (fun a c => w (ix2 a c)) (fun c => bb (ix2 0 c)) j := by
  pointwise [k0_pay23, k0_pay18, k0_pay19, k0_pay21, k0_pay22, k0_pay20, k0_pay17, lane, rms]

end Cert.Route
end
-- ==== Proof.Blocks.lean ====
module

public import proofs.«01_k».proof.Proof.Gen.KernelIdeal.Value
public import proofs.«01_k».proof.Proof.Row
public import proofs.«01_k».proof.Proof.Pay
public import Idealize.ShloMosaic.Lib.Pointwise
public import Idealize.ShloMosaic.Lib.Pipeline.ValueKit

@[expose] public section

set_option maxRecDepth 16384

noncomputable section
open Idealize.ShloMosaic Idealize.ShloMosaic.TcCoe Idealize.SL.Sem
open Cert.Row Cert.KernelIdeal Cert.KernelIdeal.Gen
namespace Cert.Route

/-! What a grid point leaves in its output windows, row by row. -/

/-- A column stretch of an operand. -/
def ldW (X : Vec Ideal S1x2048x2048 .bf16) (o : ℕ) (h : ∀ a, (![0, 0, o] : Fin 3 → ℕ) a + (![1, 2048, 512] : Fin 3 → ℕ) a ≤ S1x2048x2048.size a) : Vec Ideal S1x2048x512 .bf16 :=
  View.ld (Val := Elt Ideal) (S := S1x2048x2048) (e' := .bf16) X (Rect.unit ![0, 0, o] ![1, 2048, 512] h)
/-- A column stretch of an operand. -/
def ldK (X : Vec Ideal S1x256x2048 .bf16) (o : ℕ) (h : ∀ a, (![0, 0, o] : Fin 3 → ℕ) a + (![1, 256, 512] : Fin 3 → ℕ) a ≤ S1x256x2048.size a) : Vec Ideal S1x256x512 .bf16 :=
  View.ld (Val := Elt Ideal) (S := S1x256x2048) (e' := .bf16) X (Rect.unit ![0, 0, o] ![1, 256, 512] h)
/-- A column stretch of an operand. -/
def ldH (X : Vec Ideal S1x512x2048 .f32) (o : ℕ) (h : ∀ a, (![0, 0, o] : Fin 3 → ℕ) a + (![1, 512, 256] : Fin 3 → ℕ) a ≤ S1x512x2048.size a) : Vec Ideal S1x512x256 .f32 :=
  View.ld (Val := Elt Ideal) (S := S1x512x2048) (e' := .f32) X (Rect.unit ![0, 0, o] ![1, 512, 256] h)
/-- A column stretch of an operand. -/
def ldO (X : Vec Ideal S1x2048x2048 .bf16) (o : ℕ) (h : ∀ a, (![0, 0, o] : Fin 3 → ℕ) a + (![1, 2048, 256] : Fin 3 → ℕ) a ≤ S1x2048x2048.size a) : Vec Ideal S1x2048x256 .bf16 :=
  View.ld (Val := Elt Ideal) (S := S1x2048x2048) (e' := .bf16) X (Rect.unit ![0, 0, o] ![1, 2048, 256] h)

theorem ldW_at (X : Vec Ideal S1x2048x2048 .bf16) (o : ℕ) (h : ∀ a, (![0, 0, o] : Fin 3 → ℕ) a + (![1, 2048, 512] : Fin 3 → ℕ) a ≤ S1x2048x2048.size a) (a : Fin 2048) (j : Fin 512) :
    ldW X o h (ix3 0 a j) = X (ix3 0 a ⟨o + j, by have h2 : o + 512 ≤ 2048 := h 2; omega⟩) := by
  refine congrArg X (funext fun d => Fin.ext ?_)
  match d with
  | ⟨0, _⟩ => rfl
  | ⟨1, _⟩ => show 0 + 1 * (a : ℕ) = a; omega
  | ⟨2, _⟩ => show o + 1 * (j : ℕ) = o + j; omega
theorem ldK_at (X : Vec Ideal S1x256x2048 .bf16) (o : ℕ) (h : ∀ a, (![0, 0, o] : Fin 3 → ℕ) a + (![1, 256, 512] : Fin 3 → ℕ) a ≤ S1x256x2048.size a) (a : Fin 256) (j : Fin 512) :
    ldK X o h (ix3 0 a j) = X (ix3 0 a ⟨o + j, by have h2 : o + 512 ≤ 2048 := h 2; omega⟩) := by
  refine congrArg X (funext fun d => Fin.ext ?_)
  match d with
  | ⟨0, _⟩ => rfl
  | ⟨1, _⟩ => show 0 + 1 * (a : ℕ) = a; omega
  | ⟨2, _⟩ => show o + 1 * (j : ℕ) = o + j; omega
theorem ldH_at (X : Vec Ideal S1x512x2048 .f32) (o : ℕ) (h : ∀ a, (![0, 0, o] : Fin 3 → ℕ) a + (![1, 512, 256] : Fin 3 → ℕ) a ≤ S1x512x2048.size a) (a : Fin 512) (j : Fin 256) :
    ldH X o h (ix3 0 a j) = X (ix3 0 a ⟨o + j, by have h2 : o + 256 ≤ 2048 := h 2; omega⟩) := by
  refine congrArg X (funext fun d => Fin.ext ?_)
  match d with
  | ⟨0, _⟩ => rfl
  | ⟨1, _⟩ => show 0 + 1 * (a : ℕ) = a; omega
  | ⟨2, _⟩ => show o + 1 * (j : ℕ) = o + j; omega
theorem ldO_at (X : Vec Ideal S1x2048x2048 .bf16) (o : ℕ) (h : ∀ a, (![0, 0, o] : Fin 3 → ℕ) a + (![1, 2048, 256] : Fin 3 → ℕ) a ≤ S1x2048x2048.size a) (a : Fin 2048) (j : Fin 256) :
    ldO X o h (ix3 0 a j) = X (ix3 0 a ⟨o + j, by have h2 : o + 256 ≤ 2048 := h 2; omega⟩) := by
  refine congrArg X (funext fun d => Fin.ext ?_)
  match d with
  | ⟨0, _⟩ => rfl
  | ⟨1, _⟩ => show 0 + 1 * (a : ℕ) = a; omega
  | ⟨2, _⟩ => show o + 1 * (j : ℕ) = o + j; omega

/-- The attention's rows of a block. -/
def oB (x0 : Vec Ideal S1x512x2048 .f32) (x1 : Vec Ideal S1x1x2048 .f32) (x2 : Vec Ideal S1x2048x2048 .bf16) (x3 x4 : Vec Ideal S1x256x2048 .bf16) : Vec Ideal S512x2048 .bf16 := fun i =>
  att (rms (fun c => x0 (ix3 0 (i 0) c)) (fun c => x1 (ix3 0 0 c))) (fun a b => x2 (ix3 0 a b)) (fun b l => x3 (ix3 0 b l)) (fun b l => x4 (ix3 0 b l)) (i 1)

/-- The rows of a block after the attention's residual. -/
def hB (x0 : Vec Ideal S1x512x2048 .f32) (x1 : Vec Ideal S1x1x2048 .f32) (x2 : Vec Ideal S1x2048x2048 .bf16) (x3 x4 : Vec Ideal S1x256x2048 .bf16) (x5 : Vec Ideal S1x2048x2048 .bf16) : Vec Ideal S512x2048 .f32 := fun i =>
  x0 (ix3 0 (i 0) (i 1)) + ∑ l, oB x0 x1 x2 x3 x4 (ix2 (i 0) l) * x5 (ix3 0 l (i 1))

theorem att_head (xn : Fin 2048 → EReal) (wq : Fin 2048 → Fin 2048 → EReal) (k v : Fin 256 → Fin 2048 → EReal) (l : Fin 2048) (hd : Fin 4) (e : (l : ℕ) / 512 = hd) :
    att xn wq k v l = ∑ b, soft (score xn wq k hd) b * v b l := by
  have e' : (⟨(l : ℕ) / 512, by omega⟩ : Fin 4) = hd := Fin.ext e
  rw [att, e']
theorem oB_at (x0 : Vec Ideal S1x512x2048 .f32) (x1 : Vec Ideal S1x1x2048 .f32) (x2 : Vec Ideal S1x2048x2048 .bf16) (x3 x4 : Vec Ideal S1x256x2048 .bf16) (r : Fin 512) (l : Fin 2048) (hd : Fin 4) (e : (l : ℕ) / 512 = hd) :
    oB x0 x1 x2 x3 x4 (ix2 r l) = ∑ b, soft (score (rms (fun c => x0 (ix3 0 r c)) (fun c => x1 (ix3 0 0 c))) (fun a b => x2 (ix3 0 a b)) (fun b l => x3 (ix3 0 b l)) hd) b * x4 (ix3 0 b l) :=
  att_head _ _ _ _ l hd e
theorem read1 (x0 : Vec Ideal S1x512x2048 .f32) (x1 : Vec Ideal S1x1x2048 .f32) (r : Fin 512) (j : Fin 2048) :
    k0_pay1 (F := Ideal) x0 x1 (ix2 r j) = rms (fun c => x0 (ix3 0 r c)) (fun c => x1 (ix3 0 0 c)) j := by
  pointwise [k0_pay1, rms]

theorem head0 (x0 : Vec Ideal S1x512x2048 .f32) (x1 : Vec Ideal S1x1x2048 .f32) (x2 : Vec Ideal S1x2048x2048 .bf16) (x3 x4 : Vec Ideal S1x256x2048 .bf16) (r : Fin 512) (j : Fin 512) :
    k0_pay3 (F := Ideal) (k0_pay2 (k0_pay1 x0 x1) (ldW x2 0 inb_S1x2048x2048_S1x2048x512_0_0_0) (ldK x3 0 inb_S1x256x2048_S1x256x512_0_0_0)) (ldK x4 0 inb_S1x256x2048_S1x256x512_0_0_0) (ix2 r j) = oB x0 x1 x2 x3 x4 (ix2 r ⟨0 + j, by omega⟩) := by
  pointwise [k0_pay3, k0_pay2, read1, ldW_at, ldK_at]
  rw [oB_at x0 x1 x2 x3 x4 r ⟨j, by omega⟩ 0 (by show (j : ℕ) / 512 = 0; omega)]
  simp only [soft, score, show ((0 : Fin 4) : ℕ) = 0 from rfl, Nat.mul_zero, Nat.zero_add]
  rfl

theorem head1 (x0 : Vec Ideal S1x512x2048 .f32) (x1 : Vec Ideal S1x1x2048 .f32) (x2 : Vec Ideal S1x2048x2048 .bf16) (x3 x4 : Vec Ideal S1x256x2048 .bf16) (r : Fin 512) (j : Fin 512) :
    k0_pay6 (F := Ideal) (k0_pay4 (k0_pay1 x0 x1) (ldW x2 512 inb_S1x2048x2048_S1x2048x512_0_0_512) (ldK x3 512 inb_S1x256x2048_S1x256x512_0_0_512)) (k0_pay5 (ldK x4 512 inb_S1x256x2048_S1x256x512_0_0_512)) (constant S512x512 FTy.f32 0#32) (ix2 r j) = oB x0 x1 x2 x3 x4 (ix2 r ⟨512 + j, by omega⟩) := by
  pointwise [k0_pay6, k0_pay4, k0_pay5, read1, ldW_at, ldK_at]
  rw [oB_at x0 x1 x2 x3 x4 r ⟨512 + j, by omega⟩ 1 (by show (512 + (j : ℕ)) / 512 = 1; omega)]
  simp only [soft, score]
  rfl

theorem head2 (x0 : Vec Ideal S1x512x2048 .f32) (x1 : Vec Ideal S1x1x2048 .f32) (x2 : Vec Ideal S1x2048x2048 .bf16) (x3 x4 : Vec Ideal S1x256x2048 .bf16) (r : Fin 512) (j : Fin 512) :
    k0_pay7 (F := Ideal) (k0_pay1 x0 x1) (ldW x2 1024 inb_S1x2048x2048_S1x2048x512_0_0_1024) (ldK x3 1024 inb_S1x256x2048_S1x256x512_0_0_1024) (ldK x4 1024 inb_S1x256x2048_S1x256x512_0_0_1024) (ix2 r j) = oB x0 x1 x2 x3 x4 (ix2 r ⟨1024 + j, by omega⟩) := by
  pointwise [k0_pay7, read1, ldW_at, ldK_at]
  rw [oB_at x0 x1 x2 x3 x4 r ⟨1024 + j, by omega⟩ 2 (by show (1024 + (j : ℕ)) / 512 = 2; omega)]
  simp only [soft, score]
  rfl

theorem head3 (x0 : Vec Ideal S1x512x2048 .f32) (x1 : Vec Ideal S1x1x2048 .f32) (x2 : Vec Ideal S1x2048x2048 .bf16) (x3 x4 : Vec Ideal S1x256x2048 .bf16) (r : Fin 512) (j : Fin 512) :
    k0_pay8 (F := Ideal) (k0_pay1 x0 x1) (ldW x2 1536 inb_S1x2048x2048_S1x2048x512_0_0_1536) (ldK x3 1536 inb_S1x256x2048_S1x256x512_0_0_1536) (ldK x4 1536 inb_S1x256x2048_S1x256x512_0_0_1536) (ix2 r j) = oB x0 x1 x2 x3 x4 (ix2 r ⟨1536 + j, by omega⟩) := by
  pointwise [k0_pay8, read1, ldW_at, ldK_at]
  rw [oB_at x0 x1 x2 x3 x4 r ⟨1536 + j, by omega⟩ 3 (by show (1536 + (j : ℕ)) / 512 = 3; omega)]
  simp only [soft, score]
  rfl

theorem res0 (x0 : Vec Ideal S1x512x2048 .f32) (x1 : Vec Ideal S1x1x2048 .f32) (x2 : Vec Ideal S1x2048x2048 .bf16) (x3 x4 : Vec Ideal S1x256x2048 .bf16) (x5 : Vec Ideal S1x2048x2048 .bf16) (r : Fin 512) (j : Fin 256) :
    k0_pay9 (F := Ideal) (ldH x0 0 inb_S1x512x2048_S1x512x256_0_0_0) (oB x0 x1 x2 x3 x4) (ldO x5 0 inb_S1x2048x2048_S1x2048x256_0_0_0) (ix2 r j) = hB x0 x1 x2 x3 x4 x5 (ix2 r ⟨0 + j, by omega⟩) := by
  pointwise [k0_pay9, ldH_at, ldO_at, hB]

theorem res1 (x0 : Vec Ideal S1x512x2048 .f32) (x1 : Vec Ideal S1x1x2048 .f32) (x2 : Vec Ideal S1x2048x2048 .bf16) (x3 x4 : Vec Ideal S1x256x2048 .bf16) (x5 : Vec Ideal S1x2048x2048 .bf16) (r : Fin 512) (j : Fin 256) :
    k0_pay10 (F := Ideal) (ldH x0 256 inb_S1x512x2048_S1x512x256_0_0_256) (oB x0 x1 x2 x3 x4) (ldO x5 256 inb_S1x2048x2048_S1x2048x256_0_0_256) (ix2 r j) = hB x0 x1 x2 x3 x4 x5 (ix2 r ⟨256 + j, by omega⟩) := by
  pointwise [k0_pay10, ldH_at, ldO_at, hB]

theorem res2 (x0 : Vec Ideal S1x512x2048 .f32) (x1 : Vec Ideal S1x1x2048 .f32) (x2 : Vec Ideal S1x2048x2048 .bf16) (x3 x4 : Vec Ideal S1x256x2048 .bf16) (x5 : Vec Ideal S1x2048x2048 .bf16) (r : Fin 512) (j : Fin 256) :
    k0_pay11 (F := Ideal) (ldH x0 512 inb_S1x512x2048_S1x512x256_0_0_512) (oB x0 x1 x2 x3 x4) (ldO x5 512 inb_S1x2048x2048_S1x2048x256_0_0_512) (ix2 r j) = hB x0 x1 x2 x3 x4 x5 (ix2 r ⟨512 + j, by omega⟩) := by
  pointwise [k0_pay11, ldH_at, ldO_at, hB]

theorem res3 (x0 : Vec Ideal S1x512x2048 .f32) (x1 : Vec Ideal S1x1x2048 .f32) (x2 : Vec Ideal S1x2048x2048 .bf16) (x3 x4 : Vec Ideal S1x256x2048 .bf16) (x5 : Vec Ideal S1x2048x2048 .bf16) (r : Fin 512) (j : Fin 256) :
    k0_pay12 (F := Ideal) (ldH x0 768 inb_S1x512x2048_S1x512x256_0_0_768) (oB x0 x1 x2 x3 x4) (ldO x5 768 inb_S1x2048x2048_S1x2048x256_0_0_768) (ix2 r j) = hB x0 x1 x2 x3 x4 x5 (ix2 r ⟨768 + j, by omega⟩) := by
  pointwise [k0_pay12, ldH_at, ldO_at, hB]

theorem res4 (x0 : Vec Ideal S1x512x2048 .f32) (x1 : Vec Ideal S1x1x2048 .f32) (x2 : Vec Ideal S1x2048x2048 .bf16) (x3 x4 : Vec Ideal S1x256x2048 .bf16) (x5 : Vec Ideal S1x2048x2048 .bf16) (r : Fin 512) (j : Fin 256) :
    k0_pay13 (F := Ideal) (ldH x0 1024 inb_S1x512x2048_S1x512x256_0_0_1024) (oB x0 x1 x2 x3 x4) (ldO x5 1024 inb_S1x2048x2048_S1x2048x256_0_0_1024) (ix2 r j) = hB x0 x1 x2 x3 x4 x5 (ix2 r ⟨1024 + j, by omega⟩) := by
  pointwise [k0_pay13, ldH_at, ldO_at, hB]

theorem res5 (x0 : Vec Ideal S1x512x2048 .f32) (x1 : Vec Ideal S1x1x2048 .f32) (x2 : Vec Ideal S1x2048x2048 .bf16) (x3 x4 : Vec Ideal S1x256x2048 .bf16) (x5 : Vec Ideal S1x2048x2048 .bf16) (r : Fin 512) (j : Fin 256) :
    k0_pay14 (F := Ideal) (ldH x0 1280 inb_S1x512x2048_S1x512x256_0_0_1280) (oB x0 x1 x2 x3 x4) (ldO x5 1280 inb_S1x2048x2048_S1x2048x256_0_0_1280) (ix2 r j) = hB x0 x1 x2 x3 x4 x5 (ix2 r ⟨1280 + j, by omega⟩) := by
  pointwise [k0_pay14, ldH_at, ldO_at, hB]

theorem res6 (x0 : Vec Ideal S1x512x2048 .f32) (x1 : Vec Ideal S1x1x2048 .f32) (x2 : Vec Ideal S1x2048x2048 .bf16) (x3 x4 : Vec Ideal S1x256x2048 .bf16) (x5 : Vec Ideal S1x2048x2048 .bf16) (r : Fin 512) (j : Fin 256) :
    k0_pay15 (F := Ideal) (ldH x0 1536 inb_S1x512x2048_S1x512x256_0_0_1536) (oB x0 x1 x2 x3 x4) (ldO x5 1536 inb_S1x2048x2048_S1x2048x256_0_0_1536) (ix2 r j) = hB x0 x1 x2 x3 x4 x5 (ix2 r ⟨1536 + j, by omega⟩) := by
  pointwise [k0_pay15, ldH_at, ldO_at, hB]

theorem res7 (x0 : Vec Ideal S1x512x2048 .f32) (x1 : Vec Ideal S1x1x2048 .f32) (x2 : Vec Ideal S1x2048x2048 .bf16) (x3 x4 : Vec Ideal S1x256x2048 .bf16) (x5 : Vec Ideal S1x2048x2048 .bf16) (r : Fin 512) (j : Fin 256) :
    k0_pay16 (F := Ideal) (ldH x0 1792 inb_S1x512x2048_S1x512x256_0_0_1792) (oB x0 x1 x2 x3 x4) (ldO x5 1792 inb_S1x2048x2048_S1x2048x256_0_0_1792) (ix2 r j) = hB x0 x1 x2 x3 x4 x5 (ix2 r ⟨1792 + j, by omega⟩) := by
  pointwise [k0_pay16, ldH_at, ldO_at, hB]

/-- A block's function, carried on to the columns past it. -/
def past {e : EltTy} {N : ℕ} (G : Vec Ideal S512x2048 e) : (⟨2, ![512, N]⟩ : Shape).Idx → Elt Ideal e := fun i =>
  if h : (i 1 : ℕ) < 2048 then G (ix2 ⟨i 0, (i 0).isLt⟩ ⟨i 1, h⟩) else G (ix2 0 0)

/-- A stretch of columns placed in a block is the block's function there. -/
theorem piece_at {e : EltTy} {N w : ℕ} (o : ℕ) (hin : ∀ a, (![0, o] : Fin 2 → ℕ) a + (![512, w] : Fin 2 → ℕ) a ≤ (⟨2, ![512, N]⟩ : Shape).size a)
    (how : o + w ≤ 2048) (G : Vec Ideal S512x2048 e) (p : (⟨2, ![512, w]⟩ : Shape).Idx → Elt Ideal e)
    (h : ∀ (r : Fin 512) (j : Fin w), p (ix2 r j) = G (ix2 r ⟨o + j, by omega⟩)) (x : (⟨2, ![512, w]⟩ : Shape).Idx) :
    p x = past G ((Rect.unit (s := ⟨2, ![512, N]⟩) ![0, o] ![512, w] hin).emb x) := by
  have hx1 : (x 1 : ℕ) < w := (x 1).isLt
  have e : x = ix2 (⟨x 0, (x 0).isLt⟩ : Fin 512) (⟨x 1, hx1⟩ : Fin w) := by
    funext d; match d with
    | ⟨0, _⟩ => rfl
    | ⟨1, _⟩ => rfl
  have q1 : (((Rect.unit (s := ⟨2, ![512, N]⟩) ![0, o] ![512, w] hin).emb x) 1 : ℕ) = o + (x 1 : ℕ) := by show o + 1 * (x 1 : ℕ) = _; omega
  have q0 : (((Rect.unit (s := ⟨2, ![512, N]⟩) ![0, o] ![512, w] hin).emb x) 0 : ℕ) = (x 0 : ℕ) := by show 0 + 1 * (x 0 : ℕ) = _; omega
  have q2 : (((Rect.unit (s := ⟨2, ![512, N]⟩) ![0, o] ![512, w] hin).emb x) 1 : ℕ) < 2048 := by omega
  conv_lhs => rw [e]
  rw [h, show past G ((Rect.unit (s := ⟨2, ![512, N]⟩) ![0, o] ![512, w] hin).emb x) = _ from dif_pos q2]
  refine congrArg G (funext fun d => Fin.ext ?_)
  match d with
  | ⟨0, _⟩ => exact q0.symm
  | ⟨1, _⟩ => exact q1.symm

/-- An index lies in a stretch of columns. -/
theorem in_piece {N w : ℕ} (o : ℕ) (hin : ∀ a, (![0, o] : Fin 2 → ℕ) a + (![512, w] : Fin 2 → ℕ) a ≤ (⟨2, ![512, N]⟩ : Shape).size a)
    (z : (⟨2, ![512, N]⟩ : Shape).Idx) (h1 : o ≤ (z 1 : ℕ)) (h2 : (z 1 : ℕ) < o + w) : z ∈ (Rect.unit (s := ⟨2, ![512, N]⟩) ![0, o] ![512, w] hin).set :=
  Rect.mem_set_unit.mpr fun d => by
    match d with
    | ⟨0, _⟩ => exact ⟨Nat.zero_le _, by show (z 0 : ℕ) < 0 + 512; have h : (z 0 : ℕ) < 512 := (z 0).isLt; omega⟩
    | ⟨1, _⟩ => exact ⟨h1, h2⟩

theorem oread4 (v : View sig .tc .vmem S512x2048 .bf16) (p0 p1 p2 p3 : Vec Ideal S512x512 .bf16) (G : Vec Ideal S512x2048 .bf16) (h0 : ∀ r : Fin 512, ∀ j : Fin 512, p0 (ix2 r j) = G (ix2 r ⟨0 + j, by omega⟩)) (h1 : ∀ r : Fin 512, ∀ j : Fin 512, p1 (ix2 r j) = G (ix2 r ⟨512 + j, by omega⟩)) (h2 : ∀ r : Fin 512, ∀ j : Fin 512, p2 (ix2 r j) = G (ix2 r ⟨1024 + j, by omega⟩)) (h3 : ∀ r : Fin 512, ∀ j : Fin 512, p3 (ix2 r j) = G (ix2 r ⟨1536 + j, by omega⟩)) :
    View.readCov (s := S512x2048) (e := .bf16) (Val := Elt Ideal) v
      [⟨Rect.unit ![0, 1536] ![512, 512] inb_S512x2048_S512x512_0_1536, p3⟩,
       ⟨Rect.unit ![0, 1024] ![512, 512] inb_S512x2048_S512x512_0_1024, p2⟩,
       ⟨Rect.unit ![0, 512] ![512, 512] inb_S512x2048_S512x512_0_512, p1⟩,
       ⟨Rect.unit ![0, 0] ![512, 512] inb_S512x2048_S512x512_0_0, p0⟩]
      (Rect.unit ![0, 0] ![512, 2048] inb_S512x2048_S512x2048_0_0).toLoadRect = G := by
  funext y
  rw [View.readCov_eq_canon']
  have hy0 : (y 0 : ℕ) < 512 := (y 0).isLt
  have hy1 : (y 1 : ℕ) < 2048 := (y 1).isLt
  obtain ⟨z, hz⟩ : ∃ z : S512x2048.Idx, z = (Rect.unit ![0, 0] ![512, 2048] inb_S512x2048_S512x2048_0_0).toLoadRect.idx y := ⟨_, rfl⟩
  have z0 : (z 0 : ℕ) = y 0 := by rw [hz]; show 0 + 1 * (y 0 : ℕ) = y 0; omega
  have z1 : (z 1 : ℕ) = y 1 := by rw [hz]; show 0 + 1 * (y 1 : ℕ) = y 1; omega
  beta_reduce
  rw [← hz]
  refine (View.canon_apply_of_pieces (S := S512x2048) (e := .bf16) (past G) _ ?_ z ?_).trans ?_
  · intro p hp x
    simp only [List.mem_cons, List.not_mem_nil, or_false] at hp
    rcases hp with rfl | rfl | rfl | rfl
    · exact piece_at 1536 inb_S512x2048_S512x512_0_1536 (by omega) G p3 h3 x
    · exact piece_at 1024 inb_S512x2048_S512x512_0_1024 (by omega) G p2 h2 x
    · exact piece_at 512 inb_S512x2048_S512x512_0_512 (by omega) G p1 h1 x
    · exact piece_at 0 inb_S512x2048_S512x512_0_0 (by omega) G p0 h0 x
  · simp only [List.mem_cons, List.not_mem_nil, or_false, exists_eq_or_imp, exists_eq_left]
    have c : (1536 ≤ (z 1 : ℕ) ∧ (z 1 : ℕ) < 1536 + 512) ∨ (1024 ≤ (z 1 : ℕ) ∧ (z 1 : ℕ) < 1024 + 512) ∨ (512 ≤ (z 1 : ℕ) ∧ (z 1 : ℕ) < 512 + 512) ∨ (0 ≤ (z 1 : ℕ) ∧ (z 1 : ℕ) < 0 + 512) := by omega
    rcases c with c | c | c | c
    · exact Or.inl (in_piece 1536 inb_S512x2048_S512x512_0_1536 z c.1 c.2)
    · exact Or.inr (Or.inl (in_piece 1024 inb_S512x2048_S512x512_0_1024 z c.1 c.2))
    · exact Or.inr (Or.inr (Or.inl (in_piece 512 inb_S512x2048_S512x512_0_512 z c.1 c.2)))
    · exact Or.inr (Or.inr (Or.inr (in_piece 0 inb_S512x2048_S512x512_0_0 z c.1 c.2)))
  · have q2 : (z 1 : ℕ) < 2048 := by omega
    rw [show past G z = _ from dif_pos q2]
    refine congrArg G (funext fun d => Fin.ext ?_)
    match d with
    | ⟨0, _⟩ => exact z0
    | ⟨1, _⟩ => exact z1

theorem hread8 (v : View sig .tc .vmem S512x2176 .f32) (p0 p1 p2 p3 p4 p5 p6 p7 : Vec Ideal S512x256 .f32) (G : Vec Ideal S512x2048 .f32) (h0 : ∀ r : Fin 512, ∀ j : Fin 256, p0 (ix2 r j) = G (ix2 r ⟨0 + j, by omega⟩)) (h1 : ∀ r : Fin 512, ∀ j : Fin 256, p1 (ix2 r j) = G (ix2 r ⟨256 + j, by omega⟩)) (h2 : ∀ r : Fin 512, ∀ j : Fin 256, p2 (ix2 r j) = G (ix2 r ⟨512 + j, by omega⟩)) (h3 : ∀ r : Fin 512, ∀ j : Fin 256, p3 (ix2 r j) = G (ix2 r ⟨768 + j, by omega⟩)) (h4 : ∀ r : Fin 512, ∀ j : Fin 256, p4 (ix2 r j) = G (ix2 r ⟨1024 + j, by omega⟩)) (h5 : ∀ r : Fin 512, ∀ j : Fin 256, p5 (ix2 r j) = G (ix2 r ⟨1280 + j, by omega⟩)) (h6 : ∀ r : Fin 512, ∀ j : Fin 256, p6 (ix2 r j) = G (ix2 r ⟨1536 + j, by omega⟩)) (h7 : ∀ r : Fin 512, ∀ j : Fin 256, p7 (ix2 r j) = G (ix2 r ⟨1792 + j, by omega⟩)) :
    View.readCov (s := S512x2176) (e := .f32) (Val := Elt Ideal) v
      [⟨Rect.unit ![0, 1792] ![512, 256] inb_S512x2176_S512x256_0_1792, p7⟩,
       ⟨Rect.unit ![0, 1536] ![512, 256] inb_S512x2176_S512x256_0_1536, p6⟩,
       ⟨Rect.unit ![0, 1280] ![512, 256] inb_S512x2176_S512x256_0_1280, p5⟩,
       ⟨Rect.unit ![0, 1024] ![512, 256] inb_S512x2176_S512x256_0_1024, p4⟩,
       ⟨Rect.unit ![0, 768] ![512, 256] inb_S512x2176_S512x256_0_768, p3⟩,
       ⟨Rect.unit ![0, 512] ![512, 256] inb_S512x2176_S512x256_0_512, p2⟩,
       ⟨Rect.unit ![0, 256] ![512, 256] inb_S512x2176_S512x256_0_256, p1⟩,
       ⟨Rect.unit ![0, 0] ![512, 256] inb_S512x2176_S512x256_0_0, p0⟩]
      (Rect.unit ![0, 0] ![512, 2048] inb_S512x2176_S512x2048_0_0).toLoadRect = G := by
  funext y
  rw [View.readCov_eq_canon']
  have hy0 : (y 0 : ℕ) < 512 := (y 0).isLt
  have hy1 : (y 1 : ℕ) < 2048 := (y 1).isLt
  obtain ⟨z, hz⟩ : ∃ z : S512x2176.Idx, z = (Rect.unit ![0, 0] ![512, 2048] inb_S512x2176_S512x2048_0_0).toLoadRect.idx y := ⟨_, rfl⟩
  have z0 : (z 0 : ℕ) = y 0 := by rw [hz]; show 0 + 1 * (y 0 : ℕ) = y 0; omega
  have z1 : (z 1 : ℕ) = y 1 := by rw [hz]; show 0 + 1 * (y 1 : ℕ) = y 1; omega
  beta_reduce
  rw [← hz]
  refine (View.canon_apply_of_pieces (S := S512x2176) (e := .f32) (past G) _ ?_ z ?_).trans ?_
  · intro p hp x
    simp only [List.mem_cons, List.not_mem_nil, or_false] at hp
    rcases hp with rfl | rfl | rfl | rfl | rfl | rfl | rfl | rfl
    · exact piece_at 1792 inb_S512x2176_S512x256_0_1792 (by omega) G p7 h7 x
    · exact piece_at 1536 inb_S512x2176_S512x256_0_1536 (by omega) G p6 h6 x
    · exact piece_at 1280 inb_S512x2176_S512x256_0_1280 (by omega) G p5 h5 x
    · exact piece_at 1024 inb_S512x2176_S512x256_0_1024 (by omega) G p4 h4 x
    · exact piece_at 768 inb_S512x2176_S512x256_0_768 (by omega) G p3 h3 x
    · exact piece_at 512 inb_S512x2176_S512x256_0_512 (by omega) G p2 h2 x
    · exact piece_at 256 inb_S512x2176_S512x256_0_256 (by omega) G p1 h1 x
    · exact piece_at 0 inb_S512x2176_S512x256_0_0 (by omega) G p0 h0 x
  · simp only [List.mem_cons, List.not_mem_nil, or_false, exists_eq_or_imp, exists_eq_left]
    have c : (1792 ≤ (z 1 : ℕ) ∧ (z 1 : ℕ) < 1792 + 256) ∨ (1536 ≤ (z 1 : ℕ) ∧ (z 1 : ℕ) < 1536 + 256) ∨ (1280 ≤ (z 1 : ℕ) ∧ (z 1 : ℕ) < 1280 + 256) ∨ (1024 ≤ (z 1 : ℕ) ∧ (z 1 : ℕ) < 1024 + 256) ∨ (768 ≤ (z 1 : ℕ) ∧ (z 1 : ℕ) < 768 + 256) ∨ (512 ≤ (z 1 : ℕ) ∧ (z 1 : ℕ) < 512 + 256) ∨ (256 ≤ (z 1 : ℕ) ∧ (z 1 : ℕ) < 256 + 256) ∨ (0 ≤ (z 1 : ℕ) ∧ (z 1 : ℕ) < 0 + 256) := by omega
    rcases c with c | c | c | c | c | c | c | c
    · exact Or.inl (in_piece 1792 inb_S512x2176_S512x256_0_1792 z c.1 c.2)
    · exact Or.inr (Or.inl (in_piece 1536 inb_S512x2176_S512x256_0_1536 z c.1 c.2))
    · exact Or.inr (Or.inr (Or.inl (in_piece 1280 inb_S512x2176_S512x256_0_1280 z c.1 c.2)))
    · exact Or.inr (Or.inr (Or.inr (Or.inl (in_piece 1024 inb_S512x2176_S512x256_0_1024 z c.1 c.2))))
    · exact Or.inr (Or.inr (Or.inr (Or.inr (Or.inl (in_piece 768 inb_S512x2176_S512x256_0_768 z c.1 c.2)))))
    · exact Or.inr (Or.inr (Or.inr (Or.inr (Or.inr (Or.inl (in_piece 512 inb_S512x2176_S512x256_0_512 z c.1 c.2))))))
    · exact Or.inr (Or.inr (Or.inr (Or.inr (Or.inr (Or.inr (Or.inl (in_piece 256 inb_S512x2176_S512x256_0_256 z c.1 c.2)))))))
    · exact Or.inr (Or.inr (Or.inr (Or.inr (Or.inr (Or.inr (Or.inr (in_piece 0 inb_S512x2176_S512x256_0_0 z c.1 c.2)))))))
  · have q2 : (z 1 : ℕ) < 2048 := by omega
    rw [show past G z = _ from dif_pos q2]
    refine congrArg G (funext fun d => Fin.ext ?_)
    match d with
    | ⟨0, _⟩ => exact z0
    | ⟨1, _⟩ => exact z1

theorem oread (v : View sig .tc .vmem S512x2048 .bf16) (x0 : Vec Ideal S1x512x2048 .f32) (x1 : Vec Ideal S1x1x2048 .f32) (x2 : Vec Ideal S1x2048x2048 .bf16) (x3 x4 : Vec Ideal S1x256x2048 .bf16) :
    View.readCov (s := S512x2048) (e := .bf16) (Val := Elt Ideal) v
      [⟨Rect.unit ![0, 1536] ![512, 512] inb_S512x2048_S512x512_0_1536, k0_pay8 (F := Ideal) (k0_pay1 x0 x1) (View.ld (Val := Elt Ideal) (S := S1x2048x2048) (e' := .bf16) x2 (Rect.unit ![0, 0, 1536] ![1, 2048, 512] inb_S1x2048x2048_S1x2048x512_0_0_1536)) (View.ld (Val := Elt Ideal) (S := S1x256x2048) (e' := .bf16) x3 (Rect.unit ![0, 0, 1536] ![1, 256, 512] inb_S1x256x2048_S1x256x512_0_0_1536)) (View.ld (Val := Elt Ideal) (S := S1x256x2048) (e' := .bf16) x4 (Rect.unit ![0, 0, 1536] ![1, 256, 512] inb_S1x256x2048_S1x256x512_0_0_1536))⟩,
       ⟨Rect.unit ![0, 1024] ![512, 512] inb_S512x2048_S512x512_0_1024, k0_pay7 (F := Ideal) (k0_pay1 x0 x1) (View.ld (Val := Elt Ideal) (S := S1x2048x2048) (e' := .bf16) x2 (Rect.unit ![0, 0, 1024] ![1, 2048, 512] inb_S1x2048x2048_S1x2048x512_0_0_1024)) (View.ld (Val := Elt Ideal) (S := S1x256x2048) (e' := .bf16) x3 (Rect.unit ![0, 0, 1024] ![1, 256, 512] inb_S1x256x2048_S1x256x512_0_0_1024)) (View.ld (Val := Elt Ideal) (S := S1x256x2048) (e' := .bf16) x4 (Rect.unit ![0, 0, 1024] ![1, 256, 512] inb_S1x256x2048_S1x256x512_0_0_1024))⟩,
       ⟨Rect.unit ![0, 512] ![512, 512] inb_S512x2048_S512x512_0_512, k0_pay6 (F := Ideal) (k0_pay4 (k0_pay1 x0 x1) (View.ld (Val := Elt Ideal) (S := S1x2048x2048) (e' := .bf16) x2 (Rect.unit ![0, 0, 512] ![1, 2048, 512] inb_S1x2048x2048_S1x2048x512_0_0_512)) (View.ld (Val := Elt Ideal) (S := S1x256x2048) (e' := .bf16) x3 (Rect.unit ![0, 0, 512] ![1, 256, 512] inb_S1x256x2048_S1x256x512_0_0_512))) (k0_pay5 (View.ld (Val := Elt Ideal) (S := S1x256x2048) (e' := .bf16) x4 (Rect.unit ![0, 0, 512] ![1, 256, 512] inb_S1x256x2048_S1x256x512_0_0_512))) (constant S512x512 FTy.f32 0#32)⟩,
       ⟨Rect.unit ![0, 0] ![512, 512] inb_S512x2048_S512x512_0_0, k0_pay3 (F := Ideal) (k0_pay2 (k0_pay1 x0 x1) (View.ld (Val := Elt Ideal) (S := S1x2048x2048) (e' := .bf16) x2 (Rect.unit ![0, 0, 0] ![1, 2048, 512] inb_S1x2048x2048_S1x2048x512_0_0_0)) (View.ld (Val := Elt Ideal) (S := S1x256x2048) (e' := .bf16) x3 (Rect.unit ![0, 0, 0] ![1, 256, 512] inb_S1x256x2048_S1x256x512_0_0_0))) (View.ld (Val := Elt Ideal) (S := S1x256x2048) (e' := .bf16) x4 (Rect.unit ![0, 0, 0] ![1, 256, 512] inb_S1x256x2048_S1x256x512_0_0_0))⟩]
      (Rect.unit ![0, 0] ![512, 2048] inb_S512x2048_S512x2048_0_0).toLoadRect = oB x0 x1 x2 x3 x4 :=
  oread4 v _ _ _ _ _ (head0 x0 x1 x2 x3 x4) (head1 x0 x1 x2 x3 x4) (head2 x0 x1 x2 x3 x4) (head3 x0 x1 x2 x3 x4)

theorem hread (v : View sig .tc .vmem S512x2176 .f32) (x0 : Vec Ideal S1x512x2048 .f32) (x1 : Vec Ideal S1x1x2048 .f32) (x2 : Vec Ideal S1x2048x2048 .bf16) (x3 x4 : Vec Ideal S1x256x2048 .bf16) (x5 : Vec Ideal S1x2048x2048 .bf16) :
    View.readCov (s := S512x2176) (e := .f32) (Val := Elt Ideal) v
      [⟨Rect.unit ![0, 1792] ![512, 256] inb_S512x2176_S512x256_0_1792, k0_pay16 (F := Ideal) (View.ld (Val := Elt Ideal) (S := S1x512x2048) (e' := .f32) x0 (Rect.unit ![0, 0, 1792] ![1, 512, 256] inb_S1x512x2048_S1x512x256_0_0_1792)) (oB x0 x1 x2 x3 x4) (View.ld (Val := Elt Ideal) (S := S1x2048x2048) (e' := .bf16) x5 (Rect.unit ![0, 0, 1792] ![1, 2048, 256] inb_S1x2048x2048_S1x2048x256_0_0_1792))⟩,
       ⟨Rect.unit ![0, 1536] ![512, 256] inb_S512x2176_S512x256_0_1536, k0_pay15 (F := Ideal) (View.ld (Val := Elt Ideal) (S := S1x512x2048) (e' := .f32) x0 (Rect.unit ![0, 0, 1536] ![1, 512, 256] inb_S1x512x2048_S1x512x256_0_0_1536)) (oB x0 x1 x2 x3 x4) (View.ld (Val := Elt Ideal) (S := S1x2048x2048) (e' := .bf16) x5 (Rect.unit ![0, 0, 1536] ![1, 2048, 256] inb_S1x2048x2048_S1x2048x256_0_0_1536))⟩,
       ⟨Rect.unit ![0, 1280] ![512, 256] inb_S512x2176_S512x256_0_1280, k0_pay14 (F := Ideal) (View.ld (Val := Elt Ideal) (S := S1x512x2048) (e' := .f32) x0 (Rect.unit ![0, 0, 1280] ![1, 512, 256] inb_S1x512x2048_S1x512x256_0_0_1280)) (oB x0 x1 x2 x3 x4) (View.ld (Val := Elt Ideal) (S := S1x2048x2048) (e' := .bf16) x5 (Rect.unit ![0, 0, 1280] ![1, 2048, 256] inb_S1x2048x2048_S1x2048x256_0_0_1280))⟩,
       ⟨Rect.unit ![0, 1024] ![512, 256] inb_S512x2176_S512x256_0_1024, k0_pay13 (F := Ideal) (View.ld (Val := Elt Ideal) (S := S1x512x2048) (e' := .f32) x0 (Rect.unit ![0, 0, 1024] ![1, 512, 256] inb_S1x512x2048_S1x512x256_0_0_1024)) (oB x0 x1 x2 x3 x4) (View.ld (Val := Elt Ideal) (S := S1x2048x2048) (e' := .bf16) x5 (Rect.unit ![0, 0, 1024] ![1, 2048, 256] inb_S1x2048x2048_S1x2048x256_0_0_1024))⟩,
       ⟨Rect.unit ![0, 768] ![512, 256] inb_S512x2176_S512x256_0_768, k0_pay12 (F := Ideal) (View.ld (Val := Elt Ideal) (S := S1x512x2048) (e' := .f32) x0 (Rect.unit ![0, 0, 768] ![1, 512, 256] inb_S1x512x2048_S1x512x256_0_0_768)) (oB x0 x1 x2 x3 x4) (View.ld (Val := Elt Ideal) (S := S1x2048x2048) (e' := .bf16) x5 (Rect.unit ![0, 0, 768] ![1, 2048, 256] inb_S1x2048x2048_S1x2048x256_0_0_768))⟩,
       ⟨Rect.unit ![0, 512] ![512, 256] inb_S512x2176_S512x256_0_512, k0_pay11 (F := Ideal) (View.ld (Val := Elt Ideal) (S := S1x512x2048) (e' := .f32) x0 (Rect.unit ![0, 0, 512] ![1, 512, 256] inb_S1x512x2048_S1x512x256_0_0_512)) (oB x0 x1 x2 x3 x4) (View.ld (Val := Elt Ideal) (S := S1x2048x2048) (e' := .bf16) x5 (Rect.unit ![0, 0, 512] ![1, 2048, 256] inb_S1x2048x2048_S1x2048x256_0_0_512))⟩,
       ⟨Rect.unit ![0, 256] ![512, 256] inb_S512x2176_S512x256_0_256, k0_pay10 (F := Ideal) (View.ld (Val := Elt Ideal) (S := S1x512x2048) (e' := .f32) x0 (Rect.unit ![0, 0, 256] ![1, 512, 256] inb_S1x512x2048_S1x512x256_0_0_256)) (oB x0 x1 x2 x3 x4) (View.ld (Val := Elt Ideal) (S := S1x2048x2048) (e' := .bf16) x5 (Rect.unit ![0, 0, 256] ![1, 2048, 256] inb_S1x2048x2048_S1x2048x256_0_0_256))⟩,
       ⟨Rect.unit ![0, 0] ![512, 256] inb_S512x2176_S512x256_0_0, k0_pay9 (F := Ideal) (View.ld (Val := Elt Ideal) (S := S1x512x2048) (e' := .f32) x0 (Rect.unit ![0, 0, 0] ![1, 512, 256] inb_S1x512x2048_S1x512x256_0_0_0)) (oB x0 x1 x2 x3 x4) (View.ld (Val := Elt Ideal) (S := S1x2048x2048) (e' := .bf16) x5 (Rect.unit ![0, 0, 0] ![1, 2048, 256] inb_S1x2048x2048_S1x2048x256_0_0_0))⟩]
      (Rect.unit ![0, 0] ![512, 2048] inb_S512x2176_S512x2048_0_0).toLoadRect = hB x0 x1 x2 x3 x4 x5 :=
  hread8 v _ _ _ _ _ _ _ _ _ (res0 x0 x1 x2 x3 x4 x5) (res1 x0 x1 x2 x3 x4 x5) (res2 x0 x1 x2 x3 x4 x5) (res3 x0 x1 x2 x3 x4 x5) (res4 x0 x1 x2 x3 x4 x5) (res5 x0 x1 x2 x3 x4 x5) (res6 x0 x1 x2 x3 x4 x5) (res7 x0 x1 x2 x3 x4 x5)

/-- A block's rows with the routing lanes after them. -/
def outB (x0 : Vec Ideal S1x512x2048 .f32) (x1 : Vec Ideal S1x1x2048 .f32) (x2 : Vec Ideal S1x2048x2048 .bf16) (x3 x4 : Vec Ideal S1x256x2048 .bf16) (x5 : Vec Ideal S1x2048x2048 .bf16) (x6 : Vec Ideal S1x1x2048 .f32) (x7 : Vec Ideal S2048x256 .bf16) (x8 : Vec Ideal S1x128 .f32) : Vec Ideal S512x2176 .f32 := fun i =>
  if h : (i 1 : ℕ) < 2048 then hB x0 x1 x2 x3 x4 x5 (ix2 ⟨i 0, (i 0).isLt⟩ ⟨i 1, h⟩)
  else rB (k0_pay18 x7) (k0_pay19 x8) (k0_pay21 (hB x0 x1 x2 x3 x4 x5) x6) (k0_pay22 (hB x0 x1 x2 x3 x4 x5) x6 x7) (ix2 ⟨i 0, (i 0).isLt⟩ ⟨(i 1 : ℕ) - 2048, by have h : (i 1 : ℕ) < 2176 := (i 1).isLt; omega⟩)

theorem canon9 (v : View sig .tc .vmem S512x2176 .f32) (x0 : Vec Ideal S1x512x2048 .f32) (x1 : Vec Ideal S1x1x2048 .f32) (x2 : Vec Ideal S1x2048x2048 .bf16) (x3 x4 : Vec Ideal S1x256x2048 .bf16) (x5 : Vec Ideal S1x2048x2048 .bf16) (q : Vec Ideal S512x128 .f32) (y : S512x2176.Idx) :
    View.canon (s := S512x2176) (e := .f32) (Val := Elt Ideal)
      [⟨Rect.unit ![0, 2048] ![512, 128] inb_S512x2176_S512x128_0_2048, q⟩,
       ⟨Rect.unit ![0, 1792] ![512, 256] inb_S512x2176_S512x256_0_1792, k0_pay16 (F := Ideal) (View.ld (Val := Elt Ideal) (S := S1x512x2048) (e' := .f32) x0 (Rect.unit ![0, 0, 1792] ![1, 512, 256] inb_S1x512x2048_S1x512x256_0_0_1792)) (oB x0 x1 x2 x3 x4) (View.ld (Val := Elt Ideal) (S := S1x2048x2048) (e' := .bf16) x5 (Rect.unit ![0, 0, 1792] ![1, 2048, 256] inb_S1x2048x2048_S1x2048x256_0_0_1792))⟩,
       ⟨Rect.unit ![0, 1536] ![512, 256] inb_S512x2176_S512x256_0_1536, k0_pay15 (F := Ideal) (View.ld (Val := Elt Ideal) (S := S1x512x2048) (e' := .f32) x0 (Rect.unit ![0, 0, 1536] ![1, 512, 256] inb_S1x512x2048_S1x512x256_0_0_1536)) (oB x0 x1 x2 x3 x4) (View.ld (Val := Elt Ideal) (S := S1x2048x2048) (e' := .bf16) x5 (Rect.unit ![0, 0, 1536] ![1, 2048, 256] inb_S1x2048x2048_S1x2048x256_0_0_1536))⟩,
       ⟨Rect.unit ![0, 1280] ![512, 256] inb_S512x2176_S512x256_0_1280, k0_pay14 (F := Ideal) (View.ld (Val := Elt Ideal) (S := S1x512x2048) (e' := .f32) x0 (Rect.unit ![0, 0, 1280] ![1, 512, 256] inb_S1x512x2048_S1x512x256_0_0_1280)) (oB x0 x1 x2 x3 x4) (View.ld (Val := Elt Ideal) (S := S1x2048x2048) (e' := .bf16) x5 (Rect.unit ![0, 0, 1280] ![1, 2048, 256] inb_S1x2048x2048_S1x2048x256_0_0_1280))⟩,
       ⟨Rect.unit ![0, 1024] ![512, 256] inb_S512x2176_S512x256_0_1024, k0_pay13 (F := Ideal) (View.ld (Val := Elt Ideal) (S := S1x512x2048) (e' := .f32) x0 (Rect.unit ![0, 0, 1024] ![1, 512, 256] inb_S1x512x2048_S1x512x256_0_0_1024)) (oB x0 x1 x2 x3 x4) (View.ld (Val := Elt Ideal) (S := S1x2048x2048) (e' := .bf16) x5 (Rect.unit ![0, 0, 1024] ![1, 2048, 256] inb_S1x2048x2048_S1x2048x256_0_0_1024))⟩,
       ⟨Rect.unit ![0, 768] ![512, 256] inb_S512x2176_S512x256_0_768, k0_pay12 (F := Ideal) (View.ld (Val := Elt Ideal) (S := S1x512x2048) (e' := .f32) x0 (Rect.unit ![0, 0, 768] ![1, 512, 256] inb_S1x512x2048_S1x512x256_0_0_768)) (oB x0 x1 x2 x3 x4) (View.ld (Val := Elt Ideal) (S := S1x2048x2048) (e' := .bf16) x5 (Rect.unit ![0, 0, 768] ![1, 2048, 256] inb_S1x2048x2048_S1x2048x256_0_0_768))⟩,
       ⟨Rect.unit ![0, 512] ![512, 256] inb_S512x2176_S512x256_0_512, k0_pay11 (F := Ideal) (View.ld (Val := Elt Ideal) (S := S1x512x2048) (e' := .f32) x0 (Rect.unit ![0, 0, 512] ![1, 512, 256] inb_S1x512x2048_S1x512x256_0_0_512)) (oB x0 x1 x2 x3 x4) (View.ld (Val := Elt Ideal) (S := S1x2048x2048) (e' := .bf16) x5 (Rect.unit ![0, 0, 512] ![1, 2048, 256] inb_S1x2048x2048_S1x2048x256_0_0_512))⟩,
       ⟨Rect.unit ![0, 256] ![512, 256] inb_S512x2176_S512x256_0_256, k0_pay10 (F := Ideal) (View.ld (Val := Elt Ideal) (S := S1x512x2048) (e' := .f32) x0 (Rect.unit ![0, 0, 256] ![1, 512, 256] inb_S1x512x2048_S1x512x256_0_0_256)) (oB x0 x1 x2 x3 x4) (View.ld (Val := Elt Ideal) (S := S1x2048x2048) (e' := .bf16) x5 (Rect.unit ![0, 0, 256] ![1, 2048, 256] inb_S1x2048x2048_S1x2048x256_0_0_256))⟩,
       ⟨Rect.unit ![0, 0] ![512, 256] inb_S512x2176_S512x256_0_0, k0_pay9 (F := Ideal) (View.ld (Val := Elt Ideal) (S := S1x512x2048) (e' := .f32) x0 (Rect.unit ![0, 0, 0] ![1, 512, 256] inb_S1x512x2048_S1x512x256_0_0_0)) (oB x0 x1 x2 x3 x4) (View.ld (Val := Elt Ideal) (S := S1x2048x2048) (e' := .bf16) x5 (Rect.unit ![0, 0, 0] ![1, 2048, 256] inb_S1x2048x2048_S1x2048x256_0_0_0))⟩] y
      = if h : (y 1 : ℕ) < 2048 then hB x0 x1 x2 x3 x4 x5 (ix2 ⟨y 0, (y 0).isLt⟩ ⟨y 1, h⟩)
        else q (ix2 ⟨y 0, (y 0).isLt⟩ ⟨(y 1 : ℕ) - 2048, by have h : (y 1 : ℕ) < 2176 := (y 1).isLt; omega⟩) := by
  have hy1 : (y 1 : ℕ) < 2176 := (y 1).isLt
  by_cases h : (y 1 : ℕ) < 2048
  · rw [dif_pos h, View.canon_cons_of_not_mem, ← hread v, View.readCov_eq_canon']
    · refine congrArg _ (funext fun a => Fin.ext ?_)
      match a with
      | ⟨0, _⟩ => show (y 0 : ℕ) = 0 + 1 * (y 0 : ℕ); omega
      | ⟨1, _⟩ => show (y 1 : ℕ) = 0 + 1 * (y 1 : ℕ); omega
    · intro hm
      have := ((LoadRect.mem_set _).mp hm 1)
      obtain ⟨j, hj, e⟩ := this
      replace e : (y 1 : ℕ) = 2048 + 1 * j := e
      have : 2048 ≤ (y 1 : ℕ) := by omega
      have h2 : 2048 ≤ (y 1 : ℕ) := this
      omega
  · rw [dif_neg h]
    have e : y = (Rect.unit ![0, 2048] ![512, 128] inb_S512x2176_S512x128_0_2048).emb (ix2 (⟨y 0, (y 0).isLt⟩ : Fin 512) (⟨(y 1 : ℕ) - 2048, by omega⟩ : Fin 128)) := by
      refine funext fun a => Fin.ext ?_
      match a with
      | ⟨0, _⟩ => show (y 0 : ℕ) = 0 + 1 * (y 0 : ℕ); omega
      | ⟨1, _⟩ => show (y 1 : ℕ) = 2048 + 1 * ((y 1 : ℕ) - 2048); omega
    conv_lhs => rw [e]
    exact View.canon_cons_emb _ _ _ _

theorem out0_A_10_eq (c : Dev nD) (i : grid0.Coords) (arg2 : Memref sig .tc .vmem S1x512x2048 .f32) (harg2 : arg2.IsWhole) (arg3 : Memref sig .tc .vmem S1x1x2048 .f32) (harg3 : arg3.IsWhole) (arg4 : Memref sig .tc .vmem S1x2048x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x2048x2048 .bf16) (harg7 : arg7.IsWhole) (arg8 : Memref sig .tc .vmem S1x1x2048 .f32) (harg8 : arg8.IsWhole) (arg9 : Memref sig .tc .vmem S2048x256 .bf16) (harg9 : arg9.IsWhole) (arg10 : Memref sig .tc .vmem S1x128 .f32) (harg10 : arg10.IsWhole) (arg11 : Memref sig .tc .vmem S1x1x512x2048 .f32) (harg11 : arg11.IsWhole) (arg12 : Memref sig .tc .vmem S512x2176 .f32) (harg12 : arg12.IsWhole) (arg13 : Memref sig .tc .vmem S1x128 .f32) (harg13 : arg13.IsWhole) (arg14 : Memref sig .tc .vmem S1x512x2048 .bf16) (harg14 : arg14.IsWhole) (arg15 : Memref sig .tc .vmem S512x2048 .bf16) (harg15 : arg15.IsWhole) (arg16 : Memref sig .tc .vmem S512x2048 .bf16) (harg16 : arg16.IsWhole) (hc0 : cond0_0 i) (x0 : Vec Ideal S1x512x2048 .f32) (x1 : Vec Ideal S1x1x2048 .f32) (x2 : Vec Ideal S1x2048x2048 .bf16) (x3 : Vec Ideal S1x256x2048 .bf16) (x4 : Vec Ideal S1x256x2048 .bf16) (x5 : Vec Ideal S1x2048x2048 .bf16) (x6 : Vec Ideal S1x1x2048 .f32) (x7 : Vec Ideal S2048x256 .bf16) (x8 : Vec Ideal S1x128 .f32) (x9 : Vec Ideal S1x1x512x2048 .f32) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = outB x0 x1 x2 x3 x4 x5 x6 x7 x8 := by
  frame_out
  simp only [oread, hread]
  funext y
  rw [canon9 arg12.view]
  rfl

theorem out0_A_11_eq (c : Dev nD) (i : grid0.Coords) (arg2 : Memref sig .tc .vmem S1x512x2048 .f32) (harg2 : arg2.IsWhole) (arg3 : Memref sig .tc .vmem S1x1x2048 .f32) (harg3 : arg3.IsWhole) (arg4 : Memref sig .tc .vmem S1x2048x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x2048x2048 .bf16) (harg7 : arg7.IsWhole) (arg8 : Memref sig .tc .vmem S1x1x2048 .f32) (harg8 : arg8.IsWhole) (arg9 : Memref sig .tc .vmem S2048x256 .bf16) (harg9 : arg9.IsWhole) (arg10 : Memref sig .tc .vmem S1x128 .f32) (harg10 : arg10.IsWhole) (arg11 : Memref sig .tc .vmem S1x1x512x2048 .f32) (harg11 : arg11.IsWhole) (arg12 : Memref sig .tc .vmem S512x2176 .f32) (harg12 : arg12.IsWhole) (arg13 : Memref sig .tc .vmem S1x128 .f32) (harg13 : arg13.IsWhole) (arg14 : Memref sig .tc .vmem S1x512x2048 .bf16) (harg14 : arg14.IsWhole) (arg15 : Memref sig .tc .vmem S512x2048 .bf16) (harg15 : arg15.IsWhole) (arg16 : Memref sig .tc .vmem S512x2048 .bf16) (harg16 : arg16.IsWhole) (hc0 : cond0_0 i) (x0 : Vec Ideal S1x512x2048 .f32) (x1 : Vec Ideal S1x1x2048 .f32) (x2 : Vec Ideal S1x2048x2048 .bf16) (x3 : Vec Ideal S1x256x2048 .bf16) (x4 : Vec Ideal S1x256x2048 .bf16) (x5 : Vec Ideal S1x2048x2048 .bf16) (x6 : Vec Ideal S1x1x2048 .f32) (x7 : Vec Ideal S2048x256 .bf16) (x8 : Vec Ideal S1x128 .f32) (x9 : Vec Ideal S1x1x512x2048 .f32) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = k0_pay46 (F := Ideal) io (bB (k0_pay18 x7) (k0_pay19 x8) (k0_pay21 (hB x0 x1 x2 x3 x4 x5) x6) (k0_pay22 (hB x0 x1 x2 x3 x4 x5) x6 x7)) (k0_pay45 (F := Ideal)) := by
  frame_out
  simp only [oread, hread]
  rfl

theorem out0_A_12_eq (c : Dev nD) (i : grid0.Coords) (arg2 : Memref sig .tc .vmem S1x512x2048 .f32) (harg2 : arg2.IsWhole) (arg3 : Memref sig .tc .vmem S1x1x2048 .f32) (harg3 : arg3.IsWhole) (arg4 : Memref sig .tc .vmem S1x2048x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x2048x2048 .bf16) (harg7 : arg7.IsWhole) (arg8 : Memref sig .tc .vmem S1x1x2048 .f32) (harg8 : arg8.IsWhole) (arg9 : Memref sig .tc .vmem S2048x256 .bf16) (harg9 : arg9.IsWhole) (arg10 : Memref sig .tc .vmem S1x128 .f32) (harg10 : arg10.IsWhole) (arg11 : Memref sig .tc .vmem S1x1x512x2048 .f32) (harg11 : arg11.IsWhole) (arg12 : Memref sig .tc .vmem S512x2176 .f32) (harg12 : arg12.IsWhole) (arg13 : Memref sig .tc .vmem S1x128 .f32) (harg13 : arg13.IsWhole) (arg14 : Memref sig .tc .vmem S1x512x2048 .bf16) (harg14 : arg14.IsWhole) (arg15 : Memref sig .tc .vmem S512x2048 .bf16) (harg15 : arg15.IsWhole) (arg16 : Memref sig .tc .vmem S512x2048 .bf16) (harg16 : arg16.IsWhole) (hc0 : cond0_0 i) (x0 : Vec Ideal S1x512x2048 .f32) (x1 : Vec Ideal S1x1x2048 .f32) (x2 : Vec Ideal S1x2048x2048 .bf16) (x3 : Vec Ideal S1x256x2048 .bf16) (x4 : Vec Ideal S1x256x2048 .bf16) (x5 : Vec Ideal S1x2048x2048 .bf16) (x6 : Vec Ideal S1x1x2048 .f32) (x7 : Vec Ideal S2048x256 .bf16) (x8 : Vec Ideal S1x128 .f32) (x9 : Vec Ideal S1x1x512x2048 .f32) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = k0_pay47 (F := Ideal) x9 := by
  frame_out

theorem out0_B_10_eq (c : Dev nD) (i : grid0.Coords) (arg2 : Memref sig .tc .vmem S1x512x2048 .f32) (harg2 : arg2.IsWhole) (arg3 : Memref sig .tc .vmem S1x1x2048 .f32) (harg3 : arg3.IsWhole) (arg4 : Memref sig .tc .vmem S1x2048x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x2048x2048 .bf16) (harg7 : arg7.IsWhole) (arg8 : Memref sig .tc .vmem S1x1x2048 .f32) (harg8 : arg8.IsWhole) (arg9 : Memref sig .tc .vmem S2048x256 .bf16) (harg9 : arg9.IsWhole) (arg10 : Memref sig .tc .vmem S1x128 .f32) (harg10 : arg10.IsWhole) (arg11 : Memref sig .tc .vmem S1x1x512x2048 .f32) (harg11 : arg11.IsWhole) (arg12 : Memref sig .tc .vmem S512x2176 .f32) (harg12 : arg12.IsWhole) (arg13 : Memref sig .tc .vmem S1x128 .f32) (harg13 : arg13.IsWhole) (arg14 : Memref sig .tc .vmem S1x512x2048 .bf16) (harg14 : arg14.IsWhole) (arg15 : Memref sig .tc .vmem S512x2048 .bf16) (harg15 : arg15.IsWhole) (arg16 : Memref sig .tc .vmem S512x2048 .bf16) (harg16 : arg16.IsWhole) (hc0 : ¬cond0_0 i) (x0 : Vec Ideal S1x512x2048 .f32) (x1 : Vec Ideal S1x1x2048 .f32) (x2 : Vec Ideal S1x2048x2048 .bf16) (x3 : Vec Ideal S1x256x2048 .bf16) (x4 : Vec Ideal S1x256x2048 .bf16) (x5 : Vec Ideal S1x2048x2048 .bf16) (x6 : Vec Ideal S1x1x2048 .f32) (x7 : Vec Ideal S2048x256 .bf16) (x8 : Vec Ideal S1x128 .f32) (x9 : Vec Ideal S1x1x512x2048 .f32) (xo11 : Vec Ideal S1x128 .f32) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 = outB x0 x1 x2 x3 x4 x5 x6 x7 x8 := by
  frame_out
  simp only [oread, hread]
  funext y
  rw [canon9 arg12.view]
  rfl

theorem out0_B_11_eq (c : Dev nD) (i : grid0.Coords) (arg2 : Memref sig .tc .vmem S1x512x2048 .f32) (harg2 : arg2.IsWhole) (arg3 : Memref sig .tc .vmem S1x1x2048 .f32) (harg3 : arg3.IsWhole) (arg4 : Memref sig .tc .vmem S1x2048x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x2048x2048 .bf16) (harg7 : arg7.IsWhole) (arg8 : Memref sig .tc .vmem S1x1x2048 .f32) (harg8 : arg8.IsWhole) (arg9 : Memref sig .tc .vmem S2048x256 .bf16) (harg9 : arg9.IsWhole) (arg10 : Memref sig .tc .vmem S1x128 .f32) (harg10 : arg10.IsWhole) (arg11 : Memref sig .tc .vmem S1x1x512x2048 .f32) (harg11 : arg11.IsWhole) (arg12 : Memref sig .tc .vmem S512x2176 .f32) (harg12 : arg12.IsWhole) (arg13 : Memref sig .tc .vmem S1x128 .f32) (harg13 : arg13.IsWhole) (arg14 : Memref sig .tc .vmem S1x512x2048 .bf16) (harg14 : arg14.IsWhole) (arg15 : Memref sig .tc .vmem S512x2048 .bf16) (harg15 : arg15.IsWhole) (arg16 : Memref sig .tc .vmem S512x2048 .bf16) (harg16 : arg16.IsWhole) (hc0 : ¬cond0_0 i) (x0 : Vec Ideal S1x512x2048 .f32) (x1 : Vec Ideal S1x1x2048 .f32) (x2 : Vec Ideal S1x2048x2048 .bf16) (x3 : Vec Ideal S1x256x2048 .bf16) (x4 : Vec Ideal S1x256x2048 .bf16) (x5 : Vec Ideal S1x2048x2048 .bf16) (x6 : Vec Ideal S1x1x2048 .f32) (x7 : Vec Ideal S2048x256 .bf16) (x8 : Vec Ideal S1x128 .f32) (x9 : Vec Ideal S1x1x512x2048 .f32) (xo11 : Vec Ideal S1x128 .f32) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 = k0_pay46 (F := Ideal) io (bB (k0_pay18 x7) (k0_pay19 x8) (k0_pay21 (hB x0 x1 x2 x3 x4 x5) x6) (k0_pay22 (hB x0 x1 x2 x3 x4 x5) x6 x7)) xo11 := by
  frame_out
  simp only [oread, hread]
  rfl

theorem out0_B_12_eq (c : Dev nD) (i : grid0.Coords) (arg2 : Memref sig .tc .vmem S1x512x2048 .f32) (harg2 : arg2.IsWhole) (arg3 : Memref sig .tc .vmem S1x1x2048 .f32) (harg3 : arg3.IsWhole) (arg4 : Memref sig .tc .vmem S1x2048x2048 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x2048x2048 .bf16) (harg7 : arg7.IsWhole) (arg8 : Memref sig .tc .vmem S1x1x2048 .f32) (harg8 : arg8.IsWhole) (arg9 : Memref sig .tc .vmem S2048x256 .bf16) (harg9 : arg9.IsWhole) (arg10 : Memref sig .tc .vmem S1x128 .f32) (harg10 : arg10.IsWhole) (arg11 : Memref sig .tc .vmem S1x1x512x2048 .f32) (harg11 : arg11.IsWhole) (arg12 : Memref sig .tc .vmem S512x2176 .f32) (harg12 : arg12.IsWhole) (arg13 : Memref sig .tc .vmem S1x128 .f32) (harg13 : arg13.IsWhole) (arg14 : Memref sig .tc .vmem S1x512x2048 .bf16) (harg14 : arg14.IsWhole) (arg15 : Memref sig .tc .vmem S512x2048 .bf16) (harg15 : arg15.IsWhole) (arg16 : Memref sig .tc .vmem S512x2048 .bf16) (harg16 : arg16.IsWhole) (hc0 : ¬cond0_0 i) (x0 : Vec Ideal S1x512x2048 .f32) (x1 : Vec Ideal S1x1x2048 .f32) (x2 : Vec Ideal S1x2048x2048 .bf16) (x3 : Vec Ideal S1x256x2048 .bf16) (x4 : Vec Ideal S1x256x2048 .bf16) (x5 : Vec Ideal S1x2048x2048 .bf16) (x6 : Vec Ideal S1x1x2048 .f32) (x7 : Vec Ideal S2048x256 .bf16) (x8 : Vec Ideal S1x128 .f32) (x9 : Vec Ideal S1x1x512x2048 .f32) (xo11 : Vec Ideal S1x128 .f32) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xo11 = k0_pay47 (F := Ideal) x9 := by
  frame_out

end Cert.Route
end
-- ==== Proof.Final.lean ====
module

public import proofs.«01_k».proof.Proof.Host
public import proofs.«01_k».proof.Proof.Blocks

@[expose] public section

/-! What the kernel leaves in its three results, over the program's arguments. -/

noncomputable section
namespace Cert.Route
open Idealize.ShloMosaic Idealize.ShloMosaic.TcCoe Idealize.SL.Sem
open Cert.KernelIdeal Cert.KernelIdeal.Gen Cert.KernelIdeal.Value Cert.Row

variable (m : (ℓ : Loc nD τ sig) → Buf (Elt Ideal) ℓ)

theorem idx : ∀ t : Fin cfg0.N, win0_0.index t = ![t.val / 16, t.val % 16, 0] ∧ win0_1.index t = ![0, 0, 0] ∧ win0_2.index t = ![0, 0, 0]
    ∧ win0_3.index t = ![t.val / 16, 0, 0] ∧ win0_4.index t = ![t.val / 16, 0, 0] ∧ win0_5.index t = ![0, 0, 0] ∧ win0_6.index t = ![0, 0, 0]
    ∧ win0_7.index t = ![0, 0] ∧ win0_8.index t = ![0, 0] ∧ win0_10.index t = ![t.val, 0] ∧ win0_11.index t = ![0, 0] :=
  (by decide +kernel : ∀ t : Fin grid0.N, _)

abbrev B0 (c : Dev nD) (t : Fin cfg0.N) : Vec Ideal S1x512x2048 .f32 := iblk m c 0 t
abbrev B1 (c : Dev nD) (t : Fin cfg0.N) : Vec Ideal S1x1x2048 .f32 := iblk m c 1 t
abbrev B2 (c : Dev nD) (t : Fin cfg0.N) : Vec Ideal S1x2048x2048 .bf16 := iblk m c 2 t
abbrev B3 (c : Dev nD) (t : Fin cfg0.N) : Vec Ideal S1x256x2048 .bf16 := iblk m c 3 t
abbrev B4 (c : Dev nD) (t : Fin cfg0.N) : Vec Ideal S1x256x2048 .bf16 := iblk m c 4 t
abbrev B5 (c : Dev nD) (t : Fin cfg0.N) : Vec Ideal S1x2048x2048 .bf16 := iblk m c 5 t
abbrev B6 (c : Dev nD) (t : Fin cfg0.N) : Vec Ideal S1x1x2048 .f32 := iblk m c 6 t
abbrev B7 (c : Dev nD) (t : Fin cfg0.N) : Vec Ideal S2048x256 .bf16 := iblk m c 7 t
abbrev B8 (c : Dev nD) (t : Fin cfg0.N) : Vec Ideal S1x128 .f32 := iblk m c 8 t
abbrev B9 (c : Dev nD) (t : Fin cfg0.N) : Vec Ideal S1x1x512x2048 .f32 := iblk m c 9 t

abbrev a0 (c : Dev nD) : S2x8192x2048.Idx → EReal := m ((c : Thread nD τ).loc main_arg0)
abbrev a1 (c : Dev nD) : S4x2048.Idx → EReal := m ((c : Thread nD τ).loc main_arg1)
abbrev a2 (c : Dev nD) : S4x2048x2048.Idx → EReal := m ((c : Thread nD τ).loc main_arg2)
abbrev a3 (c : Dev nD) : S2x256x2048.Idx → EReal := m ((c : Thread nD τ).loc main_arg3)
abbrev a4 (c : Dev nD) : S2x256x2048.Idx → EReal := m ((c : Thread nD τ).loc main_arg4)
abbrev a5 (c : Dev nD) : S4x2048x2048.Idx → EReal := m ((c : Thread nD τ).loc main_arg5)
abbrev a6 (c : Dev nD) : S4x2048.Idx → EReal := m ((c : Thread nD τ).loc main_arg6)
abbrev a7 (c : Dev nD) : S4x2048x8.Idx → EReal := m ((c : Thread nD τ).loc main_arg7)
abbrev a8 (c : Dev nD) : S4x8.Idx → EReal := m ((c : Thread nD τ).loc main_arg8)
abbrev a9 (c : Dev nD) : S4x2048x32.Idx → EReal := m ((c : Thread nD τ).loc main_arg9)
abbrev a10 (c : Dev nD) : S4x32.Idx → EReal := m ((c : Thread nD τ).loc main_arg10)
abbrev a11 (c : Dev nD) : S4x32x512x2048.Idx → EReal := m ((c : Thread nD τ).loc main_arg11)

theorem b0 (c : Dev nD) (t : Fin cfg0.N) (r : Fin 512) (j : Fin 2048) (R : Fin 16384) (hR : R.val = 512 * t.val + r.val) :
    B0 m c t (ix3 0 r j) = a0 m c (ix3 ⟨R / 8192, by omega⟩ ⟨R % 8192, by omega⟩ j) := by
  blk_ext [iblk, V, idx t]
theorem b1 (c : Dev nD) (t : Fin cfg0.N) (j : Fin 2048) : B1 m c t (ix3 0 0 j) = a1 m c (ix2 0 j) := by
  blk_point [iblk, V, idx t]
theorem b2 (c : Dev nD) (t : Fin cfg0.N) (i j : Fin 2048) : B2 m c t (ix3 0 i j) = a2 m c (ix3 0 i j) := by
  blk_point [iblk, V, idx t]
theorem b3 (c : Dev nD) (t : Fin cfg0.N) (r : Fin 512) (i : Fin 256) (j : Fin 2048) (R : Fin 16384) (hR : R.val = 512 * t.val + r.val) :
    B3 m c t (ix3 0 i j) = a3 m c (ix3 ⟨R / 8192, by omega⟩ i j) := by
  blk_ext [iblk, V, idx t]
theorem b4 (c : Dev nD) (t : Fin cfg0.N) (r : Fin 512) (i : Fin 256) (j : Fin 2048) (R : Fin 16384) (hR : R.val = 512 * t.val + r.val) :
    B4 m c t (ix3 0 i j) = a4 m c (ix3 ⟨R / 8192, by omega⟩ i j) := by
  blk_ext [iblk, V, idx t]
theorem b5 (c : Dev nD) (t : Fin cfg0.N) (i j : Fin 2048) : B5 m c t (ix3 0 i j) = a5 m c (ix3 0 i j) := by
  blk_point [iblk, V, idx t]
theorem b6 (c : Dev nD) (t : Fin cfg0.N) (j : Fin 2048) : B6 m c t (ix3 0 0 j) = a6 m c (ix2 0 j) := by
  blk_point [iblk, V, idx t]
theorem b7 (c : Dev nD) (t : Fin cfg0.N) (i : Fin 2048) (j : Fin 256) : B7 m c t (ix2 i j) = wh (a7 m c) (a9 m c) i j := by
  rw [← entry26 m c]
  blk_ext [iblk, idx t]
theorem b8 (c : Dev nD) (t : Fin cfg0.N) (j : Fin 128) : B8 m c t (ix2 0 j) = bl (a8 m c) (a10 m c) j := by
  rw [← entry21 m c]
  blk_ext [iblk, idx t]

/-- A row of the layer after the attention. -/
def HR (c : Dev nD) (R : Fin 16384) : Fin 2048 → EReal :=
  hrow (fun j => a0 m c (ix3 ⟨R / 8192, by omega⟩ ⟨R % 8192, by omega⟩ j)) (fun j => a1 m c (ix2 0 j)) (fun a b => a2 m c (ix3 0 a b))
    (fun a l => a3 m c (ix3 ⟨R / 8192, by omega⟩ a l)) (fun a l => a4 m c (ix3 ⟨R / 8192, by omega⟩ a l)) (fun a b => a5 m c (ix3 0 a b))
/-- The row that the routing reads. -/
def XT (c : Dev nD) (R : Fin 16384) : Fin 2048 → EReal := rms (HR m c R) (fun j => a6 m c (ix2 0 j))
/-- The lanes of a row. -/
def LN (c : Dev nD) (R : Fin 16384) : Fin 128 → EReal := lane (XT m c R) (wh (a7 m c) (a9 m c)) (bl (a8 m c) (a10 m c))

theorem hB_at (c : Dev nD) (t : Fin cfg0.N) (r : Fin 512) (R : Fin 16384) (hR : R.val = 512 * t.val + r.val) (j : Fin 2048) :
    hB (B0 m c t) (B1 m c t) (B2 m c t) (B3 m c t) (B4 m c t) (B5 m c t) (ix2 r j) = HR m c R j := by
  show hrow (fun j => B0 m c t (ix3 0 r j)) (fun j => B1 m c t (ix3 0 0 j)) (fun a b => B2 m c t (ix3 0 a b)) (fun a l => B3 m c t (ix3 0 a l))
    (fun a l => B4 m c t (ix3 0 a l)) (fun a b => B5 m c t (ix3 0 a b)) j = _
  rw [funext fun j => b0 m c t r j R hR, funext fun j => b1 m c t j, funext fun a => funext fun b => b2 m c t a b,
    funext fun a => funext fun l => b3 m c t r a l R hR, funext fun a => funext fun l => b4 m c t r a l R hR, funext fun a => funext fun b => b5 m c t a b]
  rfl

theorem lanes_at (c : Dev nD) (t : Fin cfg0.N) (r : Fin 512) (R : Fin 16384) (hR : R.val = 512 * t.val + r.val) :
    L23 (k0_pay18 (B7 m c t)) (k0_pay19 (B8 m c t)) (k0_pay21 (hB (B0 m c t) (B1 m c t) (B2 m c t) (B3 m c t) (B4 m c t) (B5 m c t)) (B6 m c t))
      (k0_pay22 (hB (B0 m c t) (B1 m c t) (B2 m c t) (B3 m c t) (B4 m c t) (B5 m c t)) (B6 m c t) (B7 m c t)) r = LN m c R := by
  funext j
  refine (read_lane _ _ _ _ r j).trans ?_
  rw [funext fun j => hB_at m c t r R hR j, funext fun j => b6 m c t j, funext fun a => funext fun l => b7 m c t a l, funext fun j => b8 m c t j]
  rfl

theorem point10 (c : Dev nD) (t : Fin cfg0.N) (r : Fin 512) (R : Fin 16384) (hR : R.val = 512 * t.val + r.val) (j : Fin 2176) :
    outB (B0 m c t) (B1 m c t) (B2 m c t) (B3 m c t) (B4 m c t) (B5 m c t) (B6 m c t) (B7 m c t) (B8 m c t) (ix2 r j)
      = if h : (j : ℕ) < 2048 then HR m c R ⟨j, h⟩ else if (j : ℕ) = 2048 then (((word (LN m c R)).toInt : ℝ) : EReal)
        else if (j : ℕ) = 2049 then wLo (LN m c R) else if (j : ℕ) = 2050 then wHi (LN m c R) else 0 := by
  show (if h : (j : ℕ) < 2048 then hB _ _ _ _ _ _ (ix2 r ⟨j, h⟩) else rB _ _ _ _ (ix2 r ⟨j - 2048, _⟩)) = _
  by_cases h : (j : ℕ) < 2048
  · rw [dif_pos h, dif_pos h]
    exact hB_at m c t r R hR ⟨j, h⟩
  · rw [dif_neg h, dif_neg h]
    refine (read_rB _ _ _ _ r _).trans ?_
    rw [lanes_at m c t r R hR]
    have e : ∀ n : ℕ, (j : ℕ) - 2048 = n ↔ (j : ℕ) = 2048 + n := fun n => by omega
    simp only [e]

/-- The first result: the rows, and beside each its bucket and its two weights. -/
def rows (c : Dev nD) : S16384x2176.Idx → EReal := fun i =>
  if h : (i 1 : ℕ) < 2048 then HR m c (i 0) ⟨i 1, h⟩ else if (i 1 : ℕ) = 2048 then (((word (LN m c (i 0))).toInt : ℝ) : EReal)
  else if (i 1 : ℕ) = 2049 then wLo (LN m c (i 0)) else if (i 1 : ℕ) = 2050 then wHi (LN m c (i 0)) else 0

theorem emb10 (t : Fin cfg0.N) (y : S512x2176.Idx) (hR : 512 * t.val + (y 0).val < 16384) :
    ((View.whole main_v27_0).slice (win0_10.rect t)).emb y = ix2 ⟨512 * t.val + (y 0).val, hR⟩ (y 1) := by
  blk_ext [idx t]

theorem final10 (c : Dev nD) : (dats m 0 c).arrAt 10 cfg0.N = rows m c := by
  refine (dats m 0 c).arrAt_eq_of_covers 10 _ (by decide +kernel) fun t _ y => ?_
  have hR : 512 * t.val + (y 0).val < 16384 := by
    have h1 : t.val < 32 := t.isLt
    have h2 : (y 0).val < 512 := (y 0).isLt
    omega
  have hb : outB (B0 m c t) (B1 m c t) (B2 m c t) (B3 m c t) (B4 m c t) (B5 m c t) (B6 m c t) (B7 m c t) (B8 m c t) y
      = rows m c (((View.whole main_v27_0).slice (win0_10.rect t)).emb y) := by
    rw [emb10 t y hR]
    refine Eq.trans ?_ (point10 m c t (y 0) ⟨512 * t.val + (y 0).val, hR⟩ rfl (y 1))
    congr 1
    funext a
    fin_cases a <;> rfl
  blk_simp
  rw [after0_10]
  by_cases h : t.val % 32 = 0
  · rw [outsAt0_A m c t h]
    dsimp only
    rw [out0_A_10_eq]
    exact hb
  · rw [outsAt0_B m c t h]
    dsimp only
    rw [out0_B_10_eq]
    exact hb

/-- What one point adds to the counts. -/
def part (c : Dev nD) (t : Fin cfg0.N) (j : S1x128.Idx) : EReal :=
  ∑ r : Fin 512, if BitVec.ofNat 32 (j 1) = word (LN m c ⟨512 * t.val + r.val, by have h1 : t.val < 32 := t.isLt; omega⟩) then 1 else 0

theorem point11 (c : Dev nD) (t : Fin cfg0.N) (v : S1x128.Idx → EReal) (j : S1x128.Idx) :
    k0_pay46 (F := Ideal) io (bB (k0_pay18 (B7 m c t)) (k0_pay19 (B8 m c t)) (k0_pay21 (hB (B0 m c t) (B1 m c t) (B2 m c t) (B3 m c t) (B4 m c t) (B5 m c t)) (B6 m c t))
      (k0_pay22 (hB (B0 m c t) (B1 m c t) (B2 m c t) (B3 m c t) (B4 m c t) (B5 m c t)) (B6 m c t) (B7 m c t))) v j
      = v j + part m c t j := by
  have hj : j = ix2 0 (j 1) := by
    funext a
    fin_cases a
    · exact Subsingleton.elim (α := Fin 1) _ _
    · rfl
  rw [hj]
  refine (read46 _ _ _ _ _ _).trans ?_
  refine congrArg (_ + ·) (Finset.sum_congr rfl fun r _ => ?_)
  rw [lanes_at m c t r ⟨512 * t.val + r.val, by have h1 : t.val < 32 := t.isLt; omega⟩ rfl]
  rfl

/-- The second result: how many rows each bucket has. -/
def counts (c : Dev nD) : S1x128.Idx → EReal := fun j =>
  ∑ R : Fin 16384, if BitVec.ofNat 32 (j 1) = word (LN m c R) then 1 else 0

theorem counts_eq (c : Dev nD) (q : ℕ) (hq : q = 0) (h : ∀ s : Fin 32, 32 * q + s.val < cfg0.N) (y : S1x128.Idx) :
    ∑ s : Fin 32, part m c ⟨32 * q + s.val, h s⟩ y = counts m c y := by
  subst hq
  show ∑ s : Fin 32, ∑ r : Fin 512, (if BitVec.ofNat 32 (y 1) = word (LN m c ⟨512 * (32 * 0 + s.val) + r.val, _⟩) then (1 : EReal) else 0) = ∑ R : Fin 16384, _
  refine Fin.sum_mul_add_congr fun s k hl => ?_
  have e : (⟨512 * (32 * 0 + s.val) + k.val, by omega⟩ : Fin 16384) = ⟨s.val * 512 + k.val, hl⟩ := Fin.ext (by show 512 * (32 * 0 + s.val) + k.val = s.val * 512 + k.val; omega)
  rw [e]

theorem read45 (j : S1x128.Idx) : k0_pay45 (F := Ideal) j = 0 := by
  pointwise [k0_pay45]

theorem final11 (c : Dev nD) : (dats m 0 c).arrAt 11 cfg0.N = counts m c := by
  refine (dats m 0 c).arrAt_eq_of_covers 11 _ (by decide +kernel) fun t hf y => ?_
  blk_simp
  rw [after0_11]
  rw [Pipeline.eq_sum_fin_of_reset_step_apply_of_flush (fun n h => (outsAt0 m c n h).2.1) 32 (fun _ => 0) (fun p j => part m c p j)
    (fun t h j => by
      rw [outsAt0_A m c t h]
      dsimp only
      rw [out0_A_11_eq]
      refine (point11 m c t _ j).trans ?_
      exact congrArg (· + part m c t j) (read45 j))
    (fun t h j => by
      rw [outsAt0_B m c t h]
      dsimp only
      rw [out0_B_11_eq]
      exact point11 m c t _ j) t ((flush0_11 t).mp hf) _, zero_add]
  have e : (win0_11.blk t).view.emb y = y := by
    blk_ext [idx t]
  rw [e]
  exact counts_eq m c _ (by have h1 : t.val < 32 := t.isLt; omega) _ y

theorem idx9 : ∀ t : Fin cfg0.N, win0_9.index t = ![0, t.val, 0, 0] ∧ win0_12.index t = ![t.val, 0, 0] := by decide +kernel

theorem final12 (c : Dev nD) : (dats m 0 c).arrAt 12 cfg0.N = fun i => a11 m c (ix4 0 (i 0) (i 1) (i 2)) := by
  refine (dats m 0 c).arrAt_eq_of_covers 12 _ (by decide +kernel) fun t _ y => ?_
  have hb : k0_pay47 (F := Ideal) (B9 m c t) y =
    a11 m c
      (ix4 0 (((View.whole main_v27_2).slice (win0_12.rect t)).emb y 0)
        (((View.whole main_v27_2).slice (win0_12.rect t)).emb y 1)
        (((View.whole main_v27_2).slice (win0_12.rect t)).emb y 2)) := by
    pointwise [k0_pay47]
    blk_ext [iblk, V, idx9 t]
  blk_simp
  rw [after0_12]
  by_cases h : t.val % 32 = 0
  · rw [outsAt0_A m c t h]
    dsimp only
    rw [out0_A_12_eq]
    exact hb
  · rw [outsAt0_B m c t h]
    dsimp only
    rw [out0_B_12_eq]
    exact hb

end Cert.Route
end
-- ==== Proof.Pick.lean ====
module

public import proofs.«01_k».proof.Proof.Row

@[expose] public section

/-! The routing by a search of the lanes is the routing by ranks, at finite logits. -/

noncomputable section
open Idealize.ShloMosaic
namespace Cert.Row

theorem low_bot : low = ⊥ := by
  simp [low, Ideal.ofBits, Ideal.ieee]

/-! ## The first and the second greatest entry -/

def IsFirst {n : ℕ} (f : Fin n → EReal) (i : Fin n) : Prop := ∀ j, f j ≤ f i ∧ (j < i → f j < f i)
def IsSecond {n : ℕ} (f : Fin n → EReal) (a i : Fin n) : Prop := i ≠ a ∧ ∀ j, j ≠ a → f j ≤ f i ∧ (j < i → f j < f i)

theorem exists_first_on {n : ℕ} (f : Fin n → EReal) (s : Finset (Fin n)) (hs : s.Nonempty) :
    ∃ i ∈ s, ∀ j ∈ s, f j ≤ f i ∧ (j < i → f j < f i) := by
  obtain ⟨i, hi, hm⟩ := s.exists_max_image f hs
  have ht : (s.filter fun x => f x = f i).Nonempty := ⟨i, by simp [hi]⟩
  have hk := Finset.min'_mem _ ht
  rw [Finset.mem_filter] at hk
  refine ⟨_, hk.1, fun j hj => ⟨by rw [hk.2]; exact hm j hj, fun hlt => ?_⟩⟩
  rw [hk.2]
  refine lt_of_le_of_ne (hm j hj) fun he => ?_
  exact absurd (Finset.min'_le _ j (by simp [hj, he])) (not_le.mpr hlt)

theorem exists_first {n : ℕ} (hn : 0 < n) (f : Fin n → EReal) : ∃ i, IsFirst f i := by
  obtain ⟨i, _, h⟩ := exists_first_on f Finset.univ ⟨⟨0, hn⟩, Finset.mem_univ _⟩
  exact ⟨i, fun j => h j (Finset.mem_univ _)⟩

theorem exists_second {n : ℕ} (hn : 1 < n) (f : Fin n → EReal) (a : Fin n) : ∃ i, IsSecond f a i := by
  have hne : (Finset.univ.erase a : Finset (Fin n)).Nonempty := by
    by_cases h : a = ⟨0, by omega⟩
    · exact ⟨⟨1, hn⟩, by rw [h]; simp⟩
    · exact ⟨⟨0, by omega⟩, by simp [Ne.symm h]⟩
  obtain ⟨i, hi, h⟩ := exists_first_on f _ hne
  exact ⟨i, (Finset.mem_erase.mp hi).1, fun j hj => h j (Finset.mem_erase.mpr ⟨hj, Finset.mem_univ _⟩)⟩

/-- The entries before one. -/
def before {n : ℕ} (f : Fin n → EReal) (i : Fin n) : Finset (Fin n) :=
  Finset.univ.filter fun x => f i < f x ∨ (f x = f i ∧ x < i)

theorem rank_card {n : ℕ} (f : Fin n → EReal) (i : Fin n) : rank f i = (((before f i).card : ℝ) : EReal) := by
  unfold rank before
  rw [Finset.sum_ite, Finset.sum_const_zero, add_zero, Finset.sum_const]
  simp

theorem rank_zero {n : ℕ} (f : Fin n → EReal) (i : Fin n) : rank f i = 0 ↔ before f i = ∅ := by
  rw [rank_card]
  norm_cast
  rw [Finset.card_eq_zero]

theorem rank_one {n : ℕ} (f : Fin n → EReal) (i : Fin n) : rank f i = 1 ↔ (before f i).card = 1 := by
  rw [rank_card]
  norm_cast

theorem mem_before {n : ℕ} (f : Fin n → EReal) (i x : Fin n) : x ∈ before f i ↔ f i < f x ∨ (f x = f i ∧ x < i) := by
  simp [before]

theorem rank_first {n : ℕ} {f : Fin n → EReal} {a : Fin n} (h : IsFirst f a) (i : Fin n) : rank f i = 0 ↔ i = a := by
  rw [rank_zero]
  constructor
  · intro he
    by_contra hne
    have hm : a ∉ before f i := by rw [he]; simp
    rw [mem_before, not_or, not_and] at hm
    have e : f a = f i := le_antisymm (not_lt.mp hm.1) (h i).1
    have hl : i < a := lt_of_le_of_ne (not_lt.mp (hm.2 e)) hne
    exact absurd ((h i).2 hl) (by rw [e]; exact lt_irrefl _)
  · rintro rfl
    refine Finset.eq_empty_of_forall_notMem fun x hx => ?_
    rw [mem_before] at hx
    rcases hx with hx | ⟨hx, hl⟩
    · exact absurd (h x).1 (not_le.mpr hx)
    · exact absurd ((h x).2 hl) (by rw [hx]; exact lt_irrefl _)

theorem rank_second {n : ℕ} {f : Fin n → EReal} {a b : Fin n} (h : IsFirst f a) (h2 : IsSecond f a b) (i : Fin n) : rank f i = 1 ↔ i = b := by
  have before_a : ∀ i, i ≠ a → a ∈ before f i := by
    intro i hne
    rw [mem_before]
    rcases lt_or_eq_of_le (h i).1 with hl | he
    · exact Or.inl hl
    · refine Or.inr ⟨he.symm, lt_of_le_of_ne (not_lt.mp fun hl => ?_) (Ne.symm hne)⟩
      exact absurd ((h i).2 hl) (by rw [he]; exact lt_irrefl _)
  rw [rank_one]
  constructor
  · intro hc
    have hia : i ≠ a := by
      rintro rfl
      have := (rank_zero f i).mp ((rank_first h i).mpr rfl)
      rw [this] at hc
      simp at hc
    by_contra hne
    have hba : b ∉ before f i := by
      intro hb
      obtain ⟨z, hz⟩ := Finset.card_eq_one.mp hc
      have e1 : a = z := by have := before_a i hia; rw [hz] at this; simpa using this
      have e2 : b = z := by rw [hz] at hb; simpa using hb
      exact h2.1 (e2.trans e1.symm)
    rw [mem_before, not_or, not_and] at hba
    have e : f b = f i := le_antisymm (not_lt.mp hba.1) (h2.2 i hia).1
    have hl : i < b := lt_of_le_of_ne (not_lt.mp (hba.2 e)) hne
    exact absurd ((h2.2 i hia).2 hl) (by rw [e]; exact lt_irrefl _)
  · rintro rfl
    rw [Finset.card_eq_one]
    refine ⟨a, Finset.eq_singleton_iff_unique_mem.mpr ⟨before_a i h2.1, fun x hx => ?_⟩⟩
    by_contra hne
    rw [mem_before] at hx
    rcases hx with hx | ⟨hx, hl⟩
    · exact absurd (h2.2 x hne).1 (not_le.mpr hx)
    · exact absurd ((h2.2 x hne).2 hl) (by rw [hx]; exact lt_irrefl _)

theorem pick_first {n : ℕ} {f : Fin n → EReal} {a : Fin n} (h : IsFirst f a) (v : Fin n → EReal) : pick (rank f) 0 v = v a := by
  unfold pick
  simp only [rank_first h]
  simp

theorem pick_second {n : ℕ} {f : Fin n → EReal} {a b : Fin n} (h : IsFirst f a) (h2 : IsSecond f a b) (v : Fin n → EReal) :
    pick (rank f) 1 v = v b := by
  unfold pick
  simp only [rank_second h h2]
  simp

/-! ## Maxima and lowest lanes -/

theorem fold_eq {n : ℕ} (f : Fin n → EReal) (i : Fin n) (h : ∀ j, f j ≤ f i) : Finset.fold max low f Finset.univ = f i := by
  rw [low_bot]
  refine le_antisymm ?_ ?_
  · rw [Finset.fold_max_le]
    exact ⟨bot_le, fun j _ => h j⟩
  · rw [Finset.le_fold_max]
    exact Or.inr ⟨i, Finset.mem_univ _, le_rfl⟩

theorem minsi_toInt (a b : BitVec 32) : (IntOp.minsi a b).toInt = min a.toInt b.toInt := by
  unfold IntOp.minsi
  rw [BitVec.slt_eq_decide]
  by_cases h : a.toInt < b.toInt
  · simp [h, le_of_lt h]
  · simp [h, not_lt.mp h]

theorem toInt_small (j : ℕ) (h : j < 1024) : (BitVec.ofNat 32 j).toInt = j := by
  rw [BitVec.toInt_ofNat']
  simp [Int.bmod]
  omega

theorem lowest_eq (f : Fin 128 → EReal) (x : EReal) (i : Fin 128) (hx : f i = x) (h : ∀ j, j < i → f j ≠ x) :
    lowest f x = BitVec.ofNat 32 i := by
  apply BitVec.eq_of_toInt_eq
  unfold lowest
  rw [← Finset.fold_hom (op := IntOp.minsi) (op' := min) (m := BitVec.toInt) minsi_toInt, toInt_small i (by omega)]
  refine le_antisymm ?_ ?_
  · rw [Finset.fold_min_le]
    refine Or.inr ⟨i, Finset.mem_univ _, ?_⟩
    rw [if_pos hx, toInt_small i (by omega)]
  · rw [Finset.le_fold_min]
    refine ⟨?_, fun j _ => ?_⟩
    · have : (2147483647#32 : BitVec 32).toInt = 2147483647 := by decide
      rw [this]; omega
    · by_cases hj : f j = x
      · rw [if_pos hj, toInt_small j (by omega)]
        have : ¬ j < i := fun hl => h j hl hj
        rw [Fin.lt_def] at this
        omega
      · rw [if_neg hj]
        have : (128#32 : BitVec 32).toInt = 128 := by decide
        rw [this]; omega

/-! ## Words -/

theorem word_lt : ∀ j : Fin 128, IntOp.cmpi .slt (BitVec.ofNat 32 (j : ℕ)) 8#32 = BitVec.ofBool (decide ((j : ℕ) < 8)) := by decide +kernel
theorem word_range : ∀ (g : Fin 8) (j : Fin 128),
    IntOp.andi (IntOp.cmpi .sge (BitVec.ofNat 32 (j : ℕ)) (IntOp.addi 8#32 (IntOp.muli (BitVec.ofNat 32 (g : ℕ)) 4#32)))
      (IntOp.cmpi .slt (BitVec.ofNat 32 (j : ℕ)) (IntOp.addi (IntOp.addi 8#32 (IntOp.muli (BitVec.ofNat 32 (g : ℕ)) 4#32)) 4#32))
      = BitVec.ofBool (decide (8 + 4 * (g : ℕ) ≤ j ∧ (j : ℕ) < 8 + 4 * g + 4)) := by decide +kernel
theorem word_eq : ∀ i j : Fin 128, IntOp.cmpi .eq (BitVec.ofNat 32 (j : ℕ)) (BitVec.ofNat 32 (i : ℕ)) = BitVec.ofBool (decide (j = i)) := by
  decide +kernel
theorem word_sub : ∀ (g : Fin 8) (e : Fin 4), IntOp.subi (BitVec.ofNat 32 (8 + 4 * (g : ℕ) + e)) (IntOp.addi 8#32 (IntOp.muli (BitVec.ofNat 32 (g : ℕ)) 4#32))
    = BitVec.ofNat 32 (e : ℕ) := by decide +kernel
theorem word_slt : ∀ a b : Fin 4, IntOp.cmpi .slt (BitVec.ofNat 32 (a : ℕ)) (BitVec.ofNat 32 (b : ℕ)) = BitVec.ofBool (decide (a < b)) := by decide +kernel
/-- The place of a pair of experts. -/
def place (a b : Fin 4) : ℕ :=
  if min a b = 2 ∧ max a b = 3 then 5 else if min a b = 1 ∧ max a b = 3 then 4 else if min a b = 1 ∧ max a b = 2 then 3
  else if min a b = 0 ∧ max a b = 3 then 2 else if min a b = 0 ∧ max a b = 2 then 1 else 0
theorem word_pair : ∀ (g : Fin 8) (a b : Fin 4), b ≠ a →
    (pairWord (BitVec.ofNat 32 (g : ℕ)) (BitVec.ofNat 32 (a : ℕ)) (BitVec.ofNat 32 (b : ℕ))).toInt = ((g : ℕ) * 6 + place a b : ℕ) := by
  decide +kernel

theorem select_bool {α : Type} (p : Prop) [Decidable p] (a b : α) : Scalar.select (BitVec.ofBool (decide p)) a b = if p then a else b := by
  by_cases h : p <;> simp [h, Scalar.select]

/-! ## Real exponentials -/

theorem exp_coe (r : ℝ) : Ideal.exp (r : EReal) = ((Real.exp r : ℝ) : EReal) := rfl
theorem div_of_ne (x y : EReal) (h : y ≠ 0) : Ideal.div x y = x * y⁻¹ := if_neg h
theorem exp_zero' : Ideal.exp 0 = 1 := by
  show Ideal.exp ((0 : ℝ) : EReal) = 1
  rw [exp_coe]; simp
theorem one_add_exp (r : ℝ) : (1 : EReal) + ((Real.exp r : ℝ) : EReal) ≠ 0 := by
  have : (1 : EReal) + ((Real.exp r : ℝ) : EReal) = ((1 + Real.exp r : ℝ) : EReal) := by norm_cast
  rw [this]
  have h : (1 + Real.exp r : ℝ) ≠ 0 := by positivity
  exact_mod_cast h

theorem num_val {n : ℕ} (hn : n ≤ 1024) (j : Fin n) : num j = (((j : ℕ) : ℝ) : EReal) := by
  unfold num
  rw [toInt_small j (by omega)]
  simp

theorem num_lt (a b : Fin 4) : num a < num b ↔ a < b := by
  rw [num_val (by omega), num_val (by omega), EReal.coe_lt_coe_iff, Nat.cast_lt, Fin.lt_def]

theorem pairNo_place : ∀ a b : Fin 4, pairNo (min (num a) (num b)) (max (num a) (num b)) = ((place a b : ℝ) : EReal) := by
  intro a b
  have key : ∀ x y : ℕ, pairNo ((x : ℝ) : EReal) ((y : ℝ) : EReal) =
      (((if x = 2 ∧ y = 3 then 5 else if x = 1 ∧ y = 3 then 4 else if x = 1 ∧ y = 2 then 3 else if x = 0 ∧ y = 3 then 2 else if x = 0 ∧ y = 2 then 1 else 0 : ℕ) : ℝ) : EReal) := by
    intro x y
    have e : ∀ x k : ℕ, (((x : ℝ) : EReal) = ((k : ℝ) : EReal)) ↔ x = k := fun x k => by rw [EReal.coe_eq_coe_iff, Nat.cast_inj]
    have e2 := fun x => e x 2
    have e3 := fun x => e x 3
    have e1 := fun x => e x 1
    have e0 := fun x => e x 0
    simp only [Nat.cast_ofNat, Nat.cast_one, Nat.cast_zero, EReal.coe_one, EReal.coe_zero] at e2 e3 e1 e0
    unfold pairNo
    simp only [e2, e3, e1, e0]
    split_ifs <;> simp
  have hmin : min (num a) (num b) = (((min a b : Fin 4) : ℕ) : ℝ) := by
    rcases le_total a b with h | h
    · rw [min_eq_left h, min_eq_left (not_lt.mp fun hl => absurd ((num_lt b a).mp hl) (not_lt.mpr h)), num_val (by omega)]
    · rw [min_eq_right h, min_eq_right (not_lt.mp fun hl => absurd ((num_lt a b).mp hl) (not_lt.mpr h)), num_val (by omega)]
  have hmax : max (num a) (num b) = (((max a b : Fin 4) : ℕ) : ℝ) := by
    rcases le_total a b with h | h
    · rw [max_eq_right h, max_eq_right (not_lt.mp fun hl => absurd ((num_lt b a).mp hl) (not_lt.mpr h)), num_val (by omega)]
    · rw [max_eq_left h, max_eq_left (not_lt.mp fun hl => absurd ((num_lt a b).mp hl) (not_lt.mpr h)), num_val (by omega)]
  rw [hmin, hmax, key]
  congr 2
  clear hmin hmax key
  revert a b
  decide +kernel

theorem sum_split (f : Fin 128 → EReal) : ∑ x, f x = ∑ i : Fin 8, f (Fin.castAdd 120 i) + ∑ i : Fin 120, f (Fin.natAdd 8 i) :=
  Fin.sum_univ_add (a := 8) (b := 120) f

theorem coe_word (g p : ℕ) : ((((g * 6 + p : ℕ) : ℤ) : ℝ) : EReal) = ((g : ℝ) : EReal) * ((6 : ℝ) : EReal) + ((p : ℝ) : EReal) := by
  rw [← EReal.coe_mul, ← EReal.coe_add, EReal.coe_eq_coe_iff]
  push_cast
  ring

/-! ## The two routings agree -/

theorem wt_zero (w : EReal) (s : Fin 4 → EReal) (a b : Fin 4) (ha : IsFirst s a) (hb : IsSecond s a b) (x y : ℝ) (hx : s a = x) (hy : s b = y) :
    wt w s 0 = Ideal.div w (1 + Ideal.exp (s b - s a)) ∧ wt w s 1 = Ideal.div (w * Ideal.exp (s b - s a)) (1 + Ideal.exp (s b - s a)) := by
  have hle : s b ≤ s a := (ha b).1
  have hm : Finset.fold max low (two (s a) (s b)) Finset.univ = s a := fold_eq (two (s a) (s b)) 0 (fun j => by
    unfold two
    split_ifs with h h' <;> simp_all)
  have hd : s b - s a = ((y - x : ℝ) : EReal) := by rw [hx, hy]; norm_cast
  have h0 : s a - s a = 0 := by rw [hx, ← EReal.coe_sub, sub_self]; rfl
  have hS : ∑ n, Ideal.exp (two (s a) (s b) n - s a) = 1 + Ideal.exp (s b - s a) := by
    rw [Fin.sum_univ_two]
    show Ideal.exp (s a - s a) + Ideal.exp (s b - s a) = _
    rw [h0, exp_zero']
  have hne : (1 : EReal) + Ideal.exp (s b - s a) ≠ 0 := by rw [hd, exp_coe]; exact one_add_exp _
  unfold wt soft
  rw [pick_first ha, pick_second ha hb, hm, hS]
  rw [div_of_ne _ _ hne, div_of_ne _ _ hne, div_of_ne _ _ hne, div_of_ne _ _ hne]
  constructor
  · show w * (Ideal.exp (s a - s a) * _) = _
    rw [h0, exp_zero', one_mul]
  · show w * (Ideal.exp (s b - s a) * _) = _
    rw [mul_assoc]

theorem route (L : Fin 128 → EReal) (G : Fin 8 → EReal) (E : Fin 8 → Fin 4 → EReal)
    (hG : ∀ g : Fin 8, L ⟨g, by omega⟩ = G g) (hE : ∀ (g : Fin 8) (e : Fin 4), L ⟨8 + 4 * g + e, by omega⟩ = E g e)
    (G' : Fin 8 → ℝ) (E' : Fin 8 → Fin 4 → ℝ) (fG : ∀ g, G g = G' g) (fE : ∀ g e, E g e = E' g e) :
    (((word L).toInt : ℝ) : EReal) = bucket (grp G) (esel G E)
    ∧ wLo L = (if first (esel G E) < second (esel G E) then wt (gw G) (esel G E) 0 else wt (gw G) (esel G E) 1)
    ∧ wHi L = (if first (esel G E) < second (esel G E) then wt (gw G) (esel G E) 1 else wt (gw G) (esel G E) 0) := by
  obtain ⟨g, hg⟩ := exists_first (by omega) G
  have hes : esel G E = E g := by
    funext e
    unfold esel
    rw [pick_first hg]
  have hgrp : grp G = num g := pick_first hg _
  have hgw : gw G = soft G g := pick_first hg _
  obtain ⟨a, ha⟩ := exists_first (by omega) (E g)
  obtain ⟨b, hb⟩ := exists_second (by omega) (E g) a
  have hf : first (E g) = num a := pick_first ha _
  have hs : second (E g) = num b := pick_second ha hb _
  -- the group
  have h24 : ∀ j : Fin 128, m24 L j = if (j : ℕ) < 8 then L j else ⊥ := by
    intro j
    unfold m24
    rw [word_lt, select_bool, low_bot]
  have h24' : ∀ (j : Fin 128) (h : (j : ℕ) < 8), m24 L j = G ⟨j, h⟩ := fun j h => by rw [h24, if_pos h]; exact hG ⟨j, h⟩
  have h24g : m24 L ⟨g, by omega⟩ = G g := h24' _ g.2
  have h25 : m25 L = G g := by
    rw [← h24g]
    refine fold_eq _ _ fun j => ?_
    rw [h24g]
    by_cases h : (j : ℕ) < 8
    · rw [h24' j h]; exact (hg _).1
    · rw [h24, if_neg h]; exact bot_le
  have h26 : m26 L = BitVec.ofNat 32 (g : ℕ) := by
    unfold m26
    rw [h25]
    refine lowest_eq _ _ ⟨g, by omega⟩ h24g fun j hj => ?_
    have hj' : (j : ℕ) < g := hj
    rw [h24' j (by omega)]
    exact ne_of_lt ((hg ⟨j, by omega⟩).2 hj')
  have h27 : m27 L = soft G g := by
    unfold m27 soft
    rw [fold_eq G g fun j => (hg j).1, h25]
    have h0 : G g - G g = 0 := by rw [fG, ← EReal.coe_sub, sub_self]; rfl
    rw [h0, exp_zero']
    refine congrArg (Ideal.div 1) ?_
    refine (sum_split (fun x : Fin 128 => Ideal.exp (m24 L x - G g))).trans ?_
    have hz : ∑ i : Fin 120, Ideal.exp (m24 L (Fin.natAdd 8 i) - G g) = 0 := by
      refine Finset.sum_eq_zero fun i _ => ?_
      have : m24 L (Fin.natAdd 8 i) = ⊥ := by rw [h24]; exact if_neg (by simp)
      rw [this, fG]
      rfl
    have hl : ∀ i : Fin 8, m24 L (Fin.castAdd 120 i) = G i := fun i => h24' (Fin.castAdd 120 i) i.2
    rw [hz, add_zero]
    exact Finset.sum_congr rfl fun i _ => by rw [hl]
  -- the experts
  have h28 : m28 L = IntOp.addi 8#32 (IntOp.muli (BitVec.ofNat 32 (g : ℕ)) 4#32) := by unfold m28; rw [h26]
  have h29 : ∀ j : Fin 128, m29 L j = if 8 + 4 * (g : ℕ) ≤ j ∧ (j : ℕ) < 8 + 4 * g + 4 then L j else ⊥ := by
    intro j
    unfold m29
    rw [h28, word_range, select_bool, low_bot]
  have h29' : ∀ (j : Fin 128) (e : Fin 4), (j : ℕ) = 8 + 4 * g + e → m29 L j = E g e := by
    intro j e h
    rw [h29, if_pos (by omega), ← hE g e]
    exact congrArg L (Fin.ext h)
  have h29c : ∀ j : Fin 128, (∃ e : Fin 4, (j : ℕ) = 8 + 4 * g + e) ∨ m29 L j = ⊥ := by
    intro j
    by_cases h : 8 + 4 * (g : ℕ) ≤ j ∧ (j : ℕ) < 8 + 4 * g + 4
    · exact Or.inl ⟨⟨j - (8 + 4 * g), by omega⟩, by show (j : ℕ) = 8 + 4 * g + (j - (8 + 4 * g)); omega⟩
    · exact Or.inr (by rw [h29, if_neg h])
  have hlane : ∀ e : Fin 4, 8 + 4 * (g : ℕ) + e < 128 := fun e => by omega
  have hEb : ∀ e, (⊥ : EReal) ≠ E g e := fun e => by rw [fE]; exact (EReal.coe_ne_bot _).symm
  have h30 : m30 L = E g a := by
    rw [← h29' ⟨_, hlane a⟩ a rfl]
    refine fold_eq _ _ fun j => ?_
    rw [h29' ⟨_, hlane a⟩ a rfl]
    rcases h29c j with ⟨e, he⟩ | he
    · rw [h29' j e he]; exact (ha e).1
    · rw [he]; exact bot_le
  have h33 : m33 L = BitVec.ofNat 32 (8 + 4 * (g : ℕ) + a) := by
    unfold m33
    rw [h30]
    refine lowest_eq _ _ ⟨_, hlane a⟩ (h29' _ a rfl) fun j hj => ?_
    have hj' : (j : ℕ) < 8 + 4 * g + a := hj
    rcases h29c j with ⟨e, he⟩ | he
    · rw [h29' j e he]
      exact ne_of_lt ((ha e).2 (by rw [Fin.lt_def]; omega))
    · rw [he]; exact hEb a
  have h34 : ∀ j : Fin 128, m34 L j = if j = ⟨_, hlane a⟩ then ⊥ else m29 L j := by
    intro j
    unfold m34
    rw [h33, word_eq ⟨_, hlane a⟩ j, select_bool, low_bot]
  have h34' : ∀ (j : Fin 128) (e : Fin 4), e ≠ a → (j : ℕ) = 8 + 4 * g + e → m34 L j = E g e := by
    intro j e hne h
    rw [h34, if_neg, h29' j e h]
    intro hj
    apply hne
    have := congrArg Fin.val hj
    simp only at this
    exact Fin.ext (by omega)
  have h34c : ∀ j : Fin 128, (∃ e : Fin 4, e ≠ a ∧ (j : ℕ) = 8 + 4 * g + e) ∨ m34 L j = ⊥ := by
    intro j
    rcases h29c j with ⟨e, he⟩ | he
    · by_cases h : e = a
      · subst h
        exact Or.inr (by rw [h34, if_pos (Fin.ext he)])
      · exact Or.inl ⟨e, h, he⟩
    · refine Or.inr ?_
      rw [h34, he, ite_self]
  have h35 : m35 L = E g b := by
    rw [← h34' ⟨_, hlane b⟩ b hb.1 rfl]
    refine fold_eq _ _ fun j => ?_
    rw [h34' ⟨_, hlane b⟩ b hb.1 rfl]
    rcases h34c j with ⟨e, hne, he⟩ | he
    · rw [h34' j e hne he]; exact (hb.2 e hne).1
    · rw [he]; exact bot_le
  have h40 : lowest (m34 L) (m35 L) = BitVec.ofNat 32 (8 + 4 * (g : ℕ) + b) := by
    rw [h35]
    refine lowest_eq _ _ ⟨_, hlane b⟩ (h34' _ b hb.1 rfl) fun j hj => ?_
    have hj' : (j : ℕ) < 8 + 4 * g + b := hj
    rcases h34c j with ⟨e, hne, he⟩ | he
    · rw [h34' j e hne he]
      exact ne_of_lt ((hb.2 e hne).2 (by rw [Fin.lt_def]; omega))
    · rw [he]; exact hEb b
  have h39 : m39 L = BitVec.ofNat 32 (a : ℕ) := by unfold m39; rw [h33, h28, word_sub]
  have h40' : m40 L = BitVec.ofNat 32 (b : ℕ) := by unfold m40; rw [h40, h28, word_sub]
  obtain ⟨w0, w1⟩ := wt_zero (gw G) (E g) a b ha hb (E' g a) (E' g b) (fE g a) (fE g b)
  have h37 : m37 L = wt (gw G) (E g) 0 := by
    rw [w0]; unfold m37 m36; rw [h27, h30, h35, hgw]
  have h38 : m38 L = wt (gw G) (E g) 1 := by
    rw [w1]; unfold m38 m36; rw [h27, h30, h35, hgw]
  rw [hes, hf, hs]
  refine ⟨?_, ?_, ?_⟩
  · unfold word bucket
    rw [h26, h39, h40', word_pair g a b hb.1, hf, hs, hgrp, pairNo_place, num_val (by omega)]
    exact coe_word _ _
  · unfold wLo
    rw [h39, h40', word_slt, select_bool, h37, h38]
    simp only [num_lt]
  · unfold wHi
    rw [h39, h40', word_slt, select_bool, h37, h38]
    simp only [num_lt]

end Cert.Row
end
-- ==== Proof.Finite.lean ====
module

public import proofs.«01_k».proof.Proof.Pick

@[expose] public section

/-! A row of real numbers stays a row of real numbers. -/

noncomputable section
open Idealize.ShloMosaic
namespace Cert.Row

/-- An extended real that is a real number. -/
def Re (x : EReal) : Prop := ∃ r : ℝ, x = (r : EReal)

theorem Re.add {x y : EReal} (hx : Re x) (hy : Re y) : Re (x + y) := by
  obtain ⟨a, rfl⟩ := hx
  obtain ⟨b, rfl⟩ := hy
  exact ⟨a + b, by push_cast; rfl⟩
theorem Re.mul {x y : EReal} (hx : Re x) (hy : Re y) : Re (x * y) := by
  obtain ⟨a, rfl⟩ := hx
  obtain ⟨b, rfl⟩ := hy
  exact ⟨a * b, by push_cast; rfl⟩
theorem Re.sub {x y : EReal} (hx : Re x) (hy : Re y) : Re (x - y) := by
  obtain ⟨a, rfl⟩ := hx
  obtain ⟨b, rfl⟩ := hy
  exact ⟨a - b, by push_cast; rfl⟩
theorem Re.sub_self {x : EReal} (hx : Re x) : x - x = 0 := by
  obtain ⟨a, rfl⟩ := hx
  rw [← EReal.coe_sub]
  simp
theorem coe_sum {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]
theorem Re.sum {n : ℕ} {f : Fin n → EReal} (h : ∀ i, Re (f i)) : Re (∑ i, f i) := by
  choose g hg using h
  simp only [hg]
  exact ⟨_, coe_sum g⟩
theorem Re.fold {n : ℕ} (hn : 0 < n) {f : Fin n → EReal} (h : ∀ i, Re (f i)) : Re (Finset.fold max low f Finset.univ) := by
  obtain ⟨i, hi⟩ := exists_first hn f
  rw [fold_eq f i fun j => (hi j).1]
  exact h i
theorem div_coe (a b : ℝ) (hb : b ≠ 0) : Ideal.div (a : EReal) (b : EReal) = ((a / b : ℝ) : EReal) := by
  rw [div_of_ne _ _ (by exact_mod_cast hb), ← EReal.coe_inv, ← EReal.coe_mul, div_eq_mul_inv]

theorem soft_re {n : ℕ} (hn : 0 < n) {s : Fin n → EReal} (h : ∀ i, Re (s i)) (b : Fin n) : Re (soft s b) := by
  unfold soft
  obtain ⟨M, hM⟩ := Re.fold hn h
  choose g hg using h
  rw [hM]
  have e : ∀ i, Ideal.exp (s i - (M : EReal)) = ((Real.exp (g i - M) : ℝ) : EReal) := fun i => by
    rw [hg i, ← EReal.coe_sub, exp_coe]
  simp only [e]
  rw [coe_sum, div_coe]
  · exact ⟨_, rfl⟩
  · have : 0 < ∑ i, Real.exp (g i - M) := Finset.sum_pos (fun i _ => Real.exp_pos _) ⟨⟨0, hn⟩, Finset.mem_univ _⟩
    exact this.ne'

theorem const_mean : Ideal.ofBits .f32 1157627904#32 = ((2048 : ℝ) : EReal) := by
  simp [Ideal.ofBits, Ideal.ieee]
  rw [← EReal.coe_mul]; norm_num
theorem const_eps : ∃ e : ℝ, 0 < e ∧ Ideal.ofBits .f32 897988541#32 = (e : EReal) := by
  refine ⟨_, ?_, by simp [Ideal.ofBits, Ideal.ieee]; rw [← EReal.coe_mul]⟩
  positivity
theorem const_scale : Re (Ideal.ofBits .f32 1026884851#32) := by
  refine ⟨_, by simp [Ideal.ofBits, Ideal.ieee]; rw [← EReal.coe_mul]⟩

theorem rms_re {x g : Fin 2048 → EReal} (hx : ∀ i, Re (x i)) (hg : ∀ i, Re (g i)) (j : Fin 2048) : Re (rms x g j) := by
  unfold rms
  refine ((hx j).mul ?_).mul (hg j)
  choose y hy using hx
  obtain ⟨e, he, hc⟩ := const_eps
  have es : ∀ i, x i * x i = ((y i * y i : ℝ) : EReal) := fun i => by rw [hy i]; push_cast; rfl
  simp only [es]
  rw [coe_sum, const_mean, hc, div_coe _ _ (by norm_num), ← EReal.coe_add]
  have hp : 0 < (∑ i, y i * y i) / 2048 + e := by
    have : 0 ≤ ∑ i, y i * y i := Finset.sum_nonneg fun i _ => mul_self_nonneg _
    positivity
  refine ⟨(Real.sqrt ((∑ i, y i * y i) / 2048 + e))⁻¹, ?_⟩
  show (if _ then _ else if _ then _ else _) = _
  rw [if_neg (not_lt.mpr hp.le), if_neg hp.ne']

theorem score_re {xn : Fin 2048 → EReal} {wq : Fin 2048 → Fin 2048 → EReal} {k : Fin 256 → Fin 2048 → EReal}
    (hx : ∀ i, Re (xn i)) (hw : ∀ i j, Re (wq i j)) (hk : ∀ i j, Re (k i j)) (hd : Fin 4) (b : Fin 256) : Re (score xn wq k hd b) :=
  (Re.sum fun a => (Re.sum fun c => (hx c).mul (hw _ _)).mul (hk _ _)).mul const_scale

theorem att_re {xn : Fin 2048 → EReal} {wq : Fin 2048 → Fin 2048 → EReal} {k v : Fin 256 → Fin 2048 → EReal}
    (hx : ∀ i, Re (xn i)) (hw : ∀ i j, Re (wq i j)) (hk : ∀ i j, Re (k i j)) (hv : ∀ i j, Re (v i j)) (l : Fin 2048) : Re (att xn wq k v l) :=
  Re.sum fun b => (soft_re (by omega) (fun i => score_re hx hw hk _ i) b).mul (hv _ _)

theorem hrow_re {h g : Fin 2048 → EReal} {wq : Fin 2048 → Fin 2048 → EReal} {k v : Fin 256 → Fin 2048 → EReal} {wo : Fin 2048 → Fin 2048 → EReal}
    (hh : ∀ i, Re (h i)) (hg : ∀ i, Re (g i)) (hw : ∀ i j, Re (wq i j)) (hk : ∀ i j, Re (k i j)) (hv : ∀ i j, Re (v i j)) (ho : ∀ i j, Re (wo i j))
    (j : Fin 2048) : Re (hrow h g wq k v wo j) :=
  (hh j).add (Re.sum fun l => (att_re (fun i => rms_re hh hg i) hw hk hv l).mul (ho _ _))

/-- At real numbers the two correcting sums of a lane vanish. -/
theorem lane_re {xt : Fin 2048 → EReal} {w : Fin 2048 → Fin 256 → EReal} {b : Fin 128 → EReal} (j : Fin 128)
    (hx : ∀ i, Re (xt i)) (hz : ∀ x, w x ⟨128 + j, by omega⟩ = 0) :
    lane xt w b j = ∑ x, xt x * w x ⟨j, by omega⟩ + b j := by
  unfold lane
  have e : ∀ x, xt x - xt x = 0 := fun x => (hx x).sub_self
  simp only [hz, e, mul_zero, zero_mul, Finset.sum_const_zero, add_zero]

/-- A number whose absolute value is below infinity is real. -/
theorem re_of_abs {x t : EReal} (ht : t = ⊤) (h : Ideal.cmp .olt (max x (-x)) t = 1#1) : Re x := by
  have hl : max x (-x) < t := by
    by_contra hn
    have : Ideal.cmp .olt (max x (-x)) t = 0#1 := by
      show BitVec.ofBool (decide _) = _
      rw [decide_eq_false hn]
      rfl
    rw [this] at h
    exact absurd h (by decide)
  rw [ht] at hl
  induction x with
  | bot => simp at hl
  | top => simp at hl
  | coe r => exact ⟨r, rfl⟩
theorem top32 : Ideal.ofBits .f32 0x7F800000#32 = ⊤ := by
  simp [Ideal.ofBits, Ideal.ieee]
theorem top16 : Ideal.ofBits .bf16 0x7F80#16 = ⊤ := by
  simp [Ideal.ofBits, Ideal.ieee]

end Cert.Row
end
-- ==== Proof.RefA.lean ====
module

public import proofs.«01_k».proof.Proof.Gen.ReferenceIdeal.Read
public import proofs.«01_k».proof.Proof.Row
public import Idealize.ShloMosaic.Lib.Pointwise

@[expose] public section

set_option maxRecDepth 16384

noncomputable section
open Idealize.ShloMosaic Idealize.ShloMosaic.TcCoe Idealize.SL.Sem Idealize.ShloMosaic.StableHlo
open Cert.Row Cert.ReferenceIdeal Cert.ReferenceIdeal.Gen Cert.ReferenceIdeal.Read
namespace Cert.RouteRef

/-- The value every maximum starts from is the least. -/
theorem low_eq : low = ⊥ := by
  simp [low, Ideal.ofBits, Ideal.ieee]

theorem max_low (x : EReal) : max low x = x := by
  rw [low_eq]; exact max_eq_right bot_le

/-- A maximum along the last of four axes. -/
theorem reduce26 (y : S2x4x8192x256.Idx → EReal) (v : S_.Idx → EReal) (b : Fin 2) (hd : Fin 4) (r : Fin 8192) :
    Host.reduce (FloatOps.maximumf (F := Ideal) (φ := .f32)) y v reducesTo_S2x4x8192x256_S2x4x8192_d3 h_S_ (ix3 b hd r)
      = Finset.fold max (v (Shape.Idx.first h_S_)) (fun c => y (ix4 b hd r c)) Finset.univ := by
  rw [Host.reduce_eq_fold_single (FloatOps.maximumf (F := Ideal) (φ := .f32)) y v reducesTo_S2x4x8192x256_S2x4x8192_d3 (by decide) h_S_]
  refine congrArg (fun g => Finset.fold max (v (Shape.Idx.first h_S_)) g Finset.univ) (funext fun c => ?_)
  exact congrArg y (funext fun a => Fin.ext (by match a with | ⟨0, _⟩ => rfl | ⟨1, _⟩ => rfl | ⟨2, _⟩ => rfl | ⟨3, _⟩ => rfl))
theorem r14 (x0 : (⟨S2x8192x2048, .f32⟩ : BufTy).Contents (Elt Ideal)) (x1 : (⟨S4x2048, .f32⟩ : BufTy).Contents (Elt Ideal)) (b : Fin 2) (r : Fin 8192) (j : Fin 2048) : val_main_v14 (F := Ideal) x0 x1 (ix3 b r j) =
    rms (fun c => x0 (ix3 b r c)) (fun c => x1 (ix2 0 c)) j := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, rms]

theorem r25 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 : (⟨S2x256x2048, .bf16⟩ : BufTy).Contents (Elt Ideal)) (b : Fin 2) (hd : Fin 4) (r : Fin 8192) (c : Fin 256) : val_main_v25 (F := Ideal) x0 x1 x2 x3 (ix4 b hd r c) =
    (score (rms (fun c => x0 (ix3 b r c)) (fun c => x1 (ix2 0 c))) (fun a b => x2 (ix3 0 a b)) (fun a l => x3 (ix3 b a l)) hd) c := by
  pointwise [val_main_v15, val_main_v16, val_main_v17, val_main_v18, val_main_v19, val_main_v20, val_main_v23, val_main_cst_2, val_main_v24, val_main_v25, score, r14]
  simp only [Nat.mul_comm 512]

theorem r26 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 : (⟨S2x256x2048, .bf16⟩ : BufTy).Contents (Elt Ideal)) (b : Fin 2) (hd : Fin 4) (r : Fin 8192) : val_main_v26 (F := Ideal) x0 x1 x2 x3 (ix3 b hd r) =
    Finset.fold max low (score (rms (fun c => x0 (ix3 b r c)) (fun c => x1 (ix2 0 c))) (fun a b => x2 (ix3 0 a b)) (fun a l => x3 (ix3 b a l)) hd) Finset.univ := by
  unfold val_main_v26
  rw [reduce26]
  simp only [r25]
  rfl

theorem r28 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 : (⟨S2x256x2048, .bf16⟩ : BufTy).Contents (Elt Ideal)) (b : Fin 2) (hd : Fin 4) (r : Fin 8192) : val_main_v28 (F := Ideal) x0 x1 x2 x3 (ix3 b hd r) =
    Finset.fold max low (score (rms (fun c => x0 (ix3 b r c)) (fun c => x1 (ix2 0 c))) (fun a b => x2 (ix3 0 a b)) (fun a l => x3 (ix3 b a l)) hd) Finset.univ := by
  rw [val_main_v28_apply, r26]
  exact max_low _

theorem r32 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 : (⟨S2x256x2048, .bf16⟩ : BufTy).Contents (Elt Ideal)) (b : Fin 2) (hd : Fin 4) (r : Fin 8192) (c : Fin 256) : val_main_v32 (F := Ideal) x0 x1 x2 x3 (ix4 b hd r c) =
    Ideal.exp ((score (rms (fun c => x0 (ix3 b r c)) (fun c => x1 (ix2 0 c))) (fun a b => x2 (ix3 0 a b)) (fun a l => x3 (ix3 b a l)) hd) c - Finset.fold max low (score (rms (fun c => x0 (ix3 b r c)) (fun c => x1 (ix2 0 c))) (fun a b => x2 (ix3 0 a b)) (fun a l => x3 (ix3 b a l)) hd) Finset.univ) := by
  pointwise [val_main_v29, val_main_v30, val_main_v31, val_main_v32, r25, r28]

theorem r36 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 : (⟨S2x256x2048, .bf16⟩ : BufTy).Contents (Elt Ideal)) (b : Fin 2) (hd : Fin 4) (r : Fin 8192) (c : Fin 256) : val_main_v36 (F := Ideal) x0 x1 x2 x3 (ix4 b hd r c) =
    soft (score (rms (fun c => x0 (ix3 b r c)) (fun c => x1 (ix2 0 c))) (fun a b => x2 (ix3 0 a b)) (fun a l => x3 (ix3 b a l)) hd) c := by
  pointwise [val_main_v34, val_main_v35, val_main_v36, val_main_v33, val_main_cst_5, soft, r32]

theorem r39 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (b : Fin 2) (r : Fin 8192) (j : Fin 2048) : val_main_v39 (F := Ideal) x0 x1 x2 x3 x4 (ix3 b r j) =
    att (rms (fun c => x0 (ix3 b r c)) (fun c => x1 (ix2 0 c))) (fun a b => x2 (ix3 0 a b)) (fun a l => x3 (ix3 b a l)) (fun a l => x4 (ix3 b a l)) j := by
  pointwise [val_main_v21, val_main_v22, val_main_v37, val_main_v38, val_main_v39, r36, att]
  simp only [mul_comm]

theorem r43 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (b : Fin 2) (r : Fin 8192) (j : Fin 2048) : val_main_v43 (F := Ideal) x0 x1 x2 x3 x4 x5 (ix3 b r j) =
    (hrow (fun c => x0 (ix3 b r c)) (fun c => x1 (ix2 0 c)) (fun a b => x2 (ix3 0 a b)) (fun a l => x3 (ix3 b a l)) (fun a l => x4 (ix3 b a l)) (fun a b => x5 (ix3 0 a b))) j := by
  pointwise [val_main_v40, val_main_v41, val_main_v42, val_main_v43, r39, hrow]

theorem r58 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (b : Fin 2) (r : Fin 8192) (j : Fin 2048) : val_main_v58 (F := Ideal) x0 x1 x2 x3 x4 x5 x6 (ix3 b r j) =
    rms (hrow (fun c => x0 (ix3 b r c)) (fun c => x1 (ix2 0 c)) (fun a b => x2 (ix3 0 a b)) (fun a l => x3 (ix3 b a l)) (fun a l => x4 (ix3 b a l)) (fun a b => x5 (ix3 0 a b))) (fun c => x6 (ix2 0 c)) j := by
  pointwise [val_main_v44, val_main_v45, val_main_v46, val_main_cst_6, val_main_v47, val_main_v48, val_main_cst_7, val_main_v49, val_main_v50, val_main_cst_8, val_main_v51, val_main_v52, val_main_v53, val_main_v54, val_main_v55, val_main_v56, val_main_v57, val_main_v58, rms, r43]

end Cert.RouteRef
end
-- ==== Proof.RefB.lean ====
module

public import proofs.«01_k».proof.Proof.Gen.ReferenceIdeal.Read
public import proofs.«01_k».proof.Proof.Row
public import proofs.«01_k».proof.Proof.RefA
public import Idealize.ShloMosaic.Lib.Pointwise

@[expose] public section

set_option maxRecDepth 16384

noncomputable section
open Idealize.ShloMosaic Idealize.ShloMosaic.TcCoe Idealize.SL.Sem Idealize.ShloMosaic.StableHlo
open Cert.Row Cert.ReferenceIdeal Cert.ReferenceIdeal.Gen Cert.ReferenceIdeal.Read
namespace Cert.RouteRef

/-- The constant zero. -/
theorem zid : id (constant (F := Ideal) S_ FTy.f32 0#32) ix0 = (0 : EReal) := by
  show Ideal.ofBits .f32 0#32 = 0
  simp [Ideal.ofBits, Ideal.ieee]

/-- A maximum along the last of two axes. -/
theorem reduce94 (y : S16384x8.Idx → EReal) (v : S_.Idx → EReal) (R : Fin 16384) :
    Host.reduce (FloatOps.maximumf (F := Ideal) (φ := .f32)) y v reducesTo_S16384x8_S16384_d1 h_S_ (ix1 R)
      = Finset.fold max (v (Shape.Idx.first h_S_)) (fun c => y (ix2 R c)) Finset.univ := by
  rw [Host.reduce_eq_fold_single (FloatOps.maximumf (F := Ideal) (φ := .f32)) y v reducesTo_S16384x8_S16384_d1 (by decide) h_S_]
  refine congrArg (fun g => Finset.fold max (v (Shape.Idx.first h_S_)) g Finset.univ) (funext fun c => ?_)
  exact congrArg y (funext fun a => Fin.ext (by match a with | ⟨0, _⟩ => rfl | ⟨1, _⟩ => rfl))
theorem reduce161 (y : S16384x2.Idx → EReal) (v : S_.Idx → EReal) (R : Fin 16384) :
    Host.reduce (FloatOps.maximumf (F := Ideal) (φ := .f32)) y v reducesTo_S16384x2_S16384_d1 h_S_ (ix1 R)
      = Finset.fold max (v (Shape.Idx.first h_S_)) (fun c => y (ix2 R c)) Finset.univ := by
  rw [Host.reduce_eq_fold_single (FloatOps.maximumf (F := Ideal) (φ := .f32)) y v reducesTo_S16384x2_S16384_d1 (by decide) h_S_]
  refine congrArg (fun g => Finset.fold max (v (Shape.Idx.first h_S_)) g Finset.univ) (funext fun c => ?_)
  exact congrArg y (funext fun a => Fin.ext (by match a with | ⟨0, _⟩ => rfl | ⟨1, _⟩ => rfl))
theorem r87 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (R : Fin 16384) (i : Fin 8) : val_main_v87 (F := Ideal) x0 x1 x2 x3 x4 x5 x6 x7 x8 (ix2 R i) =
    rank (fun j => val_main_v67 (F := Ideal) x0 x1 x2 x3 x4 x5 x6 x7 x8 (ix2 R j)) i := by
  pointwise [val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_cst_9, val_main_v87, rank]
  exact Finset.sum_congr rfl fun j _ => rank_bit (by omega) _ _ i j

theorem r93 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (R : Fin 16384) : val_main_v93 (F := Ideal) x0 x1 x2 x3 x4 x5 x6 x7 x8 (ix1 R) =
    grp (fun j => val_main_v67 (F := Ideal) x0 x1 x2 x3 x4 x5 x6 x7 x8 (ix2 R j)) := by
  pointwise [val_main_cst_10, val_main_v88, val_main_v89, val_main_v90, val_main_v91, val_main_cst_11, val_main_call0_v0, val_main_call0_v1, val_main_call0_v2, val_main_v92, val_main_cst_12, val_main_v93, grp, pick, num, r87]
  exact Finset.sum_congr rfl fun j _ => by rw [zid] <;> rfl

theorem r94 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (R : Fin 16384) : val_main_v94 (F := Ideal) x0 x1 x2 x3 x4 x5 x6 x7 x8 (ix1 R) =
    Finset.fold max low (fun j => val_main_v67 (F := Ideal) x0 x1 x2 x3 x4 x5 x6 x7 x8 (ix2 R j)) Finset.univ := by
  unfold val_main_v94
  rw [reduce94]
  rfl

theorem r96 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (R : Fin 16384) : val_main_v96 (F := Ideal) x0 x1 x2 x3 x4 x5 x6 x7 x8 (ix1 R) =
    Finset.fold max low (fun j => val_main_v67 (F := Ideal) x0 x1 x2 x3 x4 x5 x6 x7 x8 (ix2 R j)) Finset.univ := by
  rw [val_main_v96_apply, r94]
  exact max_low _

theorem r100 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (R : Fin 16384) (i : Fin 8) : val_main_v100 (F := Ideal) x0 x1 x2 x3 x4 x5 x6 x7 x8 (ix2 R i) =
    Ideal.exp ((fun j => val_main_v67 (F := Ideal) x0 x1 x2 x3 x4 x5 x6 x7 x8 (ix2 R j)) i - Finset.fold max low (fun j => val_main_v67 (F := Ideal) x0 x1 x2 x3 x4 x5 x6 x7 x8 (ix2 R j)) Finset.univ) := by
  pointwise [val_main_v97, val_main_v98, val_main_v99, val_main_v100, r96]

theorem r106 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (R : Fin 16384) : val_main_v106 (F := Ideal) x0 x1 x2 x3 x4 x5 x6 x7 x8 (ix1 R) =
    gw (fun j => val_main_v67 (F := Ideal) x0 x1 x2 x3 x4 x5 x6 x7 x8 (ix2 R j)) := by
  pointwise [val_main_cst_10, val_main_v88, val_main_v89, val_main_cst_15, val_main_v101, val_main_v102, val_main_v103, val_main_v104, val_main_cst_16, val_main_call1_v0, val_main_call1_v1, val_main_v105, val_main_cst_17, val_main_v106, gw, pick, soft, r87, r100]
  exact Finset.sum_congr rfl fun j _ => by rw [zid] <;> rfl

theorem r118 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (x9 : (⟨S4x2048x32, .f32⟩ : BufTy).Contents (Elt Ideal)) (x10 : (⟨S4x32, .f32⟩ : BufTy).Contents (Elt Ideal)) (R : Fin 16384) (e : Fin 4) : val_main_v118 (F := Ideal) x0 x1 x2 x3 x4 x5 x6 x7 x8 x9 x10 (ix2 R e) =
    esel (fun j => val_main_v67 (F := Ideal) x0 x1 x2 x3 x4 x5 x6 x7 x8 (ix2 R j)) (fun g e => val_main_v115 (F := Ideal) x0 x1 x2 x3 x4 x5 x6 x9 x10 (ix3 R g e)) e := by
  pointwise [val_main_cst_10, val_main_v88, val_main_v89, val_main_v116, val_main_cst_18, val_main_call2_v0, val_main_call2_v1, val_main_call2_v2, val_main_v117, val_main_cst_19, val_main_v118, esel, pick, r87]
  exact Finset.sum_congr rfl fun j _ => by rw [zid] <;> rfl

theorem r138 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (x9 : (⟨S4x2048x32, .f32⟩ : BufTy).Contents (Elt Ideal)) (x10 : (⟨S4x32, .f32⟩ : BufTy).Contents (Elt Ideal)) (R : Fin 16384) (i : Fin 4) : val_main_v138 (F := Ideal) x0 x1 x2 x3 x4 x5 x6 x7 x8 x9 x10 (ix2 R i) =
    rank (fun e => val_main_v118 (F := Ideal) x0 x1 x2 x3 x4 x5 x6 x7 x8 x9 x10 (ix2 R e)) i := by
  pointwise [val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_cst_20, val_main_v138, rank]
  exact Finset.sum_congr rfl fun j _ => rank_bit (by omega) _ _ i j

theorem r144 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (x9 : (⟨S4x2048x32, .f32⟩ : BufTy).Contents (Elt Ideal)) (x10 : (⟨S4x32, .f32⟩ : BufTy).Contents (Elt Ideal)) (R : Fin 16384) : val_main_v144 (F := Ideal) x0 x1 x2 x3 x4 x5 x6 x7 x8 x9 x10 (ix1 R) =
    pick (rank (fun e => val_main_v118 (F := Ideal) x0 x1 x2 x3 x4 x5 x6 x7 x8 x9 x10 (ix2 R e))) 0 (fun e => val_main_v118 (F := Ideal) x0 x1 x2 x3 x4 x5 x6 x7 x8 x9 x10 (ix2 R e)) := by
  pointwise [val_main_cst_21, val_main_v141, val_main_v142, val_main_cst_22, val_main_call3_v0, val_main_call3_v1, val_main_v143, val_main_cst_23, val_main_v144, pick, r138]
  exact Finset.sum_congr rfl fun j _ => by rw [zid] <;> rfl

theorem r148 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (x9 : (⟨S4x2048x32, .f32⟩ : BufTy).Contents (Elt Ideal)) (x10 : (⟨S4x32, .f32⟩ : BufTy).Contents (Elt Ideal)) (R : Fin 16384) : val_main_v148 (F := Ideal) x0 x1 x2 x3 x4 x5 x6 x7 x8 x9 x10 (ix1 R) =
    pick (rank (fun e => val_main_v118 (F := Ideal) x0 x1 x2 x3 x4 x5 x6 x7 x8 x9 x10 (ix2 R e))) 1 (fun e => val_main_v118 (F := Ideal) x0 x1 x2 x3 x4 x5 x6 x7 x8 x9 x10 (ix2 R e)) := by
  pointwise [val_main_cst_24, val_main_v145, val_main_v146, val_main_cst_25, val_main_call4_v0, val_main_call4_v1, val_main_v147, val_main_cst_26, val_main_v148, pick, r138]
  exact Finset.sum_congr rfl fun j _ => by rw [zid] <;> rfl

theorem r155 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (x9 : (⟨S4x2048x32, .f32⟩ : BufTy).Contents (Elt Ideal)) (x10 : (⟨S4x32, .f32⟩ : BufTy).Contents (Elt Ideal)) (R : Fin 16384) : val_main_v155 (F := Ideal) x0 x1 x2 x3 x4 x5 x6 x7 x8 x9 x10 (ix1 R) =
    first (fun e => val_main_v118 (F := Ideal) x0 x1 x2 x3 x4 x5 x6 x7 x8 x9 x10 (ix2 R e)) := by
  pointwise [val_main_cst_27, val_main_v152, val_main_v153, val_main_cst_28, val_main_call5_v0, val_main_call5_v1, val_main_call5_v2, val_main_v154, val_main_cst_29, val_main_v155, first, num, pick, val_main_v140, val_main_v139, r138]
  exact Finset.sum_congr rfl fun j _ => by rw [zid] <;> rfl

theorem r159 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (x9 : (⟨S4x2048x32, .f32⟩ : BufTy).Contents (Elt Ideal)) (x10 : (⟨S4x32, .f32⟩ : BufTy).Contents (Elt Ideal)) (R : Fin 16384) : val_main_v159 (F := Ideal) x0 x1 x2 x3 x4 x5 x6 x7 x8 x9 x10 (ix1 R) =
    second (fun e => val_main_v118 (F := Ideal) x0 x1 x2 x3 x4 x5 x6 x7 x8 x9 x10 (ix2 R e)) := by
  pointwise [val_main_cst_30, val_main_v156, val_main_v157, val_main_cst_31, val_main_call6_v0, val_main_call6_v1, val_main_call6_v2, val_main_v158, val_main_cst_32, val_main_v159, second, num, pick, val_main_v140, val_main_v139, r138]
  exact Finset.sum_congr rfl fun j _ => by rw [zid] <;> rfl

end Cert.RouteRef
end
-- ==== Proof.RefC.lean ====
module

public import proofs.«01_k».proof.Proof.Gen.ReferenceIdeal.Read
public import proofs.«01_k».proof.Proof.Row
public import proofs.«01_k».proof.Proof.RefB
public import Idealize.ShloMosaic.Lib.Pointwise

@[expose] public section

set_option maxRecDepth 16384

noncomputable section
open Idealize.ShloMosaic Idealize.ShloMosaic.TcCoe Idealize.SL.Sem Idealize.ShloMosaic.StableHlo
open Cert.Row Cert.ReferenceIdeal Cert.ReferenceIdeal.Gen Cert.ReferenceIdeal.Read
namespace Cert.RouteRef

theorem c1 : Ideal.ofBits FTy.f32 1065353216#32 = ((1 : ℝ) : EReal) := by
  simp [Ideal.ofBits, Ideal.ieee]
  show _ = ((1 : ℝ) : EReal)
  rw [← EReal.coe_mul]; norm_num
theorem c2 : Ideal.ofBits FTy.f32 1073741824#32 = ((2 : ℝ) : EReal) := by
  simp [Ideal.ofBits, Ideal.ieee]
  show _ = ((2 : ℝ) : EReal)
  rw [← EReal.coe_mul]; norm_num
theorem c3 : Ideal.ofBits FTy.f32 1077936128#32 = ((3 : ℝ) : EReal) := by
  simp [Ideal.ofBits, Ideal.ieee]
  show _ = ((3 : ℝ) : EReal)
  rw [← EReal.coe_mul]; norm_num
theorem c4 : Ideal.ofBits FTy.f32 1082130432#32 = ((4 : ℝ) : EReal) := by
  simp [Ideal.ofBits, Ideal.ieee]
  show _ = ((4 : ℝ) : EReal)
  rw [← EReal.coe_mul]; norm_num
theorem c5 : Ideal.ofBits FTy.f32 1084227584#32 = ((5 : ℝ) : EReal) := by
  simp [Ideal.ofBits, Ideal.ieee]
  show _ = ((5 : ℝ) : EReal)
  rw [← EReal.coe_mul]; norm_num
theorem c6 : Ideal.ofBits FTy.f32 1086324736#32 = ((6 : ℝ) : EReal) := by
  simp [Ideal.ofBits, Ideal.ieee]
  show _ = ((6 : ℝ) : EReal)
  rw [← EReal.coe_mul]; norm_num
theorem sel_and (P Q : Prop) [Decidable P] [Decidable Q] (a b : EReal) :
    Scalar.select (IntOp.andi (BitVec.ofBool (decide P)) (BitVec.ofBool (decide Q))) a b = if P ∧ Q then a else b := by
  by_cases hP : P <;> by_cases hQ : Q <;> simp [hP, hQ, Scalar.select, IntOp.andi]
theorem r67 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (R : Fin 16384) (j : Fin 8) : val_main_v67 (F := Ideal) x0 x1 x2 x3 x4 x5 x6 x7 x8 (ix2 R j) =
    ∑ x, (rms (fun j => hrow (fun c => x0 (ix3 ⟨R / 8192, by omega⟩ ⟨R % 8192, by omega⟩ c)) (fun c => x1 (ix2 0 c)) (fun a b => x2 (ix3 0 a b)) (fun a l => x3 (ix3 ⟨R / 8192, by omega⟩ a l)) (fun a l => x4 (ix3 ⟨R / 8192, by omega⟩ a l)) (fun a b => x5 (ix3 0 a b)) j) (fun c => x6 (ix2 0 c))) x * x7 (ix3 0 x j) + x8 (ix2 0 j) := by
  pointwise [val_main_v59, val_main_v60, val_main_v61, val_main_v62, val_main_v63, val_main_v64, val_main_v65, val_main_v66, val_main_v67, r58]

theorem r115 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x9 : (⟨S4x2048x32, .f32⟩ : BufTy).Contents (Elt Ideal)) (x10 : (⟨S4x32, .f32⟩ : BufTy).Contents (Elt Ideal)) (R : Fin 16384) (g : Fin 8) (e : Fin 4) : val_main_v115 (F := Ideal) x0 x1 x2 x3 x4 x5 x6 x9 x10 (ix3 R g e) =
    ∑ x, (rms (fun j => hrow (fun c => x0 (ix3 ⟨R / 8192, by omega⟩ ⟨R % 8192, by omega⟩ c)) (fun c => x1 (ix2 0 c)) (fun a b => x2 (ix3 0 a b)) (fun a l => x3 (ix3 ⟨R / 8192, by omega⟩ a l)) (fun a l => x4 (ix3 ⟨R / 8192, by omega⟩ a l)) (fun a b => x5 (ix3 0 a b)) j) (fun c => x6 (ix2 0 c))) x * x9 (ix3 0 x ⟨g * 4 + e, by omega⟩) + x10 (ix2 0 ⟨g * 4 + e, by omega⟩) := by
  pointwise [val_main_v59, val_main_v107, val_main_v108, val_main_v109, val_main_v110, val_main_v111, val_main_v112, val_main_v113, val_main_v114, val_main_v115, r58]

theorem r151 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (x9 : (⟨S4x2048x32, .f32⟩ : BufTy).Contents (Elt Ideal)) (x10 : (⟨S4x32, .f32⟩ : BufTy).Contents (Elt Ideal)) (R : Fin 16384) (n : Fin 2) : val_main_v151 (F := Ideal) x0 x1 x2 x3 x4 x5 x6 x7 x8 x9 x10 (ix2 R n) =
    (two (pick (rank (fun e => val_main_v118 (F := Ideal) x0 x1 x2 x3 x4 x5 x6 x7 x8 x9 x10 (ix2 R e))) 0 (fun e => val_main_v118 (F := Ideal) x0 x1 x2 x3 x4 x5 x6 x7 x8 x9 x10 (ix2 R e))) (pick (rank (fun e => val_main_v118 (F := Ideal) x0 x1 x2 x3 x4 x5 x6 x7 x8 x9 x10 (ix2 R e))) 1 (fun e => val_main_v118 (F := Ideal) x0 x1 x2 x3 x4 x5 x6 x7 x8 x9 x10 (ix2 R e)))) n := by
  pointwise [val_main_v149, val_main_v150, val_main_v151, two, r144, r148]
  by_cases h : (n : ℕ) < 1 <;> simp [h]

theorem r161 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (x9 : (⟨S4x2048x32, .f32⟩ : BufTy).Contents (Elt Ideal)) (x10 : (⟨S4x32, .f32⟩ : BufTy).Contents (Elt Ideal)) (R : Fin 16384) : val_main_v161 (F := Ideal) x0 x1 x2 x3 x4 x5 x6 x7 x8 x9 x10 (ix1 R) =
    Finset.fold max low (two (pick (rank (fun e => val_main_v118 (F := Ideal) x0 x1 x2 x3 x4 x5 x6 x7 x8 x9 x10 (ix2 R e))) 0 (fun e => val_main_v118 (F := Ideal) x0 x1 x2 x3 x4 x5 x6 x7 x8 x9 x10 (ix2 R e))) (pick (rank (fun e => val_main_v118 (F := Ideal) x0 x1 x2 x3 x4 x5 x6 x7 x8 x9 x10 (ix2 R e))) 1 (fun e => val_main_v118 (F := Ideal) x0 x1 x2 x3 x4 x5 x6 x7 x8 x9 x10 (ix2 R e)))) Finset.univ := by
  unfold val_main_v161
  rw [reduce161]
  simp only [r151]
  rfl

theorem r163 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (x9 : (⟨S4x2048x32, .f32⟩ : BufTy).Contents (Elt Ideal)) (x10 : (⟨S4x32, .f32⟩ : BufTy).Contents (Elt Ideal)) (R : Fin 16384) : val_main_v163 (F := Ideal) x0 x1 x2 x3 x4 x5 x6 x7 x8 x9 x10 (ix1 R) =
    Finset.fold max low (two (pick (rank (fun e => val_main_v118 (F := Ideal) x0 x1 x2 x3 x4 x5 x6 x7 x8 x9 x10 (ix2 R e))) 0 (fun e => val_main_v118 (F := Ideal) x0 x1 x2 x3 x4 x5 x6 x7 x8 x9 x10 (ix2 R e))) (pick (rank (fun e => val_main_v118 (F := Ideal) x0 x1 x2 x3 x4 x5 x6 x7 x8 x9 x10 (ix2 R e))) 1 (fun e => val_main_v118 (F := Ideal) x0 x1 x2 x3 x4 x5 x6 x7 x8 x9 x10 (ix2 R e)))) Finset.univ := by
  rw [val_main_v163_apply, r161]
  exact max_low _

theorem r167 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (x9 : (⟨S4x2048x32, .f32⟩ : BufTy).Contents (Elt Ideal)) (x10 : (⟨S4x32, .f32⟩ : BufTy).Contents (Elt Ideal)) (R : Fin 16384) (n : Fin 2) : val_main_v167 (F := Ideal) x0 x1 x2 x3 x4 x5 x6 x7 x8 x9 x10 (ix2 R n) =
    Ideal.exp ((two (pick (rank (fun e => val_main_v118 (F := Ideal) x0 x1 x2 x3 x4 x5 x6 x7 x8 x9 x10 (ix2 R e))) 0 (fun e => val_main_v118 (F := Ideal) x0 x1 x2 x3 x4 x5 x6 x7 x8 x9 x10 (ix2 R e))) (pick (rank (fun e => val_main_v118 (F := Ideal) x0 x1 x2 x3 x4 x5 x6 x7 x8 x9 x10 (ix2 R e))) 1 (fun e => val_main_v118 (F := Ideal) x0 x1 x2 x3 x4 x5 x6 x7 x8 x9 x10 (ix2 R e)))) n - Finset.fold max low (two (pick (rank (fun e => val_main_v118 (F := Ideal) x0 x1 x2 x3 x4 x5 x6 x7 x8 x9 x10 (ix2 R e))) 0 (fun e => val_main_v118 (F := Ideal) x0 x1 x2 x3 x4 x5 x6 x7 x8 x9 x10 (ix2 R e))) (pick (rank (fun e => val_main_v118 (F := Ideal) x0 x1 x2 x3 x4 x5 x6 x7 x8 x9 x10 (ix2 R e))) 1 (fun e => val_main_v118 (F := Ideal) x0 x1 x2 x3 x4 x5 x6 x7 x8 x9 x10 (ix2 R e)))) Finset.univ) := by
  pointwise [val_main_v164, val_main_v165, val_main_v166, val_main_v167, r151, r163]

theorem r173 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (x9 : (⟨S4x2048x32, .f32⟩ : BufTy).Contents (Elt Ideal)) (x10 : (⟨S4x32, .f32⟩ : BufTy).Contents (Elt Ideal)) (R : Fin 16384) (n : Fin 2) : val_main_v173 (F := Ideal) x0 x1 x2 x3 x4 x5 x6 x7 x8 x9 x10 (ix2 R n) =
    wt (gw (fun j => val_main_v67 (F := Ideal) x0 x1 x2 x3 x4 x5 x6 x7 x8 (ix2 R j))) (fun e => val_main_v118 (F := Ideal) x0 x1 x2 x3 x4 x5 x6 x7 x8 x9 x10 (ix2 R e)) n := by
  pointwise [val_main_v160, val_main_cst_35, val_main_v168, val_main_v169, val_main_v170, val_main_v171, val_main_v172, val_main_v173, wt, soft, r106, r167]

theorem r174 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (x9 : (⟨S4x2048x32, .f32⟩ : BufTy).Contents (Elt Ideal)) (x10 : (⟨S4x32, .f32⟩ : BufTy).Contents (Elt Ideal)) (R : Fin 16384) : val_main_v174 (F := Ideal) x0 x1 x2 x3 x4 x5 x6 x7 x8 x9 x10 (ix1 R) =
    min (first (fun e => val_main_v118 (F := Ideal) x0 x1 x2 x3 x4 x5 x6 x7 x8 x9 x10 (ix2 R e))) (second (fun e => val_main_v118 (F := Ideal) x0 x1 x2 x3 x4 x5 x6 x7 x8 x9 x10 (ix2 R e))) := by
  pointwise [val_main_v174, r155, r159]

theorem r175 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (x9 : (⟨S4x2048x32, .f32⟩ : BufTy).Contents (Elt Ideal)) (x10 : (⟨S4x32, .f32⟩ : BufTy).Contents (Elt Ideal)) (R : Fin 16384) : val_main_v175 (F := Ideal) x0 x1 x2 x3 x4 x5 x6 x7 x8 x9 x10 (ix1 R) =
    max (first (fun e => val_main_v118 (F := Ideal) x0 x1 x2 x3 x4 x5 x6 x7 x8 x9 x10 (ix2 R e))) (second (fun e => val_main_v118 (F := Ideal) x0 x1 x2 x3 x4 x5 x6 x7 x8 x9 x10 (ix2 R e))) := by
  pointwise [val_main_v175, r155, r159]

theorem r212 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (x9 : (⟨S4x2048x32, .f32⟩ : BufTy).Contents (Elt Ideal)) (x10 : (⟨S4x32, .f32⟩ : BufTy).Contents (Elt Ideal)) (R : Fin 16384) : val_main_v212 (F := Ideal) x0 x1 x2 x3 x4 x5 x6 x7 x8 x9 x10 (ix1 R) =
    pairNo (min (first (fun e => val_main_v118 (F := Ideal) x0 x1 x2 x3 x4 x5 x6 x7 x8 x9 x10 (ix2 R e))) (second (fun e => val_main_v118 (F := Ideal) x0 x1 x2 x3 x4 x5 x6 x7 x8 x9 x10 (ix2 R e)))) (max (first (fun e => val_main_v118 (F := Ideal) x0 x1 x2 x3 x4 x5 x6 x7 x8 x9 x10 (ix2 R e))) (second (fun e => val_main_v118 (F := Ideal) x0 x1 x2 x3 x4 x5 x6 x7 x8 x9 x10 (ix2 R e)))) := by
  pointwise [val_main_cst_36, val_main_v176, val_main_cst_37, val_main_v177, val_main_v178, val_main_cst_38, val_main_v179, val_main_v180, val_main_v181, val_main_cst_39, val_main_call7_v0, val_main_call7_v1, val_main_v182, val_main_cst_40, val_main_v183, val_main_v184, val_main_cst_41, val_main_v185, val_main_v186, val_main_v187, val_main_cst_42, val_main_call8_v0, val_main_call8_v1, val_main_v188, val_main_cst_43, val_main_v189, val_main_v190, val_main_cst_44, val_main_v191, val_main_v192, val_main_v193, val_main_cst_45, val_main_call9_v0, val_main_call9_v1, val_main_v194, val_main_cst_46, val_main_v195, val_main_v196, val_main_cst_47, val_main_v197, val_main_v198, val_main_v199, val_main_cst_48, val_main_call10_v0, val_main_call10_v1, val_main_v200, val_main_cst_49, val_main_v201, val_main_v202, val_main_cst_50, val_main_v203, val_main_v204, val_main_v205, val_main_cst_51, val_main_call11_v0, val_main_call11_v1, val_main_v206, val_main_cst_52, val_main_v207, val_main_v208, val_main_cst_53, val_main_v209, val_main_v210, val_main_v211, val_main_cst_54, val_main_call12_v0, val_main_call12_v1, val_main_v212, pairNo, r174, r175]
  generalize (min _ _ : EReal) = p
  generalize (max _ _ : EReal) = q
  simp only [sel_and, c2, c3]
  clear * -
  show (if p = ((2 : ℝ) : EReal) ∧ q = ((3 : ℝ) : EReal) then Ideal.ofBits .f32 1084227584#32 else if p = 1 ∧ q = ((3 : ℝ) : EReal) then Ideal.ofBits .f32 1082130432#32 else if p = 1 ∧ q = ((2 : ℝ) : EReal) then Ideal.ofBits .f32 1077936128#32 else if p = 0 ∧ q = ((3 : ℝ) : EReal) then Ideal.ofBits .f32 1073741824#32 else if p = 0 ∧ q = ((2 : ℝ) : EReal) then Ideal.ofBits .f32 1065353216#32 else if p = 0 ∧ q = 1 then Ideal.ofBits .f32 0#32 else 0) = _
  rw [c5, c4, c3, c2, c1, show Ideal.ofBits .f32 0#32 = 0 from zid, ite_self]
  rfl

theorem r215 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (x9 : (⟨S4x2048x32, .f32⟩ : BufTy).Contents (Elt Ideal)) (x10 : (⟨S4x32, .f32⟩ : BufTy).Contents (Elt Ideal)) (R : Fin 16384) : val_main_v215 (F := Ideal) x0 x1 x2 x3 x4 x5 x6 x7 x8 x9 x10 (ix1 R) =
    bucket (grp (fun j => val_main_v67 (F := Ideal) x0 x1 x2 x3 x4 x5 x6 x7 x8 (ix2 R j))) (fun e => val_main_v118 (F := Ideal) x0 x1 x2 x3 x4 x5 x6 x7 x8 x9 x10 (ix2 R e)) := by
  pointwise [val_main_cst_55, val_main_v213, val_main_v214, val_main_v215, bucket, r212, r93]
  rw [c6]

theorem r221 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (x9 : (⟨S4x2048x32, .f32⟩ : BufTy).Contents (Elt Ideal)) (x10 : (⟨S4x32, .f32⟩ : BufTy).Contents (Elt Ideal)) (R : Fin 16384) : val_main_v221 (F := Ideal) x0 x1 x2 x3 x4 x5 x6 x7 x8 x9 x10 (ix1 R) =
    if first (fun e => val_main_v118 (F := Ideal) x0 x1 x2 x3 x4 x5 x6 x7 x8 x9 x10 (ix2 R e)) < second (fun e => val_main_v118 (F := Ideal) x0 x1 x2 x3 x4 x5 x6 x7 x8 x9 x10 (ix2 R e)) then wt (gw (fun j => val_main_v67 (F := Ideal) x0 x1 x2 x3 x4 x5 x6 x7 x8 (ix2 R j))) (fun e => val_main_v118 (F := Ideal) x0 x1 x2 x3 x4 x5 x6 x7 x8 x9 x10 (ix2 R e)) 0 else wt (gw (fun j => val_main_v67 (F := Ideal) x0 x1 x2 x3 x4 x5 x6 x7 x8 (ix2 R j))) (fun e => val_main_v118 (F := Ideal) x0 x1 x2 x3 x4 x5 x6 x7 x8 x9 x10 (ix2 R e)) 1 := by
  pointwise [val_main_v216, val_main_v217, val_main_v218, val_main_v219, val_main_v220, val_main_v221, r173, r155, r159]

theorem r227 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (x9 : (⟨S4x2048x32, .f32⟩ : BufTy).Contents (Elt Ideal)) (x10 : (⟨S4x32, .f32⟩ : BufTy).Contents (Elt Ideal)) (R : Fin 16384) : val_main_v227 (F := Ideal) x0 x1 x2 x3 x4 x5 x6 x7 x8 x9 x10 (ix1 R) =
    if first (fun e => val_main_v118 (F := Ideal) x0 x1 x2 x3 x4 x5 x6 x7 x8 x9 x10 (ix2 R e)) < second (fun e => val_main_v118 (F := Ideal) x0 x1 x2 x3 x4 x5 x6 x7 x8 x9 x10 (ix2 R e)) then wt (gw (fun j => val_main_v67 (F := Ideal) x0 x1 x2 x3 x4 x5 x6 x7 x8 (ix2 R j))) (fun e => val_main_v118 (F := Ideal) x0 x1 x2 x3 x4 x5 x6 x7 x8 x9 x10 (ix2 R e)) 1 else wt (gw (fun j => val_main_v67 (F := Ideal) x0 x1 x2 x3 x4 x5 x6 x7 x8 (ix2 R j))) (fun e => val_main_v118 (F := Ideal) x0 x1 x2 x3 x4 x5 x6 x7 x8 x9 x10 (ix2 R e)) 0 := by
  pointwise [val_main_v222, val_main_v223, val_main_v224, val_main_v225, val_main_v226, val_main_v227, r173, r155, r159]

theorem r233 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (x9 : (⟨S4x2048x32, .f32⟩ : BufTy).Contents (Elt Ideal)) (x10 : (⟨S4x32, .f32⟩ : BufTy).Contents (Elt Ideal)) (R : Fin 16384) (j : Fin 2176) : val_main_v233 (F := Ideal) x0 x1 x2 x3 x4 x5 x6 x7 x8 x9 x10 (ix2 R j) =
    if h : (j : ℕ) < 2048 then val_main_v43 (F := Ideal) x0 x1 x2 x3 x4 x5 (ix3 ⟨R / 8192, by omega⟩ ⟨R % 8192, by omega⟩ ⟨j, h⟩) else if (j : ℕ) = 2048 then val_main_v215 (F := Ideal) x0 x1 x2 x3 x4 x5 x6 x7 x8 x9 x10 (ix1 R) else if (j : ℕ) = 2049 then val_main_v221 (F := Ideal) x0 x1 x2 x3 x4 x5 x6 x7 x8 x9 x10 (ix1 R) else if (j : ℕ) = 2050 then val_main_v227 (F := Ideal) x0 x1 x2 x3 x4 x5 x6 x7 x8 x9 x10 (ix1 R) else 0 := by
  pointwise [val_main_v228, val_main_v229, val_main_v230, val_main_v231, val_main_cst_56, val_main_v232, val_main_v233]
  by_cases h : (j : ℕ) < 2048
  · rw [dif_pos h, dif_pos h]
  · rw [dif_neg h, dif_neg h]
    by_cases h0 : (j : ℕ) = 2048
    · simp [h0]
    by_cases h1 : (j : ℕ) = 2049
    · simp [h1]
    by_cases h2 : (j : ℕ) = 2050
    · simp [h2]
    · rw [dif_neg (by omega), dif_neg (by omega), dif_neg (by omega), if_neg h0, if_neg h1, if_neg h2]

theorem r243 (x0 : (⟨S2x8192x2048, .f32⟩ : BufTy).Contents (Elt Ideal)) (x1 : (⟨S4x2048, .f32⟩ : BufTy).Contents (Elt Ideal)) (x2 : (⟨S4x2048x2048, .f32⟩ : BufTy).Contents (Elt Ideal)) (x3 x4 : (⟨S2x256x2048, .bf16⟩ : BufTy).Contents (Elt Ideal)) (x5 : (⟨S4x2048x2048, .f32⟩ : BufTy).Contents (Elt Ideal)) (x6 : (⟨S4x2048, .f32⟩ : BufTy).Contents (Elt Ideal)) (x7 : (⟨S4x2048x8, .f32⟩ : BufTy).Contents (Elt Ideal)) (x8 : (⟨S4x8, .f32⟩ : BufTy).Contents (Elt Ideal)) (x9 : (⟨S4x2048x32, .f32⟩ : BufTy).Contents (Elt Ideal)) (x10 : (⟨S4x32, .f32⟩ : BufTy).Contents (Elt Ideal)) (j : Fin 128) : val_main_v243 (F := Ideal) x0 x1 x2 x3 x4 x5 x6 x7 x8 x9 x10 (ix2 0 j) =
    ∑ R : Fin 16384, if val_main_v215 (F := Ideal) x0 x1 x2 x3 x4 x5 x6 x7 x8 x9 x10 (ix1 R) = num j then 1 else 0 := by
  pointwise [val_main_v234, val_main_v235, val_main_v236, val_main_v237, val_main_v238, val_main_v239, val_main_v240, val_main_v241, val_main_cst_57, val_main_v242, val_main_v243]
  refine Finset.sum_congr rfl fun R _ => ?_
  by_cases h : val_main_v215 (F := Ideal) x0 x1 x2 x3 x4 x5 x6 x7 x8 x9 x10 (ix1 R) = num j
  · exact ((congrArg (FloatOps.uitofp (F := Ideal) FTy.f32) (congrArg BitVec.ofBool (decide_eq_true h))).trans bit_one).trans (if_pos h).symm
  · exact ((congrArg (FloatOps.uitofp (F := Ideal) FTy.f32) (congrArg BitVec.ofBool (decide_eq_false h))).trans bit_zero).trans (if_neg h).symm

theorem r246 (x11 : (⟨S4x32x512x2048, .f32⟩ : BufTy).Contents (Elt Ideal)) (e : Fin 32) (r : Fin 512) (j : Fin 2048) : val_main_v246 (F := Ideal) x11 (ix3 e r j) =
    x11 (ix4 0 e r j) := by
  pointwise [val_main_v244, val_main_v245, val_main_v246]

end Cert.RouteRef
end
-- ==== Proof.Pair.lean ====
module

public import proofs.«01_k».proof.Proof.Final
public import proofs.«01_k».proof.Proof.Finite
public import proofs.«01_k».proof.Proof.RefC
public import proofs.«01_k».proof.Pre_finite

@[expose] public section

/-! The kernel's results are the reference's, at finite arguments. -/

noncomputable section
namespace Cert.Route
open Idealize.ShloMosaic Idealize.ShloMosaic.TcCoe Idealize.SL.Sem
open Cert.KernelIdeal Cert.KernelIdeal.Gen Cert.KernelIdeal.Value Cert.Row Cert.RouteRef Cert.ReferenceIdeal.Read

variable (m : (ℓ : Loc nD τ sig) → Buf (Elt Ideal) ℓ)

/-- Every argument the routing reads is real. -/
structure Fin11 (c : Dev nD) : Prop where
  h0 : ∀ i, Re (a0 m c i)
  h1 : ∀ i, Re (a1 m c i)
  h2 : ∀ i, Re (a2 m c i)
  h3 : ∀ i, Re (a3 m c i)
  h4 : ∀ i, Re (a4 m c i)
  h5 : ∀ i, Re (a5 m c i)
  h6 : ∀ i, Re (a6 m c i)
  h7 : ∀ i, Re (a7 m c i)
  h8 : ∀ i, Re (a8 m c i)
  h9 : ∀ i, Re (a9 m c i)
  h10 : ∀ i, Re (a10 m c i)

variable {m} {c : Dev nD} (H : Fin11 m c)
include H

theorem XT_re (R : Fin 16384) (j : Fin 2048) : Re (XT m c R j) :=
  rms_re (fun i => hrow_re (fun _ => H.h0 _) (fun _ => H.h1 _) (fun _ _ => H.h2 _) (fun _ _ => H.h3 _) (fun _ _ => H.h4 _) (fun _ _ => H.h5 _) i)
    (fun _ => H.h6 _) j

theorem wl_re (r : Fin 2048) (j : Fin 128) : Re (wl (a7 m c) (a9 m c) r j) := by
  unfold wl
  split
  · exact H.h7 _
  · split
    · exact H.h9 _
    · exact ⟨0, rfl⟩

theorem LN_eq (R : Fin 16384) (j : Fin 128) :
    LN m c R j = ∑ x, XT m c R x * wl (a7 m c) (a9 m c) x j + bl (a8 m c) (a10 m c) j := by
  refine (lane_re j (XT_re H R) fun x => ?_).trans ?_
  · unfold wh
    rw [dif_neg (by show ¬ (128 + (j : ℕ) < 128); omega)]
    exact (wl_re H _ _).sub_self
  · refine congrArg (· + _) (Finset.sum_congr rfl fun x _ => congrArg (XT m c R x * ·) ?_)
    unfold wh
    exact dif_pos j.isLt

/-- The reference's group logits of a row. -/
def groupL (m : (ℓ : Loc nD τ sig) → Buf (Elt Ideal) ℓ) (c : Dev nD) (R : Fin 16384) (j : Fin 8) : EReal := val_main_v67 (F := Ideal) (a0 m c) (a1 m c) (a2 m c) (a3 m c) (a4 m c) (a5 m c) (a6 m c) (a7 m c) (a8 m c) (ix2 R j)
/-- The reference's expert logits of a row. -/
def expertL (m : (ℓ : Loc nD τ sig) → Buf (Elt Ideal) ℓ) (c : Dev nD) (R : Fin 16384) (g : Fin 8) (e : Fin 4) : EReal := val_main_v115 (F := Ideal) (a0 m c) (a1 m c) (a2 m c) (a3 m c) (a4 m c) (a5 m c) (a6 m c) (a9 m c) (a10 m c) (ix3 R g e)

omit H in
theorem GL_eq (R : Fin 16384) (j : Fin 8) : groupL m c R j = ∑ x, XT m c R x * a7 m c (ix3 0 x j) + a8 m c (ix2 0 j) :=
  r67 (a0 m c) (a1 m c) (a2 m c) (a3 m c) (a4 m c) (a5 m c) (a6 m c) (a7 m c) (a8 m c) R j
omit H in
theorem EL_eq (R : Fin 16384) (g : Fin 8) (e : Fin 4) : expertL m c R g e =
    ∑ x, XT m c R x * a9 m c (ix3 0 x ⟨g * 4 + e, by omega⟩) + a10 m c (ix2 0 ⟨g * 4 + e, by omega⟩) :=
  r115 (a0 m c) (a1 m c) (a2 m c) (a3 m c) (a4 m c) (a5 m c) (a6 m c) (a9 m c) (a10 m c) R g e

theorem LN_group (R : Fin 16384) (g : Fin 8) : LN m c R ⟨g, by omega⟩ = groupL m c R g := by
  rw [LN_eq H, GL_eq]
  have h1 : ∀ x, wl (a7 m c) (a9 m c) x ⟨g, by omega⟩ = a7 m c (ix3 0 x g) := fun x => dif_pos g.isLt
  have h2 : bl (a8 m c) (a10 m c) ⟨g, by omega⟩ = a8 m c (ix2 0 g) := dif_pos g.isLt
  simp only [h1, h2]

theorem LN_expert (R : Fin 16384) (g : Fin 8) (e : Fin 4) : LN m c R ⟨8 + 4 * g + e, by omega⟩ = expertL m c R g e := by
  rw [LN_eq H, EL_eq]
  have hi : (⟨8 + 4 * (g : ℕ) + e - 8, by omega⟩ : Fin 32) = ⟨g * 4 + e, by omega⟩ := Fin.ext (by show 8 + 4 * (g : ℕ) + e - 8 = g * 4 + e; omega)
  have h1 : ∀ x, wl (a7 m c) (a9 m c) x ⟨8 + 4 * g + e, by omega⟩ = a9 m c (ix3 0 x ⟨g * 4 + e, by omega⟩) := fun x => by
    unfold wl
    rw [dif_neg (by show ¬ (8 + 4 * (g : ℕ) + e < 8); omega), dif_pos (by show 8 + 4 * (g : ℕ) + e < 40; omega)]
    exact congrArg (fun i => a9 m c (ix3 0 x i)) hi
  have h2 : bl (a8 m c) (a10 m c) ⟨8 + 4 * g + e, by omega⟩ = a10 m c (ix2 0 ⟨g * 4 + e, by omega⟩) := by
    unfold bl
    rw [dif_neg (by show ¬ (8 + 4 * (g : ℕ) + e < 8); omega), dif_pos (by show 8 + 4 * (g : ℕ) + e < 40; omega)]
    exact congrArg (fun i => a10 m c (ix2 0 i)) hi
  simp only [h1, h2]

theorem GL_re (R : Fin 16384) (g : Fin 8) : Re (groupL m c R g) := by
  rw [GL_eq]
  exact (Re.sum fun x => (XT_re H R x).mul (H.h7 _)).add (H.h8 _)
theorem EL_re (R : Fin 16384) (g : Fin 8) (e : Fin 4) : Re (expertL m c R g e) := by
  rw [EL_eq]
  exact (Re.sum fun x => (XT_re H R x).mul (H.h9 _)).add (H.h10 _)

theorem routed (R : Fin 16384) :
    (((word (LN m c R)).toInt : ℝ) : EReal) = val_main_v215 (F := Ideal) (a0 m c) (a1 m c) (a2 m c) (a3 m c) (a4 m c) (a5 m c) (a6 m c) (a7 m c) (a8 m c) (a9 m c) (a10 m c) (ix1 R)
    ∧ wLo (LN m c R) = val_main_v221 (F := Ideal) (a0 m c) (a1 m c) (a2 m c) (a3 m c) (a4 m c) (a5 m c) (a6 m c) (a7 m c) (a8 m c) (a9 m c) (a10 m c) (ix1 R)
    ∧ wHi (LN m c R) = val_main_v227 (F := Ideal) (a0 m c) (a1 m c) (a2 m c) (a3 m c) (a4 m c) (a5 m c) (a6 m c) (a7 m c) (a8 m c) (a9 m c) (a10 m c) (ix1 R) := by
  choose G' hG' using GL_re H R
  choose E' hE' using EL_re H R
  have hr := route (LN m c R) (groupL m c R) (expertL m c R) (LN_group H R) (LN_expert H R) G' E' hG' hE'
  have he : (fun e => val_main_v118 (F := Ideal) (a0 m c) (a1 m c) (a2 m c) (a3 m c) (a4 m c) (a5 m c) (a6 m c) (a7 m c) (a8 m c) (a9 m c) (a10 m c) (ix2 R e)) = esel (groupL m c R) (expertL m c R) :=
    funext fun e => r118 (a0 m c) (a1 m c) (a2 m c) (a3 m c) (a4 m c) (a5 m c) (a6 m c) (a7 m c) (a8 m c) (a9 m c) (a10 m c) R e
  refine ⟨hr.1.trans ?_, hr.2.1.trans ?_, hr.2.2.trans ?_⟩
  · refine ((r215 (a0 m c) (a1 m c) (a2 m c) (a3 m c) (a4 m c) (a5 m c) (a6 m c) (a7 m c) (a8 m c) (a9 m c) (a10 m c) R).trans ?_).symm
    rw [he]
    rfl
  · refine ((r221 (a0 m c) (a1 m c) (a2 m c) (a3 m c) (a4 m c) (a5 m c) (a6 m c) (a7 m c) (a8 m c) (a9 m c) (a10 m c) R).trans ?_).symm
    rw [he]
    rfl
  · refine ((r227 (a0 m c) (a1 m c) (a2 m c) (a3 m c) (a4 m c) (a5 m c) (a6 m c) (a7 m c) (a8 m c) (a9 m c) (a10 m c) R).trans ?_).symm
    rw [he]
    rfl

theorem result10 : (dats m 0 c).arrAt 10 cfg0.N = val_main_v233 (F := Ideal) (a0 m c) (a1 m c) (a2 m c) (a3 m c) (a4 m c) (a5 m c) (a6 m c) (a7 m c) (a8 m c) (a9 m c) (a10 m c) := by
  rw [final10 m c]
  funext i
  have hi : i = ix2 (i 0) (i 1) := by
    funext a
    fin_cases a <;> rfl
  rw [hi]
  refine Eq.trans ?_ (r233 (a0 m c) (a1 m c) (a2 m c) (a3 m c) (a4 m c) (a5 m c) (a6 m c) (a7 m c) (a8 m c) (a9 m c) (a10 m c) (i 0) (i 1)).symm
  obtain ⟨e1, e2, e3⟩ := routed H (i 0)
  rw [← e1, ← e2, ← e3]
  by_cases h : (i 1 : ℕ) < 2048
  · rw [dif_pos h]
    refine Eq.trans ?_ (r43 (a0 m c) (a1 m c) (a2 m c) (a3 m c) (a4 m c) (a5 m c) _ _ _).symm
    exact dif_pos h
  · rw [dif_neg h]
    exact dif_neg h

theorem result11 : (dats m 0 c).arrAt 11 cfg0.N = val_main_v243 (F := Ideal) (a0 m c) (a1 m c) (a2 m c) (a3 m c) (a4 m c) (a5 m c) (a6 m c) (a7 m c) (a8 m c) (a9 m c) (a10 m c) := by
  rw [final11 m c]
  funext i
  have hi : i = ix2 0 (i 1) := by
    funext a
    fin_cases a
    · exact Subsingleton.elim (α := Fin 1) _ _
    · rfl
  rw [hi]
  refine Eq.trans ?_ (r243 (a0 m c) (a1 m c) (a2 m c) (a3 m c) (a4 m c) (a5 m c) (a6 m c) (a7 m c) (a8 m c) (a9 m c) (a10 m c) (i 1)).symm
  refine Finset.sum_congr rfl fun R _ => ?_
  rw [← (routed H R).1]
  refine if_congr ?_ rfl rfl
  show BitVec.ofNat 32 ((i 1 : Fin 128) : ℕ) = word (LN m c R) ↔ (((word (LN m c R)).toInt : ℝ) : EReal) = (((BitVec.ofNat 32 ((i 1 : Fin 128) : ℕ)).toInt : ℝ) : EReal)
  rw [EReal.coe_eq_coe_iff, Int.cast_inj]
  exact ⟨fun h => by rw [h], fun h => (BitVec.eq_of_toInt_eq h).symm⟩

omit H in
theorem result12 : (dats m 0 c).arrAt 12 cfg0.N = val_main_v246 (F := Ideal) (a11 m c) := by
  rw [final12 m c]
  funext i
  have hi : i = ix3 (i 0) (i 1) (i 2) := by
    funext a
    fin_cases a <;> rfl
  rw [hi]
  exact (r246 (a11 m c) (i 0) (i 1) (i 2)).symm

end Cert.Route
end
-- ==== Proof.Tiles.lean ====
module

public import proofs.«01_k».proof.Proof.Blocks

@[expose] public section

set_option maxRecDepth 16384

/-! Eight stretches of columns that tile a block, and a stretch of a weight's columns. -/

noncomputable section
open Idealize.ShloMosaic Idealize.ShloMosaic.TcCoe Idealize.SL.Sem
open Cert.KernelIdeal Cert.Row Cert.Route
namespace Cert.Tiles

/-- A stretch of a weight's columns fits. -/
abbrev Fits (M o : ℕ) : Prop := ∀ a, (![0, 0, o] : Fin 3 → ℕ) a + (![1, 2048, 256] : Fin 3 → ℕ) a ≤ (⟨3, ![1, 2048, M]⟩ : Shape).size a

/-- A stretch of a weight's columns, as a block's load reads it. -/
abbrev ldC {M : ℕ} {e : EltTy} (X : (⟨3, ![1, 2048, M]⟩ : Shape).Idx → Elt Ideal e) (o : ℕ) (h : Fits M o) :=
  View.ld (Val := Elt Ideal) (S := ⟨3, ![1, 2048, M]⟩) (e' := e) X (Rect.unit ![0, 0, o] ![1, 2048, 256] h)

theorem ldC_at {M : ℕ} {e : EltTy} (X : (⟨3, ![1, 2048, M]⟩ : Shape).Idx → Elt Ideal e) (o : ℕ) (h : Fits M o) (hM : o + 256 ≤ M) (a : Fin 2048) (j : Fin 256) :
    ldC X o h (ix3 0 a j) = X (ix3 0 a ⟨o + j, by omega⟩) := by
  refine congrArg X (funext fun d => Fin.ext ?_)
  match d with
  | ⟨0, _⟩ => rfl
  | ⟨1, _⟩ => show 0 + 1 * (a : ℕ) = a; omega
  | ⟨2, _⟩ => show o + 1 * (j : ℕ) = o + j; omega

/-- A stretch of columns fits in a block. -/
abbrev In (o : ℕ) : Prop := ∀ a, (![0, o] : Fin 2 → ℕ) a + (![512, 256] : Fin 2 → ℕ) a ≤ (⟨2, ![512, 2048]⟩ : Shape).size a

theorem tiles8 {e : EltTy} (G : Vec Ideal S512x2048 e) (p0 p1 p2 p3 p4 p5 p6 p7 : Vec Ideal S512x256 e)
    (i0 : In 0) (i1 : In 256) (i2 : In 512) (i3 : In 768) (i4 : In 1024) (i5 : In 1280) (i6 : In 1536) (i7 : In 1792)
    (h0 : ∀ (r : Fin 512) (j : Fin 256), p0 (ix2 r j) = G (ix2 r ⟨0 + j, by omega⟩))
    (h1 : ∀ (r : Fin 512) (j : Fin 256), p1 (ix2 r j) = G (ix2 r ⟨256 + j, by omega⟩))
    (h2 : ∀ (r : Fin 512) (j : Fin 256), p2 (ix2 r j) = G (ix2 r ⟨512 + j, by omega⟩))
    (h3 : ∀ (r : Fin 512) (j : Fin 256), p3 (ix2 r j) = G (ix2 r ⟨768 + j, by omega⟩))
    (h4 : ∀ (r : Fin 512) (j : Fin 256), p4 (ix2 r j) = G (ix2 r ⟨1024 + j, by omega⟩))
    (h5 : ∀ (r : Fin 512) (j : Fin 256), p5 (ix2 r j) = G (ix2 r ⟨1280 + j, by omega⟩))
    (h6 : ∀ (r : Fin 512) (j : Fin 256), p6 (ix2 r j) = G (ix2 r ⟨1536 + j, by omega⟩))
    (h7 : ∀ (r : Fin 512) (j : Fin 256), p7 (ix2 r j) = G (ix2 r ⟨1792 + j, by omega⟩))
    (z : S512x2048.Idx) :
    View.canon (s := S512x2048) (e := e) (Val := Elt Ideal)
      [⟨Rect.unit ![0, 1792] ![512, 256] i7, p7⟩,
       ⟨Rect.unit ![0, 1536] ![512, 256] i6, p6⟩,
       ⟨Rect.unit ![0, 1280] ![512, 256] i5, p5⟩,
       ⟨Rect.unit ![0, 1024] ![512, 256] i4, p4⟩,
       ⟨Rect.unit ![0, 768] ![512, 256] i3, p3⟩,
       ⟨Rect.unit ![0, 512] ![512, 256] i2, p2⟩,
       ⟨Rect.unit ![0, 256] ![512, 256] i1, p1⟩,
       ⟨Rect.unit ![0, 0] ![512, 256] i0, p0⟩] z = G z := by
  have hz1 : (z 1 : ℕ) < 2048 := (z 1).isLt
  refine (View.canon_apply_of_pieces (S := S512x2048) (e := e) (past G) _ ?_ z ?_).trans ?_
  · intro p hp x
    simp only [List.mem_cons, List.not_mem_nil, or_false] at hp
    rcases hp with rfl | rfl | rfl | rfl | rfl | rfl | rfl | rfl
    · exact piece_at 1792 i7 (by omega) G p7 h7 x
    · exact piece_at 1536 i6 (by omega) G p6 h6 x
    · exact piece_at 1280 i5 (by omega) G p5 h5 x
    · exact piece_at 1024 i4 (by omega) G p4 h4 x
    · exact piece_at 768 i3 (by omega) G p3 h3 x
    · exact piece_at 512 i2 (by omega) G p2 h2 x
    · exact piece_at 256 i1 (by omega) G p1 h1 x
    · exact piece_at 0 i0 (by omega) G p0 h0 x
  · simp only [List.mem_cons, List.not_mem_nil, or_false, exists_eq_or_imp, exists_eq_left]
    have c : (1792 ≤ (z 1 : ℕ) ∧ (z 1 : ℕ) < 1792 + 256) ∨ (1536 ≤ (z 1 : ℕ) ∧ (z 1 : ℕ) < 1536 + 256) ∨ (1280 ≤ (z 1 : ℕ) ∧ (z 1 : ℕ) < 1280 + 256) ∨ (1024 ≤ (z 1 : ℕ) ∧ (z 1 : ℕ) < 1024 + 256) ∨ (768 ≤ (z 1 : ℕ) ∧ (z 1 : ℕ) < 768 + 256) ∨ (512 ≤ (z 1 : ℕ) ∧ (z 1 : ℕ) < 512 + 256) ∨ (256 ≤ (z 1 : ℕ) ∧ (z 1 : ℕ) < 256 + 256) ∨ (0 ≤ (z 1 : ℕ) ∧ (z 1 : ℕ) < 0 + 256) := by omega
    rcases c with c | c | c | c | c | c | c | c
    · exact Or.inl (in_piece 1792 i7 z c.1 c.2)
    · exact Or.inr (Or.inl (in_piece 1536 i6 z c.1 c.2))
    · exact Or.inr (Or.inr (Or.inl (in_piece 1280 i5 z c.1 c.2)))
    · exact Or.inr (Or.inr (Or.inr (Or.inl (in_piece 1024 i4 z c.1 c.2))))
    · exact Or.inr (Or.inr (Or.inr (Or.inr (Or.inl (in_piece 768 i3 z c.1 c.2)))))
    · exact Or.inr (Or.inr (Or.inr (Or.inr (Or.inr (Or.inl (in_piece 512 i2 z c.1 c.2))))))
    · exact Or.inr (Or.inr (Or.inr (Or.inr (Or.inr (Or.inr (Or.inl (in_piece 256 i1 z c.1 c.2)))))))
    · exact Or.inr (Or.inr (Or.inr (Or.inr (Or.inr (Or.inr (Or.inr (in_piece 0 i0 z c.1 c.2)))))))
  · rw [show past G z = _ from dif_pos hz1]
    refine congrArg G (funext fun d => ?_)
    match d with
    | ⟨0, _⟩ => rfl
    | ⟨1, _⟩ => rfl

/-- A row's projection by a column of weights. -/
def proj (x w : Fin 2048 → EReal) : EReal := ∑ c, x c * w c

/-- A row's projection, gated by another one. -/
def glu (x w g : Fin 2048 → EReal) : EReal := proj x w * Ideal.div 1 (1 + Ideal.exp (-proj x g))

/-- What is taken from zero is what is negated. -/
theorem from_zero (x : EReal) : 0 - x = -x := by rw [sub_eq_add_neg, zero_add]

end Cert.Tiles

end
-- ==== Proof.ProjA.lean ====
module

public import proofs.«01_k».proof.Proof.Gen.Kernel2Ideal.Value
public import proofs.«01_k».proof.Proof.Gen.Reference2Ideal.Read
public import proofs.«01_k».proof.Proof.Tiles
public import Idealize.ShloMosaic.Lib.Pointwise
public import Idealize.ShloMosaic.Lib.Pipeline.ValueKit

@[expose] public section

set_option maxRecDepth 16384

/-! The gated projection: a block's arithmetic. -/

noncomputable section
open Idealize.ShloMosaic Idealize.ShloMosaic.TcCoe Idealize.SL.Sem
open Cert.Row Cert.Tiles Cert.Kernel2Ideal Cert.Kernel2Ideal.Gen Cert.Kernel2Ideal.Value
namespace Cert.ProjA

variable (x0 : Vec Ideal S512x2048 .f32) (x1 : Vec Ideal S1x1x2048 .f32) (x2 : Vec Ideal S1x2048x4096 .bf16) (x3 : Vec Ideal S1x1x2048x512 .f32)

/-- A block's normalized row. -/
abbrev nr (r : Fin 512) : Fin 2048 → EReal := rms (fun c => x0 (ix2 r c)) (fun c => x1 (ix3 0 0 c))

theorem read_n (r : Fin 512) (j : Fin 2048) : k0_pay3 (F := Ideal) x0 x1 (ix2 r j) = nr x0 x1 r j := by
  pointwise [k0_pay3, rms]

/-- A block's gated projection. -/
def uB : Vec Ideal S512x2048 .bf16 := fun i =>
  glu (nr x0 x1 (i 0)) (fun c => x2 (ix3 0 c ⟨i 1, by have := (i 1).isLt; show (i 1 : ℕ) < 4096; exact lt_trans (i 1).isLt (by decide)⟩))
    (fun c => x2 (ix3 0 c ⟨2048 + i 1, by have h : (i 1 : ℕ) < 2048 := (i 1).isLt; omega⟩))

theorem res0 (r : Fin 512) (j : Fin 256) :
    k0_pay6 (F := Ideal) (k0_pay4 (F := Ideal) (k0_pay3 (F := Ideal) x0 x1) (ldC x2 0 inb_S1x2048x4096_S1x2048x256_0_0_0)) (k0_pay5 (F := Ideal) (k0_pay3 (F := Ideal) x0 x1) (ldC x2 2048 inb_S1x2048x4096_S1x2048x256_0_0_2048)) (Scalar.ofBits (F := Ideal) .f32 0x3F800000#32) (ix2 r j) = uB x0 x1 x2 (ix2 r ⟨0 + j, by omega⟩) := by
  have e1 : ∀ a : Fin 2048, _ := fun a => ldC_at x2 0 inb_S1x2048x4096_S1x2048x256_0_0_0 (by omega) a j
  have e2 : ∀ a : Fin 2048, _ := fun a => ldC_at x2 2048 inb_S1x2048x4096_S1x2048x256_0_0_2048 (by omega) a j
  pointwise [k0_pay6, k0_pay4, k0_pay5, read_n, e1, e2, from_zero, uB, glu, proj]

theorem res1 (r : Fin 512) (j : Fin 256) :
    k0_pay7 (F := Ideal) (k0_pay3 (F := Ideal) x0 x1) (ldC x2 256 inb_S1x2048x4096_S1x2048x256_0_0_256) (k0_pay3 (F := Ideal) x0 x1) (ldC x2 2304 inb_S1x2048x4096_S1x2048x256_0_0_2304) (ix2 r j) = uB x0 x1 x2 (ix2 r ⟨256 + j, by omega⟩) := by
  have e1 : ∀ a : Fin 2048, _ := fun a => ldC_at x2 256 inb_S1x2048x4096_S1x2048x256_0_0_256 (by omega) a j
  have e2 : ∀ a : Fin 2048, _ := fun a => ldC_at x2 2304 inb_S1x2048x4096_S1x2048x256_0_0_2304 (by omega) a j
  pointwise [k0_pay7, read_n, e1, e2, from_zero, uB, glu, proj]
  simp only [← Nat.add_assoc, Nat.reduceAdd]

theorem res2 (r : Fin 512) (j : Fin 256) :
    k0_pay9 (F := Ideal) (k0_pay8 (F := Ideal) (k0_pay3 (F := Ideal) x0 x1) (ldC x2 512 inb_S1x2048x4096_S1x2048x256_0_0_512)) (k0_pay3 (F := Ideal) x0 x1) (ldC x2 2560 inb_S1x2048x4096_S1x2048x256_0_0_2560) (ix2 r j) = uB x0 x1 x2 (ix2 r ⟨512 + j, by omega⟩) := by
  have e1 : ∀ a : Fin 2048, _ := fun a => ldC_at x2 512 inb_S1x2048x4096_S1x2048x256_0_0_512 (by omega) a j
  have e2 : ∀ a : Fin 2048, _ := fun a => ldC_at x2 2560 inb_S1x2048x4096_S1x2048x256_0_0_2560 (by omega) a j
  pointwise [k0_pay9, k0_pay8, read_n, e1, e2, from_zero, uB, glu, proj]
  simp only [← Nat.add_assoc, Nat.reduceAdd]

theorem res3 (r : Fin 512) (j : Fin 256) :
    k0_pay10 (F := Ideal) (k0_pay3 (F := Ideal) x0 x1) (ldC x2 768 inb_S1x2048x4096_S1x2048x256_0_0_768) (k0_pay3 (F := Ideal) x0 x1) (ldC x2 2816 inb_S1x2048x4096_S1x2048x256_0_0_2816) (ix2 r j) = uB x0 x1 x2 (ix2 r ⟨768 + j, by omega⟩) := by
  have e1 : ∀ a : Fin 2048, _ := fun a => ldC_at x2 768 inb_S1x2048x4096_S1x2048x256_0_0_768 (by omega) a j
  have e2 : ∀ a : Fin 2048, _ := fun a => ldC_at x2 2816 inb_S1x2048x4096_S1x2048x256_0_0_2816 (by omega) a j
  pointwise [k0_pay10, read_n, e1, e2, from_zero, uB, glu, proj]
  simp only [← Nat.add_assoc, Nat.reduceAdd]

theorem res4 (r : Fin 512) (j : Fin 256) :
    k0_pay11 (F := Ideal) (k0_pay3 (F := Ideal) x0 x1) (ldC x2 1024 inb_S1x2048x4096_S1x2048x256_0_0_1024) (k0_pay3 (F := Ideal) x0 x1) (ldC x2 3072 inb_S1x2048x4096_S1x2048x256_0_0_3072) (ix2 r j) = uB x0 x1 x2 (ix2 r ⟨1024 + j, by omega⟩) := by
  have e1 : ∀ a : Fin 2048, _ := fun a => ldC_at x2 1024 inb_S1x2048x4096_S1x2048x256_0_0_1024 (by omega) a j
  have e2 : ∀ a : Fin 2048, _ := fun a => ldC_at x2 3072 inb_S1x2048x4096_S1x2048x256_0_0_3072 (by omega) a j
  pointwise [k0_pay11, read_n, e1, e2, from_zero, uB, glu, proj]
  simp only [← Nat.add_assoc, Nat.reduceAdd]

theorem res5 (r : Fin 512) (j : Fin 256) :
    k0_pay14 (F := Ideal) (k0_pay12 (F := Ideal) (k0_pay3 (F := Ideal) x0 x1) (ldC x2 1280 inb_S1x2048x4096_S1x2048x256_0_0_1280)) (k0_pay13 (F := Ideal) (k0_pay3 (F := Ideal) x0 x1) (ldC x2 3328 inb_S1x2048x4096_S1x2048x256_0_0_3328)) (Scalar.ofBits (F := Ideal) .f32 0x3F800000#32) (ix2 r j) = uB x0 x1 x2 (ix2 r ⟨1280 + j, by omega⟩) := by
  have e1 : ∀ a : Fin 2048, _ := fun a => ldC_at x2 1280 inb_S1x2048x4096_S1x2048x256_0_0_1280 (by omega) a j
  have e2 : ∀ a : Fin 2048, _ := fun a => ldC_at x2 3328 inb_S1x2048x4096_S1x2048x256_0_0_3328 (by omega) a j
  pointwise [k0_pay14, k0_pay12, k0_pay13, read_n, e1, e2, from_zero, uB, glu, proj]
  simp only [← Nat.add_assoc, Nat.reduceAdd]

theorem res6 (r : Fin 512) (j : Fin 256) :
    k0_pay15 (F := Ideal) (k0_pay3 (F := Ideal) x0 x1) (ldC x2 1536 inb_S1x2048x4096_S1x2048x256_0_0_1536) (k0_pay3 (F := Ideal) x0 x1) (ldC x2 3584 inb_S1x2048x4096_S1x2048x256_0_0_3584) (ix2 r j) = uB x0 x1 x2 (ix2 r ⟨1536 + j, by omega⟩) := by
  have e1 : ∀ a : Fin 2048, _ := fun a => ldC_at x2 1536 inb_S1x2048x4096_S1x2048x256_0_0_1536 (by omega) a j
  have e2 : ∀ a : Fin 2048, _ := fun a => ldC_at x2 3584 inb_S1x2048x4096_S1x2048x256_0_0_3584 (by omega) a j
  pointwise [k0_pay15, read_n, e1, e2, from_zero, uB, glu, proj]
  simp only [← Nat.add_assoc, Nat.reduceAdd]

theorem res7 (r : Fin 512) (j : Fin 256) :
    k0_pay1 (F := Ideal) (k0_pay16 (F := Ideal) (k0_pay3 (F := Ideal) x0 x1) (ldC x2 1792 inb_S1x2048x4096_S1x2048x256_0_0_1792)) (k0_pay3 (F := Ideal) x0 x1) (ldC x2 3840 inb_S1x2048x4096_S1x2048x256_0_0_3840) (ix2 r j) = uB x0 x1 x2 (ix2 r ⟨1792 + j, by omega⟩) := by
  have e1 : ∀ a : Fin 2048, _ := fun a => ldC_at x2 1792 inb_S1x2048x4096_S1x2048x256_0_0_1792 (by omega) a j
  have e2 : ∀ a : Fin 2048, _ := fun a => ldC_at x2 3840 inb_S1x2048x4096_S1x2048x256_0_0_3840 (by omega) a j
  pointwise [k0_pay1, k0_pay16, read_n, e1, e2, from_zero, uB, glu, proj]
  simp only [← Nat.add_assoc, Nat.reduceAdd]

theorem out4 (c : Dev nD) (i : grid0.Coords) (arg1 : Memref sig .tc .vmem S512x2048 .f32) (harg1 : arg1.IsWhole) (arg2 : Memref sig .tc .vmem S1x1x2048 .f32) (harg2 : arg2.IsWhole)
    (arg3 : Memref sig .tc .vmem S1x2048x4096 .bf16) (harg3 : arg3.IsWhole) (arg4 : Memref sig .tc .vmem S1x1x2048x512 .f32) (harg4 : arg4.IsWhole) (arg5 : Memref sig .tc .vmem S512x2048 .bf16) (harg5 : arg5.IsWhole)
    (arg6 : Memref sig .tc .vmem S1x2048x512 .bf16) (harg6 : arg6.IsWhole) (arg7 : Memref sig .tc .vmem S512x2048 .bf16) (harg7 : arg7.IsWhole) :
    out0_A_4 (F := Ideal) c i arg1 harg1 arg2 harg2 arg3 harg3 arg4 harg4 arg5 harg5 arg6 harg6 arg7 harg7 x0 x1 x2 x3 = uB x0 x1 x2 := by
  frame_out
  funext y
  exact tiles8 (uB x0 x1 x2) _ _ _ _ _ _ _ _ _ _ _ _ _ _ _ _ (res0 x0 x1 x2) (res1 x0 x1 x2) (res2 x0 x1 x2) (res3 x0 x1 x2) (res4 x0 x1 x2) (res5 x0 x1 x2) (res6 x0 x1 x2) (res7 x0 x1 x2) y

theorem out5 (c : Dev nD) (i : grid0.Coords) (arg1 : Memref sig .tc .vmem S512x2048 .f32) (harg1 : arg1.IsWhole) (arg2 : Memref sig .tc .vmem S1x1x2048 .f32) (harg2 : arg2.IsWhole)
    (arg3 : Memref sig .tc .vmem S1x2048x4096 .bf16) (harg3 : arg3.IsWhole) (arg4 : Memref sig .tc .vmem S1x1x2048x512 .f32) (harg4 : arg4.IsWhole) (arg5 : Memref sig .tc .vmem S512x2048 .bf16) (harg5 : arg5.IsWhole)
    (arg6 : Memref sig .tc .vmem S1x2048x512 .bf16) (harg6 : arg6.IsWhole) (arg7 : Memref sig .tc .vmem S512x2048 .bf16) (harg7 : arg7.IsWhole) :
    out0_A_5 (F := Ideal) c i arg1 harg1 arg2 harg2 arg3 harg3 arg4 harg4 arg5 harg5 arg6 harg6 arg7 harg7 x0 x1 x2 x3 = k0_pay2 (F := Ideal) x3 := by
  frame_out

/-! What the kernel leaves in its results, over the program's arguments. -/

variable (m : (ℓ : Loc nD τ sig) → Buf (Elt Ideal) ℓ)

theorem idx : ∀ t : Fin cfg0.N, win0_0.index t = ![t.val, 0] ∧ win0_1.index t = ![0, 0, 0] ∧ win0_2.index t = ![0, 0, 0]
    ∧ win0_3.index t = ![0, t.val, 0, 0] ∧ win0_4.index t = ![t.val, 0] ∧ win0_5.index t = ![t.val, 0, 0] :=
  (by decide +kernel : ∀ t : Fin grid0.N, _)

abbrev B0 (c : Dev nD) (t : Fin cfg0.N) : Vec Ideal S512x2048 .f32 := iblk m c 0 t
abbrev B1 (c : Dev nD) (t : Fin cfg0.N) : Vec Ideal S1x1x2048 .f32 := iblk m c 1 t
abbrev B2 (c : Dev nD) (t : Fin cfg0.N) : Vec Ideal S1x2048x4096 .bf16 := iblk m c 2 t
abbrev B3 (c : Dev nD) (t : Fin cfg0.N) : Vec Ideal S1x1x2048x512 .f32 := iblk m c 3 t
abbrev a0 (c : Dev nD) : S2x8192x2048.Idx → EReal := m ((c : Thread nD τ).loc main_arg0)
abbrev a1 (c : Dev nD) : S4x2048.Idx → EReal := m ((c : Thread nD τ).loc main_arg1)
abbrev a2 (c : Dev nD) : S2x2048x4096.Idx → EReal := m ((c : Thread nD τ).loc main_arg2)
abbrev a3 (c : Dev nD) : S4x32x2048x1024.Idx → EReal := m ((c : Thread nD τ).loc main_arg3)

theorem b0 (c : Dev nD) (t : Fin cfg0.N) (r : Fin 512) (j : Fin 2048) (R : Fin 16384) (hR : R.val = 512 * t.val + r.val) :
    B0 m c t (ix2 r j) = a0 m c (ix3 ⟨R / 8192, by omega⟩ ⟨R % 8192, by omega⟩ j) := by
  blk_point [iblk, V, idx t]
theorem b1 (c : Dev nD) (t : Fin cfg0.N) (j : Fin 2048) : B1 m c t (ix3 0 0 j) = a1 m c (ix2 0 j) := by
  blk_point [iblk, V, idx t]
theorem b2 (c : Dev nD) (t : Fin cfg0.N) (i : Fin 2048) (j : Fin 4096) : B2 m c t (ix3 0 i j) = a2 m c (ix3 0 i j) := by
  blk_point [iblk, V, idx t]

/-- A normalized row. -/
abbrev NR (c : Dev nD) (R : Fin 16384) : Fin 2048 → EReal :=
  rms (fun j => a0 m c (ix3 ⟨R / 8192, by omega⟩ ⟨R % 8192, by omega⟩ j)) (fun j => a1 m c (ix2 0 j))

/-- The first result: the gated projection. -/
def gated (c : Dev nD) : S16384x2048.Idx → EReal := fun i =>
  glu (NR m c (i 0)) (fun a => a2 m c (ix3 0 a ⟨i 1, lt_trans (i 1).isLt (by decide)⟩))
    (fun a => a2 m c (ix3 0 a ⟨2048 + i 1, by have h : (i 1 : ℕ) < 2048 := (i 1).isLt; omega⟩))

theorem point4 (c : Dev nD) (t : Fin cfg0.N) (r : Fin 512) (R : Fin 16384) (hR : R.val = 512 * t.val + r.val) (j : Fin 2048) :
    uB (B0 m c t) (B1 m c t) (B2 m c t) (ix2 r j) = gated m c (ix2 R j) := by
  show glu (rms (fun j => B0 m c t (ix2 r j)) (fun j => B1 m c t (ix3 0 0 j))) (fun a => B2 m c t (ix3 0 a _)) (fun a => B2 m c t (ix3 0 a _)) = _
  rw [funext fun j => b0 m c t r j R hR, funext fun j => b1 m c t j, funext fun a => b2 m c t a _, funext fun a => b2 m c t a _]
  rfl

theorem emb4 (t : Fin cfg0.N) (y : S512x2048.Idx) (hR : 512 * t.val + (y 0).val < 16384) :
    ((View.whole main_v3_0).slice (win0_4.rect t)).emb y = ix2 ⟨512 * t.val + (y 0).val, hR⟩ (y 1) := by
  blk_ext [idx t]

theorem final4 (c : Dev nD) : (dats m 0 c).arrAt 4 cfg0.N = gated m c := by
  refine (dats m 0 c).arrAt_eq_of_covers 4 _ (by decide +kernel) fun t _ y => ?_
  have hR : 512 * t.val + (y 0).val < 16384 := by
    have h1 : t.val < 32 := t.isLt
    have h2 : (y 0).val < 512 := (y 0).isLt
    omega
  have hb : uB (B0 m c t) (B1 m c t) (B2 m c t) y = gated m c (((View.whole main_v3_0).slice (win0_4.rect t)).emb y) := by
    rw [emb4 t y hR]
    refine Eq.trans ?_ (point4 m c t (y 0) ⟨512 * t.val + (y 0).val, hR⟩ rfl (y 1))
    congr 1
    funext a
    fin_cases a <;> rfl
  blk_simp
  rw [after0_4]
  dsimp only [outsAt0]
  rw [out4]
  exact hb

/-- The second result: the first half of the carried weights' columns. -/
def carried (c : Dev nD) : S32x2048x512.Idx → EReal := fun i => a3 m c (ix4 0 (i 0) (i 1) ⟨i 2, lt_trans (i 2).isLt (by decide)⟩)

theorem final5 (c : Dev nD) : (dats m 0 c).arrAt 5 cfg0.N = carried m c := by
  refine (dats m 0 c).arrAt_eq_of_covers 5 _ (by decide +kernel) fun t _ y => ?_
  have hb : k0_pay2 (F := Ideal) (B3 m c t) y = carried m c (((View.whole main_v3_1).slice (win0_5.rect t)).emb y) := by
    show _ = a3 m c _
    pointwise [k0_pay2]
    blk_ext [iblk, V, idx t]
  blk_simp
  rw [after0_5]
  dsimp only [outsAt0]
  rw [out5]
  exact hb

/-! The reference's results. -/

open Cert.Reference2Ideal.Read

theorem r14 (x0 : (⟨Cert.Reference2Ideal.S2x8192x2048, .f32⟩ : BufTy).Contents (Elt Ideal)) (x1 : (⟨Cert.Reference2Ideal.S4x2048, .f32⟩ : BufTy).Contents (Elt Ideal)) (b : Fin 2) (r : Fin 8192) (j : Fin 2048) :
    val_main_v14 (F := Ideal) x0 x1 (ix3 b r j) = rms (fun c => x0 (ix3 b r c)) (fun c => x1 (ix2 0 c)) j := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, rms]

theorem r28 (x0 : (⟨Cert.Reference2Ideal.S2x8192x2048, .f32⟩ : BufTy).Contents (Elt Ideal)) (x1 : (⟨Cert.Reference2Ideal.S4x2048, .f32⟩ : BufTy).Contents (Elt Ideal))
    (x2 : (⟨Cert.Reference2Ideal.S2x2048x4096, .f32⟩ : BufTy).Contents (Elt Ideal)) (R : Fin 16384) (j : Fin 2048) :
    val_main_v28 (F := Ideal) x0 x1 x2 (ix2 R j) = glu (rms (fun c => x0 (ix3 ⟨R / 8192, by omega⟩ ⟨R % 8192, by omega⟩ c)) (fun c => x1 (ix2 0 c)))
      (fun a => x2 (ix3 0 a ⟨j, by omega⟩)) (fun a => x2 (ix3 0 a ⟨2048 + j, by omega⟩)) := by
  pointwise [val_main_v15, val_main_v16, val_main_v17, val_main_v18, val_main_v19, val_main_v20, val_main_v21, val_main_cst_2, val_main_v22, val_main_v23, val_main_cst_3, val_main_v24, val_main_v25, val_main_v26, val_main_v27, val_main_v28, r14, glu, proj]

theorem r33 (x3 : (⟨Cert.Reference2Ideal.S4x32x2048x1024, .f32⟩ : BufTy).Contents (Elt Ideal)) (e : Fin 32) (r : Fin 2048) (j : Fin 512) :
    val_main_v33 (F := Ideal) x3 (ix3 e r j) = x3 (ix4 0 e r ⟨j, by omega⟩) := by
  pointwise [val_main_v29, val_main_v30, val_main_v31, val_main_v33]

theorem result4 (c : Dev nD) : (dats m 0 c).arrAt 4 cfg0.N = val_main_v28 (F := Ideal) (a0 m c) (a1 m c) (a2 m c) := by
  rw [final4 m c]
  funext i
  have hi : i = ix2 (i 0) (i 1) := by
    funext a
    fin_cases a <;> rfl
  rw [hi]
  exact (r28 (a0 m c) (a1 m c) (a2 m c) (i 0) (i 1)).symm

theorem result5 (c : Dev nD) : (dats m 0 c).arrAt 5 cfg0.N = val_main_v33 (F := Ideal) (a3 m c) := by
  rw [final5 m c]
  funext i
  have hi : i = ix3 (i 0) (i 1) (i 2) := by
    funext a
    fin_cases a <;> rfl
  rw [hi]
  exact (r33 (a3 m c) (i 0) (i 1) (i 2)).symm

end Cert.ProjA

end
-- ==== Proof.ProjC.lean ====
module

public import proofs.«01_k».proof.Proof.Gen.Kernel3Ideal.Value
public import proofs.«01_k».proof.Proof.Gen.Reference3Ideal.Read
public import proofs.«01_k».proof.Proof.Tiles
public import Idealize.ShloMosaic.Lib.Pointwise
public import Idealize.ShloMosaic.Lib.Pipeline.ValueKit

@[expose] public section

set_option maxRecDepth 16384

/-! The short convolution's projection: a block's arithmetic. -/

noncomputable section
open Idealize.ShloMosaic Idealize.ShloMosaic.TcCoe Idealize.SL.Sem
open Cert.Row Cert.Tiles Cert.Kernel3Ideal Cert.Kernel3Ideal.Gen Cert.Kernel3Ideal.Value
namespace Cert.ProjC

variable (x0 : Vec Ideal S512x2048 .f32) (x1 : Vec Ideal S1x1x2048 .f32) (x2 : Vec Ideal S1x2048x6144 .bf16)

/-- A block's normalized row. -/
abbrev nr (r : Fin 512) : Fin 2048 → EReal := rms (fun c => x0 (ix2 r c)) (fun c => x1 (ix3 0 0 c))

theorem read_n (r : Fin 512) (j : Fin 2048) : k0_pay1 (F := Ideal) x0 x1 (ix2 r j) = nr x0 x1 r j := by
  pointwise [k0_pay1, rms]

/-- A block's outer gate. -/
def bB : Vec Ideal S512x2048 .bf16 := fun i =>
  proj (nr x0 x1 (i 0)) (fun c => x2 (ix3 0 c ⟨i 1, lt_trans (i 1).isLt (by decide)⟩))

/-- A block's gated values. -/
def cB : Vec Ideal S512x2048 .bf16 := fun i =>
  proj (nr x0 x1 (i 0)) (fun c => x2 (ix3 0 c ⟨2048 + i 1, by have h : (i 1 : ℕ) < 2048 := (i 1).isLt; omega⟩))
    * proj (nr x0 x1 (i 0)) (fun c => x2 (ix3 0 c ⟨4096 + i 1, by have h : (i 1 : ℕ) < 2048 := (i 1).isLt; omega⟩))

theorem resb0 (r : Fin 512) (j : Fin 256) :
    k0_pay2 (F := Ideal) (k0_pay1 (F := Ideal) x0 x1) (ldC x2 0 inb_S1x2048x6144_S1x2048x256_0_0_0) (ix2 r j) = bB x0 x1 x2 (ix2 r ⟨0 + j, by omega⟩) := by
  have e1 : ∀ a : Fin 2048, _ := fun a => ldC_at x2 0 inb_S1x2048x6144_S1x2048x256_0_0_0 (by omega) a j
  pointwise [k0_pay2, read_n, e1, bB, proj]

theorem resb1 (r : Fin 512) (j : Fin 256) :
    k0_pay5 (F := Ideal) (k0_pay1 (F := Ideal) x0 x1) (ldC x2 256 inb_S1x2048x6144_S1x2048x256_0_0_256) (ix2 r j) = bB x0 x1 x2 (ix2 r ⟨256 + j, by omega⟩) := by
  have e1 : ∀ a : Fin 2048, _ := fun a => ldC_at x2 256 inb_S1x2048x6144_S1x2048x256_0_0_256 (by omega) a j
  pointwise [k0_pay5, read_n, e1, bB, proj]

theorem resb2 (r : Fin 512) (j : Fin 256) :
    k0_pay7 (F := Ideal) (k0_pay1 (F := Ideal) x0 x1) (ldC x2 512 inb_S1x2048x6144_S1x2048x256_0_0_512) (ix2 r j) = bB x0 x1 x2 (ix2 r ⟨512 + j, by omega⟩) := by
  have e1 : ∀ a : Fin 2048, _ := fun a => ldC_at x2 512 inb_S1x2048x6144_S1x2048x256_0_0_512 (by omega) a j
  pointwise [k0_pay7, read_n, e1, bB, proj]

theorem resb3 (r : Fin 512) (j : Fin 256) :
    k0_pay9 (F := Ideal) (k0_pay1 (F := Ideal) x0 x1) (ldC x2 768 inb_S1x2048x6144_S1x2048x256_0_0_768) (ix2 r j) = bB x0 x1 x2 (ix2 r ⟨768 + j, by omega⟩) := by
  have e1 : ∀ a : Fin 2048, _ := fun a => ldC_at x2 768 inb_S1x2048x6144_S1x2048x256_0_0_768 (by omega) a j
  pointwise [k0_pay9, read_n, e1, bB, proj]

theorem resb4 (r : Fin 512) (j : Fin 256) :
    k0_pay12 (F := Ideal) (k0_pay1 (F := Ideal) x0 x1) (ldC x2 1024 inb_S1x2048x6144_S1x2048x256_0_0_1024) (ix2 r j) = bB x0 x1 x2 (ix2 r ⟨1024 + j, by omega⟩) := by
  have e1 : ∀ a : Fin 2048, _ := fun a => ldC_at x2 1024 inb_S1x2048x6144_S1x2048x256_0_0_1024 (by omega) a j
  pointwise [k0_pay12, read_n, e1, bB, proj]

theorem resb5 (r : Fin 512) (j : Fin 256) :
    k0_pay14 (F := Ideal) (k0_pay1 (F := Ideal) x0 x1) (ldC x2 1280 inb_S1x2048x6144_S1x2048x256_0_0_1280) (ix2 r j) = bB x0 x1 x2 (ix2 r ⟨1280 + j, by omega⟩) := by
  have e1 : ∀ a : Fin 2048, _ := fun a => ldC_at x2 1280 inb_S1x2048x6144_S1x2048x256_0_0_1280 (by omega) a j
  pointwise [k0_pay14, read_n, e1, bB, proj]

theorem resb6 (r : Fin 512) (j : Fin 256) :
    k0_pay16 (F := Ideal) (k0_pay1 (F := Ideal) x0 x1) (ldC x2 1536 inb_S1x2048x6144_S1x2048x256_0_0_1536) (ix2 r j) = bB x0 x1 x2 (ix2 r ⟨1536 + j, by omega⟩) := by
  have e1 : ∀ a : Fin 2048, _ := fun a => ldC_at x2 1536 inb_S1x2048x6144_S1x2048x256_0_0_1536 (by omega) a j
  pointwise [k0_pay16, read_n, e1, bB, proj]

theorem resb7 (r : Fin 512) (j : Fin 256) :
    k0_pay18 (F := Ideal) (k0_pay1 (F := Ideal) x0 x1) (ldC x2 1792 inb_S1x2048x6144_S1x2048x256_0_0_1792) (ix2 r j) = bB x0 x1 x2 (ix2 r ⟨1792 + j, by omega⟩) := by
  have e1 : ∀ a : Fin 2048, _ := fun a => ldC_at x2 1792 inb_S1x2048x6144_S1x2048x256_0_0_1792 (by omega) a j
  pointwise [k0_pay18, read_n, e1, bB, proj]

theorem resc0 (r : Fin 512) (j : Fin 256) :
    k0_pay4 (F := Ideal) (k0_pay3 (F := Ideal) (k0_pay1 (F := Ideal) x0 x1) (ldC x2 2048 inb_S1x2048x6144_S1x2048x256_0_0_2048)) (k0_pay1 (F := Ideal) x0 x1) (ldC x2 4096 inb_S1x2048x6144_S1x2048x256_0_0_4096) (ix2 r j) = cB x0 x1 x2 (ix2 r ⟨0 + j, by omega⟩) := by
  have e1 : ∀ a : Fin 2048, _ := fun a => ldC_at x2 2048 inb_S1x2048x6144_S1x2048x256_0_0_2048 (by omega) a j
  have e2 : ∀ a : Fin 2048, _ := fun a => ldC_at x2 4096 inb_S1x2048x6144_S1x2048x256_0_0_4096 (by omega) a j
  pointwise [k0_pay3, k0_pay4, read_n, e1, e2, cB, proj]

theorem resc1 (r : Fin 512) (j : Fin 256) :
    k0_pay6 (F := Ideal) (k0_pay1 (F := Ideal) x0 x1) (ldC x2 2304 inb_S1x2048x6144_S1x2048x256_0_0_2304) (k0_pay1 (F := Ideal) x0 x1) (ldC x2 4352 inb_S1x2048x6144_S1x2048x256_0_0_4352) (ix2 r j) = cB x0 x1 x2 (ix2 r ⟨256 + j, by omega⟩) := by
  have e1 : ∀ a : Fin 2048, _ := fun a => ldC_at x2 2304 inb_S1x2048x6144_S1x2048x256_0_0_2304 (by omega) a j
  have e2 : ∀ a : Fin 2048, _ := fun a => ldC_at x2 4352 inb_S1x2048x6144_S1x2048x256_0_0_4352 (by omega) a j
  pointwise [k0_pay6, read_n, e1, e2, cB, proj]
  simp only [← Nat.add_assoc, Nat.reduceAdd]

theorem resc2 (r : Fin 512) (j : Fin 256) :
    k0_pay8 (F := Ideal) (k0_pay1 (F := Ideal) x0 x1) (ldC x2 2560 inb_S1x2048x6144_S1x2048x256_0_0_2560) (k0_pay1 (F := Ideal) x0 x1) (ldC x2 4608 inb_S1x2048x6144_S1x2048x256_0_0_4608) (ix2 r j) = cB x0 x1 x2 (ix2 r ⟨512 + j, by omega⟩) := by
  have e1 : ∀ a : Fin 2048, _ := fun a => ldC_at x2 2560 inb_S1x2048x6144_S1x2048x256_0_0_2560 (by omega) a j
  have e2 : ∀ a : Fin 2048, _ := fun a => ldC_at x2 4608 inb_S1x2048x6144_S1x2048x256_0_0_4608 (by omega) a j
  pointwise [k0_pay8, read_n, e1, e2, cB, proj]
  simp only [← Nat.add_assoc, Nat.reduceAdd]

theorem resc3 (r : Fin 512) (j : Fin 256) :
    k0_pay11 (F := Ideal) (k0_pay10 (F := Ideal) (k0_pay1 (F := Ideal) x0 x1) (ldC x2 2816 inb_S1x2048x6144_S1x2048x256_0_0_2816)) (k0_pay1 (F := Ideal) x0 x1) (ldC x2 4864 inb_S1x2048x6144_S1x2048x256_0_0_4864) (ix2 r j) = cB x0 x1 x2 (ix2 r ⟨768 + j, by omega⟩) := by
  have e1 : ∀ a : Fin 2048, _ := fun a => ldC_at x2 2816 inb_S1x2048x6144_S1x2048x256_0_0_2816 (by omega) a j
  have e2 : ∀ a : Fin 2048, _ := fun a => ldC_at x2 4864 inb_S1x2048x6144_S1x2048x256_0_0_4864 (by omega) a j
  pointwise [k0_pay10, k0_pay11, read_n, e1, e2, cB, proj]
  simp only [← Nat.add_assoc, Nat.reduceAdd]

theorem resc4 (r : Fin 512) (j : Fin 256) :
    k0_pay13 (F := Ideal) (k0_pay1 (F := Ideal) x0 x1) (ldC x2 3072 inb_S1x2048x6144_S1x2048x256_0_0_3072) (k0_pay1 (F := Ideal) x0 x1) (ldC x2 5120 inb_S1x2048x6144_S1x2048x256_0_0_5120) (ix2 r j) = cB x0 x1 x2 (ix2 r ⟨1024 + j, by omega⟩) := by
  have e1 : ∀ a : Fin 2048, _ := fun a => ldC_at x2 3072 inb_S1x2048x6144_S1x2048x256_0_0_3072 (by omega) a j
  have e2 : ∀ a : Fin 2048, _ := fun a => ldC_at x2 5120 inb_S1x2048x6144_S1x2048x256_0_0_5120 (by omega) a j
  pointwise [k0_pay13, read_n, e1, e2, cB, proj]
  simp only [← Nat.add_assoc, Nat.reduceAdd]

theorem resc5 (r : Fin 512) (j : Fin 256) :
    k0_pay15 (F := Ideal) (k0_pay1 (F := Ideal) x0 x1) (ldC x2 3328 inb_S1x2048x6144_S1x2048x256_0_0_3328) (k0_pay1 (F := Ideal) x0 x1) (ldC x2 5376 inb_S1x2048x6144_S1x2048x256_0_0_5376) (ix2 r j) = cB x0 x1 x2 (ix2 r ⟨1280 + j, by omega⟩) := by
  have e1 : ∀ a : Fin 2048, _ := fun a => ldC_at x2 3328 inb_S1x2048x6144_S1x2048x256_0_0_3328 (by omega) a j
  have e2 : ∀ a : Fin 2048, _ := fun a => ldC_at x2 5376 inb_S1x2048x6144_S1x2048x256_0_0_5376 (by omega) a j
  pointwise [k0_pay15, read_n, e1, e2, cB, proj]
  simp only [← Nat.add_assoc, Nat.reduceAdd]

theorem resc6 (r : Fin 512) (j : Fin 256) :
    k0_pay17 (F := Ideal) (k0_pay1 (F := Ideal) x0 x1) (ldC x2 3584 inb_S1x2048x6144_S1x2048x256_0_0_3584) (k0_pay1 (F := Ideal) x0 x1) (ldC x2 5632 inb_S1x2048x6144_S1x2048x256_0_0_5632) (ix2 r j) = cB x0 x1 x2 (ix2 r ⟨1536 + j, by omega⟩) := by
  have e1 : ∀ a : Fin 2048, _ := fun a => ldC_at x2 3584 inb_S1x2048x6144_S1x2048x256_0_0_3584 (by omega) a j
  have e2 : ∀ a : Fin 2048, _ := fun a => ldC_at x2 5632 inb_S1x2048x6144_S1x2048x256_0_0_5632 (by omega) a j
  pointwise [k0_pay17, read_n, e1, e2, cB, proj]
  simp only [← Nat.add_assoc, Nat.reduceAdd]

theorem resc7 (r : Fin 512) (j : Fin 256) :
    k0_pay19 (F := Ideal) (k0_pay1 (F := Ideal) x0 x1) (ldC x2 3840 inb_S1x2048x6144_S1x2048x256_0_0_3840) (k0_pay1 (F := Ideal) x0 x1) (ldC x2 5888 inb_S1x2048x6144_S1x2048x256_0_0_5888) (ix2 r j) = cB x0 x1 x2 (ix2 r ⟨1792 + j, by omega⟩) := by
  have e1 : ∀ a : Fin 2048, _ := fun a => ldC_at x2 3840 inb_S1x2048x6144_S1x2048x256_0_0_3840 (by omega) a j
  have e2 : ∀ a : Fin 2048, _ := fun a => ldC_at x2 5888 inb_S1x2048x6144_S1x2048x256_0_0_5888 (by omega) a j
  pointwise [k0_pay19, read_n, e1, e2, cB, proj]
  simp only [← Nat.add_assoc, Nat.reduceAdd]

theorem out3 (c : Dev nD) (i : grid0.Coords) (arg1 : Memref sig .tc .vmem S512x2048 .f32) (harg1 : arg1.IsWhole) (arg2 : Memref sig .tc .vmem S1x1x2048 .f32) (harg2 : arg2.IsWhole)
    (arg3 : Memref sig .tc .vmem S1x2048x6144 .bf16) (harg3 : arg3.IsWhole) (arg4 : Memref sig .tc .vmem S512x2048 .bf16) (harg4 : arg4.IsWhole)
    (arg5 : Memref sig .tc .vmem S512x2048 .bf16) (harg5 : arg5.IsWhole) (arg6 : Memref sig .tc .vmem S512x2048 .bf16) (harg6 : arg6.IsWhole) :
    out0_A_3 (F := Ideal) c i arg1 harg1 arg2 harg2 arg3 harg3 arg4 harg4 arg5 harg5 arg6 harg6 x0 x1 x2 = bB x0 x1 x2 := by
  frame_out
  funext y
  exact tiles8 (bB x0 x1 x2) _ _ _ _ _ _ _ _ _ _ _ _ _ _ _ _ (resb0 x0 x1 x2) (resb1 x0 x1 x2) (resb2 x0 x1 x2) (resb3 x0 x1 x2) (resb4 x0 x1 x2) (resb5 x0 x1 x2) (resb6 x0 x1 x2) (resb7 x0 x1 x2) y

theorem out4 (c : Dev nD) (i : grid0.Coords) (arg1 : Memref sig .tc .vmem S512x2048 .f32) (harg1 : arg1.IsWhole) (arg2 : Memref sig .tc .vmem S1x1x2048 .f32) (harg2 : arg2.IsWhole)
    (arg3 : Memref sig .tc .vmem S1x2048x6144 .bf16) (harg3 : arg3.IsWhole) (arg4 : Memref sig .tc .vmem S512x2048 .bf16) (harg4 : arg4.IsWhole)
    (arg5 : Memref sig .tc .vmem S512x2048 .bf16) (harg5 : arg5.IsWhole) (arg6 : Memref sig .tc .vmem S512x2048 .bf16) (harg6 : arg6.IsWhole) :
    out0_A_4 (F := Ideal) c i arg1 harg1 arg2 harg2 arg3 harg3 arg4 harg4 arg5 harg5 arg6 harg6 x0 x1 x2 = cB x0 x1 x2 := by
  frame_out
  funext y
  exact tiles8 (cB x0 x1 x2) _ _ _ _ _ _ _ _ _ _ _ _ _ _ _ _ (resc0 x0 x1 x2) (resc1 x0 x1 x2) (resc2 x0 x1 x2) (resc3 x0 x1 x2) (resc4 x0 x1 x2) (resc5 x0 x1 x2) (resc6 x0 x1 x2) (resc7 x0 x1 x2) y

/-! What the kernel leaves in its results, over the program's arguments. -/

variable (m : (ℓ : Loc nD τ sig) → Buf (Elt Ideal) ℓ)

theorem idx : ∀ t : Fin cfg0.N, win0_0.index t = ![t.val, 0] ∧ win0_1.index t = ![2, 0, 0] ∧ win0_2.index t = ![0, 0, 0]
    ∧ win0_3.index t = ![t.val, 0] ∧ win0_4.index t = ![t.val, 0] :=
  (by decide +kernel : ∀ t : Fin grid0.N, _)

abbrev B0 (c : Dev nD) (t : Fin cfg0.N) : Vec Ideal S512x2048 .f32 := iblk m c 0 t
abbrev B1 (c : Dev nD) (t : Fin cfg0.N) : Vec Ideal S1x1x2048 .f32 := iblk m c 1 t
abbrev B2 (c : Dev nD) (t : Fin cfg0.N) : Vec Ideal S1x2048x6144 .bf16 := iblk m c 2 t
abbrev a0 (c : Dev nD) : S2x8192x2048.Idx → EReal := m ((c : Thread nD τ).loc main_arg0)
abbrev a1 (c : Dev nD) : S4x2048.Idx → EReal := m ((c : Thread nD τ).loc main_arg1)
abbrev a2 (c : Dev nD) : S1x2048x6144.Idx → EReal := m ((c : Thread nD τ).loc main_arg2)

theorem b0 (c : Dev nD) (t : Fin cfg0.N) (r : Fin 512) (j : Fin 2048) (R : Fin 16384) (hR : R.val = 512 * t.val + r.val) :
    B0 m c t (ix2 r j) = a0 m c (ix3 ⟨R / 8192, by omega⟩ ⟨R % 8192, by omega⟩ j) := by
  blk_point [iblk, V, idx t]
theorem b1 (c : Dev nD) (t : Fin cfg0.N) (j : Fin 2048) : B1 m c t (ix3 0 0 j) = a1 m c (ix2 2 j) := by
  blk_point [iblk, V, idx t]
theorem b2 (c : Dev nD) (t : Fin cfg0.N) (i : Fin 2048) (j : Fin 6144) : B2 m c t (ix3 0 i j) = a2 m c (ix3 0 i j) := by
  blk_point [iblk, V, idx t]

/-- A normalized row. -/
abbrev NR (c : Dev nD) (R : Fin 16384) : Fin 2048 → EReal :=
  rms (fun j => a0 m c (ix3 ⟨R / 8192, by omega⟩ ⟨R % 8192, by omega⟩ j)) (fun j => a1 m c (ix2 2 j))

/-- The first result: the outer gate. -/
def outer (c : Dev nD) : S16384x2048.Idx → EReal := fun i =>
  proj (NR m c (i 0)) (fun a => a2 m c (ix3 0 a ⟨i 1, lt_trans (i 1).isLt (by decide)⟩))

/-- The second result: the gated values. -/
def inner (c : Dev nD) : S16384x2048.Idx → EReal := fun i =>
  proj (NR m c (i 0)) (fun a => a2 m c (ix3 0 a ⟨2048 + i 1, by have h : (i 1 : ℕ) < 2048 := (i 1).isLt; omega⟩))
    * proj (NR m c (i 0)) (fun a => a2 m c (ix3 0 a ⟨4096 + i 1, by have h : (i 1 : ℕ) < 2048 := (i 1).isLt; omega⟩))

theorem point3 (c : Dev nD) (t : Fin cfg0.N) (r : Fin 512) (R : Fin 16384) (hR : R.val = 512 * t.val + r.val) (j : Fin 2048) :
    bB (B0 m c t) (B1 m c t) (B2 m c t) (ix2 r j) = outer m c (ix2 R j) := by
  show proj (rms (fun j => B0 m c t (ix2 r j)) (fun j => B1 m c t (ix3 0 0 j))) (fun a => B2 m c t (ix3 0 a _)) = _
  rw [funext fun j => b0 m c t r j R hR, funext fun j => b1 m c t j, funext fun a => b2 m c t a _]
  rfl

theorem point4 (c : Dev nD) (t : Fin cfg0.N) (r : Fin 512) (R : Fin 16384) (hR : R.val = 512 * t.val + r.val) (j : Fin 2048) :
    cB (B0 m c t) (B1 m c t) (B2 m c t) (ix2 r j) = inner m c (ix2 R j) := by
  show proj (rms (fun j => B0 m c t (ix2 r j)) (fun j => B1 m c t (ix3 0 0 j))) (fun a => B2 m c t (ix3 0 a _))
    * proj (rms (fun j => B0 m c t (ix2 r j)) (fun j => B1 m c t (ix3 0 0 j))) (fun a => B2 m c t (ix3 0 a _)) = _
  rw [funext fun j => b0 m c t r j R hR, funext fun j => b1 m c t j, funext fun a => b2 m c t a _, funext fun a => b2 m c t a _]
  rfl

theorem below (t : Fin cfg0.N) (y : S512x2048.Idx) : 512 * t.val + (y 0).val < 16384 := by
  have h1 : t.val < 32 := t.isLt
  have h2 : (y 0).val < 512 := (y 0).isLt
  omega

theorem split2 (y : S512x2048.Idx) : y = ix2 (y 0) (y 1) := by
  funext a
  fin_cases a <;> rfl

theorem emb3 (t : Fin cfg0.N) (y : S512x2048.Idx) :
    ((View.whole main_v3_0).slice (win0_3.rect t)).emb y = ix2 ⟨512 * t.val + (y 0).val, below t y⟩ (y 1) := by
  blk_ext [idx t]

theorem final3 (c : Dev nD) : (dats m 0 c).arrAt 3 cfg0.N = outer m c := by
  refine (dats m 0 c).arrAt_eq_of_covers 3 _ (by decide +kernel) fun t _ y => ?_
  have hb : bB (B0 m c t) (B1 m c t) (B2 m c t) y = outer m c (((View.whole main_v3_0).slice (win0_3.rect t)).emb y) := by
    rw [emb3 t y]
    exact (congrArg _ (split2 y)).trans (point3 m c t (y 0) ⟨512 * t.val + (y 0).val, below t y⟩ rfl (y 1))
  blk_simp
  rw [after0_3]
  dsimp only [outsAt0]
  rw [out3]
  exact hb

theorem emb4 (t : Fin cfg0.N) (y : S512x2048.Idx) :
    ((View.whole main_v3_1).slice (win0_4.rect t)).emb y = ix2 ⟨512 * t.val + (y 0).val, below t y⟩ (y 1) := by
  blk_ext [idx t]

theorem final4 (c : Dev nD) : (dats m 0 c).arrAt 4 cfg0.N = inner m c := by
  refine (dats m 0 c).arrAt_eq_of_covers 4 _ (by decide +kernel) fun t _ y => ?_
  have hb : cB (B0 m c t) (B1 m c t) (B2 m c t) y = inner m c (((View.whole main_v3_1).slice (win0_4.rect t)).emb y) := by
    rw [emb4 t y]
    exact (congrArg _ (split2 y)).trans (point4 m c t (y 0) ⟨512 * t.val + (y 0).val, below t y⟩ rfl (y 1))
  blk_simp
  rw [after0_4]
  dsimp only [outsAt0]
  rw [out4]
  exact hb

/-! The reference's results. -/

open Cert.Reference3Ideal.Read

theorem r14 (x0 : (⟨Cert.Reference3Ideal.S2x8192x2048, .f32⟩ : BufTy).Contents (Elt Ideal)) (x1 : (⟨Cert.Reference3Ideal.S4x2048, .f32⟩ : BufTy).Contents (Elt Ideal)) (b : Fin 2) (r : Fin 8192) (j : Fin 2048) :
    val_main_v14 (F := Ideal) x0 x1 (ix3 b r j) = rms (fun c => x0 (ix3 b r c)) (fun c => x1 (ix2 2 c)) j := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, rms]

theorem r21 (x0 : (⟨Cert.Reference3Ideal.S2x8192x2048, .f32⟩ : BufTy).Contents (Elt Ideal)) (x1 : (⟨Cert.Reference3Ideal.S4x2048, .f32⟩ : BufTy).Contents (Elt Ideal))
    (x2 : (⟨Cert.Reference3Ideal.S1x2048x6144, .f32⟩ : BufTy).Contents (Elt Ideal)) (R : Fin 16384) (j : Fin 2048) :
    val_main_v21 (F := Ideal) x0 x1 x2 (ix2 R j) = proj (rms (fun c => x0 (ix3 ⟨R / 8192, by omega⟩ ⟨R % 8192, by omega⟩ c)) (fun c => x1 (ix2 2 c)))
      (fun a => x2 (ix3 0 a ⟨j, by omega⟩)) := by
  pointwise [val_main_v15, val_main_v16, val_main_v17, val_main_v20, val_main_v21, r14, proj]

theorem r24 (x0 : (⟨Cert.Reference3Ideal.S2x8192x2048, .f32⟩ : BufTy).Contents (Elt Ideal)) (x1 : (⟨Cert.Reference3Ideal.S4x2048, .f32⟩ : BufTy).Contents (Elt Ideal))
    (x2 : (⟨Cert.Reference3Ideal.S1x2048x6144, .f32⟩ : BufTy).Contents (Elt Ideal)) (R : Fin 16384) (j : Fin 2048) :
    val_main_v24 (F := Ideal) x0 x1 x2 (ix2 R j) = proj (rms (fun c => x0 (ix3 ⟨R / 8192, by omega⟩ ⟨R % 8192, by omega⟩ c)) (fun c => x1 (ix2 2 c)))
      (fun a => x2 (ix3 0 a ⟨2048 + j, by omega⟩)) * proj (rms (fun c => x0 (ix3 ⟨R / 8192, by omega⟩ ⟨R % 8192, by omega⟩ c)) (fun c => x1 (ix2 2 c)))
      (fun a => x2 (ix3 0 a ⟨4096 + j, by omega⟩)) := by
  pointwise [val_main_v15, val_main_v16, val_main_v18, val_main_v19, val_main_v22, val_main_v23, val_main_v24, r14, proj]

theorem result3 (c : Dev nD) : (dats m 0 c).arrAt 3 cfg0.N = val_main_v21 (F := Ideal) (a0 m c) (a1 m c) (a2 m c) := by
  rw [final3 m c]
  funext i
  have hi : i = ix2 (i 0) (i 1) := by
    funext a
    fin_cases a <;> rfl
  rw [hi]
  exact (r21 (a0 m c) (a1 m c) (a2 m c) (i 0) (i 1)).symm

theorem result4 (c : Dev nD) : (dats m 0 c).arrAt 4 cfg0.N = val_main_v24 (F := Ideal) (a0 m c) (a1 m c) (a2 m c) := by
  rw [final4 m c]
  funext i
  have hi : i = ix2 (i 0) (i 1) := by
    funext a
    fin_cases a <;> rfl
  rw [hi]
  exact (r24 (a0 m c) (a1 m c) (a2 m c) (i 0) (i 1)).symm

end Cert.ProjC

end
-- ==== Proof.Mem.lean ====
module

public import proofs.«01_k».proof.Proof.Gen.Kernel4Ideal.Value
public import proofs.«01_k».proof.Proof.Gen.Reference4Ideal.Read
public import proofs.«01_k».proof.Proof.Tiles
public import Idealize.ShloMosaic.Lib.Pointwise
public import Idealize.ShloMosaic.Lib.Pipeline.ValueKit

@[expose] public section

set_option maxRecDepth 16384

/-! The memory's keys and values: a block's arithmetic. -/

noncomputable section
open Idealize.ShloMosaic Idealize.ShloMosaic.TcCoe Idealize.SL.Sem
open Cert.Row Cert.Tiles Cert.Kernel4Ideal Cert.Kernel4Ideal.Gen Cert.Kernel4Ideal.Value
namespace Cert.Mem

variable (x0 : Vec Ideal S512x2048 .f32) (x1 : Vec Ideal S1x1x2048 .f32) (x2 x3 : Vec Ideal S1x2048x256 .f32)

/-- A normalized row of the memory. -/
abbrev nr (r : Fin 512) : Fin 2048 → EReal := rms (fun c => x0 (ix2 r c)) (fun c => x1 (ix3 0 0 c))

theorem read_n (r : Fin 512) (j : Fin 2048) : k0_pay1 (F := Ideal) x0 x1 (ix2 r j) = nr x0 x1 r j := by
  pointwise [k0_pay1, rms]

theorem read_k (r : Fin 512) (j : Fin 256) : k0_pay2 (F := Ideal) x0 x1 x2 (ix2 r j) = proj (nr x0 x1 r) (fun c => x2 (ix3 0 c j)) := by
  pointwise [k0_pay2, read_n, proj]

theorem read_v (r : Fin 512) (j : Fin 256) : k0_pay3 (F := Ideal) x0 x1 x3 (ix2 r j) = proj (nr x0 x1 r) (fun c => x3 (ix3 0 c j)) := by
  pointwise [k0_pay3, read_n, proj]

theorem out4 : out0_4 (F := Ideal) x0 x1 x2 x3 = k0_pay2 (F := Ideal) x0 x1 x2 := by
  frame_out

theorem out5 : out0_5 (F := Ideal) x0 x1 x2 x3 = k0_pay3 (F := Ideal) x0 x1 x3 := by
  frame_out

/-! What the kernel leaves in its results, over the program's arguments. -/

variable (m : (ℓ : Loc nD τ sig) → Buf (Elt Ideal) ℓ)

theorem idx : ∀ t : Fin cfg0.N, win0_0.index t = ![0, 0] ∧ win0_1.index t = ![0, 0, 0] ∧ win0_2.index t = ![0, 0, t.val]
    ∧ win0_3.index t = ![0, 0, t.val] ∧ win0_4.index t = ![0, t.val] ∧ win0_5.index t = ![0, t.val] :=
  (by decide +kernel : ∀ t : Fin grid0.N, _)

abbrev B0 (c : Dev nD) (t : Fin cfg0.N) : Vec Ideal S512x2048 .f32 := iblk m c 0 t
abbrev B1 (c : Dev nD) (t : Fin cfg0.N) : Vec Ideal S1x1x2048 .f32 := iblk m c 1 t
abbrev B2 (c : Dev nD) (t : Fin cfg0.N) : Vec Ideal S1x2048x256 .f32 := iblk m c 2 t
abbrev B3 (c : Dev nD) (t : Fin cfg0.N) : Vec Ideal S1x2048x256 .f32 := iblk m c 3 t
abbrev a0 (c : Dev nD) : S2x256x2048.Idx → EReal := m ((c : Thread nD τ).loc main_arg0)
abbrev a1 (c : Dev nD) : S4x2048.Idx → EReal := m ((c : Thread nD τ).loc main_arg1)
abbrev a2 (c : Dev nD) : S4x2048x2048.Idx → EReal := m ((c : Thread nD τ).loc main_arg2)
abbrev a3 (c : Dev nD) : S4x2048x2048.Idx → EReal := m ((c : Thread nD τ).loc main_arg3)

theorem b0 (c : Dev nD) (t : Fin cfg0.N) (r : Fin 512) (j : Fin 2048) :
    B0 m c t (ix2 r j) = a0 m c (ix3 ⟨r / 256, by omega⟩ ⟨r % 256, by omega⟩ j) := by
  blk_point [iblk, V, idx t]
theorem b1 (c : Dev nD) (t : Fin cfg0.N) (j : Fin 2048) : B1 m c t (ix3 0 0 j) = a1 m c (ix2 0 j) := by
  blk_point [iblk, V, idx t]
theorem b2 (c : Dev nD) (t : Fin cfg0.N) (i : Fin 2048) (j : Fin 256) (J : Fin 2048) (hJ : J.val = 256 * t.val + j.val) : B2 m c t (ix3 0 i j) = a2 m c (ix3 0 i J) := by
  blk_ext [iblk, V, idx t]
theorem b3 (c : Dev nD) (t : Fin cfg0.N) (i : Fin 2048) (j : Fin 256) (J : Fin 2048) (hJ : J.val = 256 * t.val + j.val) : B3 m c t (ix3 0 i j) = a3 m c (ix3 0 i J) := by
  blk_ext [iblk, V, idx t]

/-- A normalized row of the memory. -/
abbrev NR (c : Dev nD) (r : Fin 512) : Fin 2048 → EReal :=
  rms (fun j => a0 m c (ix3 ⟨r / 256, by omega⟩ ⟨r % 256, by omega⟩ j)) (fun j => a1 m c (ix2 0 j))

/-- The first result: the keys. -/
def keys (c : Dev nD) : S512x2048.Idx → EReal := fun i => proj (NR m c (i 0)) (fun a => a2 m c (ix3 0 a (i 1)))
/-- The second result: the values. -/
def vals (c : Dev nD) : S512x2048.Idx → EReal := fun i => proj (NR m c (i 0)) (fun a => a3 m c (ix3 0 a (i 1)))

theorem point4 (c : Dev nD) (t : Fin cfg0.N) (r : Fin 512) (j : Fin 256) (J : Fin 2048) (hJ : J.val = 256 * t.val + j.val) :
    k0_pay2 (F := Ideal) (B0 m c t) (B1 m c t) (B2 m c t) (ix2 r j) = keys m c (ix2 r J) := by
  refine (read_k _ _ _ r j).trans ?_
  show proj (rms (fun j => B0 m c t (ix2 r j)) (fun j => B1 m c t (ix3 0 0 j))) (fun a => B2 m c t (ix3 0 a j)) = _
  rw [funext fun j => b0 m c t r j, funext fun j => b1 m c t j, funext fun a => b2 m c t a j J hJ]
  rfl
theorem point5 (c : Dev nD) (t : Fin cfg0.N) (r : Fin 512) (j : Fin 256) (J : Fin 2048) (hJ : J.val = 256 * t.val + j.val) :
    k0_pay3 (F := Ideal) (B0 m c t) (B1 m c t) (B3 m c t) (ix2 r j) = vals m c (ix2 r J) := by
  refine (read_v _ _ _ r j).trans ?_
  show proj (rms (fun j => B0 m c t (ix2 r j)) (fun j => B1 m c t (ix3 0 0 j))) (fun a => B3 m c t (ix3 0 a j)) = _
  rw [funext fun j => b0 m c t r j, funext fun j => b1 m c t j, funext fun a => b3 m c t a j J hJ]
  rfl

theorem below (t : Fin cfg0.N) (y : S512x256.Idx) : 256 * t.val + (y 1).val < 2048 := by
  have h1 : t.val < 8 := t.isLt
  have h2 : (y 1).val < 256 := (y 1).isLt
  omega

theorem split2 (y : S512x256.Idx) : y = ix2 (y 0) (y 1) := by
  funext a
  fin_cases a <;> rfl

theorem emb4 (t : Fin cfg0.N) (y : S512x256.Idx) :
    ((View.whole main_v2_0).slice (win0_4.rect t)).emb y = ix2 (y 0) ⟨256 * t.val + (y 1).val, below t y⟩ := by
  blk_ext [idx t]

theorem final4 (c : Dev nD) : (dats m 0 c).arrAt 4 cfg0.N = keys m c := by
  refine (dats m 0 c).arrAt_eq_of_covers 4 _ (by decide +kernel) fun t _ y => ?_
  have hb : k0_pay2 (F := Ideal) (B0 m c t) (B1 m c t) (B2 m c t) y = keys m c (((View.whole main_v2_0).slice (win0_4.rect t)).emb y) := by
    rw [emb4 t y]
    exact (congrArg _ (split2 y)).trans (point4 m c t (y 0) (y 1) ⟨256 * t.val + (y 1).val, below t y⟩ rfl)
  blk_simp
  rw [after0_4, out4]
  exact hb

theorem emb5 (t : Fin cfg0.N) (y : S512x256.Idx) :
    ((View.whole main_v2_1).slice (win0_5.rect t)).emb y = ix2 (y 0) ⟨256 * t.val + (y 1).val, below t y⟩ := by
  blk_ext [idx t]

theorem final5 (c : Dev nD) : (dats m 0 c).arrAt 5 cfg0.N = vals m c := by
  refine (dats m 0 c).arrAt_eq_of_covers 5 _ (by decide +kernel) fun t _ y => ?_
  have hb : k0_pay3 (F := Ideal) (B0 m c t) (B1 m c t) (B3 m c t) y = vals m c (((View.whole main_v2_1).slice (win0_5.rect t)).emb y) := by
    rw [emb5 t y]
    exact (congrArg _ (split2 y)).trans (point5 m c t (y 0) (y 1) ⟨256 * t.val + (y 1).val, below t y⟩ rfl)
  blk_simp
  rw [after0_5, out5]
  exact hb

/-! The reference's results. -/

open Cert.Reference4Ideal.Read

theorem r14 (x0 : (⟨Cert.Reference4Ideal.S2x256x2048, .f32⟩ : BufTy).Contents (Elt Ideal)) (x1 : (⟨Cert.Reference4Ideal.S4x2048, .f32⟩ : BufTy).Contents (Elt Ideal)) (b : Fin 2) (r : Fin 256) (j : Fin 2048) :
    val_main_v14 (F := Ideal) x0 x1 (ix3 b r j) = rms (fun c => x0 (ix3 b r c)) (fun c => x1 (ix2 0 c)) j := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, rms]

theorem r19 (x0 : (⟨Cert.Reference4Ideal.S2x256x2048, .f32⟩ : BufTy).Contents (Elt Ideal)) (x1 : (⟨Cert.Reference4Ideal.S4x2048, .f32⟩ : BufTy).Contents (Elt Ideal))
    (x2 : (⟨Cert.Reference4Ideal.S4x2048x2048, .f32⟩ : BufTy).Contents (Elt Ideal)) (r : Fin 512) (j : Fin 2048) :
    val_main_v19 (F := Ideal) x0 x1 x2 (ix2 r j) = proj (rms (fun c => x0 (ix3 ⟨r / 256, by omega⟩ ⟨r % 256, by omega⟩ c)) (fun c => x1 (ix2 0 c)))
      (fun a => x2 (ix3 0 a j)) := by
  pointwise [val_main_v15, val_main_v16, val_main_v17, val_main_v18, val_main_v19, r14, proj]

theorem result4 (c : Dev nD) : (dats m 0 c).arrAt 4 cfg0.N = val_main_v19 (F := Ideal) (a0 m c) (a1 m c) (a2 m c) := by
  rw [final4 m c]
  funext i
  rw [(by funext a; fin_cases a <;> rfl : i = ix2 (i 0) (i 1))]
  exact (r19 (a0 m c) (a1 m c) (a2 m c) (i 0) (i 1)).symm

theorem r24 (x0 : (⟨Cert.Reference4Ideal.S2x256x2048, .f32⟩ : BufTy).Contents (Elt Ideal)) (x1 : (⟨Cert.Reference4Ideal.S4x2048, .f32⟩ : BufTy).Contents (Elt Ideal))
    (x2 : (⟨Cert.Reference4Ideal.S4x2048x2048, .f32⟩ : BufTy).Contents (Elt Ideal)) (r : Fin 512) (j : Fin 2048) :
    val_main_v24 (F := Ideal) x0 x1 x2 (ix2 r j) = proj (rms (fun c => x0 (ix3 ⟨r / 256, by omega⟩ ⟨r % 256, by omega⟩ c)) (fun c => x1 (ix2 0 c)))
      (fun a => x2 (ix3 0 a j)) := by
  pointwise [val_main_v20, val_main_v21, val_main_v22, val_main_v23, val_main_v24, r14, proj]

theorem result5 (c : Dev nD) : (dats m 0 c).arrAt 5 cfg0.N = val_main_v24 (F := Ideal) (a0 m c) (a1 m c) (a3 m c) := by
  rw [final5 m c]
  funext i
  rw [(by funext a; fin_cases a <;> rfl : i = ix2 (i 0) (i 1))]
  exact (r24 (a0 m c) (a1 m c) (a3 m c) (i 0) (i 1)).symm

end Cert.Mem

end
-- ==== Proof.ConvC.lean ====
module

public import proofs.«01_k».proof.Proof.Gen.Kernel5Ideal.Value
public import proofs.«01_k».proof.Proof.Gen.Reference5Ideal.Read
public import proofs.«01_k».proof.Proof.Tiles
public import Idealize.ShloMosaic.Lib.Pointwise
public import Idealize.ShloMosaic.Lib.Pipeline.ValueKit
public import Idealize.ShloMosaic.Lib.Pipeline.ReadBack
public import Idealize.ShloMosaic.Lib.KernelVsHost

@[expose] public section

set_option maxRecDepth 16384

/-! The gated convolution: what the trips of its three loops store. -/

noncomputable section
open Idealize.ShloMosaic Idealize.ShloMosaic.TcCoe Idealize.SL.Sem
open Cert.Row Cert.Tiles Cert.Kernel5Ideal Cert.Kernel5Ideal.Gen Cert.Kernel5Ideal.Value
namespace Cert.ConvC

/-- The pieces of a loop are the pieces of its trips. -/
theorem mem_loop {α : Type} {T : ℕ} (t : Fin T → List α) (f : ℕ → List α) (h0 : f 0 = []) (hs : ∀ k : Fin T, f (k.val + 1) = t k ++ f k.val) :
    ∀ n, n ≤ T → ∀ p, p ∈ f n ↔ ∃ k : Fin T, k.val < n ∧ p ∈ t k := by
  intro n
  induction n with
  | zero => intro _ p; simp [h0]
  | succ n ih =>
    intro hn p
    rw [hs ⟨n, hn⟩, List.mem_append, ih (by omega)]
    constructor
    · rintro (h | ⟨k, hk, h⟩)
      · exact ⟨⟨n, hn⟩, Nat.lt_succ_self n, h⟩
      · exact ⟨k, by omega, h⟩
    · rintro ⟨k, hk, h⟩
      by_cases hkn : k.val = n
      · exact Or.inl ((Fin.ext hkn : k = ⟨n, hn⟩) ▸ h)
      · exact Or.inr ⟨k, by omega, h⟩

/-- A block's rows between its two rows of sixteen: what the taps read. -/
abbrev Ext := Vec Ideal S544x2048 .f32

/-- Three taps at one position. -/
def taps (w : Vec Ideal S1x3x2048 .f32) (E : Ext) : Vec Ideal S512x2048 .f32 := fun z =>
  E (ix2 ⟨16 + z 0, by have h : (z 0 : ℕ) < 512 := (z 0).isLt; omega⟩ (z 1)) * w (ix3 0 1 (z 1))
    + E (ix2 ⟨17 + z 0, by have h : (z 0 : ℕ) < 512 := (z 0).isLt; omega⟩ (z 1)) * w (ix3 0 2 (z 1))
    + E (ix2 ⟨15 + z 0, by have h : (z 0 : ℕ) < 512 := (z 0).isLt; omega⟩ (z 1)) * w (ix3 0 0 (z 1))

/-- A trip's rows and columns fit. -/
abbrev Fit (o : Fin 2 → ℕ) (n m : ℕ) (M : ℕ) : Prop := ∀ a, o a + (![n, m] : Fin 2 → ℕ) a ≤ (⟨2, ![M, 2048]⟩ : Shape).size a

/-- One chunk of a trip: a block of one function. -/
def pc (G : Vec Ideal S512x2048 .f32) (k C : ℕ) (h : Fit ![128 * k, C] 128 128 512) : View.Piece (Elt Ideal) S512x2048 .f32 :=
  ⟨Rect.unit ![128 * k, C] ![128, 128] h, fun x => G ((Rect.unit (s := S512x2048) ![128 * k, C] ![128, 128] h).emb x)⟩

theorem pc_eq (G : Vec Ideal S512x2048 .f32) (k C : ℕ) (h : Fit ![128 * k, C] 128 128 512) (hk : k < 4) (hC : C + 128 ≤ 2048) (o : Fin 2 → ℕ) (ho : Fit o 128 128 512)
    (w : Vec Ideal S128x128 .f32) (he : o = ![128 * k, C])
    (hw : ∀ r j : Fin 128, w (ix2 r j) = G (ix2 ⟨128 * k + r, by omega⟩ ⟨C + j, by omega⟩)) :
    (⟨Rect.unit o ![128, 128] ho, w⟩ : View.Piece (Elt Ideal) S512x2048 .f32) = pc G k C h := by
  subst he
  refine congrArg (Sigma.mk _) (funext fun x => ?_)
  rw [eq_ix2 x]
  refine (hw (x 0) (x 1)).trans (congrArg G (funext fun d => Fin.ext ?_))
  match d with
  | ⟨0, _⟩ => show 128 * k + (x 0 : ℕ) = 128 * k + 1 * (x 0 : ℕ); omega
  | ⟨1, _⟩ => show C + (x 1 : ℕ) = C + 1 * (x 1 : ℕ); omega

theorem ldE (E : Ext) (k C : ℕ) (hk : k < 4) (hC : C + 128 ≤ 2048) (o : Fin 2 → ℕ) (ho : Fit o 160 128 544) (he : o = ![128 * k, C]) (a : Fin 160) (j : Fin 128) :
    View.ld (Val := Elt Ideal) (S := S544x2048) (e' := .f32) E (Rect.unit o ![160, 128] ho) (ix2 a j) = E (ix2 ⟨128 * k + a, by omega⟩ ⟨C + j, by omega⟩) := by
  subst he
  refine congrArg E (funext fun d => Fin.ext ?_)
  match d with
  | ⟨0, _⟩ => show 128 * k + 1 * (a : ℕ) = 128 * k + a; omega
  | ⟨1, _⟩ => show C + 1 * (j : ℕ) = C + j; omega

theorem ldW {K : ℕ} (w : Vec Ideal ⟨3, ![1, K, 2048]⟩ .f32) (t : Fin K) (C : ℕ) (hC : C + 128 ≤ 2048)
    (h : ∀ a, (![0, t.val, C] : Fin 3 → ℕ) a + (![1, 1, 128] : Fin 3 → ℕ) a ≤ (⟨3, ![1, K, 2048]⟩ : Shape).size a) (j : Fin 128) :
    View.ld (Val := Elt Ideal) (S := ⟨3, ![1, K, 2048]⟩) (e' := .f32) w (Rect.unit ![0, t.val, C] ![1, 1, 128] h) (ix3 0 0 j) = w (ix3 0 t ⟨C + j, by omega⟩) := by
  refine congrArg w (funext fun d => Fin.ext ?_)
  match d with
  | ⟨0, _⟩ => rfl
  | ⟨1, _⟩ => show t.val + 1 * 0 = t.val; omega
  | ⟨2, _⟩ => show C + 1 * (j : ℕ) = C + j; omega

theorem t17 (r : Fin 128) (h : (16 + r.val + 160 - 159) % 160 < 160) : (⟨(16 + r.val + 160 - 159) % 160, h⟩ : Fin 160) = ⟨17 + r.val, by omega⟩ :=
  Fin.ext (by show (16 + r.val + 160 - 159) % 160 = 17 + r.val; omega)
theorem t15 (r : Fin 128) (h : (8 + r.val + 160 - 153) % 160 < 160) : (⟨(8 + r.val + 160 - 153) % 160, h⟩ : Fin 160) = ⟨15 + r.val, by omega⟩ :=
  Fin.ext (by show (8 + r.val + 160 - 153) % 160 = 15 + r.val; omega)

/-- Three taps at one position of a chunk. -/
def three (e : Vec Ideal S160x128 .f32) (w0 w1 w2 : Vec Ideal S1x1x128 .f32) (r j : Fin 128) : EReal :=
  e (ix2 ⟨16 + r, by omega⟩ j) * w1 (ix3 0 0 j) + e (ix2 ⟨17 + r, by omega⟩ j) * w2 (ix3 0 0 j) + e (ix2 ⟨15 + r, by omega⟩ j) * w0 (ix3 0 0 j)

theorem sum0 (e : Vec Ideal S160x128 .f32) (w0 w1 w2 : Vec Ideal S1x1x128 .f32) (r j : Fin 128) :
    k0_pay3 (F := Ideal) e w1 w2 w0 (ix2 r j) = three e w0 w1 w2 r j := by
  pointwise [k0_pay3, three, t17, t15]

theorem sum1 (e : Vec Ideal S160x128 .f32) (w0 w1 w2 : Vec Ideal S1x1x128 .f32) (r j : Fin 128) :
    k0_pay5 (F := Ideal) e (k0_pay4 (F := Ideal) e w1) w2 w0 (ix2 r j) = three e w0 w1 w2 r j := by
  pointwise [k0_pay5, k0_pay4, three, t17, t15]

theorem sum2 (e : Vec Ideal S160x128 .f32) (w0 w1 w2 : Vec Ideal S1x1x128 .f32) (r j : Fin 128) :
    k0_pay8 (F := Ideal) (k0_pay6 (F := Ideal) e w1 w2) (k0_pay7 (F := Ideal) e) w0 (ix2 r j) = three e w0 w1 w2 r j := by
  pointwise [k0_pay8, k0_pay6, k0_pay7, three, t17, t15]

theorem sum3 (e : Vec Ideal S160x128 .f32) (w0 w1 w2 : Vec Ideal S1x1x128 .f32) (r j : Fin 128) :
    k0_pay9 (F := Ideal) e w1 w2 w0 (ix2 r j) = three e w0 w1 w2 r j := by
  pointwise [k0_pay9, three, t17, t15]

theorem sum4 (e : Vec Ideal S160x128 .f32) (w0 w1 w2 : Vec Ideal S1x1x128 .f32) (r j : Fin 128) :
    k0_pay12 (F := Ideal) e (k0_pay10 (F := Ideal)) (k0_pay11 (F := Ideal) e) w1 w2 w0 (ix2 r j) = three e w0 w1 w2 r j := by
  pointwise [k0_pay12, k0_pay10, k0_pay11, three, t17, t15]

theorem sum5 (e : Vec Ideal S160x128 .f32) (w0 w1 w2 : Vec Ideal S1x1x128 .f32) (r j : Fin 128) :
    k0_pay14 (F := Ideal) e (k0_pay13 e w1 w2) 153#32 w0 (ix2 r j) = three e w0 w1 w2 r j := by
  pointwise [k0_pay14, k0_pay13, three, t17, t15]

theorem sum6 (e : Vec Ideal S160x128 .f32) (w0 w1 w2 : Vec Ideal S1x1x128 .f32) (r j : Fin 128) :
    k0_pay15 (F := Ideal) e w1 w2 w0 (ix2 r j) = three e w0 w1 w2 r j := by
  pointwise [k0_pay15, three, t17, t15]

theorem sum7 (e : Vec Ideal S160x128 .f32) (w0 w1 w2 : Vec Ideal S1x1x128 .f32) (r j : Fin 128) :
    k0_pay16 (F := Ideal) e w1 w2 w0 (ix2 r j) = three e w0 w1 w2 r j := by
  pointwise [k0_pay16, three, t17, t15]

theorem sum8 (e : Vec Ideal S160x128 .f32) (w0 w1 w2 : Vec Ideal S1x1x128 .f32) (r j : Fin 128) :
    k0_pay19 (F := Ideal) e (k0_pay17 (F := Ideal) e w1) (k0_pay18 (F := Ideal) e) w2 w0 (ix2 r j) = three e w0 w1 w2 r j := by
  pointwise [k0_pay19, k0_pay17, k0_pay18, three, t17, t15]

theorem sum9 (e : Vec Ideal S160x128 .f32) (w0 w1 w2 : Vec Ideal S1x1x128 .f32) (r j : Fin 128) :
    k0_pay21 (F := Ideal) (k0_pay20 (F := Ideal) e w1 w2 w0) (ix2 r j) = three e w0 w1 w2 r j := by
  pointwise [k0_pay21, k0_pay20, three, t17, t15]

theorem sum10 (e : Vec Ideal S160x128 .f32) (w0 w1 w2 : Vec Ideal S1x1x128 .f32) (r j : Fin 128) :
    k0_pay22 (F := Ideal) e w1 w2 w0 (ix2 r j) = three e w0 w1 w2 r j := by
  pointwise [k0_pay22, three, t17, t15]

theorem sum11 (e : Vec Ideal S160x128 .f32) (w0 w1 w2 : Vec Ideal S1x1x128 .f32) (r j : Fin 128) :
    k0_pay24 (F := Ideal) e (k0_pay23 (F := Ideal) e w1) w2 w0 (ix2 r j) = three e w0 w1 w2 r j := by
  pointwise [k0_pay24, k0_pay23, three, t17, t15]

theorem sum12 (e : Vec Ideal S160x128 .f32) (w0 w1 w2 : Vec Ideal S1x1x128 .f32) (r j : Fin 128) :
    k0_pay27 (F := Ideal) (k0_pay25 (F := Ideal) e w1 w2) (k0_pay26 (F := Ideal) e) w0 (ix2 r j) = three e w0 w1 w2 r j := by
  pointwise [k0_pay27, k0_pay25, k0_pay26, three, t17, t15]

theorem sum13 (e : Vec Ideal S160x128 .f32) (w0 w1 w2 : Vec Ideal S1x1x128 .f32) (r j : Fin 128) :
    k0_pay28 (F := Ideal) e w1 w2 w0 (ix2 r j) = three e w0 w1 w2 r j := by
  pointwise [k0_pay28, three, t17, t15]

theorem sum14 (e : Vec Ideal S160x128 .f32) (w0 w1 w2 : Vec Ideal S1x1x128 .f32) (r j : Fin 128) :
    k0_pay31 (F := Ideal) e (k0_pay29 (F := Ideal)) (k0_pay30 (F := Ideal) e) w1 w2 w0 (ix2 r j) = three e w0 w1 w2 r j := by
  pointwise [k0_pay31, k0_pay29, k0_pay30, three, t17, t15]

theorem sum15 (e : Vec Ideal S160x128 .f32) (w0 w1 w2 : Vec Ideal S1x1x128 .f32) (r j : Fin 128) :
    k0_pay38 (F := Ideal) e (k0_pay32 e w1 w2) 153#32 w0 (ix2 r j) = three e w0 w1 w2 r j := by
  pointwise [k0_pay38, k0_pay32, three, t17, t15]

theorem three_at (w : Vec Ideal S1x3x2048 .f32) (E : Ext) (k C : ℕ) (hk : k < 4) (hC : C + 128 ≤ 2048) (e : Vec Ideal S160x128 .f32) (w0 w1 w2 : Vec Ideal S1x1x128 .f32)
    (he : ∀ (a : Fin 160) (j : Fin 128), e (ix2 a j) = E (ix2 ⟨128 * k + a, by omega⟩ ⟨C + j, by omega⟩))
    (h0 : ∀ j : Fin 128, w0 (ix3 0 0 j) = w (ix3 0 0 ⟨C + j, by omega⟩)) (h1 : ∀ j : Fin 128, w1 (ix3 0 0 j) = w (ix3 0 1 ⟨C + j, by omega⟩))
    (h2 : ∀ j : Fin 128, w2 (ix3 0 0 j) = w (ix3 0 2 ⟨C + j, by omega⟩)) (r j : Fin 128) :
    three e w0 w1 w2 r j = taps w E (ix2 ⟨128 * k + r, by omega⟩ ⟨C + j, by omega⟩) := by
  unfold three
  rw [he, he, he, h0, h1, h2]
  have a16 : (⟨128 * k + (16 + r), by omega⟩ : Fin 544) = ⟨16 + (128 * k + r), by omega⟩ := Fin.ext (by show 128 * k + (16 + (r : ℕ)) = 16 + (128 * k + r); omega)
  have a17 : (⟨128 * k + (17 + r), by omega⟩ : Fin 544) = ⟨17 + (128 * k + r), by omega⟩ := Fin.ext (by show 128 * k + (17 + (r : ℕ)) = 17 + (128 * k + r); omega)
  have a15 : (⟨128 * k + (15 + r), by omega⟩ : Fin 544) = ⟨15 + (128 * k + r), by omega⟩ := Fin.ext (by show 128 * k + (15 + (r : ℕ)) = 15 + (128 * k + r); omega)
  rw [show (⟨128 * k + ((⟨16 + r, by omega⟩ : Fin 160) : ℕ), by omega⟩ : Fin 544) = _ from a16, show (⟨128 * k + ((⟨17 + r, by omega⟩ : Fin 160) : ℕ), by omega⟩ : Fin 544) = _ from a17,
    show (⟨128 * k + ((⟨15 + r, by omega⟩ : Fin 160) : ℕ), by omega⟩ : Fin 544) = _ from a15]
  rfl

theorem fit (k : Fin k0_t2_loop.trips) (C : ℕ) (hC : C + 128 ≤ 2048) : Fit ![128 * k.val, C] 128 128 512 := by
  have hk : k.val < 4 := k.isLt
  intro a
  match a with
  | ⟨0, _⟩ => show 128 * k.val + 128 ≤ 512; omega
  | ⟨1, _⟩ => exact hC

/-- A trip's sixteen chunks. -/
def chunks (G : Vec Ideal S512x2048 .f32) (k : ℕ) (h : ∀ C, C + 128 ≤ 2048 → Fit ![128 * k, C] 128 128 512) : List (View.Piece (Elt Ideal) S512x2048 .f32) :=
  [pc G k 1920 (h 1920 (by decide)), pc G k 1792 (h 1792 (by decide)), pc G k 1664 (h 1664 (by decide)), pc G k 1536 (h 1536 (by decide)), pc G k 1408 (h 1408 (by decide)), pc G k 1280 (h 1280 (by decide)), pc G k 1152 (h 1152 (by decide)), pc G k 1024 (h 1024 (by decide)), pc G k 896 (h 896 (by decide)), pc G k 768 (h 768 (by decide)), pc G k 640 (h 640 (by decide)), pc G k 512 (h 512 (by decide)), pc G k 384 (h 384 (by decide)), pc G k 256 (h 256 (by decide)), pc G k 128 (h 128 (by decide)), pc G k 0 (h 0 (by decide))]

theorem of_chunks (G : Vec Ideal S512x2048 .f32) (k : ℕ) (h : ∀ C, C + 128 ≤ 2048 → Fit ![128 * k, C] 128 128 512) (p : View.Piece (Elt Ideal) S512x2048 .f32) (hp : p ∈ chunks G k h)
    (x : p.1.shape.Idx) : p.2 x = G (p.1.emb x) := by
  simp only [chunks, List.mem_cons, List.not_mem_nil, or_false] at hp
  rcases hp with rfl | rfl | rfl | rfl | rfl | rfl | rfl | rfl | rfl | rfl | rfl | rfl | rfl | rfl | rfl | rfl <;> rfl

theorem in_rows {n m M : ℕ} (o : Fin 2 → ℕ) (h : Fit o n m M) (A B : ℕ) (he : o = ![A, B]) (y : (⟨2, ![M, 2048]⟩ : Shape).Idx) (a1 : A ≤ (y 0 : ℕ)) (a2 : (y 0 : ℕ) < A + n)
    (b1 : B ≤ (y 1 : ℕ)) (b2 : (y 1 : ℕ) < B + m) : y ∈ (Rect.unit (s := ⟨2, ![M, 2048]⟩) o ![n, m] h).set := by
  subst he
  exact Rect.mem_set_unit.mpr fun d => match d with
    | ⟨0, _⟩ => ⟨a1, a2⟩
    | ⟨1, _⟩ => ⟨b1, b2⟩

theorem chunk_mem (G : Vec Ideal S512x2048 .f32) (k : ℕ) (h : ∀ C, C + 128 ≤ 2048 → Fit ![128 * k, C] 128 128 512) : ∀ q : Fin 16, pc G k (128 * q) (h _ (by omega)) ∈ chunks G k h
  | ⟨0, _⟩ => by simp [chunks]
  | ⟨1, _⟩ => by simp [chunks]
  | ⟨2, _⟩ => by simp [chunks]
  | ⟨3, _⟩ => by simp [chunks]
  | ⟨4, _⟩ => by simp [chunks]
  | ⟨5, _⟩ => by simp [chunks]
  | ⟨6, _⟩ => by simp [chunks]
  | ⟨7, _⟩ => by simp [chunks]
  | ⟨8, _⟩ => by simp [chunks]
  | ⟨9, _⟩ => by simp [chunks]
  | ⟨10, _⟩ => by simp [chunks]
  | ⟨11, _⟩ => by simp [chunks]
  | ⟨12, _⟩ => by simp [chunks]
  | ⟨13, _⟩ => by simp [chunks]
  | ⟨14, _⟩ => by simp [chunks]
  | ⟨15, _⟩ => by simp [chunks]
  | ⟨n + 16, hn⟩ => absurd hn (by omega)

theorem chunk_over (G : Vec Ideal S512x2048 .f32) (k : ℕ) (h : ∀ C, C + 128 ≤ 2048 → Fit ![128 * k, C] 128 128 512) (y : S512x2048.Idx) (hk : (y 0 : ℕ) / 128 = k) :
    ∃ p ∈ chunks G k h, y ∈ p.1.set := by
  have hy1 : (y 1 : ℕ) < 2048 := (y 1).isLt
  exact ⟨_, chunk_mem G k h ⟨(y 1 : ℕ) / 128, by omega⟩, in_rows _ (h (128 * ((y 1 : ℕ) / 128)) (by omega)) (128 * k) (128 * ((y 1 : ℕ) / 128)) rfl y (by omega) (by omega) (by omega) (by omega)⟩

section
variable (𝒱 : Variants) (c : Dev nD) (bd : Option 𝒱.V) (i : grid0.Coords) (arg2 : Memref sig .tc .vmem S1x512x2048 .bf16) (harg2 : arg2.IsWhole) (arg3 : Memref sig .tc .vmem S1x16x2048 .bf16) (harg3 : arg3.IsWhole) (arg4 : Memref sig .tc .vmem S1x16x2048 .bf16) (harg4 : arg4.IsWhole) (arg5 : Memref sig .tc .vmem S1x512x2048 .bf16) (harg5 : arg5.IsWhole) (arg6 : Memref sig .tc .vmem S1x512x2048 .f32) (harg6 : arg6.IsWhole) (arg7 : Memref sig .tc .vmem S1x3x2048 .f32) (harg7 : arg7.IsWhole) (arg8 : Memref sig .tc .vmem S1x2048x2048 .bf16) (harg8 : arg8.IsWhole) (arg9 : Memref sig .tc .vmem S1x1x2048x512 .f32) (harg9 : arg9.IsWhole) (arg10 : Memref sig .tc .vmem S1x512x2048 .f32) (harg10 : arg10.IsWhole) (arg11 : Memref sig .tc .vmem S1x2048x512 .bf16) (harg11 : arg11.IsWhole) (arg12 : Memref sig .tc .vmem S544x2048 .f32) (harg12 : arg12.IsWhole) (arg13 : Memref sig .tc .vmem S512x2048 .f32) (harg13 : arg13.IsWhole) (arg14 : Memref sig .tc .vmem S512x2048 .bf16) (harg14 : arg14.IsWhole)

theorem trip2 (a b : BitVec 32) (X : BufTy.Contents (Elt Ideal) arg7.view.ty) (Y : BufTy.Contents (Elt Ideal) arg12.view.ty) (k : Fin k0_t2_loop.trips) :
    tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 a b X Y k =
    chunks (taps (arg7.view.read (Elt Ideal) X) (arg12.view.read (Elt Ideal) Y)) k.val (fit k) := by
  have hk : k.val < 4 := k.isLt
  unfold tripL_k0_t2 trip_k0_t2
  dsimp only
  sl_unfold_run_names
  unfold chunks
  refine congr (congrArg List.cons (pc_eq _ k.val 1920 _ hk (by decide) _ _ _ (k0_off34_eq k) fun r j => (sum15 _ _ _ _ r j).trans
    (three_at _ _ k.val 1920 hk (by decide) _ _ _ _ (ldE _ k.val 1920 hk (by decide) _ _ (k0_off33_eq k)) (ldW _ 0 1920 (by decide) _) (ldW _ 1 1920 (by decide) _) (ldW _ 2 1920 (by decide) _) r j))) ?_
  refine congr (congrArg List.cons (pc_eq _ k.val 1792 _ hk (by decide) _ _ _ (k0_off32_eq k) fun r j => (sum14 _ _ _ _ r j).trans
    (three_at _ _ k.val 1792 hk (by decide) _ _ _ _ (ldE _ k.val 1792 hk (by decide) _ _ (k0_off31_eq k)) (ldW _ 0 1792 (by decide) _) (ldW _ 1 1792 (by decide) _) (ldW _ 2 1792 (by decide) _) r j))) ?_
  refine congr (congrArg List.cons (pc_eq _ k.val 1664 _ hk (by decide) _ _ _ (k0_off30_eq k) fun r j => (sum13 _ _ _ _ r j).trans
    (three_at _ _ k.val 1664 hk (by decide) _ _ _ _ (ldE _ k.val 1664 hk (by decide) _ _ (k0_off29_eq k)) (ldW _ 0 1664 (by decide) _) (ldW _ 1 1664 (by decide) _) (ldW _ 2 1664 (by decide) _) r j))) ?_
  refine congr (congrArg List.cons (pc_eq _ k.val 1536 _ hk (by decide) _ _ _ (k0_off28_eq k) fun r j => (sum12 _ _ _ _ r j).trans
    (three_at _ _ k.val 1536 hk (by decide) _ _ _ _ (ldE _ k.val 1536 hk (by decide) _ _ (k0_off27_eq k)) (ldW _ 0 1536 (by decide) _) (ldW _ 1 1536 (by decide) _) (ldW _ 2 1536 (by decide) _) r j))) ?_
  refine congr (congrArg List.cons (pc_eq _ k.val 1408 _ hk (by decide) _ _ _ (k0_off26_eq k) fun r j => (sum11 _ _ _ _ r j).trans
    (three_at _ _ k.val 1408 hk (by decide) _ _ _ _ (ldE _ k.val 1408 hk (by decide) _ _ (k0_off25_eq k)) (ldW _ 0 1408 (by decide) _) (ldW _ 1 1408 (by decide) _) (ldW _ 2 1408 (by decide) _) r j))) ?_
  refine congr (congrArg List.cons (pc_eq _ k.val 1280 _ hk (by decide) _ _ _ (k0_off24_eq k) fun r j => (sum10 _ _ _ _ r j).trans
    (three_at _ _ k.val 1280 hk (by decide) _ _ _ _ (ldE _ k.val 1280 hk (by decide) _ _ (k0_off23_eq k)) (ldW _ 0 1280 (by decide) _) (ldW _ 1 1280 (by decide) _) (ldW _ 2 1280 (by decide) _) r j))) ?_
  refine congr (congrArg List.cons (pc_eq _ k.val 1152 _ hk (by decide) _ _ _ (k0_off22_eq k) fun r j => (sum9 _ _ _ _ r j).trans
    (three_at _ _ k.val 1152 hk (by decide) _ _ _ _ (ldE _ k.val 1152 hk (by decide) _ _ (k0_off21_eq k)) (ldW _ 0 1152 (by decide) _) (ldW _ 1 1152 (by decide) _) (ldW _ 2 1152 (by decide) _) r j))) ?_
  refine congr (congrArg List.cons (pc_eq _ k.val 1024 _ hk (by decide) _ _ _ (k0_off20_eq k) fun r j => (sum8 _ _ _ _ r j).trans
    (three_at _ _ k.val 1024 hk (by decide) _ _ _ _ (ldE _ k.val 1024 hk (by decide) _ _ (k0_off19_eq k)) (ldW _ 0 1024 (by decide) _) (ldW _ 1 1024 (by decide) _) (ldW _ 2 1024 (by decide) _) r j))) ?_
  refine congr (congrArg List.cons (pc_eq _ k.val 896 _ hk (by decide) _ _ _ (k0_off18_eq k) fun r j => (sum7 _ _ _ _ r j).trans
    (three_at _ _ k.val 896 hk (by decide) _ _ _ _ (ldE _ k.val 896 hk (by decide) _ _ (k0_off17_eq k)) (ldW _ 0 896 (by decide) _) (ldW _ 1 896 (by decide) _) (ldW _ 2 896 (by decide) _) r j))) ?_
  refine congr (congrArg List.cons (pc_eq _ k.val 768 _ hk (by decide) _ _ _ (k0_off16_eq k) fun r j => (sum6 _ _ _ _ r j).trans
    (three_at _ _ k.val 768 hk (by decide) _ _ _ _ (ldE _ k.val 768 hk (by decide) _ _ (k0_off15_eq k)) (ldW _ 0 768 (by decide) _) (ldW _ 1 768 (by decide) _) (ldW _ 2 768 (by decide) _) r j))) ?_
  refine congr (congrArg List.cons (pc_eq _ k.val 640 _ hk (by decide) _ _ _ (k0_off14_eq k) fun r j => (sum5 _ _ _ _ r j).trans
    (three_at _ _ k.val 640 hk (by decide) _ _ _ _ (ldE _ k.val 640 hk (by decide) _ _ (k0_off13_eq k)) (ldW _ 0 640 (by decide) _) (ldW _ 1 640 (by decide) _) (ldW _ 2 640 (by decide) _) r j))) ?_
  refine congr (congrArg List.cons (pc_eq _ k.val 512 _ hk (by decide) _ _ _ (k0_off12_eq k) fun r j => (sum4 _ _ _ _ r j).trans
    (three_at _ _ k.val 512 hk (by decide) _ _ _ _ (ldE _ k.val 512 hk (by decide) _ _ (k0_off11_eq k)) (ldW _ 0 512 (by decide) _) (ldW _ 1 512 (by decide) _) (ldW _ 2 512 (by decide) _) r j))) ?_
  refine congr (congrArg List.cons (pc_eq _ k.val 384 _ hk (by decide) _ _ _ (k0_off10_eq k) fun r j => (sum3 _ _ _ _ r j).trans
    (three_at _ _ k.val 384 hk (by decide) _ _ _ _ (ldE _ k.val 384 hk (by decide) _ _ (k0_off9_eq k)) (ldW _ 0 384 (by decide) _) (ldW _ 1 384 (by decide) _) (ldW _ 2 384 (by decide) _) r j))) ?_
  refine congr (congrArg List.cons (pc_eq _ k.val 256 _ hk (by decide) _ _ _ (k0_off8_eq k) fun r j => (sum2 _ _ _ _ r j).trans
    (three_at _ _ k.val 256 hk (by decide) _ _ _ _ (ldE _ k.val 256 hk (by decide) _ _ (k0_off7_eq k)) (ldW _ 0 256 (by decide) _) (ldW _ 1 256 (by decide) _) (ldW _ 2 256 (by decide) _) r j))) ?_
  refine congr (congrArg List.cons (pc_eq _ k.val 128 _ hk (by decide) _ _ _ (k0_off6_eq k) fun r j => (sum1 _ _ _ _ r j).trans
    (three_at _ _ k.val 128 hk (by decide) _ _ _ _ (ldE _ k.val 128 hk (by decide) _ _ (k0_off5_eq k)) (ldW _ 0 128 (by decide) _) (ldW _ 1 128 (by decide) _) (ldW _ 2 128 (by decide) _) r j))) ?_
  refine congr (congrArg List.cons (pc_eq _ k.val 0 _ hk (by decide) _ _ _ (k0_off4_eq k) fun r j => (sum0 _ _ _ _ r j).trans
    (three_at _ _ k.val 0 hk (by decide) _ _ _ _ (ldE _ k.val 0 hk (by decide) _ _ (k0_off3_eq k)) (ldW _ 0 0 (by decide) _) (ldW _ 1 0 (by decide) _) (ldW _ 2 0 (by decide) _) r j))) ?_
  rfl

end

/-! What the scratch buffers hold once their loops have run. -/

/-- A block's rows, sixteen before them and sixteen after. -/
def ext (i : grid0.Coords) (x0 : Vec Ideal S1x512x2048 .bf16) (x1 x2 : Vec Ideal S1x16x2048 .bf16) : Ext := fun z =>
  if h : (z 0 : ℕ) < 16 then k0_pay35 (F := Ideal) i x1 (ix2 ⟨z 0, h⟩ (z 1))
  else if h2 : (z 0 : ℕ) < 528 then x0 (ix3 0 ⟨z 0 - 16, by omega⟩ (z 1))
  else k0_pay36 (F := Ideal) i x2 (ix2 ⟨z 0 - 528, by have h3 : (z 0 : ℕ) < 544 := (z 0).isLt; omega⟩ (z 1))

/-- A trip's rows of a block with one leading axis. -/
abbrev FitR (o : Fin 3 → ℕ) : Prop := ∀ a, o a + (![1, 128, 2048] : Fin 3 → ℕ) a ≤ (⟨3, ![1, 512, 2048]⟩ : Shape).size a

theorem ldR {e : EltTy} (x0 : Vec Ideal S1x512x2048 e) (k : ℕ) (hk : k < 4) (o : Fin 3 → ℕ) (ho : FitR o) (he : o = ![0, 128 * k, 0]) (r : Fin 128) (d : Fin 2048) :
    View.ld (Val := Elt Ideal) (S := S1x512x2048) (e' := e) x0 (Rect.unit o ![1, 128, 2048] ho) (ix3 0 r d) = x0 (ix3 0 ⟨128 * k + r, by omega⟩ d) := by
  subst he
  refine congrArg x0 (funext fun a => Fin.ext ?_)
  match a with
  | ⟨0, _⟩ => rfl
  | ⟨1, _⟩ => show 128 * k + 1 * (r : ℕ) = 128 * k + r; omega
  | ⟨2, _⟩ => show 0 + 1 * (d : ℕ) = d; omega

theorem ldS {e : EltTy} (x : Vec Ideal S512x2048 e) (k : ℕ) (hk : k < 4) (o : Fin 2 → ℕ) (ho : Fit o 128 2048 512) (he : o = ![128 * k, 0]) (r : Fin 128) (d : Fin 2048) :
    View.ld (Val := Elt Ideal) (S := S512x2048) (e' := e) x (Rect.unit o ![128, 2048] ho) (ix2 r d) = x (ix2 ⟨128 * k + r, by omega⟩ d) := by
  subst he
  refine congrArg x (funext fun a => Fin.ext ?_)
  match a with
  | ⟨0, _⟩ => show 128 * k + 1 * (r : ℕ) = 128 * k + r; omega
  | ⟨1, _⟩ => show 0 + 1 * (d : ℕ) = d; omega

theorem pay37_at (x : Vec Ideal S1x128x2048 .bf16) (r : Fin 128) (d : Fin 2048) : k0_pay37 (F := Ideal) x (ix2 r d) = x (ix3 0 r d) := by
  pointwise [k0_pay37]

theorem pay39_at (x : Vec Ideal S1x128x2048 .bf16) (y : Vec Ideal S128x2048 .f32) (r : Fin 128) (d : Fin 2048) :
    k0_pay39 (F := Ideal) x y (ix2 r d) = x (ix3 0 r d) * y (ix2 r d) := by
  pointwise [k0_pay39]

theorem ext_mid (i : grid0.Coords) (x0 : Vec Ideal S1x512x2048 .bf16) (x1 x2 : Vec Ideal S1x16x2048 .bf16) (k : ℕ) (hk : k < 4) (o1 : Fin 3 → ℕ) (h1 : FitR o1) (e1 : o1 = ![0, 128 * k, 0])
    (o2 : Fin 2 → ℕ) (h2 : Fit o2 128 2048 544) (e2 : o2 = ![128 * k + 16, 0]) (x : S128x2048.Idx) :
    k0_pay37 (F := Ideal) (View.ld (Val := Elt Ideal) (S := S1x512x2048) (e' := .bf16) x0 (Rect.unit o1 ![1, 128, 2048] h1)) x
      = ext i x0 x1 x2 ((Rect.unit (s := S544x2048) o2 ![128, 2048] h2).emb x) := by
  subst e2
  have hx : (x 0 : ℕ) < 128 := (x 0).isLt
  have q0 : (((Rect.unit (s := S544x2048) ![128 * k + 16, 0] ![128, 2048] h2).emb x) 0 : ℕ) = 128 * k + 16 + x 0 := by
    show 128 * k + 16 + 1 * (x 0 : ℕ) = _; omega
  refine (show _ = _ from (congrArg _ (eq_ix2 x)).trans ((pay37_at _ (x 0) (x 1)).trans (ldR x0 k hk o1 h1 e1 (x 0) (x 1)))).trans ?_
  unfold ext
  rw [dif_neg (by omega), dif_pos (by omega)]
  refine congrArg x0 (funext fun a => Fin.ext ?_)
  match a with
  | ⟨0, _⟩ => rfl
  | ⟨1, _⟩ => show 128 * k + (x 0 : ℕ) = 128 * k + 16 + 1 * (x 0 : ℕ) - 16; omega
  | ⟨2, _⟩ => show (x 1 : ℕ) = 0 + 1 * (x 1 : ℕ); omega

theorem ext_low (i : grid0.Coords) (x0 : Vec Ideal S1x512x2048 .bf16) (x1 x2 : Vec Ideal S1x16x2048 .bf16) (h : Fit ![0, 0] 16 2048 544) (x : S16x2048.Idx) :
    k0_pay35 (F := Ideal) i x1 x = ext i x0 x1 x2 ((Rect.unit (s := S544x2048) ![0, 0] ![16, 2048] h).emb x) := by
  have hx : (x 0 : ℕ) < 16 := (x 0).isLt
  have q0 : (((Rect.unit (s := S544x2048) ![0, 0] ![16, 2048] h).emb x) 0 : ℕ) = x 0 := by show 0 + 1 * (x 0 : ℕ) = _; omega
  unfold ext
  rw [dif_pos (by omega)]
  refine congrArg _ (funext fun a => Fin.ext ?_)
  match a with
  | ⟨0, _⟩ => show (x 0 : ℕ) = 0 + 1 * (x 0 : ℕ); omega
  | ⟨1, _⟩ => show (x 1 : ℕ) = 0 + 1 * (x 1 : ℕ); omega

theorem ext_high (i : grid0.Coords) (x0 : Vec Ideal S1x512x2048 .bf16) (x1 x2 : Vec Ideal S1x16x2048 .bf16) (h : Fit ![528, 0] 16 2048 544) (x : S16x2048.Idx) :
    k0_pay36 (F := Ideal) i x2 x = ext i x0 x1 x2 ((Rect.unit (s := S544x2048) ![528, 0] ![16, 2048] h).emb x) := by
  have hx : (x 0 : ℕ) < 16 := (x 0).isLt
  have q0 : (((Rect.unit (s := S544x2048) ![528, 0] ![16, 2048] h).emb x) 0 : ℕ) = 528 + x 0 := by show 528 + 1 * (x 0 : ℕ) = _; omega
  unfold ext
  rw [dif_neg (by omega), dif_neg (by omega)]
  refine congrArg _ (funext fun a => Fin.ext ?_)
  match a with
  | ⟨0, _⟩ => show (x 0 : ℕ) = 528 + 1 * (x 0 : ℕ) - 528; omega
  | ⟨1, _⟩ => show (x 1 : ℕ) = 0 + 1 * (x 1 : ℕ); omega

/-- What the gate leaves of the taps. -/
def gated (g : Vec Ideal S1x512x2048 .bf16) (C : Vec Ideal S512x2048 .f32) : Vec Ideal S512x2048 .bf16 := fun z => g (ix3 0 (z 0) (z 1)) * C z

theorem gated_at (g : Vec Ideal S1x512x2048 .bf16) (C : Vec Ideal S512x2048 .f32) (k : ℕ) (hk : k < 4) (o1 : Fin 3 → ℕ) (h1 : FitR o1) (e1 : o1 = ![0, 128 * k, 0])
    (o2 : Fin 2 → ℕ) (h2 : Fit o2 128 2048 512) (e2 : o2 = ![128 * k, 0]) (x : S128x2048.Idx) :
    k0_pay39 (F := Ideal) (View.ld (Val := Elt Ideal) (S := S1x512x2048) (e' := .bf16) g (Rect.unit o1 ![1, 128, 2048] h1))
      (View.ld (Val := Elt Ideal) (S := S512x2048) (e' := .f32) C (Rect.unit o2 ![128, 2048] h2)) x
      = gated g C ((Rect.unit (s := S512x2048) o2 ![128, 2048] h2).emb x) := by
  refine (show _ = _ from (congrArg _ (eq_ix2 x)).trans (pay39_at _ _ (x 0) (x 1))).trans ?_
  refine congr (congrArg HMul.hMul ((ldR g k hk o1 h1 e1 (x 0) (x 1)).trans ?_)) (congrArg (fun u => C ((Rect.unit (s := S512x2048) o2 ![128, 2048] h2).emb u)) (eq_ix2 x).symm)
  subst e2
  refine congrArg g (funext fun a => Fin.ext ?_)
  match a with
  | ⟨0, _⟩ => rfl
  | ⟨1, _⟩ => show 128 * k + (x 0 : ℕ) = 128 * k + 1 * (x 0 : ℕ); omega
  | ⟨2, _⟩ => show (x 1 : ℕ) = 0 + 1 * (x 1 : ℕ); omega

section
variable (𝒱 : Variants) (c : Dev nD) (bd : Option 𝒱.V) (i : grid0.Coords) (arg2 : Memref sig .tc .vmem S1x512x2048 .bf16) (harg2 : arg2.IsWhole) (arg3 : Memref sig .tc .vmem S1x16x2048 .bf16) (harg3 : arg3.IsWhole) (arg4 : Memref sig .tc .vmem S1x16x2048 .bf16) (harg4 : arg4.IsWhole) (arg5 : Memref sig .tc .vmem S1x512x2048 .bf16) (harg5 : arg5.IsWhole) (arg6 : Memref sig .tc .vmem S1x512x2048 .f32) (harg6 : arg6.IsWhole) (arg7 : Memref sig .tc .vmem S1x3x2048 .f32) (harg7 : arg7.IsWhole) (arg8 : Memref sig .tc .vmem S1x2048x2048 .bf16) (harg8 : arg8.IsWhole) (arg9 : Memref sig .tc .vmem S1x1x2048x512 .f32) (harg9 : arg9.IsWhole) (arg10 : Memref sig .tc .vmem S1x512x2048 .f32) (harg10 : arg10.IsWhole) (arg11 : Memref sig .tc .vmem S1x2048x512 .bf16) (harg11 : arg11.IsWhole) (arg12 : Memref sig .tc .vmem S544x2048 .f32) (harg12 : arg12.IsWhole) (arg13 : Memref sig .tc .vmem S512x2048 .f32) (harg13 : arg13.IsWhole) (arg14 : Memref sig .tc .vmem S512x2048 .bf16) (harg14 : arg14.IsWhole)

theorem rows1 (X : BufTy.Contents (Elt Ideal) arg2.view.ty) (x1 x2 : Vec Ideal S1x16x2048 .bf16) (n : ℕ) (hn : n = 4) :
    arg12.view.read (Elt Ideal) (arg12.view.writes (Elt Ideal) arg12.view.junk (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X n
      ++ [⟨Rect.unit ![528, 0] ![16, 2048] inb_S544x2048_S16x2048_528_0, k0_pay36 (F := Ideal) i x2⟩, ⟨Rect.unit ![0, 0] ![16, 2048] inb_S544x2048_S16x2048_0_0, k0_pay35 (F := Ideal) i x1⟩,
        ⟨Rect.unit ![0, 0] ![544, 2048] inb_S544x2048_S544x2048_0_0, k0_pay34 (F := Ideal)⟩])) = ext i (arg2.view.read (Elt Ideal) X) x1 x2 := by
  subst hn
  have M := mem_loop (fun k => tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X k) (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X) rfl (pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 X) 4 (le_refl _)
  have T : ∀ k : Fin k0_t1_loop.trips, ∃ h1 h2, tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X k = [⟨Rect.unit (k0_off2 k) ![128, 2048] h2,
      k0_pay37 (View.ld (Val := Elt Ideal) (arg2.view.read (Elt Ideal) X) (Rect.unit (k0_off1 k) ![1, 128, 2048] h1))⟩] := fun k => by
    unfold tripL_k0_t1 trip_k0_t1
    exact ⟨_, _, rfl⟩
  rw [View.read_writes_junk_eq_canon]
  funext y
  have hy0 : (y 0 : ℕ) < 544 := (y 0).isLt
  have hy1 : (y 1 : ℕ) < 2048 := (y 1).isLt
  refine (congrArg (fun L => View.canon L y) (List.append_assoc _ [_, _] [_]).symm).trans (View.canon_append_of_pieces _ _ _ ?_ y ?_)
  · intro p hp x
    rcases List.mem_append.mp hp with h | h
    · obtain ⟨k, _, h⟩ := (M p).mp h
      obtain ⟨h1, h2, e⟩ := T k
      rw [e] at h
      obtain rfl := List.mem_singleton.mp h
      exact ext_mid i (arg2.view.read (Elt Ideal) X) x1 x2 k.val k.isLt _ h1 (k0_off1_eq k) _ h2 (k0_off2_eq k) x
    · simp only [List.mem_cons, List.not_mem_nil, or_false] at h
      rcases h with rfl | rfl
      · exact ext_high i (arg2.view.read (Elt Ideal) X) x1 x2 inb_S544x2048_S16x2048_528_0 x
      · exact ext_low i (arg2.view.read (Elt Ideal) X) x1 x2 inb_S544x2048_S16x2048_0_0 x
  · by_cases c1 : (y 0 : ℕ) < 16
    · exact ⟨_, List.mem_append_right _ (List.mem_cons_of_mem _ (List.mem_cons_self ..)), in_rows ![0, 0] inb_S544x2048_S16x2048_0_0 0 0 rfl y (by omega) (by omega) (by omega) (by omega)⟩
    · by_cases c2 : (y 0 : ℕ) < 528
      · have hk : ((y 0 : ℕ) - 16) / 128 < 4 := by omega
        obtain ⟨h1, h2, e⟩ := T ⟨((y 0 : ℕ) - 16) / 128, hk⟩
        refine ⟨_, List.mem_append_left _ ((M _).mpr ⟨⟨((y 0 : ℕ) - 16) / 128, hk⟩, hk, e ▸ List.mem_singleton.mpr rfl⟩), ?_⟩
        exact in_rows _ h2 (128 * (((y 0 : ℕ) - 16) / 128) + 16) 0 (k0_off2_eq _) y (by omega) (by omega) (by omega) (by omega)
      · exact ⟨_, List.mem_append_right _ (List.mem_cons_self ..), in_rows ![528, 0] inb_S544x2048_S16x2048_528_0 528 0 rfl y (by omega) (by omega) (by omega) (by omega)⟩

theorem rows2 (a b : BitVec 32) (X : BufTy.Contents (Elt Ideal) arg7.view.ty) (Y : BufTy.Contents (Elt Ideal) arg12.view.ty) (n : ℕ) (hn : n = 4) :
    arg13.view.read (Elt Ideal) (arg13.view.writes (Elt Ideal) arg13.view.junk (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 a b X Y n
      ++ [⟨Rect.unit ![0, 0] ![512, 2048] inb_S512x2048_S512x2048_0_0, k0_pay33 (F := Ideal)⟩])) = taps (arg7.view.read (Elt Ideal) X) (arg12.view.read (Elt Ideal) Y) := by
  subst hn
  have M := mem_loop (fun k => tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 a b X Y k) (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 a b X Y) rfl (pb_k0_t2_succ 𝒱 c bd i arg2 harg2 arg3 harg3 arg4 harg4 arg5 harg5 arg6 harg6 arg7 harg7 arg8 harg8 arg9 harg9 arg10 harg10 arg11 harg11 arg12 harg12 arg13 harg13 arg14 harg14 a b X Y) 4 (le_refl _)
  rw [View.read_writes_junk_eq_canon]
  funext y
  have hy0 : (y 0 : ℕ) < 512 := (y 0).isLt
  have hy1 : (y 1 : ℕ) < 2048 := (y 1).isLt
  refine View.canon_append_of_pieces _ _ _ ?_ y ?_
  · intro p hp x
    obtain ⟨k, _, h⟩ := (M p).mp hp
    rw [trip2] at h
    exact of_chunks _ k.val (fit k) p h x
  · have hk : (y 0 : ℕ) / 128 < 4 := by omega
    obtain ⟨p, hp, hm⟩ := chunk_over (taps (arg7.view.read (Elt Ideal) X) (arg12.view.read (Elt Ideal) Y)) ((y 0 : ℕ) / 128) (fit ⟨(y 0 : ℕ) / 128, hk⟩) y rfl
    refine ⟨p, (M p).mpr ⟨⟨(y 0 : ℕ) / 128, hk⟩, hk, ?_⟩, hm⟩
    rw [trip2]
    exact hp

theorem rows3 (a b : BitVec 32) (X : BufTy.Contents (Elt Ideal) arg5.view.ty) (Y : BufTy.Contents (Elt Ideal) arg13.view.ty) (n : ℕ) (hn : n = 4) :
    View.readCov (Val := Elt Ideal) arg14.view (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 a b X Y n)
      (Rect.unit ![0, 0] ![512, 2048] inb_S512x2048_S512x2048_0_0).toLoadRect = gated (arg5.view.read (Elt Ideal) X) (arg13.view.read (Elt Ideal) Y) := by
  subst hn
  have M := mem_loop (fun k => tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 a b X Y k) (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 a b X Y) rfl (pb_k0_t3_succ 𝒱 c bd i arg2 harg2 arg3 harg3 arg4 harg4 arg5 harg5 arg6 harg6 arg7 harg7 arg8 harg8 arg9 harg9 arg10 harg10 arg11 harg11 arg12 harg12 arg13 harg13 arg14 harg14 a b X Y) 4 (le_refl _)
  have T : ∀ k : Fin k0_t3_loop.trips, ∃ h1 h2, tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 a b X Y k = [⟨Rect.unit (k0_off36 k) ![128, 2048] h2,
      k0_pay39 (View.ld (Val := Elt Ideal) (arg5.view.read (Elt Ideal) X) (Rect.unit (k0_off35 k) ![1, 128, 2048] h1))
        (View.ld (Val := Elt Ideal) (arg13.view.read (Elt Ideal) Y) (Rect.unit (k0_off36 k) ![128, 2048] h2))⟩] := fun k => by
    unfold tripL_k0_t3 trip_k0_t3
    exact ⟨_, _, rfl⟩
  rw [View.readCov_eq_canon']
  funext y
  have hy0 : (y 0 : ℕ) < 512 := (y 0).isLt
  have hy1 : (y 1 : ℕ) < 2048 := (y 1).isLt
  have hy : (Rect.unit (s := S512x2048) ![0, 0] ![512, 2048] inb_S512x2048_S512x2048_0_0).toLoadRect.idx y = y := funext fun d => Fin.ext (by
    match d with
    | ⟨0, _⟩ => show 0 + 1 * (y 0 : ℕ) = y 0; omega
    | ⟨1, _⟩ => show 0 + 1 * (y 1 : ℕ) = y 1; omega)
  rw [hy]
  refine View.canon_apply_of_pieces _ _ ?_ y ?_
  · intro p hp x
    obtain ⟨k, _, h⟩ := (M p).mp hp
    obtain ⟨h1, h2, e⟩ := T k
    rw [e] at h
    obtain rfl := List.mem_singleton.mp h
    exact gated_at (arg5.view.read (Elt Ideal) X) (arg13.view.read (Elt Ideal) Y) k.val k.isLt _ h1 (k0_off35_eq k) _ h2 (k0_off36_eq k) x
  · have hk : (y 0 : ℕ) / 128 < 4 := by omega
    obtain ⟨h1, h2, e⟩ := T ⟨(y 0 : ℕ) / 128, hk⟩
    refine ⟨_, (M _).mpr ⟨⟨(y 0 : ℕ) / 128, hk⟩, hk, e ▸ List.mem_singleton.mpr rfl⟩, ?_⟩
    exact in_rows _ h2 (128 * ((y 0 : ℕ) / 128)) 0 (k0_off36_eq _) y (by omega) (by omega) (by omega) (by omega)

end

/-! A block of the first result. -/

/-- A stretch of columns of a block fits. -/
abbrev Fit3 (o : ℕ) : Prop := ∀ a, (![0, 0, o] : Fin 3 → ℕ) a + (![1, 512, 256] : Fin 3 → ℕ) a ≤ (⟨3, ![1, 512, 2048]⟩ : Shape).size a

/-- A stretch of columns of a block, as its load reads it. -/
abbrev ldB (X : Vec Ideal S1x512x2048 .f32) (o : ℕ) (h : Fit3 o) : Vec Ideal S1x512x256 .f32 :=
  View.ld (Val := Elt Ideal) (S := S1x512x2048) (e' := .f32) X (Rect.unit ![0, 0, o] ![1, 512, 256] h)

theorem ldB_at (X : Vec Ideal S1x512x2048 .f32) (o : ℕ) (h : Fit3 o) (ho : o + 256 ≤ 2048) (r : Fin 512) (j : Fin 256) : ldB X o h (ix3 0 r j) = X (ix3 0 r ⟨o + j, by omega⟩) := by
  refine congrArg X (funext fun d => Fin.ext ?_)
  match d with
  | ⟨0, _⟩ => rfl
  | ⟨1, _⟩ => show 0 + 1 * (r : ℕ) = r; omega
  | ⟨2, _⟩ => show o + 1 * (j : ℕ) = o + j; omega

theorem block_at (o : ℕ) (h : Fit3 o) (ho : o + 256 ≤ 2048) (G : Vec Ideal S1x512x2048 .f32) (p : Vec Ideal S1x512x256 .f32)
    (hp : ∀ (r : Fin 512) (j : Fin 256), p (ix3 0 r j) = G (ix3 0 r ⟨o + j, by omega⟩)) (x : S1x512x256.Idx) :
    p x = G ((Rect.unit (s := S1x512x2048) ![0, 0, o] ![1, 512, 256] h).emb x) := by
  have hx : x = ix3 0 (x 1) (x 2) := by
    funext d
    match d with
    | ⟨0, _⟩ => exact Fin.ext (by have h : (x 0 : ℕ) < 1 := (x 0).isLt; show (x 0 : ℕ) = 0; omega)
    | ⟨1, _⟩ => rfl
    | ⟨2, _⟩ => rfl
  refine (congrArg p hx).trans ((hp (x 1) (x 2)).trans (congrArg G (funext fun d => Fin.ext ?_)))
  match d with
  | ⟨0, _⟩ => have h : (x 0 : ℕ) < 1 := (x 0).isLt; show 0 = 0 + 1 * (x 0 : ℕ); omega
  | ⟨1, _⟩ => show (x 1 : ℕ) = 0 + 1 * (x 1 : ℕ); omega
  | ⟨2, _⟩ => show o + (x 2 : ℕ) = o + 1 * (x 2 : ℕ); omega

theorem in_block (o : ℕ) (h : Fit3 o) (y : S1x512x2048.Idx) (h1 : o ≤ (y 2 : ℕ)) (h2 : (y 2 : ℕ) < o + 256) : y ∈ (Rect.unit (s := S1x512x2048) ![0, 0, o] ![1, 512, 256] h).set :=
  Rect.mem_set_unit.mpr fun d => match d with
    | ⟨0, _⟩ => ⟨Nat.zero_le _, by have h : (y 0 : ℕ) < 1 := (y 0).isLt; show (y 0 : ℕ) < 0 + 1; omega⟩
    | ⟨1, _⟩ => ⟨Nat.zero_le _, by have h : (y 1 : ℕ) < 512 := (y 1).isLt; show (y 1 : ℕ) < 0 + 512; omega⟩
    | ⟨2, _⟩ => ⟨h1, h2⟩

/-- A block of the first result: the residual and the gated taps' projection. -/
def oB (x4 : Vec Ideal S1x512x2048 .f32) (x6 : Vec Ideal S1x2048x2048 .bf16) (U : Vec Ideal S512x2048 .bf16) : Vec Ideal S1x512x2048 .f32 := fun z =>
  x4 (ix3 0 (z 1) (z 2)) + proj (fun a => U (ix2 (z 1) a)) (fun a => x6 (ix3 0 a (z 2)))

theorem res0 (x4 : Vec Ideal S1x512x2048 .f32) (x6 : Vec Ideal S1x2048x2048 .bf16) (U : Vec Ideal S512x2048 .bf16) (r : Fin 512) (j : Fin 256) :
    k0_pay40 (F := Ideal) (ldB x4 0 inb_S1x512x2048_S1x512x256_0_0_0) U (ldC x6 0 inb_S1x2048x2048_S1x2048x256_0_0_0) (ix3 0 r j) = oB x4 x6 U (ix3 0 r ⟨0 + j, by omega⟩) := by
  have e1 : ∀ a : Fin 2048, _ := fun a => ldC_at x6 0 inb_S1x2048x2048_S1x2048x256_0_0_0 (by omega) a j
  have e2 := ldB_at x4 0 inb_S1x512x2048_S1x512x256_0_0_0 (by omega) r j
  pointwise [k0_pay40, e1, e2, oB, proj]

theorem res1 (x4 : Vec Ideal S1x512x2048 .f32) (x6 : Vec Ideal S1x2048x2048 .bf16) (U : Vec Ideal S512x2048 .bf16) (r : Fin 512) (j : Fin 256) :
    k0_pay41 (F := Ideal) (ldB x4 256 inb_S1x512x2048_S1x512x256_0_0_256) U (ldC x6 256 inb_S1x2048x2048_S1x2048x256_0_0_256) (ix3 0 r j) = oB x4 x6 U (ix3 0 r ⟨256 + j, by omega⟩) := by
  have e1 : ∀ a : Fin 2048, _ := fun a => ldC_at x6 256 inb_S1x2048x2048_S1x2048x256_0_0_256 (by omega) a j
  have e2 := ldB_at x4 256 inb_S1x512x2048_S1x512x256_0_0_256 (by omega) r j
  pointwise [k0_pay41, e1, e2, oB, proj]

theorem res2 (x4 : Vec Ideal S1x512x2048 .f32) (x6 : Vec Ideal S1x2048x2048 .bf16) (U : Vec Ideal S512x2048 .bf16) (r : Fin 512) (j : Fin 256) :
    k0_pay42 (F := Ideal) (ldB x4 512 inb_S1x512x2048_S1x512x256_0_0_512) U (ldC x6 512 inb_S1x2048x2048_S1x2048x256_0_0_512) (ix3 0 r j) = oB x4 x6 U (ix3 0 r ⟨512 + j, by omega⟩) := by
  have e1 : ∀ a : Fin 2048, _ := fun a => ldC_at x6 512 inb_S1x2048x2048_S1x2048x256_0_0_512 (by omega) a j
  have e2 := ldB_at x4 512 inb_S1x512x2048_S1x512x256_0_0_512 (by omega) r j
  pointwise [k0_pay42, e1, e2, oB, proj]

theorem res3 (x4 : Vec Ideal S1x512x2048 .f32) (x6 : Vec Ideal S1x2048x2048 .bf16) (U : Vec Ideal S512x2048 .bf16) (r : Fin 512) (j : Fin 256) :
    k0_pay43 (F := Ideal) (ldB x4 768 inb_S1x512x2048_S1x512x256_0_0_768) U (ldC x6 768 inb_S1x2048x2048_S1x2048x256_0_0_768) (ix3 0 r j) = oB x4 x6 U (ix3 0 r ⟨768 + j, by omega⟩) := by
  have e1 : ∀ a : Fin 2048, _ := fun a => ldC_at x6 768 inb_S1x2048x2048_S1x2048x256_0_0_768 (by omega) a j
  have e2 := ldB_at x4 768 inb_S1x512x2048_S1x512x256_0_0_768 (by omega) r j
  pointwise [k0_pay43, e1, e2, oB, proj]

theorem res4 (x4 : Vec Ideal S1x512x2048 .f32) (x6 : Vec Ideal S1x2048x2048 .bf16) (U : Vec Ideal S512x2048 .bf16) (r : Fin 512) (j : Fin 256) :
    k0_pay45 (F := Ideal) (k0_pay44 (F := Ideal) (ldB x4 1024 inb_S1x512x2048_S1x512x256_0_0_1024) U (ldC x6 1024 inb_S1x2048x2048_S1x2048x256_0_0_1024)) (ix3 0 r j) = oB x4 x6 U (ix3 0 r ⟨1024 + j, by omega⟩) := by
  have e1 : ∀ a : Fin 2048, _ := fun a => ldC_at x6 1024 inb_S1x2048x2048_S1x2048x256_0_0_1024 (by omega) a j
  have e2 := ldB_at x4 1024 inb_S1x512x2048_S1x512x256_0_0_1024 (by omega) r j
  pointwise [k0_pay45, k0_pay44, e1, e2, oB, proj]

theorem res5 (x4 : Vec Ideal S1x512x2048 .f32) (x6 : Vec Ideal S1x2048x2048 .bf16) (U : Vec Ideal S512x2048 .bf16) (r : Fin 512) (j : Fin 256) :
    k0_pay46 (F := Ideal) (ldB x4 1280 inb_S1x512x2048_S1x512x256_0_0_1280) U (ldC x6 1280 inb_S1x2048x2048_S1x2048x256_0_0_1280) (ix3 0 r j) = oB x4 x6 U (ix3 0 r ⟨1280 + j, by omega⟩) := by
  have e1 : ∀ a : Fin 2048, _ := fun a => ldC_at x6 1280 inb_S1x2048x2048_S1x2048x256_0_0_1280 (by omega) a j
  have e2 := ldB_at x4 1280 inb_S1x512x2048_S1x512x256_0_0_1280 (by omega) r j
  pointwise [k0_pay46, e1, e2, oB, proj]

theorem res6 (x4 : Vec Ideal S1x512x2048 .f32) (x6 : Vec Ideal S1x2048x2048 .bf16) (U : Vec Ideal S512x2048 .bf16) (r : Fin 512) (j : Fin 256) :
    k0_pay47 (F := Ideal) (ldB x4 1536 inb_S1x512x2048_S1x512x256_0_0_1536) U (ldC x6 1536 inb_S1x2048x2048_S1x2048x256_0_0_1536) (ix3 0 r j) = oB x4 x6 U (ix3 0 r ⟨1536 + j, by omega⟩) := by
  have e1 : ∀ a : Fin 2048, _ := fun a => ldC_at x6 1536 inb_S1x2048x2048_S1x2048x256_0_0_1536 (by omega) a j
  have e2 := ldB_at x4 1536 inb_S1x512x2048_S1x512x256_0_0_1536 (by omega) r j
  pointwise [k0_pay47, e1, e2, oB, proj]

theorem res7 (x4 : Vec Ideal S1x512x2048 .f32) (x6 : Vec Ideal S1x2048x2048 .bf16) (U : Vec Ideal S512x2048 .bf16) (r : Fin 512) (j : Fin 256) :
    k0_pay1 (F := Ideal) (k0_pay48 (F := Ideal) (ldB x4 1792 inb_S1x512x2048_S1x512x256_0_0_1792)) U (ldC x6 1792 inb_S1x2048x2048_S1x2048x256_0_0_1792) (ix3 0 r j) = oB x4 x6 U (ix3 0 r ⟨1792 + j, by omega⟩) := by
  have e1 : ∀ a : Fin 2048, _ := fun a => ldC_at x6 1792 inb_S1x2048x2048_S1x2048x256_0_0_1792 (by omega) a j
  have e2 := ldB_at x4 1792 inb_S1x512x2048_S1x512x256_0_0_1792 (by omega) r j
  pointwise [k0_pay1, k0_pay48, e1, e2, oB, proj]

section
variable (c : Dev nD) (i : grid0.Coords) (arg2 : Memref sig .tc .vmem S1x512x2048 .bf16) (harg2 : arg2.IsWhole) (arg3 : Memref sig .tc .vmem S1x16x2048 .bf16) (harg3 : arg3.IsWhole) (arg4 : Memref sig .tc .vmem S1x16x2048 .bf16) (harg4 : arg4.IsWhole) (arg5 : Memref sig .tc .vmem S1x512x2048 .bf16) (harg5 : arg5.IsWhole) (arg6 : Memref sig .tc .vmem S1x512x2048 .f32) (harg6 : arg6.IsWhole) (arg7 : Memref sig .tc .vmem S1x3x2048 .f32) (harg7 : arg7.IsWhole) (arg8 : Memref sig .tc .vmem S1x2048x2048 .bf16) (harg8 : arg8.IsWhole) (arg9 : Memref sig .tc .vmem S1x1x2048x512 .f32) (harg9 : arg9.IsWhole) (arg10 : Memref sig .tc .vmem S1x512x2048 .f32) (harg10 : arg10.IsWhole) (arg11 : Memref sig .tc .vmem S1x2048x512 .bf16) (harg11 : arg11.IsWhole) (arg12 : Memref sig .tc .vmem S544x2048 .f32) (harg12 : arg12.IsWhole) (arg13 : Memref sig .tc .vmem S512x2048 .f32) (harg13 : arg13.IsWhole) (arg14 : Memref sig .tc .vmem S512x2048 .bf16) (harg14 : arg14.IsWhole)

theorem out8 (x0 : Vec Ideal S1x512x2048 .bf16) (x1 x2 : Vec Ideal S1x16x2048 .bf16) (x3 : Vec Ideal S1x512x2048 .bf16) (x4 : Vec Ideal S1x512x2048 .f32) (x5 : Vec Ideal S1x3x2048 .f32)
    (x6 : Vec Ideal S1x2048x2048 .bf16) (x7 : Vec Ideal S1x1x2048x512 .f32) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = oB x4 x6 (gated x3 (taps x5 (ext i x0 x1 x2))) := by
  frame_out
  rw [rows3, rows2, rows1, harg2.read_unread, harg5.read_unread, harg7.read_unread]
  · generalize gated x3 (taps x5 (ext i x0 x1 x2)) = U
    funext y
    have hy : (y 2 : ℕ) < 2048 := (y 2).isLt
    refine View.canon_apply_of_pieces (oB x4 x6 U) _ ?_ y ?_
    · intro p hp x
      simp only [List.mem_cons, List.not_mem_nil, or_false] at hp
      rcases hp with rfl | rfl | rfl | rfl | rfl | rfl | rfl | rfl
      · exact block_at 1792 inb_S1x512x2048_S1x512x256_0_0_1792 (by omega) _ _ (res7 x4 x6 U) x
      · exact block_at 1536 inb_S1x512x2048_S1x512x256_0_0_1536 (by omega) _ _ (res6 x4 x6 U) x
      · exact block_at 1280 inb_S1x512x2048_S1x512x256_0_0_1280 (by omega) _ _ (res5 x4 x6 U) x
      · exact block_at 1024 inb_S1x512x2048_S1x512x256_0_0_1024 (by omega) _ _ (res4 x4 x6 U) x
      · exact block_at 768 inb_S1x512x2048_S1x512x256_0_0_768 (by omega) _ _ (res3 x4 x6 U) x
      · exact block_at 512 inb_S1x512x2048_S1x512x256_0_0_512 (by omega) _ _ (res2 x4 x6 U) x
      · exact block_at 256 inb_S1x512x2048_S1x512x256_0_0_256 (by omega) _ _ (res1 x4 x6 U) x
      · exact block_at 0 inb_S1x512x2048_S1x512x256_0_0_0 (by omega) _ _ (res0 x4 x6 U) x
    · simp only [List.mem_cons, List.not_mem_nil, or_false, exists_eq_or_imp, exists_eq_left]
      have c : (1792 ≤ (y 2 : ℕ) ∧ (y 2 : ℕ) < 1792 + 256) ∨ (1536 ≤ (y 2 : ℕ) ∧ (y 2 : ℕ) < 1536 + 256) ∨ (1280 ≤ (y 2 : ℕ) ∧ (y 2 : ℕ) < 1280 + 256) ∨ (1024 ≤ (y 2 : ℕ) ∧ (y 2 : ℕ) < 1024 + 256) ∨ (768 ≤ (y 2 : ℕ) ∧ (y 2 : ℕ) < 768 + 256) ∨ (512 ≤ (y 2 : ℕ) ∧ (y 2 : ℕ) < 512 + 256) ∨ (256 ≤ (y 2 : ℕ) ∧ (y 2 : ℕ) < 256 + 256) ∨ (0 ≤ (y 2 : ℕ) ∧ (y 2 : ℕ) < 0 + 256) := by omega
      rcases c with c | c | c | c | c | c | c | c
      · exact Or.inl (in_block 1792 inb_S1x512x2048_S1x512x256_0_0_1792 y c.1 c.2)
      · exact Or.inr (Or.inl (in_block 1536 inb_S1x512x2048_S1x512x256_0_0_1536 y c.1 c.2))
      · exact Or.inr (Or.inr (Or.inl (in_block 1280 inb_S1x512x2048_S1x512x256_0_0_1280 y c.1 c.2)))
      · exact Or.inr (Or.inr (Or.inr (Or.inl (in_block 1024 inb_S1x512x2048_S1x512x256_0_0_1024 y c.1 c.2))))
      · exact Or.inr (Or.inr (Or.inr (Or.inr (Or.inl (in_block 768 inb_S1x512x2048_S1x512x256_0_0_768 y c.1 c.2)))))
      · exact Or.inr (Or.inr (Or.inr (Or.inr (Or.inr (Or.inl (in_block 512 inb_S1x512x2048_S1x512x256_0_0_512 y c.1 c.2))))))
      · exact Or.inr (Or.inr (Or.inr (Or.inr (Or.inr (Or.inr (Or.inl (in_block 256 inb_S1x512x2048_S1x512x256_0_0_256 y c.1 c.2)))))))
      · exact Or.inr (Or.inr (Or.inr (Or.inr (Or.inr (Or.inr (Or.inr (in_block 0 inb_S1x512x2048_S1x512x256_0_0_0 y c.1 c.2)))))))
  all_goals rfl

theorem out9 (x0 : Vec Ideal S1x512x2048 .bf16) (x1 x2 : Vec Ideal S1x16x2048 .bf16) (x3 : Vec Ideal S1x512x2048 .bf16) (x4 : Vec Ideal S1x512x2048 .f32) (x5 : Vec Ideal S1x3x2048 .f32)
    (x6 : Vec Ideal S1x2048x2048 .bf16) (x7 : Vec Ideal S1x1x2048x512 .f32) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = k0_pay2 (F := Ideal) x7 := by
  frame_out

end

/-! What the kernel leaves in its results, over the program's arguments. -/

variable (m : (ℓ : Loc nD τ sig) → Buf (Elt Ideal) ℓ)

theorem idx : ∀ t : Fin cfg0.N, win0_0.index t = ![t.val / 16, t.val % 16, 0] ∧ win0_1.index t = ![t.val / 16, 32 * (t.val % 16) - 1, 0]
    ∧ win0_2.index t = ![t.val / 16, min (32 * (t.val % 16 + 1)) 511, 0] ∧ win0_3.index t = ![t.val / 16, t.val % 16, 0]
    ∧ win0_4.index t = ![t.val / 16, t.val % 16, 0] ∧ win0_5.index t = ![0, 0, 0] ∧ win0_6.index t = ![0, 0, 0] ∧ win0_7.index t = ![2, t.val, 0, 0]
    ∧ win0_8.index t = ![t.val / 16, t.val % 16, 0] ∧ win0_9.index t = ![t.val, 0, 0] :=
  (by decide +kernel : ∀ t : Fin grid0.N, _)

theorem coord : ∀ t : Fin cfg0.N, (grid0.coords t 1).val = t.val % 16 :=
  (by decide +kernel : ∀ t : Fin grid0.N, _)

abbrev B0 (c : Dev nD) (t : Fin cfg0.N) : Vec Ideal S1x512x2048 .bf16 := iblk m c 0 t
abbrev B1 (c : Dev nD) (t : Fin cfg0.N) : Vec Ideal S1x16x2048 .bf16 := iblk m c 1 t
abbrev B2 (c : Dev nD) (t : Fin cfg0.N) : Vec Ideal S1x16x2048 .bf16 := iblk m c 2 t
abbrev B3 (c : Dev nD) (t : Fin cfg0.N) : Vec Ideal S1x512x2048 .bf16 := iblk m c 3 t
abbrev B4 (c : Dev nD) (t : Fin cfg0.N) : Vec Ideal S1x512x2048 .f32 := iblk m c 4 t
abbrev B5 (c : Dev nD) (t : Fin cfg0.N) : Vec Ideal S1x3x2048 .f32 := iblk m c 5 t
abbrev B6 (c : Dev nD) (t : Fin cfg0.N) : Vec Ideal S1x2048x2048 .bf16 := iblk m c 6 t
abbrev B7 (c : Dev nD) (t : Fin cfg0.N) : Vec Ideal S1x1x2048x512 .f32 := iblk m c 7 t
abbrev a0 (c : Dev nD) : S2x8192x2048.Idx → EReal := m ((c : Thread nD τ).loc main_arg0)
abbrev a1 (c : Dev nD) : S2x8192x2048.Idx → EReal := m ((c : Thread nD τ).loc main_arg1)
abbrev a2 (c : Dev nD) : S2x8192x2048.Idx → EReal := m ((c : Thread nD τ).loc main_arg2)
abbrev a3 (c : Dev nD) : S1x3x2048.Idx → EReal := m ((c : Thread nD τ).loc main_arg3)
abbrev a4 (c : Dev nD) : S1x2048x2048.Idx → EReal := m ((c : Thread nD τ).loc main_arg4)
abbrev a5 (c : Dev nD) : S4x32x2048x1024.Idx → EReal := m ((c : Thread nD τ).loc main_arg5)

theorem b0 (c : Dev nD) (t : Fin cfg0.N) (r : Fin 512) (d : Fin 2048) (b : Fin 2) (s : Fin 8192) (hb : b.val = t.val / 16) (hs : s.val = 512 * (t.val % 16) + r.val) :
    B0 m c t (ix3 0 r d) = a0 m c (ix3 b s d) := by
  blk_ext [iblk, V, idx t]
theorem b1 (c : Dev nD) (t : Fin cfg0.N) (r : Fin 16) (d : Fin 2048) (b : Fin 2) (s : Fin 8192) (hb : b.val = t.val / 16) (hs : s.val = 16 * (32 * (t.val % 16) - 1) + r.val) :
    B1 m c t (ix3 0 r d) = a0 m c (ix3 b s d) := by
  blk_ext [iblk, V, idx t]
theorem b2 (c : Dev nD) (t : Fin cfg0.N) (r : Fin 16) (d : Fin 2048) (b : Fin 2) (s : Fin 8192) (hb : b.val = t.val / 16) (hs : s.val = 16 * min (32 * (t.val % 16 + 1)) 511 + r.val) :
    B2 m c t (ix3 0 r d) = a0 m c (ix3 b s d) := by
  blk_ext [iblk, V, idx t]
theorem b3 (c : Dev nD) (t : Fin cfg0.N) (r : Fin 512) (d : Fin 2048) (b : Fin 2) (s : Fin 8192) (hb : b.val = t.val / 16) (hs : s.val = 512 * (t.val % 16) + r.val) :
    B3 m c t (ix3 0 r d) = a1 m c (ix3 b s d) := by
  blk_ext [iblk, V, idx t]
theorem b4 (c : Dev nD) (t : Fin cfg0.N) (r : Fin 512) (d : Fin 2048) (b : Fin 2) (s : Fin 8192) (hb : b.val = t.val / 16) (hs : s.val = 512 * (t.val % 16) + r.val) :
    B4 m c t (ix3 0 r d) = a2 m c (ix3 b s d) := by
  blk_ext [iblk, V, idx t]
theorem b5 (c : Dev nD) (t : Fin cfg0.N) (n : Fin 3) (d : Fin 2048) : B5 m c t (ix3 0 n d) = a3 m c (ix3 0 n d) := by
  blk_ext [iblk, V, idx t]
theorem b6 (c : Dev nD) (t : Fin cfg0.N) (a d : Fin 2048) : B6 m c t (ix3 0 a d) = a4 m c (ix3 0 a d) := by
  blk_point [iblk, V, idx t]
theorem b7 (c : Dev nD) (t : Fin cfg0.N) (a : Fin 2048) (j : Fin 512) (e : Fin 32) (J : Fin 1024) (he : e.val = t.val) (hJ : J.val = j.val) :
    B7 m c t (ix4 0 0 a j) = a5 m c (ix4 2 e a J) := by
  blk_ext [iblk, V, idx t]

/-- The positions with a zero before them and one after. -/
def pd (A : S2x8192x2048.Idx → EReal) (b : Fin 2) (n : ℕ) (d : Fin 2048) : EReal :=
  if h : 1 ≤ n ∧ n ≤ 8192 then A (ix3 b ⟨n - 1, by omega⟩ d) else 0

/-- The three taps at one position. -/
def conv (A : S2x8192x2048.Idx → EReal) (w : S1x3x2048.Idx → EReal) (b : Fin 2) (s : ℕ) (d : Fin 2048) : EReal :=
  pd A b s d * w (ix3 0 0 d) + pd A b (s + 1) d * w (ix3 0 1 d) + pd A b (s + 2) d * w (ix3 0 2 d)

theorem above_zero : ∀ n : Fin 16, Scalar.cmpi .sgt (BitVec.ofNat 32 n.val) 0#32 = if 0 < n.val then 1#1 else 0#1 := by decide
theorem below_last : ∀ n : Fin 16, Scalar.cmpi .slt (BitVec.ofNat 32 n.val) 15#32 = if n.val < 15 then 1#1 else 0#1 := by decide

theorem pay35_at (i : grid0.Coords) (x : Vec Ideal S1x16x2048 .bf16) (r : Fin 16) (d : Fin 2048) :
    k0_pay35 (F := Ideal) i x (ix2 r d) = if 0 < (i 1).val then x (ix3 0 r d) else 0 := by
  have e := above_zero (i 1)
  by_cases h : 0 < (i 1).val
  · rw [if_pos h] at e
    rw [if_pos h]
    unfold k0_pay35
    rw [e]
    pointwise []
  · rw [if_neg h] at e
    rw [if_neg h]
    unfold k0_pay35
    rw [e]
    pointwise []

theorem pay36_at (i : grid0.Coords) (x : Vec Ideal S1x16x2048 .bf16) (r : Fin 16) (d : Fin 2048) :
    k0_pay36 (F := Ideal) i x (ix2 r d) = if (i 1).val < 15 then x (ix3 0 r d) else 0 := by
  have e := below_last (i 1)
  by_cases h : (i 1).val < 15
  · rw [if_pos h] at e
    rw [if_pos h]
    unfold k0_pay36
    rw [e]
    pointwise []
  · rw [if_neg h] at e
    rw [if_neg h]
    unfold k0_pay36
    rw [e]
    pointwise []

/-- A row that a tap reads is the padded position. -/
theorem ext_pd (c : Dev nD) (t : Fin cfg0.N) (q : Fin 544) (d : Fin 2048) (b : Fin 2) (hb : b.val = t.val / 16) (h1 : 15 ≤ q.val) (h2 : q.val ≤ 528) (n : ℕ)
    (hn : n + 15 = 512 * (t.val % 16) + q.val) :
    ext (grid0.coords t) (B0 m c t) (B1 m c t) (B2 m c t) (ix2 q d) = pd (a0 m c) b n d := by
  have ht : t.val < 32 := t.isLt
  unfold ext pd
  by_cases c1 : q.val < 16
  · rw [dif_pos (show ((ix2 q d : S544x2048.Idx) 0 : ℕ) < 16 from c1)]
    refine (pay35_at _ _ _ _).trans ?_
    rw [coord t]
    by_cases c2 : 0 < t.val % 16
    · rw [if_pos c2, dif_pos (by omega)]
      exact b1 m c t _ _ _ _ hb (by show n - 1 = _ + q.val; omega)
    · rw [if_neg c2, dif_neg (by omega)]
  · rw [dif_neg (show ¬ ((ix2 q d : S544x2048.Idx) 0 : ℕ) < 16 from c1)]
    by_cases c3 : q.val < 528
    · rw [dif_pos (show ((ix2 q d : S544x2048.Idx) 0 : ℕ) < 528 from c3), dif_pos (by omega)]
      exact b0 m c t _ _ _ _ hb (by show n - 1 = _ + (q.val - 16); omega)
    · rw [dif_neg (show ¬ ((ix2 q d : S544x2048.Idx) 0 : ℕ) < 528 from c3)]
      refine (pay36_at _ _ _ _).trans ?_
      rw [coord t]
      by_cases c4 : t.val % 16 < 15
      · rw [if_pos c4, dif_pos (by omega)]
        exact b2 m c t _ _ _ _ hb (by show n - 1 = _ + (q.val - 528); omega)
      · rw [if_neg c4, dif_neg (by omega)]

theorem taps_conv (c : Dev nD) (t : Fin cfg0.N) (r : Fin 512) (d : Fin 2048) (b : Fin 2) (hb : b.val = t.val / 16) (s : ℕ) (hs : s = 512 * (t.val % 16) + r.val) :
    taps (B5 m c t) (ext (grid0.coords t) (B0 m c t) (B1 m c t) (B2 m c t)) (ix2 r d) = conv (a0 m c) (a3 m c) b s d := by
  have e0 := ext_pd m c t ⟨15 + r.val, by omega⟩ d b hb (by show 15 ≤ 15 + r.val; omega) (by show 15 + r.val ≤ 528; omega) s (by show s + 15 = _ + (15 + r.val); omega)
  have e1 := ext_pd m c t ⟨16 + r.val, by omega⟩ d b hb (by show 15 ≤ 16 + r.val; omega) (by show 16 + r.val ≤ 528; omega) (s + 1) (by show s + 1 + 15 = _ + (16 + r.val); omega)
  have e2 := ext_pd m c t ⟨17 + r.val, by omega⟩ d b hb (by show 15 ≤ 17 + r.val; omega) (by show 17 + r.val ≤ 528; omega) (s + 2) (by show s + 2 + 15 = _ + (17 + r.val); omega)
  show ext (grid0.coords t) (B0 m c t) (B1 m c t) (B2 m c t) (ix2 ⟨16 + r.val, _⟩ d) * B5 m c t (ix3 0 1 d)
    + ext (grid0.coords t) (B0 m c t) (B1 m c t) (B2 m c t) (ix2 ⟨17 + r.val, _⟩ d) * B5 m c t (ix3 0 2 d)
    + ext (grid0.coords t) (B0 m c t) (B1 m c t) (B2 m c t) (ix2 ⟨15 + r.val, _⟩ d) * B5 m c t (ix3 0 0 d) = _
  rw [e0, e1, e2, b5, b5, b5]
  unfold conv
  rw [add_comm, ← add_assoc]

/-- The first result: the residual and the gated taps' projection. -/
def mixed (c : Dev nD) : S2x8192x2048.Idx → EReal := fun i =>
  a2 m c (ix3 (i 0) (i 1) (i 2)) + proj (fun a => a1 m c (ix3 (i 0) (i 1) a) * conv (a0 m c) (a3 m c) (i 0) (i 1).val a) (fun a => a4 m c (ix3 0 a (i 2)))

/-- The second result: the cast stretch of the weights. -/
def half (c : Dev nD) : S32x2048x512.Idx → EReal := fun i =>
  a5 m c (ix4 2 (i 0) (i 1) ⟨(i 2).val, by have h : (i 2 : ℕ) < 512 := (i 2).isLt; omega⟩)

theorem point8 (c : Dev nD) (t : Fin cfg0.N) (r : Fin 512) (d : Fin 2048) (b : Fin 2) (s : Fin 8192) (hb : b.val = t.val / 16) (hs : s.val = 512 * (t.val % 16) + r.val) :
    oB (B4 m c t) (B6 m c t) (gated (B3 m c t) (taps (B5 m c t) (ext (grid0.coords t) (B0 m c t) (B1 m c t) (B2 m c t)))) (ix3 0 r d) = mixed m c (ix3 b s d) := by
  show B4 m c t (ix3 0 r d) + proj (fun a => B3 m c t (ix3 0 r a) * taps (B5 m c t) (ext (grid0.coords t) (B0 m c t) (B1 m c t) (B2 m c t)) (ix2 r a)) (fun a => B6 m c t (ix3 0 a d)) = _
  rw [b4 m c t r d b s hb hs, funext fun a => congr (congrArg HMul.hMul (b3 m c t r a b s hb hs)) (taps_conv m c t r a b hb s.val hs), funext fun a => b6 m c t a d]
  rfl

theorem pay2_at (x : Vec Ideal S1x1x2048x512 .f32) (a : Fin 2048) (j : Fin 512) : k0_pay2 (F := Ideal) x (ix3 0 a j) = x (ix4 0 0 a j) := by
  pointwise [k0_pay2]

theorem below8 (t : Fin cfg0.N) (y : S1x512x2048.Idx) : 512 * (t.val % 16) + (y 1).val < 8192 := by
  have h2 : (y 1).val < 512 := (y 1).isLt
  omega

theorem lead3 {n k : ℕ} (y : (⟨3, ![1, n, k]⟩ : Shape).Idx) : y = ix3 0 (y 1) (y 2) := by
  funext a
  match a with
  | ⟨0, _⟩ => exact Fin.ext (by have h : (y 0 : ℕ) < 1 := (y 0).isLt; show (y 0 : ℕ) = 0; omega)
  | ⟨1, _⟩ => rfl
  | ⟨2, _⟩ => rfl

theorem emb8 (t : Fin cfg0.N) (y : S1x512x2048.Idx) :
    ((View.whole main_v1_0).slice (win0_8.rect t)).emb y = ix3 ⟨t.val / 16, by have h : t.val < 32 := t.isLt; omega⟩ ⟨512 * (t.val % 16) + (y 1).val, below8 t y⟩ (y 2) := by
  blk_ext [idx t]

theorem emb9 (t : Fin cfg0.N) (y : S1x2048x512.Idx) :
    ((View.whole main_v1_1).slice (win0_9.rect t)).emb y = ix3 ⟨t.val, t.isLt⟩ (y 1) (y 2) := by
  blk_ext [idx t]

theorem final8 (c : Dev nD) : (dats m 0 c).arrAt 8 cfg0.N = mixed m c := by
  refine (dats m 0 c).arrAt_eq_of_covers 8 _ (by decide +kernel) fun t _ y => ?_
  have hb : oB (B4 m c t) (B6 m c t) (gated (B3 m c t) (taps (B5 m c t) (ext (grid0.coords t) (B0 m c t) (B1 m c t) (B2 m c t)))) y
      = mixed m c (((View.whole main_v1_0).slice (win0_8.rect t)).emb y) := by
    rw [emb8 t y]
    exact (congrArg _ (lead3 y)).trans (point8 m c t (y 1) (y 2) _ _ rfl rfl)
  blk_simp
  rw [after0_8]
  dsimp only [outsAt0]
  rw [out8]
  exact hb

theorem final9 (c : Dev nD) : (dats m 0 c).arrAt 9 cfg0.N = half m c := by
  refine (dats m 0 c).arrAt_eq_of_covers 9 _ (by decide +kernel) fun t _ y => ?_
  have hb : k0_pay2 (F := Ideal) (B7 m c t) y = half m c (((View.whole main_v1_1).slice (win0_9.rect t)).emb y) := by
    rw [emb9 t y]
    exact (congrArg _ (lead3 y)).trans ((pay2_at _ (y 1) (y 2)).trans (b7 m c t (y 1) (y 2) _ _ rfl rfl))
  blk_simp
  rw [after0_9]
  dsimp only [outsAt0]
  rw [out9]
  exact hb

/-! The reference's results. -/

open Cert.Reference5Ideal.Read

theorem r2 (x0 : (⟨Cert.Reference5Ideal.S2x8192x2048, .bf16⟩ : BufTy).Contents (Elt Ideal)) (b : Fin 2) (n : Fin 8194) (d : Fin 2048) :
    val_main_v2 (F := Ideal) x0 (ix3 b n d) = pd x0 b n.val d := by
  unfold val_main_v2 pd
  by_cases h : 1 ≤ n.val ∧ n.val ≤ 8192
  · rw [dif_pos h]
    refine (pad_apply_of_inside _ _ _ _ _ _ _ _ (ix3 b ⟨n.val - 1, by omega⟩ d) fun a => ?_).trans ?_
    · match a with
      | ⟨0, _⟩ => show b.val = 0 + b.val * 1; omega
      | ⟨1, _⟩ => show n.val = 1 + (n.val - 1) * 1; omega
      | ⟨2, _⟩ => show d.val = 0 + d.val * 1; omega
    · pointwise [val_main_v0]
  · rw [dif_neg h]
    refine (pad_apply_of_not_inside _ _ _ _ _ _ _ _ 1 ?_).trans ?_
    · show ¬(1 ≤ n.val ∧ (n.val - 1) % 1 = 0 ∧ (n.val - 1) / 1 < 8192)
      omega
    · show (((0#32 : BitVec 32).toInt : ℝ) : EReal) = 0
      simp

theorem r24 (x0 : (⟨Cert.Reference5Ideal.S2x8192x2048, .bf16⟩ : BufTy).Contents (Elt Ideal)) (x3 : (⟨Cert.Reference5Ideal.S1x3x2048, .f32⟩ : BufTy).Contents (Elt Ideal))
    (b : Fin 2) (s : Fin 8192) (d : Fin 2048) : val_main_v24 (F := Ideal) x0 x3 (ix3 b s d) = conv x0 x3 b s.val d := by
  pointwise [val_main_v1, val_main_v3, val_main_v4, val_main_v5, val_main_v6, val_main_v7, val_main_v8, val_main_cst, val_main_v9, val_main_v10, val_main_v11, val_main_v12, val_main_v13,
    val_main_v14, val_main_v15, val_main_v16, val_main_v17, val_main_v18, val_main_v19, val_main_v20, val_main_v21, val_main_v22, val_main_v23, val_main_v24, r2, conv]
  rw [Nat.add_comm 1 s.val, Nat.add_comm 2 s.val]

theorem r29 (x0 x1 : (⟨Cert.Reference5Ideal.S2x8192x2048, .bf16⟩ : BufTy).Contents (Elt Ideal)) (x2 : (⟨Cert.Reference5Ideal.S2x8192x2048, .f32⟩ : BufTy).Contents (Elt Ideal))
    (x3 : (⟨Cert.Reference5Ideal.S1x3x2048, .f32⟩ : BufTy).Contents (Elt Ideal)) (x4 : (⟨Cert.Reference5Ideal.S1x2048x2048, .f32⟩ : BufTy).Contents (Elt Ideal))
    (b : Fin 2) (s : Fin 8192) (d : Fin 2048) :
    val_main_v29 (F := Ideal) x0 x1 x2 x3 x4 (ix3 b s d) = x2 (ix3 b s d) + proj (fun a => x1 (ix3 b s a) * conv x0 x3 b s.val a) (fun a => x4 (ix3 0 a d)) := by
  pointwise [val_main_v25, val_main_v26, val_main_v27, val_main_v28, val_main_v29, r24, proj]

theorem r34 (x5 : (⟨Cert.Reference5Ideal.S4x32x2048x1024, .f32⟩ : BufTy).Contents (Elt Ideal)) (e : Fin 32) (a : Fin 2048) (j : Fin 512) :
    val_main_v34 (F := Ideal) x5 (ix3 e a j) = x5 (ix4 2 e a ⟨j.val, by omega⟩) := by
  pointwise [val_main_v30, val_main_v31, val_main_v32, val_main_v33, val_main_v34]

theorem result8 (c : Dev nD) : (dats m 0 c).arrAt 8 cfg0.N = val_main_v29 (F := Ideal) (a0 m c) (a1 m c) (a2 m c) (a3 m c) (a4 m c) := by
  rw [final8 m c]
  funext i
  rw [(by funext a; fin_cases a <;> rfl : i = ix3 (i 0) (i 1) (i 2))]
  exact (r29 (a0 m c) (a1 m c) (a2 m c) (a3 m c) (a4 m c) (i 0) (i 1) (i 2)).symm

theorem result9 (c : Dev nD) : (dats m 0 c).arrAt 9 cfg0.N = val_main_v34 (F := Ideal) (a5 m c) := by
  rw [final9 m c]
  funext i
  rw [(by funext a; fin_cases a <;> rfl : i = ix3 (i 0) (i 1) (i 2))]
  exact (r34 (a5 m c) (i 0) (i 1) (i 2)).symm

end Cert.ConvC

end
-- ==== Proof.TapsA.lean ====
module

public import proofs.«01_k».proof.Proof.Gen.Kernel6Ideal.Value
public import proofs.«01_k».proof.Proof.ConvC
public import Idealize.ShloMosaic.Lib.Pointwise

@[expose] public section

set_option maxRecDepth 16384

/-! The conformer's convolution: the thirty-one taps of a chunk, as the kernel sums them. -/

noncomputable section
open Idealize.ShloMosaic Idealize.ShloMosaic.TcCoe Idealize.SL.Sem
open Cert.Row Cert.Tiles Cert.Kernel6Ideal Cert.Kernel6Ideal.Gen
open Cert.ConvC (mem_loop Fit pc pc_eq ldE ldW chunks of_chunks in_rows chunk_mem chunk_over FitR ldR ldS Fit3 ldB ldB_at block_at in_block oB above_zero below_last lead3)
namespace Cert.ConvA

/-- One tap at one position of a chunk. -/
abbrev tap (e : Vec Ideal S160x128 .f32) (w : Fin 31 → Vec Ideal S1x1x128 .f32) (r j : Fin 128) (n : Fin 31) : EReal :=
  e (ix2 ⟨n.val + 1 + r.val, by omega⟩ j) * w n (ix3 0 0 j)

/-- The taps in the order in which a chunk adds them. -/
def ordered (f : Fin 31 → EReal) : EReal :=
  f 7 + f 15 + f 23 + f 0 + f 8 + f 16 + f 24 + f 1 + f 9 + f 17 + f 25 + f 2 + f 10 + f 18 + f 26 + f 3 + f 11 + f 19 + f 27 + f 4 + f 12 + f 20 + f 28 + f 5 + f 13 + f 21 + f 29 + f 6 + f 14 + f 22 + f 30

theorem ordered_eq (f : Fin 31 → EReal) : ordered f = ∑ n, f n := by
  rw [Fin.sum_univ_def, show List.finRange 31 = [0, 1, 2, 3, 4, 5, 6, 7, 8, 9, 10, 11, 12, 13, 14, 15, 16, 17, 18, 19, 20, 21, 22, 23, 24, 25, 26, 27, 28, 29, 30] from by decide]
  simp only [ordered, List.map_cons, List.map_nil, List.sum_cons, List.sum_nil, add_zero]
  ac_rfl

theorem in_turn (f : Fin 31 → EReal) :
    f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 = ∑ n, f n := by
  rw [Fin.sum_univ_def, show List.finRange 31 = [0, 1, 2, 3, 4, 5, 6, 7, 8, 9, 10, 11, 12, 13, 14, 15, 16, 17, 18, 19, 20, 21, 22, 23, 24, 25, 26, 27, 28, 29, 30] from by decide]
  simp only [List.map_cons, List.map_nil, List.sum_cons, List.sum_nil, add_zero]
  ac_rfl

theorem u1 (r : Fin 128) (h : (r.val + 160 - 159) % 160 < 160) : (⟨(r.val + 160 - 159) % 160, h⟩ : Fin 160) = ⟨1 + r.val, by omega⟩ :=
  Fin.ext (by show (r.val + 160 - 159) % 160 = 1 + r.val; omega)
theorem u9 (r : Fin 128) (h : (8 + r.val + 160 - 159) % 160 < 160) : (⟨(8 + r.val + 160 - 159) % 160, h⟩ : Fin 160) = ⟨9 + r.val, by omega⟩ :=
  Fin.ext (by show (8 + r.val + 160 - 159) % 160 = 9 + r.val; omega)
theorem u17 (r : Fin 128) (h : (16 + r.val + 160 - 159) % 160 < 160) : (⟨(16 + r.val + 160 - 159) % 160, h⟩ : Fin 160) = ⟨17 + r.val, by omega⟩ :=
  Fin.ext (by show (16 + r.val + 160 - 159) % 160 = 17 + r.val; omega)
theorem u25 (r : Fin 128) (h : (24 + r.val + 160 - 159) % 160 < 160) : (⟨(24 + r.val + 160 - 159) % 160, h⟩ : Fin 160) = ⟨25 + r.val, by omega⟩ :=
  Fin.ext (by show (24 + r.val + 160 - 159) % 160 = 25 + r.val; omega)
theorem u2 (r : Fin 128) (h : (r.val + 160 - 158) % 160 < 160) : (⟨(r.val + 160 - 158) % 160, h⟩ : Fin 160) = ⟨2 + r.val, by omega⟩ :=
  Fin.ext (by show (r.val + 160 - 158) % 160 = 2 + r.val; omega)
theorem u10 (r : Fin 128) (h : (8 + r.val + 160 - 158) % 160 < 160) : (⟨(8 + r.val + 160 - 158) % 160, h⟩ : Fin 160) = ⟨10 + r.val, by omega⟩ :=
  Fin.ext (by show (8 + r.val + 160 - 158) % 160 = 10 + r.val; omega)
theorem u18 (r : Fin 128) (h : (16 + r.val + 160 - 158) % 160 < 160) : (⟨(16 + r.val + 160 - 158) % 160, h⟩ : Fin 160) = ⟨18 + r.val, by omega⟩ :=
  Fin.ext (by show (16 + r.val + 160 - 158) % 160 = 18 + r.val; omega)
theorem u26 (r : Fin 128) (h : (24 + r.val + 160 - 158) % 160 < 160) : (⟨(24 + r.val + 160 - 158) % 160, h⟩ : Fin 160) = ⟨26 + r.val, by omega⟩ :=
  Fin.ext (by show (24 + r.val + 160 - 158) % 160 = 26 + r.val; omega)
theorem u3 (r : Fin 128) (h : (r.val + 160 - 157) % 160 < 160) : (⟨(r.val + 160 - 157) % 160, h⟩ : Fin 160) = ⟨3 + r.val, by omega⟩ :=
  Fin.ext (by show (r.val + 160 - 157) % 160 = 3 + r.val; omega)
theorem u11 (r : Fin 128) (h : (8 + r.val + 160 - 157) % 160 < 160) : (⟨(8 + r.val + 160 - 157) % 160, h⟩ : Fin 160) = ⟨11 + r.val, by omega⟩ :=
  Fin.ext (by show (8 + r.val + 160 - 157) % 160 = 11 + r.val; omega)
theorem u19 (r : Fin 128) (h : (16 + r.val + 160 - 157) % 160 < 160) : (⟨(16 + r.val + 160 - 157) % 160, h⟩ : Fin 160) = ⟨19 + r.val, by omega⟩ :=
  Fin.ext (by show (16 + r.val + 160 - 157) % 160 = 19 + r.val; omega)
theorem u27 (r : Fin 128) (h : (24 + r.val + 160 - 157) % 160 < 160) : (⟨(24 + r.val + 160 - 157) % 160, h⟩ : Fin 160) = ⟨27 + r.val, by omega⟩ :=
  Fin.ext (by show (24 + r.val + 160 - 157) % 160 = 27 + r.val; omega)
theorem u4 (r : Fin 128) (h : (r.val + 160 - 156) % 160 < 160) : (⟨(r.val + 160 - 156) % 160, h⟩ : Fin 160) = ⟨4 + r.val, by omega⟩ :=
  Fin.ext (by show (r.val + 160 - 156) % 160 = 4 + r.val; omega)
theorem u12 (r : Fin 128) (h : (8 + r.val + 160 - 156) % 160 < 160) : (⟨(8 + r.val + 160 - 156) % 160, h⟩ : Fin 160) = ⟨12 + r.val, by omega⟩ :=
  Fin.ext (by show (8 + r.val + 160 - 156) % 160 = 12 + r.val; omega)
theorem u20 (r : Fin 128) (h : (16 + r.val + 160 - 156) % 160 < 160) : (⟨(16 + r.val + 160 - 156) % 160, h⟩ : Fin 160) = ⟨20 + r.val, by omega⟩ :=
  Fin.ext (by show (16 + r.val + 160 - 156) % 160 = 20 + r.val; omega)
theorem u28 (r : Fin 128) (h : (24 + r.val + 160 - 156) % 160 < 160) : (⟨(24 + r.val + 160 - 156) % 160, h⟩ : Fin 160) = ⟨28 + r.val, by omega⟩ :=
  Fin.ext (by show (24 + r.val + 160 - 156) % 160 = 28 + r.val; omega)
theorem u5 (r : Fin 128) (h : (r.val + 160 - 155) % 160 < 160) : (⟨(r.val + 160 - 155) % 160, h⟩ : Fin 160) = ⟨5 + r.val, by omega⟩ :=
  Fin.ext (by show (r.val + 160 - 155) % 160 = 5 + r.val; omega)
theorem u13 (r : Fin 128) (h : (8 + r.val + 160 - 155) % 160 < 160) : (⟨(8 + r.val + 160 - 155) % 160, h⟩ : Fin 160) = ⟨13 + r.val, by omega⟩ :=
  Fin.ext (by show (8 + r.val + 160 - 155) % 160 = 13 + r.val; omega)
theorem u21 (r : Fin 128) (h : (16 + r.val + 160 - 155) % 160 < 160) : (⟨(16 + r.val + 160 - 155) % 160, h⟩ : Fin 160) = ⟨21 + r.val, by omega⟩ :=
  Fin.ext (by show (16 + r.val + 160 - 155) % 160 = 21 + r.val; omega)
theorem u29 (r : Fin 128) (h : (24 + r.val + 160 - 155) % 160 < 160) : (⟨(24 + r.val + 160 - 155) % 160, h⟩ : Fin 160) = ⟨29 + r.val, by omega⟩ :=
  Fin.ext (by show (24 + r.val + 160 - 155) % 160 = 29 + r.val; omega)
theorem u6 (r : Fin 128) (h : (r.val + 160 - 154) % 160 < 160) : (⟨(r.val + 160 - 154) % 160, h⟩ : Fin 160) = ⟨6 + r.val, by omega⟩ :=
  Fin.ext (by show (r.val + 160 - 154) % 160 = 6 + r.val; omega)
theorem u14 (r : Fin 128) (h : (8 + r.val + 160 - 154) % 160 < 160) : (⟨(8 + r.val + 160 - 154) % 160, h⟩ : Fin 160) = ⟨14 + r.val, by omega⟩ :=
  Fin.ext (by show (8 + r.val + 160 - 154) % 160 = 14 + r.val; omega)
theorem u22 (r : Fin 128) (h : (16 + r.val + 160 - 154) % 160 < 160) : (⟨(16 + r.val + 160 - 154) % 160, h⟩ : Fin 160) = ⟨22 + r.val, by omega⟩ :=
  Fin.ext (by show (16 + r.val + 160 - 154) % 160 = 22 + r.val; omega)
theorem u30 (r : Fin 128) (h : (24 + r.val + 160 - 154) % 160 < 160) : (⟨(24 + r.val + 160 - 154) % 160, h⟩ : Fin 160) = ⟨30 + r.val, by omega⟩ :=
  Fin.ext (by show (24 + r.val + 160 - 154) % 160 = 30 + r.val; omega)
theorem u7 (r : Fin 128) (h : (r.val + 160 - 153) % 160 < 160) : (⟨(r.val + 160 - 153) % 160, h⟩ : Fin 160) = ⟨7 + r.val, by omega⟩ :=
  Fin.ext (by show (r.val + 160 - 153) % 160 = 7 + r.val; omega)
theorem u15 (r : Fin 128) (h : (8 + r.val + 160 - 153) % 160 < 160) : (⟨(8 + r.val + 160 - 153) % 160, h⟩ : Fin 160) = ⟨15 + r.val, by omega⟩ :=
  Fin.ext (by show (8 + r.val + 160 - 153) % 160 = 15 + r.val; omega)
theorem u23 (r : Fin 128) (h : (16 + r.val + 160 - 153) % 160 < 160) : (⟨(16 + r.val + 160 - 153) % 160, h⟩ : Fin 160) = ⟨23 + r.val, by omega⟩ :=
  Fin.ext (by show (16 + r.val + 160 - 153) % 160 = 23 + r.val; omega)
theorem u31 (r : Fin 128) (h : (24 + r.val + 160 - 153) % 160 < 160) : (⟨(24 + r.val + 160 - 153) % 160, h⟩ : Fin 160) = ⟨31 + r.val, by omega⟩ :=
  Fin.ext (by show (24 + r.val + 160 - 153) % 160 = 31 + r.val; omega)

theorem sum0 (e : Vec Ideal S160x128 .f32) (w : Fin 31 → Vec Ideal S1x1x128 .f32) (r j : Fin 128) :
    k0_pay20 (F := Ideal) (k0_pay17 (F := Ideal) e (k0_pay13 (F := Ideal) e) (k0_pay14 (F := Ideal) e (k0_pay11 (F := Ideal) e (k0_pay6 (F := Ideal) e (k0_pay3 (F := Ideal) e) (k0_pay4 (F := Ideal) e (w 7) (w 15) (w 23) (w 0) (w 8)) (k0_pay5 (F := Ideal) e) (w 16) (w 24) (w 1) (w 9) (w 17) (w 25)) (k0_pay7 (F := Ideal) e) (k0_pay8 (F := Ideal) e) (k0_pay9 (F := Ideal) (w 2)) (w 10) (w 18) (w 26) (w 3) (w 11) (w 19)) (k0_pay12 (F := Ideal) e) (w 27) (w 4) (w 12) (w 20) (w 28) (w 5)) (k0_pay15 (F := Ideal) e) (w 13) (w 21) (w 29) (w 6) (w 14) (w 22)) (k0_pay18 (F := Ideal) e) (k0_pay19 (F := Ideal) (w 30)) (ix2 r j)
      = ordered (tap e w r j) := by
  pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, ordered, tap, u1, u9, u17, u25, u2, u10, u18, u26, u3, u11, u19, u27, u4, u12, u20, u28, u5, u13, u21, u29, u6, u14, u22, u30, u7, u15, u23, u31]

theorem sum1 (e : Vec Ideal S160x128 .f32) (w : Fin 31 → Vec Ideal S1x1x128 .f32) (r j : Fin 128) :
    k0_pay36 (F := Ideal) (k0_pay34 (F := Ideal) e (k0_pay30 (F := Ideal) e (k0_pay26 (F := Ideal) e) (k0_pay27 (F := Ideal) e (k0_pay23 (F := Ideal) e (k0_pay21 (F := Ideal) e) (k0_pay22 (F := Ideal) e (w 7) (w 15) (w 23) (w 0) (w 8)) (w 16) (w 24) (w 1) (w 9) (w 17) (w 25)) (k0_pay24 (F := Ideal) e) (k0_pay25 (F := Ideal) e) (w 2) (w 10) (w 18) (w 26) (w 3) (w 11)) (k0_pay28 (F := Ideal) e) (k0_pay29 (F := Ideal) (w 19)) (w 27) (w 4) (w 12) (w 20) (w 28)) (k0_pay31 (F := Ideal) e) (k0_pay32 (F := Ideal) e (w 5)) (w 13) (w 21) (w 29) (w 6) (w 14) (w 22)) (k0_pay35 (F := Ideal) e) (w 30) (ix2 r j)
      = ordered (tap e w r j) := by
  pointwise [k0_pay21, k0_pay22, k0_pay23, k0_pay24, k0_pay25, k0_pay26, k0_pay27, k0_pay28, k0_pay29, k0_pay30, k0_pay31, k0_pay32, k0_pay33, k0_pay34, k0_pay35, k0_pay36, ordered, tap, u1, u9, u17, u25, u2, u10, u18, u26, u3, u11, u19, u27, u4, u12, u20, u28, u5, u13, u21, u29, u6, u14, u22, u30, u7, u15, u23, u31]

theorem sum2 (e : Vec Ideal S160x128 .f32) (w : Fin 31 → Vec Ideal S1x1x128 .f32) (r j : Fin 128) :
    k0_pay50 (F := Ideal) (k0_pay47 (F := Ideal) e) (k0_pay48 (F := Ideal) e (k0_pay44 (F := Ideal) e (k0_pay41 (F := Ideal) e) (k0_pay42 (F := Ideal) e (k0_pay40 (F := Ideal) e (k0_pay37 (F := Ideal) e) (k0_pay38 (F := Ideal) e (w 7) (w 15) (w 23) (w 0)) (k0_pay39 (F := Ideal) e) (w 8) (w 16) (w 24) (w 1) (w 9) (w 17) (w 25)) (w 2) (w 10) (w 18) (w 26) (w 3) (w 11)) (k0_pay43 (F := Ideal) e) (w 19) (w 27) (w 4) (w 12) (w 20) (w 28)) (k0_pay45 (F := Ideal) e) (k0_pay46 (F := Ideal) e) (w 5) (w 13) (w 21) (w 29) (w 6) (w 14)) (k0_pay49 (F := Ideal) e (w 22)) (w 30) (ix2 r j)
      = ordered (tap e w r j) := by
  pointwise [k0_pay37, k0_pay38, k0_pay39, k0_pay40, k0_pay41, k0_pay42, k0_pay43, k0_pay44, k0_pay45, k0_pay46, k0_pay47, k0_pay48, k0_pay49, k0_pay50, ordered, tap, u1, u9, u17, u25, u2, u10, u18, u26, u3, u11, u19, u27, u4, u12, u20, u28, u5, u13, u21, u29, u6, u14, u22, u30, u7, u15, u23, u31]

theorem sum3 (e : Vec Ideal S160x128 .f32) (w : Fin 31 → Vec Ideal S1x1x128 .f32) (r j : Fin 128) :
    k0_pay66 (F := Ideal) (k0_pay63 (F := Ideal) e) (k0_pay64 (F := Ideal) e (k0_pay61 (F := Ideal) e (k0_pay57 (F := Ideal) e) (k0_pay58 (F := Ideal) e (k0_pay55 (F := Ideal) e (k0_pay51 (F := Ideal) e) (k0_pay52 (F := Ideal) e (w 7) (w 15) (w 23) (w 0)) (k0_pay53 (F := Ideal) e) (w 8) (w 16) (w 24) (w 1) (w 9) (w 17)) (k0_pay56 (F := Ideal) e) (w 25) (w 2) (w 10) (w 18) (w 26) (w 3)) (k0_pay59 (F := Ideal) e) (k0_pay60 (F := Ideal) (w 11)) (w 19) (w 27) (w 4) (w 12) (w 20) (w 28)) (k0_pay62 (F := Ideal) e) (w 5) (w 13) (w 21) (w 29) (w 6) (w 14)) (k0_pay65 (F := Ideal) e) (w 22) (w 30) (ix2 r j)
      = ordered (tap e w r j) := by
  pointwise [k0_pay51, k0_pay52, k0_pay53, k0_pay54, k0_pay55, k0_pay56, k0_pay57, k0_pay58, k0_pay59, k0_pay60, k0_pay61, k0_pay62, k0_pay63, k0_pay64, k0_pay65, k0_pay66, ordered, tap, u1, u9, u17, u25, u2, u10, u18, u26, u3, u11, u19, u27, u4, u12, u20, u28, u5, u13, u21, u29, u6, u14, u22, u30, u7, u15, u23, u31]

theorem sum4 (e : Vec Ideal S160x128 .f32) (w : Fin 31 → Vec Ideal S1x1x128 .f32) (r j : Fin 128) :
    k0_pay83 (F := Ideal) (k0_pay81 (F := Ideal) e) (k0_pay82 (F := Ideal) e (k0_pay78 (F := Ideal) e (k0_pay74 (F := Ideal) e) (k0_pay75 (F := Ideal) e (k0_pay72 (F := Ideal) e (k0_pay67 (F := Ideal) e (w 7) (w 15) (w 23)) (k0_pay68 (F := Ideal) e) (k0_pay69 (F := Ideal) e) (k0_pay70 (F := Ideal) (w 0)) (w 8) (w 16) (w 24) (w 1) (w 9) (w 17)) (k0_pay73 (F := Ideal) e) (w 25) (w 2) (w 10) (w 18) (w 26) (w 3)) (k0_pay76 (F := Ideal) e) (w 11) (w 19) (w 27) (w 4) (w 12) (w 20)) (k0_pay79 (F := Ideal) e) (k0_pay80 (F := Ideal) (w 28)) (w 5) (w 13) (w 21) (w 29) (w 6) (w 14)) (w 22) (w 30) (ix2 r j)
      = ordered (tap e w r j) := by
  pointwise [k0_pay67, k0_pay68, k0_pay69, k0_pay70, k0_pay71, k0_pay72, k0_pay73, k0_pay74, k0_pay75, k0_pay76, k0_pay77, k0_pay78, k0_pay79, k0_pay80, k0_pay81, k0_pay82, k0_pay83, ordered, tap, u1, u9, u17, u25, u2, u10, u18, u26, u3, u11, u19, u27, u4, u12, u20, u28, u5, u13, u21, u29, u6, u14, u22, u30, u7, u15, u23, u31]

theorem sum5 (e : Vec Ideal S160x128 .f32) (w : Fin 31 → Vec Ideal S1x1x128 .f32) (r j : Fin 128) :
    k0_pay100 (F := Ideal) (k0_pay97 (F := Ideal) e) (k0_pay98 (F := Ideal) e (k0_pay95 (F := Ideal) e (k0_pay91 (F := Ideal) e (k0_pay87 (F := Ideal) e) (k0_pay88 (F := Ideal) e (k0_pay84 (F := Ideal) e (w 7) (w 15) (w 23)) (k0_pay85 (F := Ideal) e) (k0_pay86 (F := Ideal) e) (w 0) (w 8) (w 16) (w 24) (w 1) (w 9)) (k0_pay89 (F := Ideal) e) (k0_pay90 (F := Ideal) (w 17)) (w 25) (w 2) (w 10) (w 18) (w 26)) (k0_pay92 (F := Ideal) e) (k0_pay93 (F := Ideal) e (w 3)) (w 11) (w 19) (w 27) (w 4) (w 12) (w 20)) (k0_pay96 (F := Ideal) e) (w 28) (w 5) (w 13) (w 21) (w 29) (w 6)) (k0_pay99 (F := Ideal) e) (w 14) (w 22) (w 30) (ix2 r j)
      = ordered (tap e w r j) := by
  pointwise [k0_pay84, k0_pay85, k0_pay86, k0_pay87, k0_pay88, k0_pay89, k0_pay90, k0_pay91, k0_pay92, k0_pay93, k0_pay94, k0_pay95, k0_pay96, k0_pay97, k0_pay98, k0_pay99, k0_pay100, ordered, tap, u1, u9, u17, u25, u2, u10, u18, u26, u3, u11, u19, u27, u4, u12, u20, u28, u5, u13, u21, u29, u6, u14, u22, u30, u7, u15, u23, u31]

theorem sum6 (e : Vec Ideal S160x128 .f32) (w : Fin 31 → Vec Ideal S1x1x128 .f32) (r j : Fin 128) :
    k0_pay114 (F := Ideal) (k0_pay111 (F := Ideal) e) (k0_pay112 (F := Ideal) e (k0_pay108 (F := Ideal) e) (k0_pay109 (F := Ideal) e (k0_pay105 (F := Ideal) e (k0_pay102 (F := Ideal) e) (k0_pay103 (F := Ideal) e (k0_pay101 (F := Ideal) e (w 7) (w 15) (w 23)) (w 0) (w 8) (w 16) (w 24) (w 1) (w 9)) (k0_pay104 (F := Ideal) e) (w 17) (w 25) (w 2) (w 10) (w 18) (w 26)) (k0_pay106 (F := Ideal) e) (k0_pay107 (F := Ideal) e) (w 3) (w 11) (w 19) (w 27) (w 4) (w 12)) (k0_pay110 (F := Ideal) e (w 20)) (w 28) (w 5) (w 13) (w 21) (w 29) (w 6)) (k0_pay113 (F := Ideal) e) (w 14) (w 22) (w 30) (ix2 r j)
      = ordered (tap e w r j) := by
  pointwise [k0_pay101, k0_pay102, k0_pay103, k0_pay104, k0_pay105, k0_pay106, k0_pay107, k0_pay108, k0_pay109, k0_pay110, k0_pay111, k0_pay112, k0_pay113, k0_pay114, ordered, tap, u1, u9, u17, u25, u2, u10, u18, u26, u3, u11, u19, u27, u4, u12, u20, u28, u5, u13, u21, u29, u6, u14, u22, u30, u7, u15, u23, u31]

theorem sum7 (e : Vec Ideal S160x128 .f32) (w : Fin 31 → Vec Ideal S1x1x128 .f32) (r j : Fin 128) :
    k0_pay130 (F := Ideal) (k0_pay126 (F := Ideal) e (k0_pay123 (F := Ideal) e) (k0_pay124 (F := Ideal) e (k0_pay121 (F := Ideal) e (k0_pay117 (F := Ideal) e) (k0_pay118 (F := Ideal) e (k0_pay115 (F := Ideal) e (w 7) (w 15)) (k0_pay116 (F := Ideal) e) (w 23) (w 0) (w 8) (w 16) (w 24) (w 1)) (k0_pay119 (F := Ideal) e) (k0_pay120 (F := Ideal) (w 9)) (w 17) (w 25) (w 2) (w 10) (w 18) (w 26)) (k0_pay122 (F := Ideal) e) (w 3) (w 11) (w 19) (w 27) (w 4) (w 12)) (k0_pay125 (F := Ideal) e) (w 20) (w 28) (w 5) (w 13) (w 21) (w 29)) (k0_pay127 (F := Ideal) e) (k0_pay128 (F := Ideal) e) (k0_pay129 (F := Ideal) (w 6)) (w 14) (w 22) (w 30) (ix2 r j)
      = ordered (tap e w r j) := by
  pointwise [k0_pay115, k0_pay116, k0_pay117, k0_pay118, k0_pay119, k0_pay120, k0_pay121, k0_pay122, k0_pay123, k0_pay124, k0_pay125, k0_pay126, k0_pay127, k0_pay128, k0_pay129, k0_pay130, ordered, tap, u1, u9, u17, u25, u2, u10, u18, u26, u3, u11, u19, u27, u4, u12, u20, u28, u5, u13, u21, u29, u6, u14, u22, u30, u7, u15, u23, u31]

theorem sum8 (e : Vec Ideal S160x128 .f32) (w : Fin 31 → Vec Ideal S1x1x128 .f32) (r j : Fin 128) :
    k0_pay145 (F := Ideal) (k0_pay142 (F := Ideal) e (k0_pay140 (F := Ideal) e) (k0_pay141 (F := Ideal) e (k0_pay137 (F := Ideal) e (k0_pay133 (F := Ideal) e) (k0_pay134 (F := Ideal) e (k0_pay131 (F := Ideal) e (w 7) (w 15)) (k0_pay132 (F := Ideal) e) (w 23) (w 0) (w 8) (w 16) (w 24) (w 1)) (k0_pay135 (F := Ideal) e) (w 9) (w 17) (w 25) (w 2) (w 10) (w 18)) (k0_pay138 (F := Ideal) e) (k0_pay139 (F := Ideal) (w 26)) (w 3) (w 11) (w 19) (w 27) (w 4) (w 12)) (w 20) (w 28) (w 5) (w 13) (w 21) (w 29)) (k0_pay143 (F := Ideal) e) (k0_pay144 (F := Ideal) e) (w 6) (w 14) (w 22) (w 30) (ix2 r j)
      = ordered (tap e w r j) := by
  pointwise [k0_pay131, k0_pay132, k0_pay133, k0_pay134, k0_pay135, k0_pay136, k0_pay137, k0_pay138, k0_pay139, k0_pay140, k0_pay141, k0_pay142, k0_pay143, k0_pay144, k0_pay145, ordered, tap, u1, u9, u17, u25, u2, u10, u18, u26, u3, u11, u19, u27, u4, u12, u20, u28, u5, u13, u21, u29, u6, u14, u22, u30, u7, u15, u23, u31]

theorem sum9 (e : Vec Ideal S160x128 .f32) (w : Fin 31 → Vec Ideal S1x1x128 .f32) (r j : Fin 128) :
    k0_pay159 (F := Ideal) e (k0_pay158 (F := Ideal) e (k0_pay155 (F := Ideal) e) (k0_pay156 (F := Ideal) e (k0_pay153 (F := Ideal) e (k0_pay149 (F := Ideal) e (k0_pay146 (F := Ideal) e (w 7)) (k0_pay147 (F := Ideal) e) (k0_pay148 (F := Ideal) (w 15)) (w 23) (w 0) (w 8) (w 16) (w 24)) (k0_pay150 (F := Ideal) e) (k0_pay151 (F := Ideal) e (w 1)) (w 9) (w 17) (w 25) (w 2) (w 10) (w 18)) (k0_pay154 (F := Ideal) e) (w 26) (w 3) (w 11) (w 19) (w 27) (w 4)) (k0_pay157 (F := Ideal) e) (w 12) (w 20) (w 28) (w 5) (w 13) (w 21) (w 29)) (w 6) (w 14) (w 22) (w 30) (ix2 r j)
      = ordered (tap e w r j) := by
  pointwise [k0_pay146, k0_pay147, k0_pay148, k0_pay149, k0_pay150, k0_pay151, k0_pay152, k0_pay153, k0_pay154, k0_pay155, k0_pay156, k0_pay157, k0_pay158, k0_pay159, ordered, tap, u1, u9, u17, u25, u2, u10, u18, u26, u3, u11, u19, u27, u4, u12, u20, u28, u5, u13, u21, u29, u6, u14, u22, u30, u7, u15, u23, u31]

theorem sum10 (e : Vec Ideal S160x128 .f32) (w : Fin 31 → Vec Ideal S1x1x128 .f32) (r j : Fin 128) :
    k0_pay174 (F := Ideal) e (k0_pay172 (F := Ideal) e (k0_pay168 (F := Ideal) e) (k0_pay169 (F := Ideal) e (k0_pay165 (F := Ideal) e) (k0_pay166 (F := Ideal) e (k0_pay162 (F := Ideal) e (k0_pay160 (F := Ideal) e (w 7)) (k0_pay161 (F := Ideal) e) (w 15) (w 23) (w 0) (w 8) (w 16) (w 24)) (k0_pay163 (F := Ideal) e) (k0_pay164 (F := Ideal) e) (w 1) (w 9) (w 17) (w 25) (w 2) (w 10)) (k0_pay167 (F := Ideal) e (w 18)) (w 26) (w 3) (w 11) (w 19) (w 27) (w 4)) (k0_pay170 (F := Ideal) e) (w 12) (w 20) (w 28) (w 5) (w 13) (w 21)) (k0_pay173 (F := Ideal) e) (w 29) (w 6) (w 14) (w 22) (w 30) (ix2 r j)
      = ordered (tap e w r j) := by
  pointwise [k0_pay160, k0_pay161, k0_pay162, k0_pay163, k0_pay164, k0_pay165, k0_pay166, k0_pay167, k0_pay168, k0_pay169, k0_pay170, k0_pay171, k0_pay172, k0_pay173, k0_pay174, ordered, tap, u1, u9, u17, u25, u2, u10, u18, u26, u3, u11, u19, u27, u4, u12, u20, u28, u5, u13, u21, u29, u6, u14, u22, u30, u7, u15, u23, u31]

theorem sum11 (e : Vec Ideal S160x128 .f32) (w : Fin 31 → Vec Ideal S1x1x128 .f32) (r j : Fin 128) :
    k0_pay190 (F := Ideal) e (k0_pay188 (F := Ideal) e (k0_pay183 (F := Ideal) e (k0_pay180 (F := Ideal) e) (k0_pay181 (F := Ideal) e (k0_pay178 (F := Ideal) e (k0_pay175 (F := Ideal)) (k0_pay176 (F := Ideal) e) (k0_pay177 (F := Ideal) (w 7)) (w 15) (w 23) (w 0) (w 8) (w 16) (w 24)) (k0_pay179 (F := Ideal) e) (w 1) (w 9) (w 17) (w 25) (w 2) (w 10)) (k0_pay182 (F := Ideal) e) (w 18) (w 26) (w 3) (w 11) (w 19) (w 27)) (k0_pay184 (F := Ideal) e) (k0_pay185 (F := Ideal) e) (k0_pay186 (F := Ideal) (w 4)) (w 12) (w 20) (w 28) (w 5) (w 13) (w 21)) (k0_pay189 (F := Ideal) e) (w 29) (w 6) (w 14) (w 22) (w 30) (ix2 r j)
      = ordered (tap e w r j) := by
  pointwise [k0_pay175, k0_pay176, k0_pay177, k0_pay178, k0_pay179, k0_pay180, k0_pay181, k0_pay182, k0_pay183, k0_pay184, k0_pay185, k0_pay186, k0_pay187, k0_pay188, k0_pay189, k0_pay190, ordered, tap, u1, u9, u17, u25, u2, u10, u18, u26, u3, u11, u19, u27, u4, u12, u20, u28, u5, u13, u21, u29, u6, u14, u22, u30, u7, u15, u23, u31]

theorem sum12 (e : Vec Ideal S160x128 .f32) (w : Fin 31 → Vec Ideal S1x1x128 .f32) (r j : Fin 128) :
    k0_pay206 (F := Ideal) e (k0_pay202 (F := Ideal) e) (k0_pay203 (F := Ideal) e (k0_pay199 (F := Ideal) e (k0_pay197 (F := Ideal) e) (k0_pay198 (F := Ideal) e (k0_pay194 (F := Ideal) e (k0_pay191 (F := Ideal)) (k0_pay192 (F := Ideal) e) (w 7) (w 15) (w 23) (w 0) (w 8) (w 16)) (k0_pay195 (F := Ideal) e) (k0_pay196 (F := Ideal) (w 24)) (w 1) (w 9) (w 17) (w 25) (w 2) (w 10)) (w 18) (w 26) (w 3) (w 11) (w 19) (w 27)) (k0_pay200 (F := Ideal) e) (k0_pay201 (F := Ideal) e) (w 4) (w 12) (w 20) (w 28) (w 5) (w 13)) (k0_pay204 (F := Ideal) e) (k0_pay205 (F := Ideal) (w 21)) (w 29) (w 6) (w 14) (w 22) (w 30) (ix2 r j)
      = ordered (tap e w r j) := by
  pointwise [k0_pay191, k0_pay192, k0_pay193, k0_pay194, k0_pay195, k0_pay196, k0_pay197, k0_pay198, k0_pay199, k0_pay200, k0_pay201, k0_pay202, k0_pay203, k0_pay204, k0_pay205, k0_pay206, ordered, tap, u1, u9, u17, u25, u2, u10, u18, u26, u3, u11, u19, u27, u4, u12, u20, u28, u5, u13, u21, u29, u6, u14, u22, u30, u7, u15, u23, u31]

theorem sum13 (e : Vec Ideal S160x128 .f32) (w : Fin 31 → Vec Ideal S1x1x128 .f32) (r j : Fin 128) :
    k0_pay217 (F := Ideal) e (k0_pay214 (F := Ideal) e) (k0_pay215 (F := Ideal) e (k0_pay213 (F := Ideal) e (k0_pay210 (F := Ideal) e) (k0_pay211 (F := Ideal) e (k0_pay208 (F := Ideal) e (Scalar.ofBits .f32 0x00000000#32) (w 7) (w 15) (w 23) (w 0) (w 8) (w 16)) (k0_pay209 (F := Ideal) e) (w 24) (w 1) (w 9) (w 17) (w 25) (w 2)) (k0_pay212 (F := Ideal) e) (w 10) (w 18) (w 26) (w 3) (w 11) (w 19) (w 27)) (w 4) (w 12) (w 20) (w 28) (w 5) (w 13)) (k0_pay216 (F := Ideal) e) (w 21) (w 29) (w 6) (w 14) (w 22) (w 30) (ix2 r j)
      = ordered (tap e w r j) := by
  pointwise [k0_pay207, k0_pay208, k0_pay209, k0_pay210, k0_pay211, k0_pay212, k0_pay213, k0_pay214, k0_pay215, k0_pay216, k0_pay217, ordered, tap, u1, u9, u17, u25, u2, u10, u18, u26, u3, u11, u19, u27, u4, u12, u20, u28, u5, u13, u21, u29, u6, u14, u22, u30, u7, u15, u23, u31]

theorem sum14 (e : Vec Ideal S160x128 .f32) (w : Fin 31 → Vec Ideal S1x1x128 .f32) (r j : Fin 128) :
    k0_pay232 (F := Ideal) (k0_pay231 (F := Ideal) e (k0_pay227 (F := Ideal) e) (k0_pay228 (F := Ideal) e (k0_pay225 (F := Ideal) e (k0_pay221 (F := Ideal) e) (k0_pay222 (F := Ideal) e (k0_pay218 (F := Ideal) e) (k0_pay219 (F := Ideal) e (w 7) (w 15) (w 23) (w 0) (w 8)) (k0_pay220 (F := Ideal) e (w 16)) (w 24) (w 1) (w 9) (w 17) (w 25) (w 2)) (k0_pay223 (F := Ideal) e) (w 10) (w 18) (w 26) (w 3) (w 11) (w 19)) (k0_pay226 (F := Ideal) e) (w 27) (w 4) (w 12) (w 20) (w 28) (w 5)) (k0_pay229 (F := Ideal) e) (k0_pay230 (F := Ideal) (w 13)) (w 21) (w 29) (w 6) (w 14) (w 22) (w 30)) (ix2 r j)
      = ordered (tap e w r j) := by
  pointwise [k0_pay218, k0_pay219, k0_pay220, k0_pay221, k0_pay222, k0_pay223, k0_pay224, k0_pay225, k0_pay226, k0_pay227, k0_pay228, k0_pay229, k0_pay230, k0_pay231, k0_pay232, ordered, tap, u1, u9, u17, u25, u2, u10, u18, u26, u3, u11, u19, u27, u4, u12, u20, u28, u5, u13, u21, u29, u6, u14, u22, u30, u7, u15, u23, u31]

theorem sum15 (e : Vec Ideal S160x128 .f32) (w : Fin 31 → Vec Ideal S1x1x128 .f32) (r j : Fin 128) :
    k0_pay256 (F := Ideal) (k0_pay247 (F := Ideal) e (k0_pay243 (F := Ideal) e) (k0_pay244 (F := Ideal) e (k0_pay241 (F := Ideal) e (k0_pay236 (F := Ideal) e (k0_pay233 (F := Ideal) e) (k0_pay234 (F := Ideal) e (w 7) (w 15) (w 23) (w 0) (w 8)) (k0_pay235 (F := Ideal) e) (w 16) (w 24) (w 1) (w 9) (w 17) (w 25)) (k0_pay237 (F := Ideal) e) (k0_pay238 (F := Ideal) e) (k0_pay239 (F := Ideal) (w 2)) (w 10) (w 18) (w 26) (w 3) (w 11) (w 19)) (k0_pay242 (F := Ideal) e) (w 27) (w 4) (w 12) (w 20) (w 28) (w 5)) (k0_pay245 (F := Ideal) e) (w 13) (w 21) (w 29) (w 6) (w 14) (w 22)) (k0_pay248 (F := Ideal) e) (k0_pay249 (F := Ideal) (w 30)) (ix2 r j)
      = ordered (tap e w r j) := by
  pointwise [k0_pay233, k0_pay234, k0_pay235, k0_pay236, k0_pay237, k0_pay238, k0_pay239, k0_pay240, k0_pay241, k0_pay242, k0_pay243, k0_pay244, k0_pay245, k0_pay246, k0_pay247, k0_pay248, k0_pay249, k0_pay256, ordered, tap, u1, u9, u17, u25, u2, u10, u18, u26, u3, u11, u19, u27, u4, u12, u20, u28, u5, u13, u21, u29, u6, u14, u22, u30, u7, u15, u23, u31]

/-- A block's rows between its two rows of sixteen: what the taps read. -/
abbrev Ext := Vec Ideal S544x2048 .f32

/-- The thirty-one taps at one position. -/
def taps31 (w : Vec Ideal S1x31x2048 .f32) (E : Ext) : Vec Ideal S512x2048 .f32 := fun z =>
  ∑ n : Fin 31, E (ix2 ⟨n.val + 1 + z 0, by have h : (z 0 : ℕ) < 512 := (z 0).isLt; omega⟩ (z 1)) * w (ix3 0 n (z 1))

theorem sum_at (w : Vec Ideal S1x31x2048 .f32) (E : Ext) (k C : ℕ) (hk : k < 4) (hC : C + 128 ≤ 2048) (e : Vec Ideal S160x128 .f32) (v : Fin 31 → Vec Ideal S1x1x128 .f32)
    (he : ∀ (a : Fin 160) (j : Fin 128), e (ix2 a j) = E (ix2 ⟨128 * k + a, by omega⟩ ⟨C + j, by omega⟩))
    (hv : ∀ (n : Fin 31) (j : Fin 128), v n (ix3 0 0 j) = w (ix3 0 n ⟨C + j, by omega⟩)) (r j : Fin 128) :
    ordered (tap e v r j) = taps31 w E (ix2 ⟨128 * k + r, by omega⟩ ⟨C + j, by omega⟩) := by
  rw [ordered_eq]
  refine Finset.sum_congr rfl fun n _ => ?_
  refine congr (congrArg HMul.hMul ((he _ j).trans ?_)) (hv n j)
  refine congrArg (fun q => E (ix2 q ⟨C + j, by omega⟩)) (Fin.ext ?_)
  show 128 * k + (n.val + 1 + r.val) = n.val + 1 + (128 * k + r.val)
  omega

theorem fit (k : Fin k0_t2_loop.trips) (C : ℕ) (hC : C + 128 ≤ 2048) : Fit ![128 * k.val, C] 128 128 512 := by
  have hk : k.val < 4 := k.isLt
  intro a
  match a with
  | ⟨0, _⟩ => show 128 * k.val + 128 ≤ 512; omega
  | ⟨1, _⟩ => exact hC

theorem fitW (n : Fin 31) (C : ℕ) (hC : C + 128 ≤ 2048) (a : Fin 3) : (![0, n.val, C] : Fin 3 → ℕ) a + (![1, 1, 128] : Fin 3 → ℕ) a ≤ (⟨3, ![1, 31, 2048]⟩ : Shape).size a := by
  match a with
  | ⟨0, _⟩ => show 0 + 1 ≤ 1; omega
  | ⟨1, _⟩ => show n.val + 1 ≤ 31; omega
  | ⟨2, _⟩ => exact hC

/-- A chunk's weights, as its loads read them. -/
abbrev cols (w : Vec Ideal S1x31x2048 .f32) (C : ℕ) (hC : C + 128 ≤ 2048) (n : Fin 31) : Vec Ideal S1x1x128 .f32 :=
  View.ld (Val := Elt Ideal) (S := S1x31x2048) (e' := .f32) w (Rect.unit ![0, n.val, C] ![1, 1, 128] (fitW n C hC))

section
variable (𝒱 : Variants) (c : Dev nD) (bd : Option 𝒱.V) (i : grid0.Coords) (arg2 : Memref sig .tc .vmem S1x512x2048 .bf16) (harg2 : arg2.IsWhole) (arg3 : Memref sig .tc .vmem S1x16x2048 .bf16) (harg3 : arg3.IsWhole) (arg4 : Memref sig .tc .vmem S1x16x2048 .bf16) (harg4 : arg4.IsWhole) (arg5 : Memref sig .tc .vmem S1x512x2048 .f32) (harg5 : arg5.IsWhole) (arg6 : Memref sig .tc .vmem S1x31x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x2048x2048 .bf16) (harg10 : arg10.IsWhole) (arg11 : Memref sig .tc .vmem S1x1x2048x512 .f32) (harg11 : arg11.IsWhole) (arg12 : Memref sig .tc .vmem S1x512x2048 .f32) (harg12 : arg12.IsWhole) (arg13 : Memref sig .tc .vmem S1x2048x512 .bf16) (harg13 : arg13.IsWhole) (arg14 : Memref sig .tc .vmem S544x2048 .f32) (harg14 : arg14.IsWhole) (arg15 : Memref sig .tc .vmem S512x2048 .f32) (harg15 : arg15.IsWhole) (arg16 : Memref sig .tc .vmem S512x2048 .bf16) (harg16 : arg16.IsWhole)

theorem trip2 (a b : BitVec 32) (X : BufTy.Contents (Elt Ideal) arg6.view.ty) (Y : BufTy.Contents (Elt Ideal) arg14.view.ty) (k : Fin k0_t2_loop.trips) :
    tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 a b X Y k =
    chunks (taps31 (arg6.view.read (Elt Ideal) X) (arg14.view.read (Elt Ideal) Y)) k.val (fit k) := by
  have hk : k.val < 4 := k.isLt
  unfold tripL_k0_t2 trip_k0_t2
  dsimp only
  sl_unfold_run_names
  unfold chunks
  refine congr (congrArg List.cons (pc_eq _ k.val 1920 _ hk (by decide) _ _ _ (k0_off34_eq k) fun r j => (sum15 _ (cols (arg6.view.read (Elt Ideal) X) 1920 (by decide)) r j).trans
    (sum_at _ _ k.val 1920 hk (by decide) _ _ (ldE _ k.val 1920 hk (by decide) _ _ (k0_off33_eq k)) (fun n => ldW _ n 1920 (by decide) _) r j))) ?_
  refine congr (congrArg List.cons (pc_eq _ k.val 1792 _ hk (by decide) _ _ _ (k0_off32_eq k) fun r j => (sum14 _ (cols (arg6.view.read (Elt Ideal) X) 1792 (by decide)) r j).trans
    (sum_at _ _ k.val 1792 hk (by decide) _ _ (ldE _ k.val 1792 hk (by decide) _ _ (k0_off31_eq k)) (fun n => ldW _ n 1792 (by decide) _) r j))) ?_
  refine congr (congrArg List.cons (pc_eq _ k.val 1664 _ hk (by decide) _ _ _ (k0_off30_eq k) fun r j => (sum13 _ (cols (arg6.view.read (Elt Ideal) X) 1664 (by decide)) r j).trans
    (sum_at _ _ k.val 1664 hk (by decide) _ _ (ldE _ k.val 1664 hk (by decide) _ _ (k0_off29_eq k)) (fun n => ldW _ n 1664 (by decide) _) r j))) ?_
  refine congr (congrArg List.cons (pc_eq _ k.val 1536 _ hk (by decide) _ _ _ (k0_off28_eq k) fun r j => (sum12 _ (cols (arg6.view.read (Elt Ideal) X) 1536 (by decide)) r j).trans
    (sum_at _ _ k.val 1536 hk (by decide) _ _ (ldE _ k.val 1536 hk (by decide) _ _ (k0_off27_eq k)) (fun n => ldW _ n 1536 (by decide) _) r j))) ?_
  refine congr (congrArg List.cons (pc_eq _ k.val 1408 _ hk (by decide) _ _ _ (k0_off26_eq k) fun r j => (sum11 _ (cols (arg6.view.read (Elt Ideal) X) 1408 (by decide)) r j).trans
    (sum_at _ _ k.val 1408 hk (by decide) _ _ (ldE _ k.val 1408 hk (by decide) _ _ (k0_off25_eq k)) (fun n => ldW _ n 1408 (by decide) _) r j))) ?_
  refine congr (congrArg List.cons (pc_eq _ k.val 1280 _ hk (by decide) _ _ _ (k0_off24_eq k) fun r j => (sum10 _ (cols (arg6.view.read (Elt Ideal) X) 1280 (by decide)) r j).trans
    (sum_at _ _ k.val 1280 hk (by decide) _ _ (ldE _ k.val 1280 hk (by decide) _ _ (k0_off23_eq k)) (fun n => ldW _ n 1280 (by decide) _) r j))) ?_
  refine congr (congrArg List.cons (pc_eq _ k.val 1152 _ hk (by decide) _ _ _ (k0_off22_eq k) fun r j => (sum9 _ (cols (arg6.view.read (Elt Ideal) X) 1152 (by decide)) r j).trans
    (sum_at _ _ k.val 1152 hk (by decide) _ _ (ldE _ k.val 1152 hk (by decide) _ _ (k0_off21_eq k)) (fun n => ldW _ n 1152 (by decide) _) r j))) ?_
  refine congr (congrArg List.cons (pc_eq _ k.val 1024 _ hk (by decide) _ _ _ (k0_off20_eq k) fun r j => (sum8 _ (cols (arg6.view.read (Elt Ideal) X) 1024 (by decide)) r j).trans
    (sum_at _ _ k.val 1024 hk (by decide) _ _ (ldE _ k.val 1024 hk (by decide) _ _ (k0_off19_eq k)) (fun n => ldW _ n 1024 (by decide) _) r j))) ?_
  refine congr (congrArg List.cons (pc_eq _ k.val 896 _ hk (by decide) _ _ _ (k0_off18_eq k) fun r j => (sum7 _ (cols (arg6.view.read (Elt Ideal) X) 896 (by decide)) r j).trans
    (sum_at _ _ k.val 896 hk (by decide) _ _ (ldE _ k.val 896 hk (by decide) _ _ (k0_off17_eq k)) (fun n => ldW _ n 896 (by decide) _) r j))) ?_
  refine congr (congrArg List.cons (pc_eq _ k.val 768 _ hk (by decide) _ _ _ (k0_off16_eq k) fun r j => (sum6 _ (cols (arg6.view.read (Elt Ideal) X) 768 (by decide)) r j).trans
    (sum_at _ _ k.val 768 hk (by decide) _ _ (ldE _ k.val 768 hk (by decide) _ _ (k0_off15_eq k)) (fun n => ldW _ n 768 (by decide) _) r j))) ?_
  refine congr (congrArg List.cons (pc_eq _ k.val 640 _ hk (by decide) _ _ _ (k0_off14_eq k) fun r j => (sum5 _ (cols (arg6.view.read (Elt Ideal) X) 640 (by decide)) r j).trans
    (sum_at _ _ k.val 640 hk (by decide) _ _ (ldE _ k.val 640 hk (by decide) _ _ (k0_off13_eq k)) (fun n => ldW _ n 640 (by decide) _) r j))) ?_
  refine congr (congrArg List.cons (pc_eq _ k.val 512 _ hk (by decide) _ _ _ (k0_off12_eq k) fun r j => (sum4 _ (cols (arg6.view.read (Elt Ideal) X) 512 (by decide)) r j).trans
    (sum_at _ _ k.val 512 hk (by decide) _ _ (ldE _ k.val 512 hk (by decide) _ _ (k0_off11_eq k)) (fun n => ldW _ n 512 (by decide) _) r j))) ?_
  refine congr (congrArg List.cons (pc_eq _ k.val 384 _ hk (by decide) _ _ _ (k0_off10_eq k) fun r j => (sum3 _ (cols (arg6.view.read (Elt Ideal) X) 384 (by decide)) r j).trans
    (sum_at _ _ k.val 384 hk (by decide) _ _ (ldE _ k.val 384 hk (by decide) _ _ (k0_off9_eq k)) (fun n => ldW _ n 384 (by decide) _) r j))) ?_
  refine congr (congrArg List.cons (pc_eq _ k.val 256 _ hk (by decide) _ _ _ (k0_off8_eq k) fun r j => (sum2 _ (cols (arg6.view.read (Elt Ideal) X) 256 (by decide)) r j).trans
    (sum_at _ _ k.val 256 hk (by decide) _ _ (ldE _ k.val 256 hk (by decide) _ _ (k0_off7_eq k)) (fun n => ldW _ n 256 (by decide) _) r j))) ?_
  refine congr (congrArg List.cons (pc_eq _ k.val 128 _ hk (by decide) _ _ _ (k0_off6_eq k) fun r j => (sum1 _ (cols (arg6.view.read (Elt Ideal) X) 128 (by decide)) r j).trans
    (sum_at _ _ k.val 128 hk (by decide) _ _ (ldE _ k.val 128 hk (by decide) _ _ (k0_off5_eq k)) (fun n => ldW _ n 128 (by decide) _) r j))) ?_
  refine congr (congrArg List.cons (pc_eq _ k.val 0 _ hk (by decide) _ _ _ (k0_off4_eq k) fun r j => (sum0 _ (cols (arg6.view.read (Elt Ideal) X) 0 (by decide)) r j).trans
    (sum_at _ _ k.val 0 hk (by decide) _ _ (ldE _ k.val 0 hk (by decide) _ _ (k0_off3_eq k)) (fun n => ldW _ n 0 (by decide) _) r j))) ?_
  rfl

end

end Cert.ConvA
end
-- ==== Proof.RefConvA.lean ====
module

public import proofs.«01_k».proof.Proof.Gen.Reference6Ideal.Read
public import proofs.«01_k».proof.Proof.Tiles
public import Idealize.ShloMosaic.Lib.Pointwise
public import Idealize.ShloMosaic.Lib.KernelVsHost

@[expose] public section

set_option maxRecDepth 16384

/-! The conformer's convolution: what the reference computes. -/

noncomputable section
open Idealize.ShloMosaic Idealize.ShloMosaic.TcCoe Idealize.SL.Sem
open Cert.Row Cert.Tiles Cert.Reference6Ideal Cert.Reference6Ideal.Read
namespace Cert.RefConvA

/-- The mean of a row. -/
def mean (x : Fin 2048 → EReal) : EReal := Ideal.div (∑ i, x i) (Ideal.ofBits .f32 1157627904#32)

/-- The layer normalization of a row. -/
def lnorm (x g l : Fin 2048 → EReal) (j : Fin 2048) : EReal :=
  (x j - mean x) * Ideal.rsqrt (Ideal.div (∑ i, (x i - mean x) * (x i - mean x)) (Ideal.ofBits .f32 1157627904#32) + Ideal.ofBits .f32 897988541#32) * g j + l j

/-- A value times its logistic. -/
def swish (y : EReal) : EReal := y * Ideal.div 1 (1 + Ideal.exp (-y))

/-- A row of the taps, biased, normalized and activated. -/
def actrow (x b g l : Fin 2048 → EReal) (j : Fin 2048) : EReal := swish (lnorm (fun i => x i + b i) g l j)

/-- The positions with fifteen zeros before them and fifteen after. -/
def pd15 (A : S2x8192x2048.Idx → EReal) (b : Fin 2) (n : ℕ) (d : Fin 2048) : EReal :=
  if h : 15 ≤ n ∧ n < 8207 then A (ix3 b ⟨n - 15, by omega⟩ d) else 0

/-- The thirty-one taps at one position. -/
def conv31 (A : S2x8192x2048.Idx → EReal) (w : S2x31x2048.Idx → EReal) (b : Fin 2) (s : ℕ) (d : Fin 2048) : EReal :=
  ∑ n : Fin 31, pd15 A b (n.val + s) d * w (ix3 0 n d)

theorem in_turn (f : Fin 31 → EReal) :
    f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 = ∑ n, f n := by
  rw [Fin.sum_univ_def, show List.finRange 31 = [0, 1, 2, 3, 4, 5, 6, 7, 8, 9, 10, 11, 12, 13, 14, 15, 16, 17, 18, 19, 20, 21, 22, 23, 24, 25, 26, 27, 28, 29, 30] from by decide]
  simp only [List.map_cons, List.map_nil, List.sum_cons, List.sum_nil, add_zero]
  ac_rfl

abbrev T0 := (⟨S2x8192x2048, .bf16⟩ : BufTy).Contents (Elt Ideal)
abbrev T1 := (⟨S2x8192x2048, .f32⟩ : BufTy).Contents (Elt Ideal)
abbrev T2 := (⟨S2x31x2048, .f32⟩ : BufTy).Contents (Elt Ideal)
abbrev T3 := (⟨S2x2048, .f32⟩ : BufTy).Contents (Elt Ideal)
abbrev T6 := (⟨S2x2048x2048, .f32⟩ : BufTy).Contents (Elt Ideal)
abbrev T7 := (⟨S4x32x2048x1024, .f32⟩ : BufTy).Contents (Elt Ideal)

theorem r3 (x0 : T0) (b : Fin 2) (n : Fin 8222) (d : Fin 2048) : val_main_v3 (F := Ideal) x0 (ix3 b n d) = pd15 x0 b n.val d := by
  unfold val_main_v3 pd15
  by_cases h : 15 ≤ n.val ∧ n.val < 8207
  · rw [dif_pos h]
    refine (pad_apply_of_inside _ _ _ _ _ _ _ _ (ix3 b ⟨n.val - 15, by omega⟩ d) fun a => ?_).trans ?_
    · match a with
      | ⟨0, _⟩ => show b.val = 0 + b.val * 1; omega
      | ⟨1, _⟩ => show n.val = 15 + (n.val - 15) * 1; omega
      | ⟨2, _⟩ => show d.val = 0 + d.val * 1; omega
    · pointwise [val_main_v0]
  · rw [dif_neg h]
    refine (pad_apply_of_not_inside _ _ _ _ _ _ _ _ 1 ?_).trans ?_
    · show ¬(15 ≤ n.val ∧ (n.val - 15) % 1 = 0 ∧ (n.val - 15) / 1 < 8192)
      omega
    · show (((0#32 : BitVec 32).toInt : ℝ) : EReal) = 0
      simp

theorem r2 (x2 : T2) (n : Fin 31) (d : Fin 2048) : val_main_v2 (F := Ideal) x2 (ix2 n d) = x2 (ix3 0 n d) := by
  pointwise [val_main_v1, val_main_v2]

theorem tap0 (x0 : T0) (x2 : T2) (b : Fin 2) (s : Fin 8192) (d : Fin 2048) : val_main_v9 (F := Ideal) x0 x2 (ix3 b s d) = pd15 x0 b (0 + s.val) d * x2 (ix3 0 0 d) := by
  pointwise [val_main_v4, val_main_v5, val_main_v6, val_main_v7, val_main_v8, val_main_v9, r3, r2]

theorem tap1 (x0 : T0) (x2 : T2) (b : Fin 2) (s : Fin 8192) (d : Fin 2048) : val_main_v17 (F := Ideal) x0 x2 (ix3 b s d) = pd15 x0 b (1 + s.val) d * x2 (ix3 0 1 d) := by
  pointwise [val_main_v12, val_main_v13, val_main_v14, val_main_v15, val_main_v16, val_main_v17, r3, r2]

theorem tap2 (x0 : T0) (x2 : T2) (b : Fin 2) (s : Fin 8192) (d : Fin 2048) : val_main_v24 (F := Ideal) x0 x2 (ix3 b s d) = pd15 x0 b (2 + s.val) d * x2 (ix3 0 2 d) := by
  pointwise [val_main_v19, val_main_v20, val_main_v21, val_main_v22, val_main_v23, val_main_v24, r3, r2]

theorem tap3 (x0 : T0) (x2 : T2) (b : Fin 2) (s : Fin 8192) (d : Fin 2048) : val_main_v31 (F := Ideal) x0 x2 (ix3 b s d) = pd15 x0 b (3 + s.val) d * x2 (ix3 0 3 d) := by
  pointwise [val_main_v26, val_main_v27, val_main_v28, val_main_v29, val_main_v30, val_main_v31, r3, r2]

theorem tap4 (x0 : T0) (x2 : T2) (b : Fin 2) (s : Fin 8192) (d : Fin 2048) : val_main_v38 (F := Ideal) x0 x2 (ix3 b s d) = pd15 x0 b (4 + s.val) d * x2 (ix3 0 4 d) := by
  pointwise [val_main_v33, val_main_v34, val_main_v35, val_main_v36, val_main_v37, val_main_v38, r3, r2]

theorem tap5 (x0 : T0) (x2 : T2) (b : Fin 2) (s : Fin 8192) (d : Fin 2048) : val_main_v45 (F := Ideal) x0 x2 (ix3 b s d) = pd15 x0 b (5 + s.val) d * x2 (ix3 0 5 d) := by
  pointwise [val_main_v40, val_main_v41, val_main_v42, val_main_v43, val_main_v44, val_main_v45, r3, r2]

theorem tap6 (x0 : T0) (x2 : T2) (b : Fin 2) (s : Fin 8192) (d : Fin 2048) : val_main_v52 (F := Ideal) x0 x2 (ix3 b s d) = pd15 x0 b (6 + s.val) d * x2 (ix3 0 6 d) := by
  pointwise [val_main_v47, val_main_v48, val_main_v49, val_main_v50, val_main_v51, val_main_v52, r3, r2]

theorem tap7 (x0 : T0) (x2 : T2) (b : Fin 2) (s : Fin 8192) (d : Fin 2048) : val_main_v59 (F := Ideal) x0 x2 (ix3 b s d) = pd15 x0 b (7 + s.val) d * x2 (ix3 0 7 d) := by
  pointwise [val_main_v54, val_main_v55, val_main_v56, val_main_v57, val_main_v58, val_main_v59, r3, r2]

theorem tap8 (x0 : T0) (x2 : T2) (b : Fin 2) (s : Fin 8192) (d : Fin 2048) : val_main_v66 (F := Ideal) x0 x2 (ix3 b s d) = pd15 x0 b (8 + s.val) d * x2 (ix3 0 8 d) := by
  pointwise [val_main_v61, val_main_v62, val_main_v63, val_main_v64, val_main_v65, val_main_v66, r3, r2]

theorem tap9 (x0 : T0) (x2 : T2) (b : Fin 2) (s : Fin 8192) (d : Fin 2048) : val_main_v73 (F := Ideal) x0 x2 (ix3 b s d) = pd15 x0 b (9 + s.val) d * x2 (ix3 0 9 d) := by
  pointwise [val_main_v68, val_main_v69, val_main_v70, val_main_v71, val_main_v72, val_main_v73, r3, r2]

theorem tap10 (x0 : T0) (x2 : T2) (b : Fin 2) (s : Fin 8192) (d : Fin 2048) : val_main_v80 (F := Ideal) x0 x2 (ix3 b s d) = pd15 x0 b (10 + s.val) d * x2 (ix3 0 10 d) := by
  pointwise [val_main_v75, val_main_v76, val_main_v77, val_main_v78, val_main_v79, val_main_v80, r3, r2]

theorem tap11 (x0 : T0) (x2 : T2) (b : Fin 2) (s : Fin 8192) (d : Fin 2048) : val_main_v87 (F := Ideal) x0 x2 (ix3 b s d) = pd15 x0 b (11 + s.val) d * x2 (ix3 0 11 d) := by
  pointwise [val_main_v82, val_main_v83, val_main_v84, val_main_v85, val_main_v86, val_main_v87, r3, r2]

theorem tap12 (x0 : T0) (x2 : T2) (b : Fin 2) (s : Fin 8192) (d : Fin 2048) : val_main_v94 (F := Ideal) x0 x2 (ix3 b s d) = pd15 x0 b (12 + s.val) d * x2 (ix3 0 12 d) := by
  pointwise [val_main_v89, val_main_v90, val_main_v91, val_main_v92, val_main_v93, val_main_v94, r3, r2]

theorem tap13 (x0 : T0) (x2 : T2) (b : Fin 2) (s : Fin 8192) (d : Fin 2048) : val_main_v101 (F := Ideal) x0 x2 (ix3 b s d) = pd15 x0 b (13 + s.val) d * x2 (ix3 0 13 d) := by
  pointwise [val_main_v96, val_main_v97, val_main_v98, val_main_v99, val_main_v100, val_main_v101, r3, r2]

theorem tap14 (x0 : T0) (x2 : T2) (b : Fin 2) (s : Fin 8192) (d : Fin 2048) : val_main_v108 (F := Ideal) x0 x2 (ix3 b s d) = pd15 x0 b (14 + s.val) d * x2 (ix3 0 14 d) := by
  pointwise [val_main_v103, val_main_v104, val_main_v105, val_main_v106, val_main_v107, val_main_v108, r3, r2]

theorem tap15 (x0 : T0) (x2 : T2) (b : Fin 2) (s : Fin 8192) (d : Fin 2048) : val_main_v115 (F := Ideal) x0 x2 (ix3 b s d) = pd15 x0 b (15 + s.val) d * x2 (ix3 0 15 d) := by
  pointwise [val_main_v110, val_main_v111, val_main_v112, val_main_v113, val_main_v114, val_main_v115, r3, r2]

theorem tap16 (x0 : T0) (x2 : T2) (b : Fin 2) (s : Fin 8192) (d : Fin 2048) : val_main_v122 (F := Ideal) x0 x2 (ix3 b s d) = pd15 x0 b (16 + s.val) d * x2 (ix3 0 16 d) := by
  pointwise [val_main_v117, val_main_v118, val_main_v119, val_main_v120, val_main_v121, val_main_v122, r3, r2]

theorem tap17 (x0 : T0) (x2 : T2) (b : Fin 2) (s : Fin 8192) (d : Fin 2048) : val_main_v129 (F := Ideal) x0 x2 (ix3 b s d) = pd15 x0 b (17 + s.val) d * x2 (ix3 0 17 d) := by
  pointwise [val_main_v124, val_main_v125, val_main_v126, val_main_v127, val_main_v128, val_main_v129, r3, r2]

theorem tap18 (x0 : T0) (x2 : T2) (b : Fin 2) (s : Fin 8192) (d : Fin 2048) : val_main_v136 (F := Ideal) x0 x2 (ix3 b s d) = pd15 x0 b (18 + s.val) d * x2 (ix3 0 18 d) := by
  pointwise [val_main_v131, val_main_v132, val_main_v133, val_main_v134, val_main_v135, val_main_v136, r3, r2]

theorem tap19 (x0 : T0) (x2 : T2) (b : Fin 2) (s : Fin 8192) (d : Fin 2048) : val_main_v143 (F := Ideal) x0 x2 (ix3 b s d) = pd15 x0 b (19 + s.val) d * x2 (ix3 0 19 d) := by
  pointwise [val_main_v138, val_main_v139, val_main_v140, val_main_v141, val_main_v142, val_main_v143, r3, r2]

theorem tap20 (x0 : T0) (x2 : T2) (b : Fin 2) (s : Fin 8192) (d : Fin 2048) : val_main_v150 (F := Ideal) x0 x2 (ix3 b s d) = pd15 x0 b (20 + s.val) d * x2 (ix3 0 20 d) := by
  pointwise [val_main_v145, val_main_v146, val_main_v147, val_main_v148, val_main_v149, val_main_v150, r3, r2]

theorem tap21 (x0 : T0) (x2 : T2) (b : Fin 2) (s : Fin 8192) (d : Fin 2048) : val_main_v157 (F := Ideal) x0 x2 (ix3 b s d) = pd15 x0 b (21 + s.val) d * x2 (ix3 0 21 d) := by
  pointwise [val_main_v152, val_main_v153, val_main_v154, val_main_v155, val_main_v156, val_main_v157, r3, r2]

theorem tap22 (x0 : T0) (x2 : T2) (b : Fin 2) (s : Fin 8192) (d : Fin 2048) : val_main_v164 (F := Ideal) x0 x2 (ix3 b s d) = pd15 x0 b (22 + s.val) d * x2 (ix3 0 22 d) := by
  pointwise [val_main_v159, val_main_v160, val_main_v161, val_main_v162, val_main_v163, val_main_v164, r3, r2]

theorem tap23 (x0 : T0) (x2 : T2) (b : Fin 2) (s : Fin 8192) (d : Fin 2048) : val_main_v171 (F := Ideal) x0 x2 (ix3 b s d) = pd15 x0 b (23 + s.val) d * x2 (ix3 0 23 d) := by
  pointwise [val_main_v166, val_main_v167, val_main_v168, val_main_v169, val_main_v170, val_main_v171, r3, r2]

theorem tap24 (x0 : T0) (x2 : T2) (b : Fin 2) (s : Fin 8192) (d : Fin 2048) : val_main_v178 (F := Ideal) x0 x2 (ix3 b s d) = pd15 x0 b (24 + s.val) d * x2 (ix3 0 24 d) := by
  pointwise [val_main_v173, val_main_v174, val_main_v175, val_main_v176, val_main_v177, val_main_v178, r3, r2]

theorem tap25 (x0 : T0) (x2 : T2) (b : Fin 2) (s : Fin 8192) (d : Fin 2048) : val_main_v185 (F := Ideal) x0 x2 (ix3 b s d) = pd15 x0 b (25 + s.val) d * x2 (ix3 0 25 d) := by
  pointwise [val_main_v180, val_main_v181, val_main_v182, val_main_v183, val_main_v184, val_main_v185, r3, r2]

theorem tap26 (x0 : T0) (x2 : T2) (b : Fin 2) (s : Fin 8192) (d : Fin 2048) : val_main_v192 (F := Ideal) x0 x2 (ix3 b s d) = pd15 x0 b (26 + s.val) d * x2 (ix3 0 26 d) := by
  pointwise [val_main_v187, val_main_v188, val_main_v189, val_main_v190, val_main_v191, val_main_v192, r3, r2]

theorem tap27 (x0 : T0) (x2 : T2) (b : Fin 2) (s : Fin 8192) (d : Fin 2048) : val_main_v199 (F := Ideal) x0 x2 (ix3 b s d) = pd15 x0 b (27 + s.val) d * x2 (ix3 0 27 d) := by
  pointwise [val_main_v194, val_main_v195, val_main_v196, val_main_v197, val_main_v198, val_main_v199, r3, r2]

theorem tap28 (x0 : T0) (x2 : T2) (b : Fin 2) (s : Fin 8192) (d : Fin 2048) : val_main_v206 (F := Ideal) x0 x2 (ix3 b s d) = pd15 x0 b (28 + s.val) d * x2 (ix3 0 28 d) := by
  pointwise [val_main_v201, val_main_v202, val_main_v203, val_main_v204, val_main_v205, val_main_v206, r3, r2]

theorem tap29 (x0 : T0) (x2 : T2) (b : Fin 2) (s : Fin 8192) (d : Fin 2048) : val_main_v213 (F := Ideal) x0 x2 (ix3 b s d) = pd15 x0 b (29 + s.val) d * x2 (ix3 0 29 d) := by
  pointwise [val_main_v208, val_main_v209, val_main_v210, val_main_v211, val_main_v212, val_main_v213, r3, r2]

theorem tap30 (x0 : T0) (x2 : T2) (b : Fin 2) (s : Fin 8192) (d : Fin 2048) : val_main_v220 (F := Ideal) x0 x2 (ix3 b s d) = pd15 x0 b (30 + s.val) d * x2 (ix3 0 30 d) := by
  pointwise [val_main_v215, val_main_v216, val_main_v217, val_main_v218, val_main_v219, val_main_v220, r3, r2]

theorem r221 (x0 : T0) (x2 : T2) (b : Fin 2) (s : Fin 8192) (d : Fin 2048) : val_main_v221 (F := Ideal) x0 x2 (ix3 b s d) = conv31 x0 x2 b s.val d := by
  refine Eq.trans ?_ (in_turn (fun n => pd15 x0 b (n.val + s.val) d * x2 (ix3 0 n d)))
  pointwise [val_main_v11, val_main_v18, val_main_v25, val_main_v32, val_main_v39, val_main_v46, val_main_v53, val_main_v60, val_main_v67, val_main_v74, val_main_v81, val_main_v88, val_main_v95, val_main_v102, val_main_v109, val_main_v116, val_main_v123, val_main_v130, val_main_v137, val_main_v144, val_main_v151, val_main_v158, val_main_v165, val_main_v172, val_main_v179, val_main_v186, val_main_v193, val_main_v200, val_main_v207, val_main_v214, val_main_v221, val_main_v10, val_main_cst, tap0, tap1, tap2, tap3, tap4, tap5, tap6, tap7, tap8, tap9, tap10, tap11, tap12, tap13, tap14, tap15, tap16, tap17, tap18, tap19, tap20, tap21, tap22, tap23, tap24, tap25, tap26, tap27, tap28, tap29, tap30]

theorem r226 (x0 : T0) (x2 : T2) (x3 : T3) (b : Fin 2) (s : Fin 8192) (d : Fin 2048) :
    val_main_v226 (F := Ideal) x0 x2 x3 (ix3 b s d) = conv31 x0 x2 b s.val d + x3 (ix2 0 d) := by
  pointwise [val_main_v222, val_main_v223, val_main_v224, val_main_v225, val_main_v226, r221]

theorem r234 (x0 : T0) (x2 : T2) (x3 : T3) (b : Fin 2) (s : Fin 8192) (n : Fin 1) :
    val_main_v234 (F := Ideal) x0 x2 x3 (ix3 b s n) = mean (fun i => conv31 x0 x2 b s.val i + x3 (ix2 0 i)) := by
  pointwise [val_main_cst_0, val_main_v231, val_main_v232, val_main_cst_1, val_main_v233, val_main_v234, r226, mean]

theorem r236 (x0 : T0) (x2 : T2) (x3 : T3) (b : Fin 2) (s : Fin 8192) (d : Fin 2048) :
    val_main_v236 (F := Ideal) x0 x2 x3 (ix3 b s d) = conv31 x0 x2 b s.val d + x3 (ix2 0 d) - mean (fun i => conv31 x0 x2 b s.val i + x3 (ix2 0 i)) := by
  pointwise [val_main_v235, val_main_v236, r226, r234]

theorem r254 (x0 : T0) (x2 : T2) (x3 x4 x5 : T3) (b : Fin 2) (s : Fin 8192) (d : Fin 2048) :
    val_main_v254 (F := Ideal) x0 x2 x3 x4 x5 (ix3 b s d)
      = lnorm (fun i => conv31 x0 x2 b s.val i + x3 (ix2 0 i)) (fun i => x4 (ix2 0 i)) (fun i => x5 (ix2 0 i)) d := by
  pointwise [val_main_v227, val_main_v228, val_main_v229, val_main_v230, val_main_v237, val_main_cst_2, val_main_v238, val_main_v239, val_main_cst_3, val_main_v240, val_main_v241, val_main_v242,
    val_main_v243, val_main_cst_4, val_main_v244, val_main_v245, val_main_v246, val_main_v247, val_main_v248, val_main_v249, val_main_v250, val_main_v251, val_main_v252, val_main_v253, val_main_v254,
    r226, r234, r236, lnorm]

theorem r255 (x0 : T0) (x2 : T2) (x3 x4 x5 : T3) (b : Fin 2) (s : Fin 8192) (d : Fin 2048) :
    val_main_v255 (F := Ideal) x0 x2 x3 x4 x5 (ix3 b s d)
      = actrow (fun i => conv31 x0 x2 b s.val i) (fun i => x3 (ix2 0 i)) (fun i => x4 (ix2 0 i)) (fun i => x5 (ix2 0 i)) d := by
  pointwise [val_main_call1_v0, val_main_call1_v1, val_main_call1_cst, val_main_call1_v2, val_main_call1_v3, val_main_call1_cst_0, val_main_call1_v4, val_main_call1_v5, val_main_v255, r254, actrow, swish]

theorem r259 (x0 : T0) (x1 : T1) (x2 : T2) (x3 x4 x5 : T3) (x6 : T6) (b : Fin 2) (s : Fin 8192) (d : Fin 2048) :
    val_main_v259 (F := Ideal) x0 x1 x2 x3 x4 x5 x6 (ix3 b s d)
      = x1 (ix3 b s d) + proj (actrow (fun i => conv31 x0 x2 b s.val i) (fun i => x3 (ix2 0 i)) (fun i => x4 (ix2 0 i)) (fun i => x5 (ix2 0 i))) (fun a => x6 (ix3 0 a d)) := by
  pointwise [val_main_v256, val_main_v257, val_main_v258, val_main_v259, r255, proj]

theorem r264 (x7 : T7) (e : Fin 32) (a : Fin 2048) (j : Fin 512) :
    val_main_v264 (F := Ideal) x7 (ix3 e a j) = x7 (ix4 0 e a ⟨512 + j.val, by omega⟩) := by
  pointwise [val_main_v260, val_main_v261, val_main_v263, val_main_v264]

end Cert.RefConvA

end
-- ==== Proof.ConvA.lean ====
module

public import proofs.«01_k».proof.Proof.TapsA
public import proofs.«01_k».proof.Proof.RefConvA

@[expose] public section

set_option maxRecDepth 16384

/-! The conformer's convolution: what the scratch buffers hold, and a block of each result. -/

noncomputable section
open Idealize.ShloMosaic Idealize.ShloMosaic.TcCoe Idealize.SL.Sem
open Cert.Row Cert.Tiles Cert.Kernel6Ideal Cert.Kernel6Ideal.Gen Cert.Kernel6Ideal.Value
open Cert.RefConvA (mean lnorm swish actrow)
open Cert.ConvC (mem_loop Fit pc pc_eq ldE ldW chunks of_chunks in_rows chunk_mem chunk_over FitR ldR ldS Fit3 ldB ldB_at block_at in_block oB above_zero below_last lead3)
namespace Cert.ConvA

/-- A block's rows, sixteen before them and sixteen after. -/
def ext (i : grid0.Coords) (x0 : Vec Ideal S1x512x2048 .bf16) (x1 x2 : Vec Ideal S1x16x2048 .bf16) : Ext := fun z =>
  if h : (z 0 : ℕ) < 16 then k0_pay253 (F := Ideal) i x1 (ix2 ⟨z 0, h⟩ (z 1))
  else if h2 : (z 0 : ℕ) < 528 then x0 (ix3 0 ⟨z 0 - 16, by omega⟩ (z 1))
  else k0_pay254 (F := Ideal) i x2 (ix2 ⟨z 0 - 528, by have h3 : (z 0 : ℕ) < 544 := (z 0).isLt; omega⟩ (z 1))

theorem pay255_at (x : Vec Ideal S1x128x2048 .bf16) (r : Fin 128) (d : Fin 2048) : k0_pay255 (F := Ideal) x (ix2 r d) = x (ix3 0 r d) := by
  pointwise [k0_pay255]

theorem ext_mid (i : grid0.Coords) (x0 : Vec Ideal S1x512x2048 .bf16) (x1 x2 : Vec Ideal S1x16x2048 .bf16) (k : ℕ) (hk : k < 4) (o1 : Fin 3 → ℕ) (h1 : FitR o1) (e1 : o1 = ![0, 128 * k, 0])
    (o2 : Fin 2 → ℕ) (h2 : Fit o2 128 2048 544) (e2 : o2 = ![128 * k + 16, 0]) (x : S128x2048.Idx) :
    k0_pay255 (F := Ideal) (View.ld (Val := Elt Ideal) (S := S1x512x2048) (e' := .bf16) x0 (Rect.unit o1 ![1, 128, 2048] h1)) x
      = ext i x0 x1 x2 ((Rect.unit (s := S544x2048) o2 ![128, 2048] h2).emb x) := by
  subst e2
  have hx : (x 0 : ℕ) < 128 := (x 0).isLt
  have q0 : (((Rect.unit (s := S544x2048) ![128 * k + 16, 0] ![128, 2048] h2).emb x) 0 : ℕ) = 128 * k + 16 + x 0 := by
    show 128 * k + 16 + 1 * (x 0 : ℕ) = _; omega
  refine (show _ = _ from (congrArg _ (eq_ix2 x)).trans ((pay255_at _ (x 0) (x 1)).trans (ldR x0 k hk o1 h1 e1 (x 0) (x 1)))).trans ?_
  unfold ext
  rw [dif_neg (by omega), dif_pos (by omega)]
  refine congrArg x0 (funext fun a => Fin.ext ?_)
  match a with
  | ⟨0, _⟩ => rfl
  | ⟨1, _⟩ => show 128 * k + (x 0 : ℕ) = 128 * k + 16 + 1 * (x 0 : ℕ) - 16; omega
  | ⟨2, _⟩ => show (x 1 : ℕ) = 0 + 1 * (x 1 : ℕ); omega

theorem ext_low (i : grid0.Coords) (x0 : Vec Ideal S1x512x2048 .bf16) (x1 x2 : Vec Ideal S1x16x2048 .bf16) (h : Fit ![0, 0] 16 2048 544) (x : S16x2048.Idx) :
    k0_pay253 (F := Ideal) i x1 x = ext i x0 x1 x2 ((Rect.unit (s := S544x2048) ![0, 0] ![16, 2048] h).emb x) := by
  have hx : (x 0 : ℕ) < 16 := (x 0).isLt
  have q0 : (((Rect.unit (s := S544x2048) ![0, 0] ![16, 2048] h).emb x) 0 : ℕ) = x 0 := by show 0 + 1 * (x 0 : ℕ) = _; omega
  unfold ext
  rw [dif_pos (by omega)]
  refine congrArg _ (funext fun a => Fin.ext ?_)
  match a with
  | ⟨0, _⟩ => show (x 0 : ℕ) = 0 + 1 * (x 0 : ℕ); omega
  | ⟨1, _⟩ => show (x 1 : ℕ) = 0 + 1 * (x 1 : ℕ); omega

theorem ext_high (i : grid0.Coords) (x0 : Vec Ideal S1x512x2048 .bf16) (x1 x2 : Vec Ideal S1x16x2048 .bf16) (h : Fit ![528, 0] 16 2048 544) (x : S16x2048.Idx) :
    k0_pay254 (F := Ideal) i x2 x = ext i x0 x1 x2 ((Rect.unit (s := S544x2048) ![528, 0] ![16, 2048] h).emb x) := by
  have hx : (x 0 : ℕ) < 16 := (x 0).isLt
  have q0 : (((Rect.unit (s := S544x2048) ![528, 0] ![16, 2048] h).emb x) 0 : ℕ) = 528 + x 0 := by show 528 + 1 * (x 0 : ℕ) = _; omega
  unfold ext
  rw [dif_neg (by omega), dif_neg (by omega)]
  refine congrArg _ (funext fun a => Fin.ext ?_)
  match a with
  | ⟨0, _⟩ => show (x 0 : ℕ) = 528 + 1 * (x 0 : ℕ) - 528; omega
  | ⟨1, _⟩ => show (x 1 : ℕ) = 0 + 1 * (x 1 : ℕ); omega

/-- What the bias, the normalization and the activation leave of the taps. -/
def acted (b g l : Vec Ideal S1x1x2048 .f32) (C : Vec Ideal S512x2048 .f32) : Vec Ideal S512x2048 .bf16 := fun z =>
  actrow (fun i => C (ix2 (z 0) i)) (fun i => b (ix3 0 0 i)) (fun i => g (ix3 0 0 i)) (fun i => l (ix3 0 0 i)) (z 1)

theorem ldV (b : Vec Ideal S1x1x2048 .f32) (h : ∀ a, (![0, 0, 0] : Fin 3 → ℕ) a + (![1, 1, 2048] : Fin 3 → ℕ) a ≤ (⟨3, ![1, 1, 2048]⟩ : Shape).size a) :
    View.ld (Val := Elt Ideal) (S := S1x1x2048) (e' := .f32) b (Rect.unit ![0, 0, 0] ![1, 1, 2048] h) = b := by
  funext x
  refine congrArg b (funext fun d => Fin.ext ?_)
  match d with
  | ⟨0, _⟩ => show 0 + 1 * (x 0 : ℕ) = x 0; omega
  | ⟨1, _⟩ => show 0 + 1 * (x 1 : ℕ) = x 1; omega
  | ⟨2, _⟩ => show 0 + 1 * (x 2 : ℕ) = x 2; omega

theorem pay257_at (C : Vec Ideal S128x2048 .f32) (b g l : Vec Ideal S1x1x2048 .f32) (r : Fin 128) (d : Fin 2048) :
    k0_pay257 (F := Ideal) (k0_pay250 (F := Ideal) C b g l) (ix2 r d)
      = actrow (fun i => C (ix2 r i)) (fun i => b (ix3 0 0 i)) (fun i => g (ix3 0 0 i)) (fun i => l (ix3 0 0 i)) d := by
  pointwise [k0_pay257, k0_pay250, actrow, swish, lnorm, mean, from_zero]

theorem acted_at (b g l : Vec Ideal S1x1x2048 .f32) (C : Vec Ideal S512x2048 .f32) (k : ℕ) (hk : k < 4)
    (o2 : Fin 2 → ℕ) (h2 : Fit o2 128 2048 512) (e2 : o2 = ![128 * k, 0]) (x : S128x2048.Idx) :
    k0_pay257 (F := Ideal) (k0_pay250 (F := Ideal) (View.ld (Val := Elt Ideal) (S := S512x2048) (e' := .f32) C (Rect.unit o2 ![128, 2048] h2)) b g l) x
      = acted b g l C ((Rect.unit (s := S512x2048) o2 ![128, 2048] h2).emb x) := by
  refine (show _ = _ from (congrArg _ (eq_ix2 x)).trans (pay257_at _ b g l (x 0) (x 1))).trans ?_
  rw [funext fun i => ldS C k hk o2 h2 e2 (x 0) i]
  subst e2
  have q0 : (⟨128 * k + (x 0 : ℕ), by have h : (x 0 : ℕ) < 128 := (x 0).isLt; omega⟩ : Fin 512) = ((Rect.unit (s := S512x2048) ![128 * k, 0] ![128, 2048] h2).emb x) 0 :=
    Fin.ext (by show 128 * k + (x 0 : ℕ) = 128 * k + 1 * (x 0 : ℕ); omega)
  have q1 : (x 1 : Fin 2048) = ((Rect.unit (s := S512x2048) ![128 * k, 0] ![128, 2048] h2).emb x) 1 :=
    Fin.ext (by show (x 1 : ℕ) = 0 + 1 * (x 1 : ℕ); omega)
  unfold acted
  rw [← q0, ← q1]

section
variable (𝒱 : Variants) (c : Dev nD) (bd : Option 𝒱.V) (i : grid0.Coords) (arg2 : Memref sig .tc .vmem S1x512x2048 .bf16) (harg2 : arg2.IsWhole) (arg3 : Memref sig .tc .vmem S1x16x2048 .bf16) (harg3 : arg3.IsWhole) (arg4 : Memref sig .tc .vmem S1x16x2048 .bf16) (harg4 : arg4.IsWhole) (arg5 : Memref sig .tc .vmem S1x512x2048 .f32) (harg5 : arg5.IsWhole) (arg6 : Memref sig .tc .vmem S1x31x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x2048x2048 .bf16) (harg10 : arg10.IsWhole) (arg11 : Memref sig .tc .vmem S1x1x2048x512 .f32) (harg11 : arg11.IsWhole) (arg12 : Memref sig .tc .vmem S1x512x2048 .f32) (harg12 : arg12.IsWhole) (arg13 : Memref sig .tc .vmem S1x2048x512 .bf16) (harg13 : arg13.IsWhole) (arg14 : Memref sig .tc .vmem S544x2048 .f32) (harg14 : arg14.IsWhole) (arg15 : Memref sig .tc .vmem S512x2048 .f32) (harg15 : arg15.IsWhole) (arg16 : Memref sig .tc .vmem S512x2048 .bf16) (harg16 : arg16.IsWhole)

theorem rows1 (X : BufTy.Contents (Elt Ideal) arg2.view.ty) (x1 x2 : Vec Ideal S1x16x2048 .bf16) (n : ℕ) (hn : n = 4) :
    arg14.view.read (Elt Ideal) (arg14.view.writes (Elt Ideal) arg14.view.junk (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X n
      ++ [⟨Rect.unit ![528, 0] ![16, 2048] inb_S544x2048_S16x2048_528_0, k0_pay254 (F := Ideal) i x2⟩, ⟨Rect.unit ![0, 0] ![16, 2048] inb_S544x2048_S16x2048_0_0, k0_pay253 (F := Ideal) i x1⟩,
        ⟨Rect.unit ![0, 0] ![544, 2048] inb_S544x2048_S544x2048_0_0, k0_pay252 (F := Ideal)⟩])) = ext i (arg2.view.read (Elt Ideal) X) x1 x2 := by
  subst hn
  have M := mem_loop (fun k => tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X k) (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X) rfl (pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X) 4 (le_refl _)
  have T : ∀ k : Fin k0_t1_loop.trips, ∃ h1 h2, tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X k = [⟨Rect.unit (k0_off2 k) ![128, 2048] h2,
      k0_pay255 (View.ld (Val := Elt Ideal) (arg2.view.read (Elt Ideal) X) (Rect.unit (k0_off1 k) ![1, 128, 2048] h1))⟩] := fun k => by
    unfold tripL_k0_t1 trip_k0_t1
    exact ⟨_, _, rfl⟩
  rw [View.read_writes_junk_eq_canon]
  funext y
  have hy0 : (y 0 : ℕ) < 544 := (y 0).isLt
  have hy1 : (y 1 : ℕ) < 2048 := (y 1).isLt
  refine (congrArg (fun L => View.canon L y) (List.append_assoc _ [_, _] [_]).symm).trans (View.canon_append_of_pieces _ _ _ ?_ y ?_)
  · intro p hp x
    rcases List.mem_append.mp hp with h | h
    · obtain ⟨k, _, h⟩ := (M p).mp h
      obtain ⟨h1, h2, e⟩ := T k
      rw [e] at h
      obtain rfl := List.mem_singleton.mp h
      exact ext_mid i (arg2.view.read (Elt Ideal) X) x1 x2 k.val k.isLt _ h1 (k0_off1_eq k) _ h2 (k0_off2_eq k) x
    · simp only [List.mem_cons, List.not_mem_nil, or_false] at h
      rcases h with rfl | rfl
      · exact ext_high i (arg2.view.read (Elt Ideal) X) x1 x2 inb_S544x2048_S16x2048_528_0 x
      · exact ext_low i (arg2.view.read (Elt Ideal) X) x1 x2 inb_S544x2048_S16x2048_0_0 x
  · by_cases c1 : (y 0 : ℕ) < 16
    · exact ⟨_, List.mem_append_right _ (List.mem_cons_of_mem _ (List.mem_cons_self ..)), in_rows ![0, 0] inb_S544x2048_S16x2048_0_0 0 0 rfl y (by omega) (by omega) (by omega) (by omega)⟩
    · by_cases c2 : (y 0 : ℕ) < 528
      · have hk : ((y 0 : ℕ) - 16) / 128 < 4 := by omega
        obtain ⟨h1, h2, e⟩ := T ⟨((y 0 : ℕ) - 16) / 128, hk⟩
        refine ⟨_, List.mem_append_left _ ((M _).mpr ⟨⟨((y 0 : ℕ) - 16) / 128, hk⟩, hk, e ▸ List.mem_singleton.mpr rfl⟩), ?_⟩
        exact in_rows _ h2 (128 * (((y 0 : ℕ) - 16) / 128) + 16) 0 (k0_off2_eq _) y (by omega) (by omega) (by omega) (by omega)
      · exact ⟨_, List.mem_append_right _ (List.mem_cons_self ..), in_rows ![528, 0] inb_S544x2048_S16x2048_528_0 528 0 rfl y (by omega) (by omega) (by omega) (by omega)⟩

theorem rows2 (a b : BitVec 32) (X : BufTy.Contents (Elt Ideal) arg6.view.ty) (Y : BufTy.Contents (Elt Ideal) arg14.view.ty) (n : ℕ) (hn : n = 4) :
    arg15.view.read (Elt Ideal) (arg15.view.writes (Elt Ideal) arg15.view.junk (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 a b X Y n
      ++ [⟨Rect.unit ![0, 0] ![512, 2048] inb_S512x2048_S512x2048_0_0, k0_pay251 (F := Ideal)⟩])) = taps31 (arg6.view.read (Elt Ideal) X) (arg14.view.read (Elt Ideal) Y) := by
  subst hn
  have M := mem_loop (fun k => tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 a b X Y k) (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 a b X Y) rfl (pb_k0_t2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 a b X Y) 4 (le_refl _)
  rw [View.read_writes_junk_eq_canon]
  funext y
  have hy0 : (y 0 : ℕ) < 512 := (y 0).isLt
  have hy1 : (y 1 : ℕ) < 2048 := (y 1).isLt
  refine View.canon_append_of_pieces _ _ _ ?_ y ?_
  · intro p hp x
    obtain ⟨k, _, h⟩ := (M p).mp hp
    rw [trip2] at h
    exact of_chunks _ k.val (fit k) p h x
  · have hk : (y 0 : ℕ) / 128 < 4 := by omega
    obtain ⟨p, hp, hm⟩ := chunk_over (taps31 (arg6.view.read (Elt Ideal) X) (arg14.view.read (Elt Ideal) Y)) ((y 0 : ℕ) / 128) (fit ⟨(y 0 : ℕ) / 128, hk⟩) y rfl
    refine ⟨p, (M p).mpr ⟨⟨(y 0 : ℕ) / 128, hk⟩, hk, ?_⟩, hm⟩
    rw [trip2]
    exact hp

theorem rows3 (a b : BitVec 32) (X : BufTy.Contents (Elt Ideal) arg7.view.ty) (X8 : BufTy.Contents (Elt Ideal) arg8.view.ty) (X9 : BufTy.Contents (Elt Ideal) arg9.view.ty) (Y : BufTy.Contents (Elt Ideal) arg15.view.ty) (n : ℕ) (hn : n = 4) :
    View.readCov (Val := Elt Ideal) arg16.view (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 a b X X8 X9 Y n)
      (Rect.unit ![0, 0] ![512, 2048] inb_S512x2048_S512x2048_0_0).toLoadRect = acted (arg7.view.read (Elt Ideal) X) (arg8.view.read (Elt Ideal) X8) (arg9.view.read (Elt Ideal) X9) (arg15.view.read (Elt Ideal) Y) := by
  subst hn
  have M := mem_loop (fun k => tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 a b X X8 X9 Y k) (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 a b X X8 X9 Y) rfl (pb_k0_t3_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 a b X X8 X9 Y) 4 (le_refl _)
  have T : ∀ k : Fin k0_t3_loop.trips, ∃ h2 h7 h8 h9, tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 a b X X8 X9 Y k = [⟨Rect.unit (k0_off35 k) ![128, 2048] h2,
      k0_pay257 (k0_pay250 (View.ld (Val := Elt Ideal) (arg15.view.read (Elt Ideal) Y) (Rect.unit (k0_off35 k) ![128, 2048] h2))
        (View.ld (Val := Elt Ideal) (arg7.view.read (Elt Ideal) X) (Rect.unit ![0, 0, 0] ![1, 1, 2048] h7))
        (View.ld (Val := Elt Ideal) (arg8.view.read (Elt Ideal) X8) (Rect.unit ![0, 0, 0] ![1, 1, 2048] h8))
        (View.ld (Val := Elt Ideal) (arg9.view.read (Elt Ideal) X9) (Rect.unit ![0, 0, 0] ![1, 1, 2048] h9)))⟩] := fun k => by
    unfold tripL_k0_t3 trip_k0_t3
    exact ⟨_, _, _, _, rfl⟩
  rw [View.readCov_eq_canon']
  funext y
  have hy0 : (y 0 : ℕ) < 512 := (y 0).isLt
  have hy1 : (y 1 : ℕ) < 2048 := (y 1).isLt
  have hy : (Rect.unit (s := S512x2048) ![0, 0] ![512, 2048] inb_S512x2048_S512x2048_0_0).toLoadRect.idx y = y := funext fun d => Fin.ext (by
    match d with
    | ⟨0, _⟩ => show 0 + 1 * (y 0 : ℕ) = y 0; omega
    | ⟨1, _⟩ => show 0 + 1 * (y 1 : ℕ) = y 1; omega)
  rw [hy]
  refine View.canon_apply_of_pieces _ _ ?_ y ?_
  · intro p hp x
    obtain ⟨k, _, h⟩ := (M p).mp hp
    obtain ⟨h2, h7, h8, h9, e⟩ := T k
    rw [e, ldV, ldV, ldV] at h
    obtain rfl := List.mem_singleton.mp h
    exact acted_at (arg7.view.read (Elt Ideal) X) (arg8.view.read (Elt Ideal) X8) (arg9.view.read (Elt Ideal) X9) (arg15.view.read (Elt Ideal) Y) k.val k.isLt _ h2 (k0_off35_eq k) x
  · have hk : (y 0 : ℕ) / 128 < 4 := by omega
    obtain ⟨h2, h7, h8, h9, e⟩ := T ⟨(y 0 : ℕ) / 128, hk⟩
    refine ⟨_, (M _).mpr ⟨⟨(y 0 : ℕ) / 128, hk⟩, hk, e ▸ List.mem_singleton.mpr rfl⟩, ?_⟩
    exact in_rows _ h2 (128 * ((y 0 : ℕ) / 128)) 0 (k0_off35_eq _) y (by omega) (by omega) (by omega) (by omega)

end

theorem res0 (x4 : Vec Ideal S1x512x2048 .f32) (x6 : Vec Ideal S1x2048x2048 .bf16) (U : Vec Ideal S512x2048 .bf16) (r : Fin 512) (j : Fin 256) :
    k0_pay258 (F := Ideal) (ldB x4 0 inb_S1x512x2048_S1x512x256_0_0_0) U (ldC x6 0 inb_S1x2048x2048_S1x2048x256_0_0_0) (ix3 0 r j) = oB x4 x6 U (ix3 0 r ⟨0 + j, by omega⟩) := by
  have e1 : ∀ a : Fin 2048, _ := fun a => ldC_at x6 0 inb_S1x2048x2048_S1x2048x256_0_0_0 (by omega) a j
  have e2 := ldB_at x4 0 inb_S1x512x2048_S1x512x256_0_0_0 (by omega) r j
  pointwise [k0_pay258, e1, e2, oB, proj]

theorem res1 (x4 : Vec Ideal S1x512x2048 .f32) (x6 : Vec Ideal S1x2048x2048 .bf16) (U : Vec Ideal S512x2048 .bf16) (r : Fin 512) (j : Fin 256) :
    k0_pay259 (F := Ideal) (ldB x4 256 inb_S1x512x2048_S1x512x256_0_0_256) U (ldC x6 256 inb_S1x2048x2048_S1x2048x256_0_0_256) (ix3 0 r j) = oB x4 x6 U (ix3 0 r ⟨256 + j, by omega⟩) := by
  have e1 : ∀ a : Fin 2048, _ := fun a => ldC_at x6 256 inb_S1x2048x2048_S1x2048x256_0_0_256 (by omega) a j
  have e2 := ldB_at x4 256 inb_S1x512x2048_S1x512x256_0_0_256 (by omega) r j
  pointwise [k0_pay259, e1, e2, oB, proj]

theorem res2 (x4 : Vec Ideal S1x512x2048 .f32) (x6 : Vec Ideal S1x2048x2048 .bf16) (U : Vec Ideal S512x2048 .bf16) (r : Fin 512) (j : Fin 256) :
    k0_pay260 (F := Ideal) (ldB x4 512 inb_S1x512x2048_S1x512x256_0_0_512) U (ldC x6 512 inb_S1x2048x2048_S1x2048x256_0_0_512) (ix3 0 r j) = oB x4 x6 U (ix3 0 r ⟨512 + j, by omega⟩) := by
  have e1 : ∀ a : Fin 2048, _ := fun a => ldC_at x6 512 inb_S1x2048x2048_S1x2048x256_0_0_512 (by omega) a j
  have e2 := ldB_at x4 512 inb_S1x512x2048_S1x512x256_0_0_512 (by omega) r j
  pointwise [k0_pay260, e1, e2, oB, proj]

theorem res3 (x4 : Vec Ideal S1x512x2048 .f32) (x6 : Vec Ideal S1x2048x2048 .bf16) (U : Vec Ideal S512x2048 .bf16) (r : Fin 512) (j : Fin 256) :
    k0_pay261 (F := Ideal) (ldB x4 768 inb_S1x512x2048_S1x512x256_0_0_768) U (ldC x6 768 inb_S1x2048x2048_S1x2048x256_0_0_768) (ix3 0 r j) = oB x4 x6 U (ix3 0 r ⟨768 + j, by omega⟩) := by
  have e1 : ∀ a : Fin 2048, _ := fun a => ldC_at x6 768 inb_S1x2048x2048_S1x2048x256_0_0_768 (by omega) a j
  have e2 := ldB_at x4 768 inb_S1x512x2048_S1x512x256_0_0_768 (by omega) r j
  pointwise [k0_pay261, e1, e2, oB, proj]

theorem res4 (x4 : Vec Ideal S1x512x2048 .f32) (x6 : Vec Ideal S1x2048x2048 .bf16) (U : Vec Ideal S512x2048 .bf16) (r : Fin 512) (j : Fin 256) :
    k0_pay263 (F := Ideal) (k0_pay262 (F := Ideal) (ldB x4 1024 inb_S1x512x2048_S1x512x256_0_0_1024) U (ldC x6 1024 inb_S1x2048x2048_S1x2048x256_0_0_1024)) (ix3 0 r j) = oB x4 x6 U (ix3 0 r ⟨1024 + j, by omega⟩) := by
  have e1 : ∀ a : Fin 2048, _ := fun a => ldC_at x6 1024 inb_S1x2048x2048_S1x2048x256_0_0_1024 (by omega) a j
  have e2 := ldB_at x4 1024 inb_S1x512x2048_S1x512x256_0_0_1024 (by omega) r j
  pointwise [k0_pay263, k0_pay262, e1, e2, oB, proj]

theorem res5 (x4 : Vec Ideal S1x512x2048 .f32) (x6 : Vec Ideal S1x2048x2048 .bf16) (U : Vec Ideal S512x2048 .bf16) (r : Fin 512) (j : Fin 256) :
    k0_pay264 (F := Ideal) (ldB x4 1280 inb_S1x512x2048_S1x512x256_0_0_1280) U (ldC x6 1280 inb_S1x2048x2048_S1x2048x256_0_0_1280) (ix3 0 r j) = oB x4 x6 U (ix3 0 r ⟨1280 + j, by omega⟩) := by
  have e1 : ∀ a : Fin 2048, _ := fun a => ldC_at x6 1280 inb_S1x2048x2048_S1x2048x256_0_0_1280 (by omega) a j
  have e2 := ldB_at x4 1280 inb_S1x512x2048_S1x512x256_0_0_1280 (by omega) r j
  pointwise [k0_pay264, e1, e2, oB, proj]

theorem res6 (x4 : Vec Ideal S1x512x2048 .f32) (x6 : Vec Ideal S1x2048x2048 .bf16) (U : Vec Ideal S512x2048 .bf16) (r : Fin 512) (j : Fin 256) :
    k0_pay265 (F := Ideal) (ldB x4 1536 inb_S1x512x2048_S1x512x256_0_0_1536) U (ldC x6 1536 inb_S1x2048x2048_S1x2048x256_0_0_1536) (ix3 0 r j) = oB x4 x6 U (ix3 0 r ⟨1536 + j, by omega⟩) := by
  have e1 : ∀ a : Fin 2048, _ := fun a => ldC_at x6 1536 inb_S1x2048x2048_S1x2048x256_0_0_1536 (by omega) a j
  have e2 := ldB_at x4 1536 inb_S1x512x2048_S1x512x256_0_0_1536 (by omega) r j
  pointwise [k0_pay265, e1, e2, oB, proj]

theorem res7 (x4 : Vec Ideal S1x512x2048 .f32) (x6 : Vec Ideal S1x2048x2048 .bf16) (U : Vec Ideal S512x2048 .bf16) (r : Fin 512) (j : Fin 256) :
    k0_pay1 (F := Ideal) (k0_pay266 (F := Ideal) (ldB x4 1792 inb_S1x512x2048_S1x512x256_0_0_1792)) U (ldC x6 1792 inb_S1x2048x2048_S1x2048x256_0_0_1792) (ix3 0 r j) = oB x4 x6 U (ix3 0 r ⟨1792 + j, by omega⟩) := by
  have e1 : ∀ a : Fin 2048, _ := fun a => ldC_at x6 1792 inb_S1x2048x2048_S1x2048x256_0_0_1792 (by omega) a j
  have e2 := ldB_at x4 1792 inb_S1x512x2048_S1x512x256_0_0_1792 (by omega) r j
  pointwise [k0_pay1, k0_pay266, e1, e2, oB, proj]

section
variable (c : Dev nD) (i : grid0.Coords) (arg2 : Memref sig .tc .vmem S1x512x2048 .bf16) (harg2 : arg2.IsWhole) (arg3 : Memref sig .tc .vmem S1x16x2048 .bf16) (harg3 : arg3.IsWhole) (arg4 : Memref sig .tc .vmem S1x16x2048 .bf16) (harg4 : arg4.IsWhole) (arg5 : Memref sig .tc .vmem S1x512x2048 .f32) (harg5 : arg5.IsWhole) (arg6 : Memref sig .tc .vmem S1x31x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x2048x2048 .bf16) (harg10 : arg10.IsWhole) (arg11 : Memref sig .tc .vmem S1x1x2048x512 .f32) (harg11 : arg11.IsWhole) (arg12 : Memref sig .tc .vmem S1x512x2048 .f32) (harg12 : arg12.IsWhole) (arg13 : Memref sig .tc .vmem S1x2048x512 .bf16) (harg13 : arg13.IsWhole) (arg14 : Memref sig .tc .vmem S544x2048 .f32) (harg14 : arg14.IsWhole) (arg15 : Memref sig .tc .vmem S512x2048 .f32) (harg15 : arg15.IsWhole) (arg16 : Memref sig .tc .vmem S512x2048 .bf16) (harg16 : arg16.IsWhole)

theorem out10 (x0 : Vec Ideal S1x512x2048 .bf16) (x1 x2 : Vec Ideal S1x16x2048 .bf16) (x3 : Vec Ideal S1x512x2048 .f32) (x4 : Vec Ideal S1x31x2048 .f32) (x5 x6 x7 : Vec Ideal S1x1x2048 .f32)
    (x8 : Vec Ideal S1x2048x2048 .bf16) (x9 : Vec Ideal S1x1x2048x512 .f32) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = oB x3 x8 (acted x5 x6 x7 (taps31 x4 (ext i x0 x1 x2))) := by
  frame_out
  rw [rows3, rows2, rows1, harg2.read_unread, harg6.read_unread, harg7.read_unread, harg8.read_unread, harg9.read_unread]
  · generalize acted x5 x6 x7 (taps31 x4 (ext i x0 x1 x2)) = U
    funext y
    have hy : (y 2 : ℕ) < 2048 := (y 2).isLt
    refine View.canon_apply_of_pieces (oB x3 x8 U) _ ?_ y ?_
    · intro p hp x
      simp only [List.mem_cons, List.not_mem_nil, or_false] at hp
      rcases hp with rfl | rfl | rfl | rfl | rfl | rfl | rfl | rfl
      · exact block_at 1792 inb_S1x512x2048_S1x512x256_0_0_1792 (by omega) _ _ (res7 x3 x8 U) x
      · exact block_at 1536 inb_S1x512x2048_S1x512x256_0_0_1536 (by omega) _ _ (res6 x3 x8 U) x
      · exact block_at 1280 inb_S1x512x2048_S1x512x256_0_0_1280 (by omega) _ _ (res5 x3 x8 U) x
      · exact block_at 1024 inb_S1x512x2048_S1x512x256_0_0_1024 (by omega) _ _ (res4 x3 x8 U) x
      · exact block_at 768 inb_S1x512x2048_S1x512x256_0_0_768 (by omega) _ _ (res3 x3 x8 U) x
      · exact block_at 512 inb_S1x512x2048_S1x512x256_0_0_512 (by omega) _ _ (res2 x3 x8 U) x
      · exact block_at 256 inb_S1x512x2048_S1x512x256_0_0_256 (by omega) _ _ (res1 x3 x8 U) x
      · exact block_at 0 inb_S1x512x2048_S1x512x256_0_0_0 (by omega) _ _ (res0 x3 x8 U) x
    · simp only [List.mem_cons, List.not_mem_nil, or_false, exists_eq_or_imp, exists_eq_left]
      have c : (1792 ≤ (y 2 : ℕ) ∧ (y 2 : ℕ) < 1792 + 256) ∨ (1536 ≤ (y 2 : ℕ) ∧ (y 2 : ℕ) < 1536 + 256) ∨ (1280 ≤ (y 2 : ℕ) ∧ (y 2 : ℕ) < 1280 + 256) ∨ (1024 ≤ (y 2 : ℕ) ∧ (y 2 : ℕ) < 1024 + 256) ∨ (768 ≤ (y 2 : ℕ) ∧ (y 2 : ℕ) < 768 + 256) ∨ (512 ≤ (y 2 : ℕ) ∧ (y 2 : ℕ) < 512 + 256) ∨ (256 ≤ (y 2 : ℕ) ∧ (y 2 : ℕ) < 256 + 256) ∨ (0 ≤ (y 2 : ℕ) ∧ (y 2 : ℕ) < 0 + 256) := by omega
      rcases c with c | c | c | c | c | c | c | c
      · exact Or.inl (in_block 1792 inb_S1x512x2048_S1x512x256_0_0_1792 y c.1 c.2)
      · exact Or.inr (Or.inl (in_block 1536 inb_S1x512x2048_S1x512x256_0_0_1536 y c.1 c.2))
      · exact Or.inr (Or.inr (Or.inl (in_block 1280 inb_S1x512x2048_S1x512x256_0_0_1280 y c.1 c.2)))
      · exact Or.inr (Or.inr (Or.inr (Or.inl (in_block 1024 inb_S1x512x2048_S1x512x256_0_0_1024 y c.1 c.2))))
      · exact Or.inr (Or.inr (Or.inr (Or.inr (Or.inl (in_block 768 inb_S1x512x2048_S1x512x256_0_0_768 y c.1 c.2)))))
      · exact Or.inr (Or.inr (Or.inr (Or.inr (Or.inr (Or.inl (in_block 512 inb_S1x512x2048_S1x512x256_0_0_512 y c.1 c.2))))))
      · exact Or.inr (Or.inr (Or.inr (Or.inr (Or.inr (Or.inr (Or.inl (in_block 256 inb_S1x512x2048_S1x512x256_0_0_256 y c.1 c.2)))))))
      · exact Or.inr (Or.inr (Or.inr (Or.inr (Or.inr (Or.inr (Or.inr (in_block 0 inb_S1x512x2048_S1x512x256_0_0_0 y c.1 c.2)))))))
  all_goals rfl

theorem out11 (x0 : Vec Ideal S1x512x2048 .bf16) (x1 x2 : Vec Ideal S1x16x2048 .bf16) (x3 : Vec Ideal S1x512x2048 .f32) (x4 : Vec Ideal S1x31x2048 .f32) (x5 x6 x7 : Vec Ideal S1x1x2048 .f32)
    (x8 : Vec Ideal S1x2048x2048 .bf16) (x9 : Vec Ideal S1x1x2048x512 .f32) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = k0_pay2 (F := Ideal) x9 := by
  frame_out

end

end Cert.ConvA

end
-- ==== Proof.BridgeA.lean ====
module

public import proofs.«01_k».proof.Proof.ConvA

@[expose] public section

set_option maxRecDepth 16384

/-! The conformer's convolution: what the kernel leaves in its results, over the program's arguments. -/

noncomputable section
open Idealize.ShloMosaic Idealize.ShloMosaic.TcCoe Idealize.SL.Sem
open Cert.Row Cert.Tiles Cert.Kernel6Ideal Cert.Kernel6Ideal.Gen Cert.Kernel6Ideal.Value
open Cert.RefConvA (mean lnorm swish actrow pd15 conv31 r259 r264)
open Cert.ConvC (mem_loop Fit pc pc_eq ldE ldW chunks of_chunks in_rows chunk_mem chunk_over FitR ldR ldS Fit3 ldB ldB_at block_at in_block oB above_zero below_last lead3)
namespace Cert.ConvA

variable (m : (ℓ : Loc nD τ sig) → Buf (Elt Ideal) ℓ)

theorem idx : ∀ t : Fin cfg0.N, win0_0.index t = ![t.val / 16, t.val % 16, 0] ∧ win0_1.index t = ![t.val / 16, 32 * (t.val % 16) - 1, 0]
    ∧ win0_2.index t = ![t.val / 16, min (32 * (t.val % 16 + 1)) 511, 0] ∧ win0_3.index t = ![t.val / 16, t.val % 16, 0]
    ∧ win0_4.index t = ![0, 0, 0] ∧ win0_5.index t = ![0, 0, 0] ∧ win0_6.index t = ![0, 0, 0] ∧ win0_7.index t = ![0, 0, 0] ∧ win0_8.index t = ![0, 0, 0]
    ∧ win0_9.index t = ![0, t.val, 0, 1] ∧ win0_10.index t = ![t.val / 16, t.val % 16, 0] ∧ win0_11.index t = ![t.val, 0, 0] :=
  (by decide +kernel : ∀ t : Fin grid0.N, _)

theorem coord : ∀ t : Fin cfg0.N, (grid0.coords t 1).val = t.val % 16 :=
  (by decide +kernel : ∀ t : Fin grid0.N, _)

abbrev B0 (c : Dev nD) (t : Fin cfg0.N) : Vec Ideal S1x512x2048 .bf16 := iblk m c 0 t
abbrev B1 (c : Dev nD) (t : Fin cfg0.N) : Vec Ideal S1x16x2048 .bf16 := iblk m c 1 t
abbrev B2 (c : Dev nD) (t : Fin cfg0.N) : Vec Ideal S1x16x2048 .bf16 := iblk m c 2 t
abbrev B3 (c : Dev nD) (t : Fin cfg0.N) : Vec Ideal S1x512x2048 .f32 := iblk m c 3 t
abbrev B4 (c : Dev nD) (t : Fin cfg0.N) : Vec Ideal S1x31x2048 .f32 := iblk m c 4 t
abbrev B5 (c : Dev nD) (t : Fin cfg0.N) : Vec Ideal S1x1x2048 .f32 := iblk m c 5 t
abbrev B6 (c : Dev nD) (t : Fin cfg0.N) : Vec Ideal S1x1x2048 .f32 := iblk m c 6 t
abbrev B7 (c : Dev nD) (t : Fin cfg0.N) : Vec Ideal S1x1x2048 .f32 := iblk m c 7 t
abbrev B8 (c : Dev nD) (t : Fin cfg0.N) : Vec Ideal S1x2048x2048 .bf16 := iblk m c 8 t
abbrev B9 (c : Dev nD) (t : Fin cfg0.N) : Vec Ideal S1x1x2048x512 .f32 := iblk m c 9 t
abbrev a0 (c : Dev nD) : S2x8192x2048.Idx → EReal := m ((c : Thread nD τ).loc main_arg0)
abbrev a1 (c : Dev nD) : S2x8192x2048.Idx → EReal := m ((c : Thread nD τ).loc main_arg1)
abbrev a2 (c : Dev nD) : S2x31x2048.Idx → EReal := m ((c : Thread nD τ).loc main_arg2)
abbrev a3 (c : Dev nD) : S2x2048.Idx → EReal := m ((c : Thread nD τ).loc main_arg3)
abbrev a4 (c : Dev nD) : S2x2048.Idx → EReal := m ((c : Thread nD τ).loc main_arg4)
abbrev a5 (c : Dev nD) : S2x2048.Idx → EReal := m ((c : Thread nD τ).loc main_arg5)
abbrev a6 (c : Dev nD) : S2x2048x2048.Idx → EReal := m ((c : Thread nD τ).loc main_arg6)
abbrev a7 (c : Dev nD) : S4x32x2048x1024.Idx → EReal := m ((c : Thread nD τ).loc main_arg7)

theorem b0 (c : Dev nD) (t : Fin cfg0.N) (r : Fin 512) (d : Fin 2048) (b : Fin 2) (s : Fin 8192) (hb : b.val = t.val / 16) (hs : s.val = 512 * (t.val % 16) + r.val) :
    B0 m c t (ix3 0 r d) = a0 m c (ix3 b s d) := by
  blk_ext [iblk, V, idx t]
theorem b1 (c : Dev nD) (t : Fin cfg0.N) (r : Fin 16) (d : Fin 2048) (b : Fin 2) (s : Fin 8192) (hb : b.val = t.val / 16) (hs : s.val = 16 * (32 * (t.val % 16) - 1) + r.val) :
    B1 m c t (ix3 0 r d) = a0 m c (ix3 b s d) := by
  blk_ext [iblk, V, idx t]
theorem b2 (c : Dev nD) (t : Fin cfg0.N) (r : Fin 16) (d : Fin 2048) (b : Fin 2) (s : Fin 8192) (hb : b.val = t.val / 16) (hs : s.val = 16 * min (32 * (t.val % 16 + 1)) 511 + r.val) :
    B2 m c t (ix3 0 r d) = a0 m c (ix3 b s d) := by
  blk_ext [iblk, V, idx t]
theorem b3 (c : Dev nD) (t : Fin cfg0.N) (r : Fin 512) (d : Fin 2048) (b : Fin 2) (s : Fin 8192) (hb : b.val = t.val / 16) (hs : s.val = 512 * (t.val % 16) + r.val) :
    B3 m c t (ix3 0 r d) = a1 m c (ix3 b s d) := by
  blk_ext [iblk, V, idx t]
theorem b4 (c : Dev nD) (t : Fin cfg0.N) (n : Fin 31) (d : Fin 2048) : B4 m c t (ix3 0 n d) = a2 m c (ix3 0 n d) := by
  blk_ext [iblk, V, idx t]
theorem b5 (c : Dev nD) (t : Fin cfg0.N) (d : Fin 2048) : B5 m c t (ix3 0 0 d) = a3 m c (ix2 0 d) := by
  blk_point [iblk, V, idx t]
theorem b6 (c : Dev nD) (t : Fin cfg0.N) (d : Fin 2048) : B6 m c t (ix3 0 0 d) = a4 m c (ix2 0 d) := by
  blk_point [iblk, V, idx t]
theorem b7 (c : Dev nD) (t : Fin cfg0.N) (d : Fin 2048) : B7 m c t (ix3 0 0 d) = a5 m c (ix2 0 d) := by
  blk_point [iblk, V, idx t]
theorem b8 (c : Dev nD) (t : Fin cfg0.N) (a d : Fin 2048) : B8 m c t (ix3 0 a d) = a6 m c (ix3 0 a d) := by
  blk_point [iblk, V, idx t]
theorem b9 (c : Dev nD) (t : Fin cfg0.N) (a : Fin 2048) (j : Fin 512) (e : Fin 32) (J : Fin 1024) (he : e.val = t.val) (hJ : J.val = 512 + j.val) :
    B9 m c t (ix4 0 0 a j) = a7 m c (ix4 0 e a J) := by
  blk_ext [iblk, V, idx t]

theorem pay253_at (i : grid0.Coords) (x : Vec Ideal S1x16x2048 .bf16) (r : Fin 16) (d : Fin 2048) :
    k0_pay253 (F := Ideal) i x (ix2 r d) = if 0 < (i 1).val then x (ix3 0 r d) else 0 := by
  have e := above_zero (i 1)
  by_cases h : 0 < (i 1).val
  · rw [if_pos h] at e
    rw [if_pos h]
    unfold k0_pay253
    rw [e]
    pointwise []
  · rw [if_neg h] at e
    rw [if_neg h]
    unfold k0_pay253
    rw [e]
    pointwise []

theorem pay254_at (i : grid0.Coords) (x : Vec Ideal S1x16x2048 .bf16) (r : Fin 16) (d : Fin 2048) :
    k0_pay254 (F := Ideal) i x (ix2 r d) = if (i 1).val < 15 then x (ix3 0 r d) else 0 := by
  have e := below_last (i 1)
  by_cases h : (i 1).val < 15
  · rw [if_pos h] at e
    rw [if_pos h]
    unfold k0_pay254
    rw [e]
    pointwise []
  · rw [if_neg h] at e
    rw [if_neg h]
    unfold k0_pay254
    rw [e]
    pointwise []

/-- A row that a tap reads is the padded position. -/
theorem ext_pd (c : Dev nD) (t : Fin cfg0.N) (q : Fin 544) (d : Fin 2048) (b : Fin 2) (hb : b.val = t.val / 16) (h1 : 1 ≤ q.val) (h2 : q.val ≤ 543) (n : ℕ)
    (hn : n + 1 = 512 * (t.val % 16) + q.val) :
    ext (grid0.coords t) (B0 m c t) (B1 m c t) (B2 m c t) (ix2 q d) = pd15 (a0 m c) b n d := by
  have ht : t.val < 32 := t.isLt
  unfold ext pd15
  by_cases c1 : q.val < 16
  · rw [dif_pos (show ((ix2 q d : S544x2048.Idx) 0 : ℕ) < 16 from c1)]
    refine (pay253_at _ _ _ _).trans ?_
    rw [coord t]
    by_cases c2 : 0 < t.val % 16
    · rw [if_pos c2, dif_pos (by omega)]
      exact b1 m c t _ _ _ _ hb (by show n - 15 = _ + q.val; omega)
    · rw [if_neg c2, dif_neg (by omega)]
  · rw [dif_neg (show ¬ ((ix2 q d : S544x2048.Idx) 0 : ℕ) < 16 from c1)]
    by_cases c3 : q.val < 528
    · rw [dif_pos (show ((ix2 q d : S544x2048.Idx) 0 : ℕ) < 528 from c3), dif_pos (by omega)]
      exact b0 m c t _ _ _ _ hb (by show n - 15 = _ + (q.val - 16); omega)
    · rw [dif_neg (show ¬ ((ix2 q d : S544x2048.Idx) 0 : ℕ) < 528 from c3)]
      refine (pay254_at _ _ _ _).trans ?_
      rw [coord t]
      by_cases c4 : t.val % 16 < 15
      · rw [if_pos c4, dif_pos (by omega)]
        exact b2 m c t _ _ _ _ hb (by show n - 15 = _ + (q.val - 528); omega)
      · rw [if_neg c4, dif_neg (by omega)]

theorem taps_conv (c : Dev nD) (t : Fin cfg0.N) (r : Fin 512) (d : Fin 2048) (b : Fin 2) (hb : b.val = t.val / 16) (s : ℕ) (hs : s = 512 * (t.val % 16) + r.val) :
    taps31 (B4 m c t) (ext (grid0.coords t) (B0 m c t) (B1 m c t) (B2 m c t)) (ix2 r d) = conv31 (a0 m c) (a2 m c) b s d := by
  refine Finset.sum_congr rfl fun n _ => ?_
  exact congr (congrArg HMul.hMul (ext_pd m c t ⟨n.val + 1 + r.val, by omega⟩ d b hb (by show 1 ≤ n.val + 1 + r.val; omega) (by show n.val + 1 + r.val ≤ 543; omega) (n.val + s)
    (by show n.val + s + 1 = _ + (n.val + 1 + r.val); omega))) (b4 m c t n d)

/-- The first result: the residual and the activated taps' projection. -/
def mixed (c : Dev nD) : S2x8192x2048.Idx → EReal := fun i =>
  a1 m c (ix3 (i 0) (i 1) (i 2)) + proj (actrow (fun q => conv31 (a0 m c) (a2 m c) (i 0) (i 1).val q) (fun i => a3 m c (ix2 0 i)) (fun i => a4 m c (ix2 0 i)) (fun i => a5 m c (ix2 0 i))) (fun a => a6 m c (ix3 0 a (i 2)))

/-- The second result: the cast stretch of the weights. -/
def half (c : Dev nD) : S32x2048x512.Idx → EReal := fun i =>
  a7 m c (ix4 0 (i 0) (i 1) ⟨512 + (i 2).val, by have h : (i 2 : ℕ) < 512 := (i 2).isLt; omega⟩)

theorem point10 (c : Dev nD) (t : Fin cfg0.N) (r : Fin 512) (d : Fin 2048) (b : Fin 2) (s : Fin 8192) (hb : b.val = t.val / 16) (hs : s.val = 512 * (t.val % 16) + r.val) :
    oB (B3 m c t) (B8 m c t) (acted (B5 m c t) (B6 m c t) (B7 m c t) (taps31 (B4 m c t) (ext (grid0.coords t) (B0 m c t) (B1 m c t) (B2 m c t)))) (ix3 0 r d) = mixed m c (ix3 b s d) := by
  show B3 m c t (ix3 0 r d) + proj (actrow (fun i => taps31 (B4 m c t) (ext (grid0.coords t) (B0 m c t) (B1 m c t) (B2 m c t)) (ix2 r i)) (fun i => B5 m c t (ix3 0 0 i)) (fun i => B6 m c t (ix3 0 0 i)) (fun i => B7 m c t (ix3 0 0 i))) (fun a => B8 m c t (ix3 0 a d)) = _
  rw [b3 m c t r d b s hb hs, funext fun a => taps_conv m c t r a b hb s.val hs, funext fun a => b5 m c t a, funext fun a => b6 m c t a, funext fun a => b7 m c t a, funext fun a => b8 m c t a d]
  rfl

theorem pay2_at (x : Vec Ideal S1x1x2048x512 .f32) (a : Fin 2048) (j : Fin 512) : k0_pay2 (F := Ideal) x (ix3 0 a j) = x (ix4 0 0 a j) := by
  pointwise [k0_pay2]

theorem below10 (t : Fin cfg0.N) (y : S1x512x2048.Idx) : 512 * (t.val % 16) + (y 1).val < 8192 := by
  have h2 : (y 1).val < 512 := (y 1).isLt
  omega

theorem emb10 (t : Fin cfg0.N) (y : S1x512x2048.Idx) :
    ((View.whole main_v4_0).slice (win0_10.rect t)).emb y = ix3 ⟨t.val / 16, by have h : t.val < 32 := t.isLt; omega⟩ ⟨512 * (t.val % 16) + (y 1).val, below10 t y⟩ (y 2) := by
  blk_ext [idx t]

theorem emb11 (t : Fin cfg0.N) (y : S1x2048x512.Idx) :
    ((View.whole main_v4_1).slice (win0_11.rect t)).emb y = ix3 ⟨t.val, t.isLt⟩ (y 1) (y 2) := by
  blk_ext [idx t]

theorem final10 (c : Dev nD) : (dats m 0 c).arrAt 10 cfg0.N = mixed m c := by
  refine (dats m 0 c).arrAt_eq_of_covers 10 _ (by decide +kernel) fun t _ y => ?_
  have hb : oB (B3 m c t) (B8 m c t) (acted (B5 m c t) (B6 m c t) (B7 m c t) (taps31 (B4 m c t) (ext (grid0.coords t) (B0 m c t) (B1 m c t) (B2 m c t)))) y
      = mixed m c (((View.whole main_v4_0).slice (win0_10.rect t)).emb y) := by
    rw [emb10 t y]
    exact (congrArg _ (lead3 y)).trans (point10 m c t (y 1) (y 2) _ _ rfl rfl)
  blk_simp
  rw [after0_10]
  dsimp only [outsAt0]
  rw [out10]
  exact hb

theorem final11 (c : Dev nD) : (dats m 0 c).arrAt 11 cfg0.N = half m c := by
  refine (dats m 0 c).arrAt_eq_of_covers 11 _ (by decide +kernel) fun t _ y => ?_
  have hb : k0_pay2 (F := Ideal) (B9 m c t) y = half m c (((View.whole main_v4_1).slice (win0_11.rect t)).emb y) := by
    rw [emb11 t y]
    exact (congrArg _ (lead3 y)).trans ((pay2_at _ (y 1) (y 2)).trans (b9 m c t (y 1) (y 2) _ _ rfl rfl))
  blk_simp
  rw [after0_11]
  dsimp only [outsAt0]
  rw [out11]
  exact hb

theorem result10 (c : Dev nD) : (dats m 0 c).arrAt 10 cfg0.N = Cert.Reference6Ideal.Read.val_main_v259 (F := Ideal) (a0 m c) (a1 m c) (a2 m c) (a3 m c) (a4 m c) (a5 m c) (a6 m c) := by
  rw [final10 m c]
  funext i
  rw [(by funext a; fin_cases a <;> rfl : i = ix3 (i 0) (i 1) (i 2))]
  exact (r259 (a0 m c) (a1 m c) (a2 m c) (a3 m c) (a4 m c) (a5 m c) (a6 m c) (i 0) (i 1) (i 2)).symm

theorem result11 (c : Dev nD) : (dats m 0 c).arrAt 11 cfg0.N = Cert.Reference6Ideal.Read.val_main_v264 (F := Ideal) (a7 m c) := by
  rw [final11 m c]
  funext i
  rw [(by funext a; fin_cases a <;> rfl : i = ix3 (i 0) (i 1) (i 2))]
  exact (r264 (a7 m c) (i 0) (i 1) (i 2)).symm

end Cert.ConvA

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Pair
public import proofs.«01_k».proof.Proof.ProjA
public import proofs.«01_k».proof.Proof.ProjC
public import proofs.«01_k».proof.Proof.Mem
public import Idealize.ShloMosaic.Lib.Claim
public import Idealize.ShloMosaic.Adequacy
public import Idealize.ShloMosaic.Init
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.ConvC
public import proofs.«01_k».proof.Proof.BridgeA

@[expose] public section

set_option maxRecDepth 16384

noncomputable section

namespace Cert.Proof

open Idealize.ShloMosaic Idealize.ShloMosaic.TcCoe Idealize.SL.Sem

/-- The side conditions of the precondition's operations. -/
instance facts_finite : Cert.Pre_finite.Facts where
  bcast_S_S2x8192x2048 := by decide
  bcast_S_S4x2048 := by decide
  bcast_S_S4x2048x2048 := by decide
  bcast_S_S2x256x2048 := by decide
  bcast_S_S4x2048x8 := by decide
  bcast_S_S4x8 := by decide
  bcast_S_S4x2048x32 := by decide
  bcast_S_S4x32 := by decide

/-- The precondition says every argument it names is real. -/
theorem real_args (m : (ℓ : Loc Cert.KernelIdeal.nD Cert.KernelIdeal.τ Cert.KernelIdeal.sig) → Buf (Elt Ideal) ℓ)
    (h : Cert.Pre_KernelIdeal_finite m) (c : Dev Cert.KernelIdeal.nD) : Cert.Route.Fin11 m c where
  h0 := fun i => Cert.Row.re_of_abs Cert.Row.top32 (congrFun (h c).1 i)
  h1 := fun i => Cert.Row.re_of_abs Cert.Row.top32 (congrFun (h c).2.1 i)
  h2 := fun i => Cert.Row.re_of_abs Cert.Row.top32 (congrFun (h c).2.2.1 i)
  h3 := fun i => Cert.Row.re_of_abs Cert.Row.top16 (congrFun (h c).2.2.2.1 i)
  h4 := fun i => Cert.Row.re_of_abs Cert.Row.top16 (congrFun (h c).2.2.2.2.1 i)
  h5 := fun i => Cert.Row.re_of_abs Cert.Row.top32 (congrFun (h c).2.2.2.2.2.1 i)
  h6 := fun i => Cert.Row.re_of_abs Cert.Row.top32 (congrFun (h c).2.2.2.2.2.2.1 i)
  h7 := fun i => Cert.Row.re_of_abs Cert.Row.top32 (congrFun (h c).2.2.2.2.2.2.2.1 i)
  h8 := fun i => Cert.Row.re_of_abs Cert.Row.top32 (congrFun (h c).2.2.2.2.2.2.2.2.1 i)
  h9 := fun i => Cert.Row.re_of_abs Cert.Row.top32 (congrFun (h c).2.2.2.2.2.2.2.2.2.1 i)
  h10 := fun i => Cert.Row.re_of_abs Cert.Row.top32 (congrFun (h c).2.2.2.2.2.2.2.2.2.2 i)

theorem frame_Kernel : Cert.quiescent_Kernel := by
  intro m g _
  exact Cert.Kernel.Gen.frame m g

theorem frame_KernelIdeal : Cert.quiescent_KernelIdeal := by
  intro m g _
  exact Cert.KernelIdeal.Gen.frame m g

theorem frame_KernelIdeal_finite : Cert.quiescent_KernelIdeal_pre_finite := by
  intro m g _
  exact Cert.KernelIdeal.Gen.frame m g

theorem frame_ReferenceIdeal : Cert.quiescent_ReferenceIdeal := by
  intro m g _
  refine (θ_run _ _ _).mono (fun r h => ⟨fun c => (h c).2.2.2, ?_⟩) (Cert.ReferenceIdeal.Value.run m g)
  exact sem_eq_zero_of_no_sems rfl _

theorem frame_ReferenceIdeal_finite : Cert.quiescent_ReferenceIdeal_pre_finite := by
  intro m g _
  exact frame_ReferenceIdeal m g trivial

theorem algebraic : Cert.algebraic_KernelIdeal_ReferenceIdeal_pre_finite := by
  pair_intro
  · run_from Cert.KernelIdeal.Value.run_blocks m g
  · refine (θ_run _ _ _).mono (fun r h c => ⟨?_, ?_, ?_, (h c).2.2.2⟩) (Cert.ReferenceIdeal.Value.run m' g')
    · refine ((h c).1.trans (Cert.ReferenceIdeal.Read.val_main_v233_eq _)).trans ?_
      obtain ⟨h0, h1, h2, h3, h4, h5, h6, h7, h8, h9, h10, h11⟩ := hagree c
      refine Eq.trans ?_ (Cert.Route.result10 (real_args m hpre c)).symm
      show Cert.ReferenceIdeal.Read.val_main_v233 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = _
      rw [h0, h1, h2, h3, h4, h5, h6, h7, h8, h9, h10]
    · refine ((h c).2.1.trans (Cert.ReferenceIdeal.Read.val_main_v243_eq _)).trans ?_
      obtain ⟨h0, h1, h2, h3, h4, h5, h6, h7, h8, h9, h10, h11⟩ := hagree c
      refine Eq.trans ?_ (Cert.Route.result11 (real_args m hpre c)).symm
      show Cert.ReferenceIdeal.Read.val_main_v243 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = _
      rw [h0, h1, h2, h3, h4, h5, h6, h7, h8, h9, h10]
    · refine ((h c).2.2.1.trans (Cert.ReferenceIdeal.Read.val_main_v246_eq _)).trans ?_
      obtain ⟨h0, h1, h2, h3, h4, h5, h6, h7, h8, h9, h10, h11⟩ := hagree c
      refine Eq.trans ?_ (Cert.Route.result12 (m := m) (c := c)).symm
      show Cert.ReferenceIdeal.Read.val_main_v246 (F := Ideal) (m' ((c.tc : Thread Cert.ReferenceIdeal.nD Cert.ReferenceIdeal.τ).loc Cert.ReferenceIdeal.main_arg11)) = _
      rw [h11]

theorem frame_Kernel2 : Cert.quiescent_Kernel2 := by
  intro m g _
  exact Cert.Kernel2.Gen.frame m g

theorem frame_Kernel2Ideal : Cert.quiescent_Kernel2Ideal := by
  intro m g _
  exact Cert.Kernel2Ideal.Gen.frame m g

theorem frame_Reference2Ideal : Cert.quiescent_Reference2Ideal := by
  intro m g _
  refine (θ_run _ _ _).mono (fun r h => ⟨fun c => (h c).2.2, ?_⟩) (Cert.Reference2Ideal.Value.run m g)
  exact sem_eq_zero_of_no_sems rfl _

theorem algebraic2 : Cert.algebraic_Kernel2Ideal_Reference2Ideal := by
  pair_intro
  · run_from Cert.Kernel2Ideal.Value.run_blocks m g
  · refine (θ_run _ _ _).mono (fun r h c => ⟨?_, ?_, (h c).2.2⟩) (Cert.Reference2Ideal.Value.run m' g')
    · refine ((h c).1.trans (Cert.Reference2Ideal.Read.val_main_v28_eq _ _ _)).trans ?_
      obtain ⟨h0, h1, h2, h3⟩ := hagree c
      refine Eq.trans ?_ (Cert.ProjA.result4 m c).symm
      show Cert.Reference2Ideal.Read.val_main_v28 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
      rw [h0, h1, h2]
    · refine ((h c).2.1.trans (Cert.Reference2Ideal.Read.val_main_v33_eq _)).trans ?_
      obtain ⟨h0, h1, h2, h3⟩ := hagree c
      refine Eq.trans ?_ (Cert.ProjA.result5 m c).symm
      show Cert.Reference2Ideal.Read.val_main_v33 (F := Ideal) (m' ((c.tc : Thread Cert.Reference2Ideal.nD Cert.Reference2Ideal.τ).loc Cert.Reference2Ideal.main_arg3)) = _
      rw [h3]

theorem frame_Kernel3 : Cert.quiescent_Kernel3 := by
  intro m g _
  exact Cert.Kernel3.Gen.frame m g

theorem frame_Kernel3Ideal : Cert.quiescent_Kernel3Ideal := by
  intro m g _
  exact Cert.Kernel3Ideal.Gen.frame m g

theorem frame_Reference3Ideal : Cert.quiescent_Reference3Ideal := by
  intro m g _
  refine (θ_run _ _ _).mono (fun r h => ⟨fun c => (h c).2.2, ?_⟩) (Cert.Reference3Ideal.Value.run m g)
  exact sem_eq_zero_of_no_sems rfl _

theorem algebraic3 : Cert.algebraic_Kernel3Ideal_Reference3Ideal := by
  pair_intro
  · run_from Cert.Kernel3Ideal.Value.run_blocks m g
  · refine (θ_run _ _ _).mono (fun r h c => ⟨?_, ?_, (h c).2.2⟩) (Cert.Reference3Ideal.Value.run m' g')
    · refine ((h c).1.trans (Cert.Reference3Ideal.Read.val_main_v21_eq _ _ _)).trans ?_
      obtain ⟨h0, h1, h2⟩ := hagree c
      refine Eq.trans ?_ (Cert.ProjC.result3 m c).symm
      show Cert.Reference3Ideal.Read.val_main_v21 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
      rw [h0, h1, h2]
    · refine ((h c).2.1.trans (Cert.Reference3Ideal.Read.val_main_v24_eq _ _ _)).trans ?_
      obtain ⟨h0, h1, h2⟩ := hagree c
      refine Eq.trans ?_ (Cert.ProjC.result4 m c).symm
      show Cert.Reference3Ideal.Read.val_main_v24 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
      rw [h0, h1, h2]

theorem frame_Kernel4 : Cert.quiescent_Kernel4 := by
  intro m g _
  exact Cert.Kernel4.Gen.frame m g

theorem frame_Kernel4Ideal : Cert.quiescent_Kernel4Ideal := by
  intro m g _
  exact Cert.Kernel4Ideal.Gen.frame m g

theorem frame_Reference4Ideal : Cert.quiescent_Reference4Ideal := by
  intro m g _
  refine (θ_run _ _ _).mono (fun r h => ⟨fun c => (h c).2.2, ?_⟩) (Cert.Reference4Ideal.Value.run m g)
  exact sem_eq_zero_of_no_sems rfl _

theorem algebraic4 : Cert.algebraic_Kernel4Ideal_Reference4Ideal := by
  pair_intro
  · run_from Cert.Kernel4Ideal.Value.run_blocks m g
  · refine (θ_run _ _ _).mono (fun r h c => ⟨?_, ?_, (h c).2.2⟩) (Cert.Reference4Ideal.Value.run m' g')
    · refine ((h c).1.trans (Cert.Reference4Ideal.Read.val_main_v19_eq _ _ _)).trans ?_
      obtain ⟨h0, h1, h2, h3⟩ := hagree c
      refine Eq.trans ?_ (Cert.Mem.result4 m c).symm
      show Cert.Reference4Ideal.Read.val_main_v19 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = _
      rw [h0, h1, h2]
    · refine ((h c).2.1.trans (Cert.Reference4Ideal.Read.val_main_v24_eq _ _ _)).trans ?_
      obtain ⟨h0, h1, h2, h3⟩ := hagree c
      refine Eq.trans ?_ (Cert.Mem.result5 m c).symm
      show Cert.Reference4Ideal.Read.val_main_v24 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg3)) = _
      rw [h0, h1, h3]

theorem frame_Kernel5 : Cert.quiescent_Kernel5 := by
  intro m g _
  exact Cert.Kernel5.Gen.frame m g

theorem frame_Kernel5Ideal : Cert.quiescent_Kernel5Ideal := by
  intro m g _
  exact Cert.Kernel5Ideal.Gen.frame m g

theorem frame_Reference5Ideal : Cert.quiescent_Reference5Ideal := by
  intro m g _
  refine (θ_run _ _ _).mono (fun r h => ⟨fun c => (h c).2.2, ?_⟩) (Cert.Reference5Ideal.Value.run m g)
  exact sem_eq_zero_of_no_sems rfl _

theorem algebraic5 : Cert.algebraic_Kernel5Ideal_Reference5Ideal := by
  pair_intro
  · run_from Cert.Kernel5Ideal.Value.run_blocks m g
  · refine (θ_run _ _ _).mono (fun r h c => ⟨?_, ?_, (h c).2.2⟩) (Cert.Reference5Ideal.Value.run m' g')
    · refine ((h c).1.trans (Cert.Reference5Ideal.Read.val_main_v29_eq _ _ _ _ _)).trans ?_
      obtain ⟨h0, h1, h2, h3, h4, h5⟩ := hagree c
      refine Eq.trans ?_ (Cert.ConvC.result8 m c).symm
      show Cert.Reference5Ideal.Read.val_main_v29 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) = _
      rw [h0, h1, h2, h3, h4]
    · refine ((h c).2.1.trans (Cert.Reference5Ideal.Read.val_main_v34_eq _)).trans ?_
      obtain ⟨h0, h1, h2, h3, h4, h5⟩ := hagree c
      refine Eq.trans ?_ (Cert.ConvC.result9 m c).symm
      show Cert.Reference5Ideal.Read.val_main_v34 (F := Ideal) (m' ((c.tc : Thread Cert.Reference5Ideal.nD Cert.Reference5Ideal.τ).loc Cert.Reference5Ideal.main_arg5)) = _
      rw [h5]

theorem frame_Kernel6 : Cert.quiescent_Kernel6 := by
  intro m g _
  exact Cert.Kernel6.Gen.frame m g

theorem frame_Kernel6Ideal : Cert.quiescent_Kernel6Ideal := by
  intro m g _
  exact Cert.Kernel6Ideal.Gen.frame m g

theorem frame_Reference6Ideal : Cert.quiescent_Reference6Ideal := by
  intro m g _
  refine (θ_run _ _ _).mono (fun r h => ⟨fun c => (h c).2.2, ?_⟩) (Cert.Reference6Ideal.Value.run m g)
  exact sem_eq_zero_of_no_sems rfl _

theorem algebraic6 : Cert.algebraic_Kernel6Ideal_Reference6Ideal := by
  pair_intro
  · run_from Cert.Kernel6Ideal.Value.run_blocks m g
  · refine (θ_run _ _ _).mono (fun r h c => ⟨?_, ?_, (h c).2.2⟩) (Cert.Reference6Ideal.Value.run m' g')
    · refine ((h c).1.trans (Cert.Reference6Ideal.Read.val_main_v259_eq _)).trans ?_
      obtain ⟨h0, h1, h2, h3, h4, h5, h6, h7⟩ := hagree c
      refine Eq.trans ?_ (Cert.ConvA.result10 m c).symm
      show Cert.Reference6Ideal.Read.val_main_v259 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) = _
      rw [h0, h1, h2, h3, h4, h5, h6]
    · refine ((h c).2.1.trans (Cert.Reference6Ideal.Read.val_main_v264_eq _)).trans ?_
      obtain ⟨h0, h1, h2, h3, h4, h5, h6, h7⟩ := hagree c
      refine Eq.trans ?_ (Cert.ConvA.result11 m c).symm
      show Cert.Reference6Ideal.Read.val_main_v264 (F := Ideal) (m' ((c.tc : Thread Cert.Reference6Ideal.nD Cert.Reference6Ideal.τ).loc Cert.Reference6Ideal.main_arg7)) = _
      rw [h7]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, facts_finite,
    frame_Kernel, frame_KernelIdeal, frame_KernelIdeal_finite, frame_ReferenceIdeal, frame_ReferenceIdeal_finite,
    frame_Kernel2, frame_Kernel2Ideal, frame_Reference2Ideal,
    frame_Kernel3, frame_Kernel3Ideal, frame_Reference3Ideal,
    frame_Kernel4, frame_Kernel4Ideal, frame_Reference4Ideal,
    frame_Kernel5, frame_Kernel5Ideal, frame_Reference5Ideal,
    frame_Kernel6, frame_Kernel6Ideal, frame_Reference6Ideal,
    trivial, algebraic, trivial, algebraic2, trivial, algebraic3, trivial, algebraic4, trivial, algebraic5, trivial, algebraic6⟩

end Cert.Proof

end
